-- ==== Defs.lean ====
def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Reference1Ideal (m : (ℓ : Loc Cert.Reference1Ideal.nD Cert.Reference1Ideal.τ Cert.Reference1Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_KernelMergeIdeal_lse_finite [hPre_lse_finite : Cert.Pre_lse_finite.Facts] (m : (ℓ : Loc Cert.KernelMergeIdeal.nD Cert.KernelMergeIdeal.τ Cert.KernelMergeIdeal.sig) → Buf (Elt Ideal) ℓ) : Prop :=
  ∀ c : Dev Cert.KernelMergeIdeal.nD,
    (Cert.Pre_lse_finite.fn (F := Ideal) (m ((c.tc : Thread Cert.KernelMergeIdeal.nD Cert.KernelMergeIdeal.τ).loc Cert.KernelMergeIdeal.main_arg0)) (m ((c.tc : Thread Cert.KernelMergeIdeal.nD Cert.KernelMergeIdeal.τ).loc Cert.KernelMergeIdeal.main_arg1)) (m ((c.tc : Thread Cert.KernelMergeIdeal.nD Cert.KernelMergeIdeal.τ).loc Cert.KernelMergeIdeal.main_arg2)) (m ((c.tc : Thread Cert.KernelMergeIdeal.nD Cert.KernelMergeIdeal.τ).loc Cert.KernelMergeIdeal.main_arg3)) (m ((c.tc : Thread Cert.KernelMergeIdeal.nD Cert.KernelMergeIdeal.τ).loc Cert.KernelMergeIdeal.main_arg4)) (m ((c.tc : Thread Cert.KernelMergeIdeal.nD Cert.KernelMergeIdeal.τ).loc Cert.KernelMergeIdeal.main_arg5)) (m ((c.tc : Thread Cert.KernelMergeIdeal.nD Cert.KernelMergeIdeal.τ).loc Cert.KernelMergeIdeal.main_arg6)) (m ((c.tc : Thread Cert.KernelMergeIdeal.nD Cert.KernelMergeIdeal.τ).loc Cert.KernelMergeIdeal.main_arg7)) (m ((c.tc : Thread Cert.KernelMergeIdeal.nD Cert.KernelMergeIdeal.τ).loc Cert.KernelMergeIdeal.main_arg8)) (m ((c.tc : Thread Cert.KernelMergeIdeal.nD Cert.KernelMergeIdeal.τ).loc Cert.KernelMergeIdeal.main_arg9)) (m ((c.tc : Thread Cert.KernelMergeIdeal.nD Cert.KernelMergeIdeal.τ).loc Cert.KernelMergeIdeal.main_arg10)) (m ((c.tc : Thread Cert.KernelMergeIdeal.nD Cert.KernelMergeIdeal.τ).loc Cert.KernelMergeIdeal.main_arg11)) (m ((c.tc : Thread Cert.KernelMergeIdeal.nD Cert.KernelMergeIdeal.τ).loc Cert.KernelMergeIdeal.main_arg12)) (m ((c.tc : Thread Cert.KernelMergeIdeal.nD Cert.KernelMergeIdeal.τ).loc Cert.KernelMergeIdeal.main_arg13)) (m ((c.tc : Thread Cert.KernelMergeIdeal.nD Cert.KernelMergeIdeal.τ).loc Cert.KernelMergeIdeal.main_arg14)) (m ((c.tc : Thread Cert.KernelMergeIdeal.nD Cert.KernelMergeIdeal.τ).loc Cert.KernelMergeIdeal.main_arg15)) (m ((c.tc : Thread Cert.KernelMergeIdeal.nD Cert.KernelMergeIdeal.τ).loc Cert.KernelMergeIdeal.main_arg16))).1 = (fun _ => 1#1)
    ∧ (Cert.Pre_lse_finite.fn (F := Ideal) (m ((c.tc : Thread Cert.KernelMergeIdeal.nD Cert.KernelMergeIdeal.τ).loc Cert.KernelMergeIdeal.main_arg0)) (m ((c.tc : Thread Cert.KernelMergeIdeal.nD Cert.KernelMergeIdeal.τ).loc Cert.KernelMergeIdeal.main_arg1)) (m ((c.tc : Thread Cert.KernelMergeIdeal.nD Cert.KernelMergeIdeal.τ).loc Cert.KernelMergeIdeal.main_arg2)) (m ((c.tc : Thread Cert.KernelMergeIdeal.nD Cert.KernelMergeIdeal.τ).loc Cert.KernelMergeIdeal.main_arg3)) (m ((c.tc : Thread Cert.KernelMergeIdeal.nD Cert.KernelMergeIdeal.τ).loc Cert.KernelMergeIdeal.main_arg4)) (m ((c.tc : Thread Cert.KernelMergeIdeal.nD Cert.KernelMergeIdeal.τ).loc Cert.KernelMergeIdeal.main_arg5)) (m ((c.tc : Thread Cert.KernelMergeIdeal.nD Cert.KernelMergeIdeal.τ).loc Cert.KernelMergeIdeal.main_arg6)) (m ((c.tc : Thread Cert.KernelMergeIdeal.nD Cert.KernelMergeIdeal.τ).loc Cert.KernelMergeIdeal.main_arg7)) (m ((c.tc : Thread Cert.KernelMergeIdeal.nD Cert.KernelMergeIdeal.τ).loc Cert.KernelMergeIdeal.main_arg8)) (m ((c.tc : Thread Cert.KernelMergeIdeal.nD Cert.KernelMergeIdeal.τ).loc Cert.KernelMergeIdeal.main_arg9)) (m ((c.tc : Thread Cert.KernelMergeIdeal.nD Cert.KernelMergeIdeal.τ).loc Cert.KernelMergeIdeal.main_arg10)) (m ((c.tc : Thread Cert.KernelMergeIdeal.nD Cert.KernelMergeIdeal.τ).loc Cert.KernelMergeIdeal.main_arg11)) (m ((c.tc : Thread Cert.KernelMergeIdeal.nD Cert.KernelMergeIdeal.τ).loc Cert.KernelMergeIdeal.main_arg12)) (m ((c.tc : Thread Cert.KernelMergeIdeal.nD Cert.KernelMergeIdeal.τ).loc Cert.KernelMergeIdeal.main_arg13)) (m ((c.tc : Thread Cert.KernelMergeIdeal.nD Cert.KernelMergeIdeal.τ).loc Cert.KernelMergeIdeal.main_arg14)) (m ((c.tc : Thread Cert.KernelMergeIdeal.nD Cert.KernelMergeIdeal.τ).loc Cert.KernelMergeIdeal.main_arg15)) (m ((c.tc : Thread Cert.KernelMergeIdeal.nD Cert.KernelMergeIdeal.τ).loc Cert.KernelMergeIdeal.main_arg16))).2.1 = (fun _ => 1#1)
    ∧ (Cert.Pre_lse_finite.fn (F := Ideal) (m ((c.tc : Thread Cert.KernelMergeIdeal.nD Cert.KernelMergeIdeal.τ).loc Cert.KernelMergeIdeal.main_arg0)) (m ((c.tc : Thread Cert.KernelMergeIdeal.nD Cert.KernelMergeIdeal.τ).loc Cert.KernelMergeIdeal.main_arg1)) (m ((c.tc : Thread Cert.KernelMergeIdeal.nD Cert.KernelMergeIdeal.τ).loc Cert.KernelMergeIdeal.main_arg2)) (m ((c.tc : Thread Cert.KernelMergeIdeal.nD Cert.KernelMergeIdeal.τ).loc Cert.KernelMergeIdeal.main_arg3)) (m ((c.tc : Thread Cert.KernelMergeIdeal.nD Cert.KernelMergeIdeal.τ).loc Cert.KernelMergeIdeal.main_arg4)) (m ((c.tc : Thread Cert.KernelMergeIdeal.nD Cert.KernelMergeIdeal.τ).loc Cert.KernelMergeIdeal.main_arg5)) (m ((c.tc : Thread Cert.KernelMergeIdeal.nD Cert.KernelMergeIdeal.τ).loc Cert.KernelMergeIdeal.main_arg6)) (m ((c.tc : Thread Cert.KernelMergeIdeal.nD Cert.KernelMergeIdeal.τ).loc Cert.KernelMergeIdeal.main_arg7)) (m ((c.tc : Thread Cert.KernelMergeIdeal.nD Cert.KernelMergeIdeal.τ).loc Cert.KernelMergeIdeal.main_arg8)) (m ((c.tc : Thread Cert.KernelMergeIdeal.nD Cert.KernelMergeIdeal.τ).loc Cert.KernelMergeIdeal.main_arg9)) (m ((c.tc : Thread Cert.KernelMergeIdeal.nD Cert.KernelMergeIdeal.τ).loc Cert.KernelMergeIdeal.main_arg10)) (m ((c.tc : Thread Cert.KernelMergeIdeal.nD Cert.KernelMergeIdeal.τ).loc Cert.KernelMergeIdeal.main_arg11)) (m ((c.tc : Thread Cert.KernelMergeIdeal.nD Cert.KernelMergeIdeal.τ).loc Cert.KernelMergeIdeal.main_arg12)) (m ((c.tc : Thread Cert.KernelMergeIdeal.nD Cert.KernelMergeIdeal.τ).loc Cert.KernelMergeIdeal.main_arg13)) (m ((c.tc : Thread Cert.KernelMergeIdeal.nD Cert.KernelMergeIdeal.τ).loc Cert.KernelMergeIdeal.main_arg14)) (m ((c.tc : Thread Cert.KernelMergeIdeal.nD Cert.KernelMergeIdeal.τ).loc Cert.KernelMergeIdeal.main_arg15)) (m ((c.tc : Thread Cert.KernelMergeIdeal.nD Cert.KernelMergeIdeal.τ).loc Cert.KernelMergeIdeal.main_arg16))).2.2 = (fun _ => 1#1)

def Pre_ReferenceMergeIdeal (m : (ℓ : Loc Cert.ReferenceMergeIdeal.nD Cert.ReferenceMergeIdeal.τ Cert.ReferenceMergeIdeal.sig) → Buf (Elt Ideal) ℓ) : Prop :=
  True

def Pre_ReferenceMergeIdeal_lse_finite [hPre_lse_finite : Cert.Pre_lse_finite.Facts] (m : (ℓ : Loc Cert.ReferenceMergeIdeal.nD Cert.ReferenceMergeIdeal.τ Cert.ReferenceMergeIdeal.sig) → Buf (Elt Ideal) ℓ) : Prop :=
  ∀ c : Dev Cert.ReferenceMergeIdeal.nD,
    (Cert.Pre_lse_finite.fn (F := Ideal) (m ((c.tc : Thread Cert.ReferenceMergeIdeal.nD Cert.ReferenceMergeIdeal.τ).loc Cert.ReferenceMergeIdeal.main_arg0)) (m ((c.tc : Thread Cert.ReferenceMergeIdeal.nD Cert.ReferenceMergeIdeal.τ).loc Cert.ReferenceMergeIdeal.main_arg1)) (m ((c.tc : Thread Cert.ReferenceMergeIdeal.nD Cert.ReferenceMergeIdeal.τ).loc Cert.ReferenceMergeIdeal.main_arg2)) (m ((c.tc : Thread Cert.ReferenceMergeIdeal.nD Cert.ReferenceMergeIdeal.τ).loc Cert.ReferenceMergeIdeal.main_arg3)) (m ((c.tc : Thread Cert.ReferenceMergeIdeal.nD Cert.ReferenceMergeIdeal.τ).loc Cert.ReferenceMergeIdeal.main_arg4)) (m ((c.tc : Thread Cert.ReferenceMergeIdeal.nD Cert.ReferenceMergeIdeal.τ).loc Cert.ReferenceMergeIdeal.main_arg5)) (m ((c.tc : Thread Cert.ReferenceMergeIdeal.nD Cert.ReferenceMergeIdeal.τ).loc Cert.ReferenceMergeIdeal.main_arg6)) (m ((c.tc : Thread Cert.ReferenceMergeIdeal.nD Cert.ReferenceMergeIdeal.τ).loc Cert.ReferenceMergeIdeal.main_arg7)) (m ((c.tc : Thread Cert.ReferenceMergeIdeal.nD Cert.ReferenceMergeIdeal.τ).loc Cert.ReferenceMergeIdeal.main_arg8)) (m ((c.tc : Thread Cert.ReferenceMergeIdeal.nD Cert.ReferenceMergeIdeal.τ).loc Cert.ReferenceMergeIdeal.main_arg9)) (m ((c.tc : Thread Cert.ReferenceMergeIdeal.nD Cert.ReferenceMergeIdeal.τ).loc Cert.ReferenceMergeIdeal.main_arg10)) (m ((c.tc : Thread Cert.ReferenceMergeIdeal.nD Cert.ReferenceMergeIdeal.τ).loc Cert.ReferenceMergeIdeal.main_arg11)) (m ((c.tc : Thread Cert.ReferenceMergeIdeal.nD Cert.ReferenceMergeIdeal.τ).loc Cert.ReferenceMergeIdeal.main_arg12)) (m ((c.tc : Thread Cert.ReferenceMergeIdeal.nD Cert.ReferenceMergeIdeal.τ).loc Cert.ReferenceMergeIdeal.main_arg13)) (m ((c.tc : Thread Cert.ReferenceMergeIdeal.nD Cert.ReferenceMergeIdeal.τ).loc Cert.ReferenceMergeIdeal.main_arg14)) (m ((c.tc : Thread Cert.ReferenceMergeIdeal.nD Cert.ReferenceMergeIdeal.τ).loc Cert.ReferenceMergeIdeal.main_arg15)) (m ((c.tc : Thread Cert.ReferenceMergeIdeal.nD Cert.ReferenceMergeIdeal.τ).loc Cert.ReferenceMergeIdeal.main_arg16))).1 = (fun _ => 1#1)
    ∧ (Cert.Pre_lse_finite.fn (F := Ideal) (m ((c.tc : Thread Cert.ReferenceMergeIdeal.nD Cert.ReferenceMergeIdeal.τ).loc Cert.ReferenceMergeIdeal.main_arg0)) (m ((c.tc : Thread Cert.ReferenceMergeIdeal.nD Cert.ReferenceMergeIdeal.τ).loc Cert.ReferenceMergeIdeal.main_arg1)) (m ((c.tc : Thread Cert.ReferenceMergeIdeal.nD Cert.ReferenceMergeIdeal.τ).loc Cert.ReferenceMergeIdeal.main_arg2)) (m ((c.tc : Thread Cert.ReferenceMergeIdeal.nD Cert.ReferenceMergeIdeal.τ).loc Cert.ReferenceMergeIdeal.main_arg3)) (m ((c.tc : Thread Cert.ReferenceMergeIdeal.nD Cert.ReferenceMergeIdeal.τ).loc Cert.ReferenceMergeIdeal.main_arg4)) (m ((c.tc : Thread Cert.ReferenceMergeIdeal.nD Cert.ReferenceMergeIdeal.τ).loc Cert.ReferenceMergeIdeal.main_arg5)) (m ((c.tc : Thread Cert.ReferenceMergeIdeal.nD Cert.ReferenceMergeIdeal.τ).loc Cert.ReferenceMergeIdeal.main_arg6)) (m ((c.tc : Thread Cert.ReferenceMergeIdeal.nD Cert.ReferenceMergeIdeal.τ).loc Cert.ReferenceMergeIdeal.main_arg7)) (m ((c.tc : Thread Cert.ReferenceMergeIdeal.nD Cert.ReferenceMergeIdeal.τ).loc Cert.ReferenceMergeIdeal.main_arg8)) (m ((c.tc : Thread Cert.ReferenceMergeIdeal.nD Cert.ReferenceMergeIdeal.τ).loc Cert.ReferenceMergeIdeal.main_arg9)) (m ((c.tc : Thread Cert.ReferenceMergeIdeal.nD Cert.ReferenceMergeIdeal.τ).loc Cert.ReferenceMergeIdeal.main_arg10)) (m ((c.tc : Thread Cert.ReferenceMergeIdeal.nD Cert.ReferenceMergeIdeal.τ).loc Cert.ReferenceMergeIdeal.main_arg11)) (m ((c.tc : Thread Cert.ReferenceMergeIdeal.nD Cert.ReferenceMergeIdeal.τ).loc Cert.ReferenceMergeIdeal.main_arg12)) (m ((c.tc : Thread Cert.ReferenceMergeIdeal.nD Cert.ReferenceMergeIdeal.τ).loc Cert.ReferenceMergeIdeal.main_arg13)) (m ((c.tc : Thread Cert.ReferenceMergeIdeal.nD Cert.ReferenceMergeIdeal.τ).loc Cert.ReferenceMergeIdeal.main_arg14)) (m ((c.tc : Thread Cert.ReferenceMergeIdeal.nD Cert.ReferenceMergeIdeal.τ).loc Cert.ReferenceMergeIdeal.main_arg15)) (m ((c.tc : Thread Cert.ReferenceMergeIdeal.nD Cert.ReferenceMergeIdeal.τ).loc Cert.ReferenceMergeIdeal.main_arg16))).2.1 = (fun _ => 1#1)
    ∧ (Cert.Pre_lse_finite.fn (F := Ideal) (m ((c.tc : Thread Cert.ReferenceMergeIdeal.nD Cert.ReferenceMergeIdeal.τ).loc Cert.ReferenceMergeIdeal.main_arg0)) (m ((c.tc : Thread Cert.ReferenceMergeIdeal.nD Cert.ReferenceMergeIdeal.τ).loc Cert.ReferenceMergeIdeal.main_arg1)) (m ((c.tc : Thread Cert.ReferenceMergeIdeal.nD Cert.ReferenceMergeIdeal.τ).loc Cert.ReferenceMergeIdeal.main_arg2)) (m ((c.tc : Thread Cert.ReferenceMergeIdeal.nD Cert.ReferenceMergeIdeal.τ).loc Cert.ReferenceMergeIdeal.main_arg3)) (m ((c.tc : Thread Cert.ReferenceMergeIdeal.nD Cert.ReferenceMergeIdeal.τ).loc Cert.ReferenceMergeIdeal.main_arg4)) (m ((c.tc : Thread Cert.ReferenceMergeIdeal.nD Cert.ReferenceMergeIdeal.τ).loc Cert.ReferenceMergeIdeal.main_arg5)) (m ((c.tc : Thread Cert.ReferenceMergeIdeal.nD Cert.ReferenceMergeIdeal.τ).loc Cert.ReferenceMergeIdeal.main_arg6)) (m ((c.tc : Thread Cert.ReferenceMergeIdeal.nD Cert.ReferenceMergeIdeal.τ).loc Cert.ReferenceMergeIdeal.main_arg7)) (m ((c.tc : Thread Cert.ReferenceMergeIdeal.nD Cert.ReferenceMergeIdeal.τ).loc Cert.ReferenceMergeIdeal.main_arg8)) (m ((c.tc : Thread Cert.ReferenceMergeIdeal.nD Cert.ReferenceMergeIdeal.τ).loc Cert.ReferenceMergeIdeal.main_arg9)) (m ((c.tc : Thread Cert.ReferenceMergeIdeal.nD Cert.ReferenceMergeIdeal.τ).loc Cert.ReferenceMergeIdeal.main_arg10)) (m ((c.tc : Thread Cert.ReferenceMergeIdeal.nD Cert.ReferenceMergeIdeal.τ).loc Cert.ReferenceMergeIdeal.main_arg11)) (m ((c.tc : Thread Cert.ReferenceMergeIdeal.nD Cert.ReferenceMergeIdeal.τ).loc Cert.ReferenceMergeIdeal.main_arg12)) (m ((c.tc : Thread Cert.ReferenceMergeIdeal.nD Cert.ReferenceMergeIdeal.τ).loc Cert.ReferenceMergeIdeal.main_arg13)) (m ((c.tc : Thread Cert.ReferenceMergeIdeal.nD Cert.ReferenceMergeIdeal.τ).loc Cert.ReferenceMergeIdeal.main_arg14)) (m ((c.tc : Thread Cert.ReferenceMergeIdeal.nD Cert.ReferenceMergeIdeal.τ).loc Cert.ReferenceMergeIdeal.main_arg15)) (m ((c.tc : Thread Cert.ReferenceMergeIdeal.nD Cert.ReferenceMergeIdeal.τ).loc Cert.ReferenceMergeIdeal.main_arg16))).2.2 = (fun _ => 1#1)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3)
      ∧ r.2.mem ((c.tc : Thread Cert.KernelProj.nD Cert.KernelProj.τ).loc Cert.KernelProj.main_arg4) = m ((c.tc : Thread Cert.KernelProj.nD Cert.KernelProj.τ).loc Cert.KernelProj.main_arg4)
      ∧ r.2.mem ((c.tc : Thread Cert.KernelProj.nD Cert.KernelProj.τ).loc Cert.KernelProj.main_arg5) = m ((c.tc : Thread Cert.KernelProj.nD Cert.KernelProj.τ).loc Cert.KernelProj.main_arg5))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
      ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4)
      ∧ r.2.mem ((c.tc : Thread Cert.ReferenceProjIdeal.nD Cert.ReferenceProjIdeal.τ).loc Cert.ReferenceProjIdeal.main_arg5) = m ((c.tc : Thread Cert.ReferenceProjIdeal.nD Cert.ReferenceProjIdeal.τ).loc Cert.ReferenceProjIdeal.main_arg5))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7)
      ∧ r.2.mem ((c.tc : Thread Cert.KernelMerge.nD Cert.KernelMerge.τ).loc Cert.KernelMerge.main_arg8) = m ((c.tc : Thread Cert.KernelMerge.nD Cert.KernelMerge.τ).loc Cert.KernelMerge.main_arg8)
      ∧ r.2.mem ((c.tc : Thread Cert.KernelMerge.nD Cert.KernelMerge.τ).loc Cert.KernelMerge.main_arg9) = m ((c.tc : Thread Cert.KernelMerge.nD Cert.KernelMerge.τ).loc Cert.KernelMerge.main_arg9)
      ∧ r.2.mem ((c.tc : Thread Cert.KernelMerge.nD Cert.KernelMerge.τ).loc Cert.KernelMerge.main_arg10) = m ((c.tc : Thread Cert.KernelMerge.nD Cert.KernelMerge.τ).loc Cert.KernelMerge.main_arg10)
      ∧ r.2.mem ((c.tc : Thread Cert.KernelMerge.nD Cert.KernelMerge.τ).loc Cert.KernelMerge.main_arg11) = m ((c.tc : Thread Cert.KernelMerge.nD Cert.KernelMerge.τ).loc Cert.KernelMerge.main_arg11)
      ∧ r.2.mem ((c.tc : Thread Cert.KernelMerge.nD Cert.KernelMerge.τ).loc Cert.KernelMerge.main_arg12) = m ((c.tc : Thread Cert.KernelMerge.nD Cert.KernelMerge.τ).loc Cert.KernelMerge.main_arg12)
      ∧ r.2.mem ((c.tc : Thread Cert.KernelMerge.nD Cert.KernelMerge.τ).loc Cert.KernelMerge.main_arg13) = m ((c.tc : Thread Cert.KernelMerge.nD Cert.KernelMerge.τ).loc Cert.KernelMerge.main_arg13)
      ∧ r.2.mem ((c.tc : Thread Cert.KernelMerge.nD Cert.KernelMerge.τ).loc Cert.KernelMerge.main_arg14) = m ((c.tc : Thread Cert.KernelMerge.nD Cert.KernelMerge.τ).loc Cert.KernelMerge.main_arg14)
      ∧ r.2.mem ((c.tc : Thread Cert.KernelMerge.nD Cert.KernelMerge.τ).loc Cert.KernelMerge.main_arg15) = m ((c.tc : Thread Cert.KernelMerge.nD Cert.KernelMerge.τ).loc Cert.KernelMerge.main_arg15)
      ∧ r.2.mem ((c.tc : Thread Cert.KernelMerge.nD Cert.KernelMerge.τ).loc Cert.KernelMerge.main_arg16) = m ((c.tc : Thread Cert.KernelMerge.nD Cert.KernelMerge.τ).loc Cert.KernelMerge.main_arg16))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
      ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
      ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10)
      ∧ r.2.mem ((c.tc : Thread Cert.KernelMergeIdeal.nD Cert.KernelMergeIdeal.τ).loc Cert.KernelMergeIdeal.main_arg11) = m ((c.tc : Thread Cert.KernelMergeIdeal.nD Cert.KernelMergeIdeal.τ).loc Cert.KernelMergeIdeal.main_arg11)
      ∧ r.2.mem ((c.tc : Thread Cert.KernelMergeIdeal.nD Cert.KernelMergeIdeal.τ).loc Cert.KernelMergeIdeal.main_arg12) = m ((c.tc : Thread Cert.KernelMergeIdeal.nD Cert.KernelMergeIdeal.τ).loc Cert.KernelMergeIdeal.main_arg12)
      ∧ r.2.mem ((c.tc : Thread Cert.KernelMergeIdeal.nD Cert.KernelMergeIdeal.τ).loc Cert.KernelMergeIdeal.main_arg13) = m ((c.tc : Thread Cert.KernelMergeIdeal.nD Cert.KernelMergeIdeal.τ).loc Cert.KernelMergeIdeal.main_arg13)
      ∧ r.2.mem ((c.tc : Thread Cert.KernelMergeIdeal.nD Cert.KernelMergeIdeal.τ).loc Cert.KernelMergeIdeal.main_arg14) = m ((c.tc : Thread Cert.KernelMergeIdeal.nD Cert.KernelMergeIdeal.τ).loc Cert.KernelMergeIdeal.main_arg14)
      ∧ r.2.mem ((c.tc : Thread Cert.KernelMergeIdeal.nD Cert.KernelMergeIdeal.τ).loc Cert.KernelMergeIdeal.main_arg15) = m ((c.tc : Thread Cert.KernelMergeIdeal.nD Cert.KernelMergeIdeal.τ).loc Cert.KernelMergeIdeal.main_arg15)
      ∧ r.2.mem ((c.tc : Thread Cert.KernelMergeIdeal.nD Cert.KernelMergeIdeal.τ).loc Cert.KernelMergeIdeal.main_arg16) = m ((c.tc : Thread Cert.KernelMergeIdeal.nD Cert.KernelMergeIdeal.τ).loc Cert.KernelMergeIdeal.main_arg16))
      ∧ r.2.sem = fun _ => 0)

def quiescent_KernelMergeIdeal_pre_lse_finite [hKernelMergeIdeal : Cert.KernelMergeIdeal.Facts] [hPre_lse_finite : Cert.Pre_lse_finite.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal_lse_finite m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
      ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
      ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10)
      ∧ r.2.mem ((c.tc : Thread Cert.KernelMergeIdeal.nD Cert.KernelMergeIdeal.τ).loc Cert.KernelMergeIdeal.main_arg11) = m ((c.tc : Thread Cert.KernelMergeIdeal.nD Cert.KernelMergeIdeal.τ).loc Cert.KernelMergeIdeal.main_arg11)
      ∧ r.2.mem ((c.tc : Thread Cert.KernelMergeIdeal.nD Cert.KernelMergeIdeal.τ).loc Cert.KernelMergeIdeal.main_arg12) = m ((c.tc : Thread Cert.KernelMergeIdeal.nD Cert.KernelMergeIdeal.τ).loc Cert.KernelMergeIdeal.main_arg12)
      ∧ r.2.mem ((c.tc : Thread Cert.KernelMergeIdeal.nD Cert.KernelMergeIdeal.τ).loc Cert.KernelMergeIdeal.main_arg13) = m ((c.tc : Thread Cert.KernelMergeIdeal.nD Cert.KernelMergeIdeal.τ).loc Cert.KernelMergeIdeal.main_arg13)
      ∧ r.2.mem ((c.tc : Thread Cert.KernelMergeIdeal.nD Cert.KernelMergeIdeal.τ).loc Cert.KernelMergeIdeal.main_arg14) = m ((c.tc : Thread Cert.KernelMergeIdeal.nD Cert.KernelMergeIdeal.τ).loc Cert.KernelMergeIdeal.main_arg14)
      ∧ r.2.mem ((c.tc : Thread Cert.KernelMergeIdeal.nD Cert.KernelMergeIdeal.τ).loc Cert.KernelMergeIdeal.main_arg15) = m ((c.tc : Thread Cert.KernelMergeIdeal.nD Cert.KernelMergeIdeal.τ).loc Cert.KernelMergeIdeal.main_arg15)
      ∧ r.2.mem ((c.tc : Thread Cert.KernelMergeIdeal.nD Cert.KernelMergeIdeal.τ).loc Cert.KernelMergeIdeal.main_arg16) = m ((c.tc : Thread Cert.KernelMergeIdeal.nD Cert.KernelMergeIdeal.τ).loc Cert.KernelMergeIdeal.main_arg16))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9)
      ∧ r.2.mem ((c.tc : Thread Cert.ReferenceMergeIdeal.nD Cert.ReferenceMergeIdeal.τ).loc Cert.ReferenceMergeIdeal.main_arg10) = m ((c.tc : Thread Cert.ReferenceMergeIdeal.nD Cert.ReferenceMergeIdeal.τ).loc Cert.ReferenceMergeIdeal.main_arg10)
      ∧ r.2.mem ((c.tc : Thread Cert.ReferenceMergeIdeal.nD Cert.ReferenceMergeIdeal.τ).loc Cert.ReferenceMergeIdeal.main_arg11) = m ((c.tc : Thread Cert.ReferenceMergeIdeal.nD Cert.ReferenceMergeIdeal.τ).loc Cert.ReferenceMergeIdeal.main_arg11)
      ∧ r.2.mem ((c.tc : Thread Cert.ReferenceMergeIdeal.nD Cert.ReferenceMergeIdeal.τ).loc Cert.ReferenceMergeIdeal.main_arg12) = m ((c.tc : Thread Cert.ReferenceMergeIdeal.nD Cert.ReferenceMergeIdeal.τ).loc Cert.ReferenceMergeIdeal.main_arg12)
      ∧ r.2.mem ((c.tc : Thread Cert.ReferenceMergeIdeal.nD Cert.ReferenceMergeIdeal.τ).loc Cert.ReferenceMergeIdeal.main_arg13) = m ((c.tc : Thread Cert.ReferenceMergeIdeal.nD Cert.ReferenceMergeIdeal.τ).loc Cert.ReferenceMergeIdeal.main_arg13)
      ∧ r.2.mem ((c.tc : Thread Cert.ReferenceMergeIdeal.nD Cert.ReferenceMergeIdeal.τ).loc Cert.ReferenceMergeIdeal.main_arg14) = m ((c.tc : Thread Cert.ReferenceMergeIdeal.nD Cert.ReferenceMergeIdeal.τ).loc Cert.ReferenceMergeIdeal.main_arg14)
      ∧ r.2.mem ((c.tc : Thread Cert.ReferenceMergeIdeal.nD Cert.ReferenceMergeIdeal.τ).loc Cert.ReferenceMergeIdeal.main_arg15) = m ((c.tc : Thread Cert.ReferenceMergeIdeal.nD Cert.ReferenceMergeIdeal.τ).loc Cert.ReferenceMergeIdeal.main_arg15)
      ∧ r.2.mem ((c.tc : Thread Cert.ReferenceMergeIdeal.nD Cert.ReferenceMergeIdeal.τ).loc Cert.ReferenceMergeIdeal.main_arg16) = m ((c.tc : Thread Cert.ReferenceMergeIdeal.nD Cert.ReferenceMergeIdeal.τ).loc Cert.ReferenceMergeIdeal.main_arg16))
      ∧ r.2.sem = fun _ => 0)

def quiescent_ReferenceMergeIdeal_pre_lse_finite [hReferenceMergeIdeal : Cert.ReferenceMergeIdeal.Facts] [hPre_lse_finite : Cert.Pre_lse_finite.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal_lse_finite m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9)
      ∧ r.2.mem ((c.tc : Thread Cert.ReferenceMergeIdeal.nD Cert.ReferenceMergeIdeal.τ).loc Cert.ReferenceMergeIdeal.main_arg10) = m ((c.tc : Thread Cert.ReferenceMergeIdeal.nD Cert.ReferenceMergeIdeal.τ).loc Cert.ReferenceMergeIdeal.main_arg10)
      ∧ r.2.mem ((c.tc : Thread Cert.ReferenceMergeIdeal.nD Cert.ReferenceMergeIdeal.τ).loc Cert.ReferenceMergeIdeal.main_arg11) = m ((c.tc : Thread Cert.ReferenceMergeIdeal.nD Cert.ReferenceMergeIdeal.τ).loc Cert.ReferenceMergeIdeal.main_arg11)
      ∧ r.2.mem ((c.tc : Thread Cert.ReferenceMergeIdeal.nD Cert.ReferenceMergeIdeal.τ).loc Cert.ReferenceMergeIdeal.main_arg12) = m ((c.tc : Thread Cert.ReferenceMergeIdeal.nD Cert.ReferenceMergeIdeal.τ).loc Cert.ReferenceMergeIdeal.main_arg12)
      ∧ r.2.mem ((c.tc : Thread Cert.ReferenceMergeIdeal.nD Cert.ReferenceMergeIdeal.τ).loc Cert.ReferenceMergeIdeal.main_arg13) = m ((c.tc : Thread Cert.ReferenceMergeIdeal.nD Cert.ReferenceMergeIdeal.τ).loc Cert.ReferenceMergeIdeal.main_arg13)
      ∧ r.2.mem ((c.tc : Thread Cert.ReferenceMergeIdeal.nD Cert.ReferenceMergeIdeal.τ).loc Cert.ReferenceMergeIdeal.main_arg14) = m ((c.tc : Thread Cert.ReferenceMergeIdeal.nD Cert.ReferenceMergeIdeal.τ).loc Cert.ReferenceMergeIdeal.main_arg14)
      ∧ r.2.mem ((c.tc : Thread Cert.ReferenceMergeIdeal.nD Cert.ReferenceMergeIdeal.τ).loc Cert.ReferenceMergeIdeal.main_arg15) = m ((c.tc : Thread Cert.ReferenceMergeIdeal.nD Cert.ReferenceMergeIdeal.τ).loc Cert.ReferenceMergeIdeal.main_arg15)
      ∧ r.2.mem ((c.tc : Thread Cert.ReferenceMergeIdeal.nD Cert.ReferenceMergeIdeal.τ).loc Cert.ReferenceMergeIdeal.main_arg16) = m ((c.tc : Thread Cert.ReferenceMergeIdeal.nD Cert.ReferenceMergeIdeal.τ).loc Cert.ReferenceMergeIdeal.main_arg16))
      ∧ r.2.sem = fun _ => 0)

def preserves_Kernel1_Kernel1Ideal : Prop :=
  True

def algebraic_Kernel1Ideal_Reference1Ideal [hKernel1Ideal : Cert.Kernel1Ideal.Facts] [hReference1Ideal : Cert.Reference1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)) →
    ∃ (v0 : (c : Dev Cert.Kernel1Ideal.nD) → Buf (Elt Ideal) ((c.tc : Thread Cert.Kernel1Ideal.nD Cert.Kernel1Ideal.τ).loc Cert.Kernel1Ideal.main_v0_0)) (v1 : (c : Dev Cert.Kernel1Ideal.nD) → Buf (Elt Ideal) ((c.tc : Thread Cert.Kernel1Ideal.nD Cert.Kernel1Ideal.τ).loc Cert.Kernel1Ideal.main_v0_1)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v0_0) = v0 c
          ∧ r.2.mem ((c.tc : Thread Cert.Kernel1Ideal.nD Cert.Kernel1Ideal.τ).loc Cert.Kernel1Ideal.main_v0_1) = v1 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v37) = v0 c
          ∧ r.2.mem ((c.tc : Thread Cert.Reference1Ideal.nD Cert.Reference1Ideal.τ).loc Cert.Reference1Ideal.main_v38) = v1 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v38) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v37) = v0 c
          ∧ r.2.mem ((c.tc : Thread Cert.Reference16Ideal.nD Cert.Reference16Ideal.τ).loc Cert.Reference16Ideal.main_v38) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)
      ∧ m' ((c.tc : Thread Cert.ReferenceFfnIdeal.nD Cert.ReferenceFfnIdeal.τ).loc Cert.ReferenceFfnIdeal.main_arg6) = m ((c.tc : Thread Cert.KernelFfnIdeal.nD Cert.KernelFfnIdeal.τ).loc Cert.KernelFfnIdeal.main_arg6)) →
    ∃ (v0 : (c : Dev Cert.KernelFfnIdeal.nD) → Buf (Elt Ideal) ((c.tc : Thread Cert.KernelFfnIdeal.nD Cert.KernelFfnIdeal.τ).loc Cert.KernelFfnIdeal.main_v5_0)) (v1 : (c : Dev Cert.KernelFfnIdeal.nD) → Buf (Elt Ideal) ((c.tc : Thread Cert.KernelFfnIdeal.nD Cert.KernelFfnIdeal.τ).loc Cert.KernelFfnIdeal.main_v5_1)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v5_0) = v0 c
          ∧ r.2.mem ((c.tc : Thread Cert.KernelFfnIdeal.nD Cert.KernelFfnIdeal.τ).loc Cert.KernelFfnIdeal.main_v5_1) = v1 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v70) = v0 c
          ∧ r.2.mem ((c.tc : Thread Cert.ReferenceFfnIdeal.nD Cert.ReferenceFfnIdeal.τ).loc Cert.ReferenceFfnIdeal.main_v72) = v1 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)
      ∧ m' ((c.tc : Thread Cert.ReferenceProjIdeal.nD Cert.ReferenceProjIdeal.τ).loc Cert.ReferenceProjIdeal.main_arg4) = m ((c.tc : Thread Cert.KernelProjIdeal.nD Cert.KernelProjIdeal.τ).loc Cert.KernelProjIdeal.main_arg4)
      ∧ m' ((c.tc : Thread Cert.ReferenceProjIdeal.nD Cert.ReferenceProjIdeal.τ).loc Cert.ReferenceProjIdeal.main_arg5) = m ((c.tc : Thread Cert.KernelProjIdeal.nD Cert.KernelProjIdeal.τ).loc Cert.KernelProjIdeal.main_arg5)) →
    ∃ (v0 : (c : Dev Cert.KernelProjIdeal.nD) → Buf (Elt Ideal) ((c.tc : Thread Cert.KernelProjIdeal.nD Cert.KernelProjIdeal.τ).loc Cert.KernelProjIdeal.main_v11_0)) (v1 : (c : Dev Cert.KernelProjIdeal.nD) → Buf (Elt Ideal) ((c.tc : Thread Cert.KernelProjIdeal.nD Cert.KernelProjIdeal.τ).loc Cert.KernelProjIdeal.main_v11_1)) (v2 : (c : Dev Cert.KernelProjIdeal.nD) → Buf (Elt Ideal) ((c.tc : Thread Cert.KernelProjIdeal.nD Cert.KernelProjIdeal.τ).loc Cert.KernelProjIdeal.main_v11_2)) (v3 : (c : Dev Cert.KernelProjIdeal.nD) → Buf (Elt Ideal) ((c.tc : Thread Cert.KernelProjIdeal.nD Cert.KernelProjIdeal.τ).loc Cert.KernelProjIdeal.main_v11_3)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v11_0) = v0 c
          ∧ r.2.mem ((c.tc : Thread Cert.KernelProjIdeal.nD Cert.KernelProjIdeal.τ).loc Cert.KernelProjIdeal.main_v11_1) = v1 c
          ∧ r.2.mem ((c.tc : Thread Cert.KernelProjIdeal.nD Cert.KernelProjIdeal.τ).loc Cert.KernelProjIdeal.main_v11_2) = v2 c
          ∧ r.2.mem ((c.tc : Thread Cert.KernelProjIdeal.nD Cert.KernelProjIdeal.τ).loc Cert.KernelProjIdeal.main_v11_3) = v3 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
          ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
          ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v73) = v0 c
          ∧ r.2.mem ((c.tc : Thread Cert.ReferenceProjIdeal.nD Cert.ReferenceProjIdeal.τ).loc Cert.ReferenceProjIdeal.main_v79) = v1 c
          ∧ r.2.mem ((c.tc : Thread Cert.ReferenceProjIdeal.nD Cert.ReferenceProjIdeal.τ).loc Cert.ReferenceProjIdeal.main_v85) = v2 c
          ∧ r.2.mem ((c.tc : Thread Cert.ReferenceProjIdeal.nD Cert.ReferenceProjIdeal.τ).loc Cert.ReferenceProjIdeal.main_v91) = v3 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3)
          ∧ r.2.mem ((c.tc : Thread Cert.ReferenceProjIdeal.nD Cert.ReferenceProjIdeal.τ).loc Cert.ReferenceProjIdeal.main_arg4) = m' ((c.tc : Thread Cert.ReferenceProjIdeal.nD Cert.ReferenceProjIdeal.τ).loc Cert.ReferenceProjIdeal.main_arg4)
          ∧ r.2.mem ((c.tc : Thread Cert.ReferenceProjIdeal.nD Cert.ReferenceProjIdeal.τ).loc Cert.ReferenceProjIdeal.main_arg5) = m' ((c.tc : Thread Cert.ReferenceProjIdeal.nD Cert.ReferenceProjIdeal.τ).loc Cert.ReferenceProjIdeal.main_arg5))

def preserves_KernelMerge_KernelMergeIdeal : Prop :=
  True

def algebraic_KernelMergeIdeal_ReferenceMergeIdeal_pre_lse_finite [hKernelMergeIdeal : Cert.KernelMergeIdeal.Facts] [hReferenceMergeIdeal : Cert.ReferenceMergeIdeal.Facts] [hPre_lse_finite : Cert.Pre_lse_finite.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal_lse_finite m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)
      ∧ m' ((c.tc : Thread Cert.ReferenceMergeIdeal.nD Cert.ReferenceMergeIdeal.τ).loc Cert.ReferenceMergeIdeal.main_arg8) = m ((c.tc : Thread Cert.KernelMergeIdeal.nD Cert.KernelMergeIdeal.τ).loc Cert.KernelMergeIdeal.main_arg8)
      ∧ m' ((c.tc : Thread Cert.ReferenceMergeIdeal.nD Cert.ReferenceMergeIdeal.τ).loc Cert.ReferenceMergeIdeal.main_arg9) = m ((c.tc : Thread Cert.KernelMergeIdeal.nD Cert.KernelMergeIdeal.τ).loc Cert.KernelMergeIdeal.main_arg9)
      ∧ m' ((c.tc : Thread Cert.ReferenceMergeIdeal.nD Cert.ReferenceMergeIdeal.τ).loc Cert.ReferenceMergeIdeal.main_arg10) = m ((c.tc : Thread Cert.KernelMergeIdeal.nD Cert.KernelMergeIdeal.τ).loc Cert.KernelMergeIdeal.main_arg10)
      ∧ m' ((c.tc : Thread Cert.ReferenceMergeIdeal.nD Cert.ReferenceMergeIdeal.τ).loc Cert.ReferenceMergeIdeal.main_arg11) = m ((c.tc : Thread Cert.KernelMergeIdeal.nD Cert.KernelMergeIdeal.τ).loc Cert.KernelMergeIdeal.main_arg11)
      ∧ m' ((c.tc : Thread Cert.ReferenceMergeIdeal.nD Cert.ReferenceMergeIdeal.τ).loc Cert.ReferenceMergeIdeal.main_arg12) = m ((c.tc : Thread Cert.KernelMergeIdeal.nD Cert.KernelMergeIdeal.τ).loc Cert.KernelMergeIdeal.main_arg12)
      ∧ m' ((c.tc : Thread Cert.ReferenceMergeIdeal.nD Cert.ReferenceMergeIdeal.τ).loc Cert.ReferenceMergeIdeal.main_arg13) = m ((c.tc : Thread Cert.KernelMergeIdeal.nD Cert.KernelMergeIdeal.τ).loc Cert.KernelMergeIdeal.main_arg13)
      ∧ m' ((c.tc : Thread Cert.ReferenceMergeIdeal.nD Cert.ReferenceMergeIdeal.τ).loc Cert.ReferenceMergeIdeal.main_arg14) = m ((c.tc : Thread Cert.KernelMergeIdeal.nD Cert.KernelMergeIdeal.τ).loc Cert.KernelMergeIdeal.main_arg14)
      ∧ m' ((c.tc : Thread Cert.ReferenceMergeIdeal.nD Cert.ReferenceMergeIdeal.τ).loc Cert.ReferenceMergeIdeal.main_arg15) = m ((c.tc : Thread Cert.KernelMergeIdeal.nD Cert.KernelMergeIdeal.τ).loc Cert.KernelMergeIdeal.main_arg15)
      ∧ m' ((c.tc : Thread Cert.ReferenceMergeIdeal.nD Cert.ReferenceMergeIdeal.τ).loc Cert.ReferenceMergeIdeal.main_arg16) = m ((c.tc : Thread Cert.KernelMergeIdeal.nD Cert.KernelMergeIdeal.τ).loc Cert.KernelMergeIdeal.main_arg16)) →
    ∃ (v0 : (c : Dev Cert.KernelMergeIdeal.nD) → Buf (Elt Ideal) ((c.tc : Thread Cert.KernelMergeIdeal.nD Cert.KernelMergeIdeal.τ).loc Cert.KernelMergeIdeal.main_v8)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v8) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
          ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
          ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
          ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10)
          ∧ r.2.mem ((c.tc : Thread Cert.KernelMergeIdeal.nD Cert.KernelMergeIdeal.τ).loc Cert.KernelMergeIdeal.main_arg11) = m ((c.tc : Thread Cert.KernelMergeIdeal.nD Cert.KernelMergeIdeal.τ).loc Cert.KernelMergeIdeal.main_arg11)
          ∧ r.2.mem ((c.tc : Thread Cert.KernelMergeIdeal.nD Cert.KernelMergeIdeal.τ).loc Cert.KernelMergeIdeal.main_arg12) = m ((c.tc : Thread Cert.KernelMergeIdeal.nD Cert.KernelMergeIdeal.τ).loc Cert.KernelMergeIdeal.main_arg12)
          ∧ r.2.mem ((c.tc : Thread Cert.KernelMergeIdeal.nD Cert.KernelMergeIdeal.τ).loc Cert.KernelMergeIdeal.main_arg13) = m ((c.tc : Thread Cert.KernelMergeIdeal.nD Cert.KernelMergeIdeal.τ).loc Cert.KernelMergeIdeal.main_arg13)
          ∧ r.2.mem ((c.tc : Thread Cert.KernelMergeIdeal.nD Cert.KernelMergeIdeal.τ).loc Cert.KernelMergeIdeal.main_arg14) = m ((c.tc : Thread Cert.KernelMergeIdeal.nD Cert.KernelMergeIdeal.τ).loc Cert.KernelMergeIdeal.main_arg14)
          ∧ r.2.mem ((c.tc : Thread Cert.KernelMergeIdeal.nD Cert.KernelMergeIdeal.τ).loc Cert.KernelMergeIdeal.main_arg15) = m ((c.tc : Thread Cert.KernelMergeIdeal.nD Cert.KernelMergeIdeal.τ).loc Cert.KernelMergeIdeal.main_arg15)
          ∧ r.2.mem ((c.tc : Thread Cert.KernelMergeIdeal.nD Cert.KernelMergeIdeal.τ).loc Cert.KernelMergeIdeal.main_arg16) = m ((c.tc : Thread Cert.KernelMergeIdeal.nD Cert.KernelMergeIdeal.τ).loc Cert.KernelMergeIdeal.main_arg16))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v78) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8)
          ∧ r.2.mem ((c.tc : Thread Cert.ReferenceMergeIdeal.nD Cert.ReferenceMergeIdeal.τ).loc Cert.ReferenceMergeIdeal.main_arg9) = m' ((c.tc : Thread Cert.ReferenceMergeIdeal.nD Cert.ReferenceMergeIdeal.τ).loc Cert.ReferenceMergeIdeal.main_arg9)
          ∧ r.2.mem ((c.tc : Thread Cert.ReferenceMergeIdeal.nD Cert.ReferenceMergeIdeal.τ).loc Cert.ReferenceMergeIdeal.main_arg10) = m' ((c.tc : Thread Cert.ReferenceMergeIdeal.nD Cert.ReferenceMergeIdeal.τ).loc Cert.ReferenceMergeIdeal.main_arg10)
          ∧ r.2.mem ((c.tc : Thread Cert.ReferenceMergeIdeal.nD Cert.ReferenceMergeIdeal.τ).loc Cert.ReferenceMergeIdeal.main_arg11) = m' ((c.tc : Thread Cert.ReferenceMergeIdeal.nD Cert.ReferenceMergeIdeal.τ).loc Cert.ReferenceMergeIdeal.main_arg11)
          ∧ r.2.mem ((c.tc : Thread Cert.ReferenceMergeIdeal.nD Cert.ReferenceMergeIdeal.τ).loc Cert.ReferenceMergeIdeal.main_arg12) = m' ((c.tc : Thread Cert.ReferenceMergeIdeal.nD Cert.ReferenceMergeIdeal.τ).loc Cert.ReferenceMergeIdeal.main_arg12)
          ∧ r.2.mem ((c.tc : Thread Cert.ReferenceMergeIdeal.nD Cert.ReferenceMergeIdeal.τ).loc Cert.ReferenceMergeIdeal.main_arg13) = m' ((c.tc : Thread Cert.ReferenceMergeIdeal.nD Cert.ReferenceMergeIdeal.τ).loc Cert.ReferenceMergeIdeal.main_arg13)
          ∧ r.2.mem ((c.tc : Thread Cert.ReferenceMergeIdeal.nD Cert.ReferenceMergeIdeal.τ).loc Cert.ReferenceMergeIdeal.main_arg14) = m' ((c.tc : Thread Cert.ReferenceMergeIdeal.nD Cert.ReferenceMergeIdeal.τ).loc Cert.ReferenceMergeIdeal.main_arg14)
          ∧ r.2.mem ((c.tc : Thread Cert.ReferenceMergeIdeal.nD Cert.ReferenceMergeIdeal.τ).loc Cert.ReferenceMergeIdeal.main_arg15) = m' ((c.tc : Thread Cert.ReferenceMergeIdeal.nD Cert.ReferenceMergeIdeal.τ).loc Cert.ReferenceMergeIdeal.main_arg15)
          ∧ r.2.mem ((c.tc : Thread Cert.ReferenceMergeIdeal.nD Cert.ReferenceMergeIdeal.τ).loc Cert.ReferenceMergeIdeal.main_arg16) = m' ((c.tc : Thread Cert.ReferenceMergeIdeal.nD Cert.ReferenceMergeIdeal.τ).loc Cert.ReferenceMergeIdeal.main_arg16))

def Claim : Prop :=
  ∃ (hKernel1 : Cert.Kernel1.Facts) (hKernel1Ideal : Cert.Kernel1Ideal.Facts) (hReference1Ideal : Cert.Reference1Ideal.Facts) (hKernel4 : Cert.Kernel4.Facts) (hKernel4Ideal : Cert.Kernel4Ideal.Facts) (hReference4Ideal : Cert.Reference4Ideal.Facts) (hKernel16 : Cert.Kernel16.Facts) (hKernel16Ideal : Cert.Kernel16Ideal.Facts) (hReference16Ideal : Cert.Reference16Ideal.Facts) (hKernelFfn : Cert.KernelFfn.Facts) (hKernelFfnIdeal : Cert.KernelFfnIdeal.Facts) (hReferenceFfnIdeal : Cert.ReferenceFfnIdeal.Facts) (hKernelProj : Cert.KernelProj.Facts) (hKernelProjIdeal : Cert.KernelProjIdeal.Facts) (hReferenceProjIdeal : Cert.ReferenceProjIdeal.Facts) (hKernelMerge : Cert.KernelMerge.Facts) (hKernelMergeIdeal : Cert.KernelMergeIdeal.Facts) (hReferenceMergeIdeal : Cert.ReferenceMergeIdeal.Facts) (hPre_lse_finite : Cert.Pre_lse_finite.Facts),
    quiescent_Kernel1 (hKernel1 := hKernel1)
    ∧ quiescent_Kernel1Ideal (hKernel1Ideal := hKernel1Ideal)
    ∧ quiescent_Reference1Ideal (hReference1Ideal := hReference1Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelMerge (hKernelMerge := hKernelMerge)
    ∧ quiescent_KernelMergeIdeal (hKernelMergeIdeal := hKernelMergeIdeal)
    ∧ quiescent_KernelMergeIdeal_pre_lse_finite (hKernelMergeIdeal := hKernelMergeIdeal) (hPre_lse_finite := hPre_lse_finite)
    ∧ quiescent_ReferenceMergeIdeal (hReferenceMergeIdeal := hReferenceMergeIdeal)
    ∧ quiescent_ReferenceMergeIdeal_pre_lse_finite (hReferenceMergeIdeal := hReferenceMergeIdeal) (hPre_lse_finite := hPre_lse_finite)
    ∧ preserves_Kernel1_Kernel1Ideal
    ∧ algebraic_Kernel1Ideal_Reference1Ideal (hKernel1Ideal := hKernel1Ideal) (hReference1Ideal := hReference1Ideal)
    ∧ preserves_Kernel4_Kernel4Ideal
    ∧ algebraic_Kernel4Ideal_Reference4Ideal (hKernel4Ideal := hKernel4Ideal) (hReference4Ideal := hReference4Ideal)
    ∧ preserves_Kernel16_Kernel16Ideal
    ∧ algebraic_Kernel16Ideal_Reference16Ideal (hKernel16Ideal := hKernel16Ideal) (hReference16Ideal := hReference16Ideal)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelProj_KernelProjIdeal
    ∧ algebraic_KernelProjIdeal_ReferenceProjIdeal (hKernelProjIdeal := hKernelProjIdeal) (hReferenceProjIdeal := hReferenceProjIdeal)
    ∧ preserves_KernelMerge_KernelMergeIdeal
    ∧ algebraic_KernelMergeIdeal_ReferenceMergeIdeal_pre_lse_finite (hKernelMergeIdeal := hKernelMergeIdeal) (hReferenceMergeIdeal := hReferenceMergeIdeal) (hPre_lse_finite := hPre_lse_finite)
-- ==== Pre_lse_finite.lean ====
abbrev S49152x1024 : Shape := ⟨2, ![49152, 1024]⟩
abbrev S49152x512 : Shape := ⟨2, ![49152, 512]⟩
abbrev S12x1x4096x256 : Shape := ⟨4, ![12, 1, 4096, 256]⟩
abbrev S12x4x1024x256 : Shape := ⟨4, ![12, 4, 1024, 256]⟩
abbrev S12x16x256x256 : Shape := ⟨4, ![12, 16, 256, 256]⟩
abbrev S1024x3072 : Shape := ⟨2, ![1024, 3072]⟩
abbrev S3072 : Shape := ⟨1, ![3072]⟩
abbrev S512x1024 : Shape := ⟨2, ![512, 1024]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩

class Facts : Prop where
  bcast_S_S12x1x4096x256 : S_.BroadcastsInDim S12x1x4096x256 (![] : Fin 0 → Fin S12x1x4096x256.rank)
  bcast_S_S12x4x1024x256 : S_.BroadcastsInDim S12x4x1024x256 (![] : Fin 0 → Fin S12x4x1024x256.rank)
  bcast_S_S12x16x256x256 : S_.BroadcastsInDim S12x16x256x256 (![] : Fin 0 → Fin S12x16x256x256.rank)

variable [Facts]

def fn {F : FTy → Type} [FloatOps F] (main_arg0 : FVec F S49152x1024 .f32) (main_arg1 : FVec F S49152x512 .f32) (main_arg2 : FVec F S12x1x4096x256 .f32) (main_arg3 : FVec F S12x4x1024x256 .f32) (main_arg4 : FVec F S12x16x256x256 .f32) (main_arg5 : FVec F S12x1x4096x256 .f32) (main_arg6 : FVec F S12x4x1024x256 .f32) (main_arg7 : FVec F S12x16x256x256 .f32) (main_arg8 : FVec F S49152x512 .f32) (main_arg9 : FVec F S1024x3072 .f32) (main_arg10 : FVec F S3072 .f32) (main_arg11 : FVec F S512x1024 .f32) (main_arg12 : FVec F S256x1024 .f32) (main_arg13 : FVec F S512x1024 .f32) (main_arg14 : FVec F S1024x1024 .f32) (main_arg15 : FVec F S1024 .f32) (main_arg16 : FVec F S1024 .f32) : IVec S12x1x4096x256 1 × IVec S12x4x1024x256 1 × IVec S12x16x256x256 1 :=
  let main_v0 : FVec F S12x1x4096x256 .f32 := subf main_arg5 main_arg5
  let main_cst : FVec F S_ .f32 := constant S_ .f32 0x00000000#32
  let main_v1 : FVec F S12x1x4096x256 .f32 := broadcastInDim S12x1x4096x256 ![] bcast_S_S12x1x4096x256 main_cst
  let main_v2 : IVec S12x1x4096x256 1 := cmpf .oeq main_v0 main_v1
  let main_v3 : FVec F S12x4x1024x256 .f32 := subf main_arg6 main_arg6
  let main_cst_0 : FVec F S_ .f32 := constant S_ .f32 0x00000000#32
  let main_v4 : FVec F S12x4x1024x256 .f32 := broadcastInDim S12x4x1024x256 ![] bcast_S_S12x4x1024x256 main_cst_0
  let main_v5 : IVec S12x4x1024x256 1 := cmpf .oeq main_v3 main_v4
  let main_v6 : FVec F S12x16x256x256 .f32 := subf main_arg7 main_arg7
  let main_cst_1 : FVec F S_ .f32 := constant S_ .f32 0x00000000#32
  let main_v7 : FVec F S12x16x256x256 .f32 := broadcastInDim S12x16x256x256 ![] bcast_S_S12x16x256x256 main_cst_1
  let main_v8 : IVec S12x16x256x256 1 := cmpf .oeq main_v6 main_v7
  (main_v2, main_v5, main_v8)
-- ==== Kernel1.lean ====
abbrev S12x1x4096x768 : Shape := ⟨4, ![12, 1, 4096, 768]⟩
abbrev S12x1x4096x256 : Shape := ⟨4, ![12, 1, 4096, 256]⟩
abbrev S1x1x1024x256 : Shape := ⟨4, ![1, 1, 1024, 256]⟩
abbrev S1x1x64x256 : Shape := ⟨4, ![1, 1, 64, 256]⟩
abbrev S2x1024x256 : Shape := ⟨3, ![2, 1024, 256]⟩
abbrev S1152x256 : Shape := ⟨2, ![1152, 256]⟩
abbrev S1024x256 : Shape := ⟨2, ![1024, 256]⟩
abbrev S128x128 : Shape := ⟨2, ![128, 128]⟩
abbrev S128x256 : Shape := ⟨2, ![128, 256]⟩
abbrev S1x1024x256 : Shape := ⟨3, ![1, 1024, 256]⟩
abbrev S64x256 : Shape := ⟨2, ![64, 256]⟩
abbrev S256x128 : Shape := ⟨2, ![256, 128]⟩
abbrev S1x128x128 : Shape := ⟨3, ![1, 128, 128]⟩
abbrev S128 : Shape := ⟨1, ![128]⟩
abbrev S128x1 : Shape := ⟨2, ![128, 1]⟩
abbrev S1x1x128x128 : Shape := ⟨4, ![1, 1, 128, 128]⟩

abbrev nBuf : Space → Nat
  | .hbm => 3
  | .vmem => 21
  | .smem => 0
  | _ => 0

abbrev bufTy : (tb : Table) → Fin (tcTables nBuf tb) → BufTy
  | .hbm, ⟨0, _⟩ => ⟨S12x1x4096x768, .f32⟩
  | .hbm, ⟨1, _⟩ => ⟨S12x1x4096x256, .f32⟩
  | .hbm, ⟨2, _⟩ => ⟨S12x1x4096x256, .f32⟩
  | .local _ .vmem, ⟨0, _⟩ => ⟨S1x1x1024x256, .f32⟩
  | .local _ .vmem, ⟨1, _⟩ => ⟨S1x1x1024x256, .f32⟩
  | .local _ .vmem, ⟨2, _⟩ => ⟨S1x1x64x256, .f32⟩
  | .local _ .vmem, ⟨3, _⟩ => ⟨S1x1x64x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x64x256, .f32⟩
  | .local _ .vmem, ⟨7, _⟩ => ⟨S1x1x64x256, .f32⟩
  | .local _ .vmem, ⟨8, _⟩ => ⟨S1x1x64x256, .f32⟩
  | .local _ .vmem, ⟨9, _⟩ => ⟨S1x1x64x256, .f32⟩
  | .local _ .vmem, ⟨10, _⟩ => ⟨S1x1x1024x256, .f32⟩
  | .local _ .vmem, ⟨11, _⟩ => ⟨S1x1x1024x256, .f32⟩
  | .local _ .vmem, ⟨12, _⟩ => ⟨S1x1x64x256, .f32⟩
  | .local _ .vmem, ⟨13, _⟩ => ⟨S1x1x64x256, .f32⟩
  | .local _ .vmem, ⟨14, _⟩ => ⟨S1x1x1024x256, .f32⟩
  | .local _ .vmem, ⟨15, _⟩ => ⟨S1x1x1024x256, .f32⟩
  | .local _ .vmem, ⟨16, _⟩ => ⟨S1x1x1024x256, .f32⟩
  | .local _ .vmem, ⟨17, _⟩ => ⟨S1x1x1024x256, .f32⟩
  | .local _ .vmem, ⟨18, _⟩ => ⟨S2x1024x256, .bf16⟩
  | .local _ .vmem, ⟨19, _⟩ => ⟨S1152x256, .bf16⟩
  | .local _ .vmem, ⟨20, _⟩ => ⟨S1152x256, .bf16⟩
  | _, _ => ⟨S12x1x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![12, 1, 4], ![false, false, false]⟩

@[reducible] def k0_t1_loop : Scf.Loop 32 :=
  let c0_i32_43 : BitVec 32 := 0#32
  let c2_i32 : BitVec 32 := 2#32
  let v88 : BitVec 32 := Scalar.addi c0_i32_43 c2_i32
  let c1_i32_44 : BitVec 32 := 1#32
  ⟨c0_i32_43, v88, c1_i32_44⟩
def k0_mult1 (k0_t1 : Fin k0_t1_loop.trips) : BitVec 32 :=
  let c0_i32_43 : BitVec 32 := 0#32
  let c1_i32_44 : BitVec 32 := 1#32
  let arg15 : BitVec 32 := Scf.iv c0_i32_43 c1_i32_44 k0_t1
  let c4_i32 : BitVec 32 := 4#32
  let v89 : BitVec 32 := Scalar.muli arg15 c4_i32
  let c0_i32_47 : BitVec 32 := 0#32
  let v90 : BitVec 32 := Scalar.addi v89 c0_i32_47
  let c128_i32_48 : BitVec 32 := 128#32
  let v91 : BitVec 32 := Scalar.muli v90 c128_i32_48
  v91
def k0_off1 (k0_t1 : Fin k0_t1_loop.trips) (c0_i32_47 : BitVec 32) : Fin 2 → Nat :=
  let c0_i32_43 : BitVec 32 := 0#32
  let c1_i32_44 : BitVec 32 := 1#32
  let arg15 : BitVec 32 := Scf.iv c0_i32_43 c1_i32_44 k0_t1
  let c4_i32 : BitVec 32 := 4#32
  let v89 : BitVec 32 := Scalar.muli arg15 c4_i32
  let v90 : BitVec 32 := Scalar.addi v89 c0_i32_47
  let c128_i32_48 : BitVec 32 := 128#32
  let v91 : BitVec 32 := Scalar.muli v90 c128_i32_48
  let v92 : BitVec 32 := v91
  let v105 : Index := Scalar.indexCast v92
  let c0_52 : Index := 0#32
  ![v105.toNat, 0]
def k0_off2 (k0_t1 : Fin k0_t1_loop.trips) (c0_i32_47 : BitVec 32) : Fin 3 → Nat :=
  let c0_54 : Index := 0#32
  let c0_i32_43 : BitVec 32 := 0#32
  let c1_i32_44 : BitVec 32 := 1#32
  let arg15 : BitVec 32 := Scf.iv c0_i32_43 c1_i32_44 k0_t1
  let c4_i32 : BitVec 32 := 4#32
  let v89 : BitVec 32 := Scalar.muli arg15 c4_i32
  let v90 : BitVec 32 := Scalar.addi v89 c0_i32_47
  let c128_i32_48 : BitVec 32 := 128#32
  let v91 : BitVec 32 := Scalar.muli v90 c128_i32_48
  let v92 : BitVec 32 := v91
  let v109 : Index := Scalar.indexCast v92
  let c0_55 : Index := 0#32
  ![0, v109.toNat, 0]
def k0_off3 (k0_t1 : Fin k0_t1_loop.trips) (c0_i32_47 : BitVec 32) : Fin 3 → Nat :=
  let c1_63 : Index := 1#32
  let c0_i32_43 : BitVec 32 := 0#32
  let c1_i32_44 : BitVec 32 := 1#32
  let arg15 : BitVec 32 := Scf.iv c0_i32_43 c1_i32_44 k0_t1
  let c4_i32 : BitVec 32 := 4#32
  let v89 : BitVec 32 := Scalar.muli arg15 c4_i32
  let v90 : BitVec 32 := Scalar.addi v89 c0_i32_47
  let c128_i32_48 : BitVec 32 := 128#32
  let v91 : BitVec 32 := Scalar.muli v90 c128_i32_48
  let v92 : BitVec 32 := v91
  let v132 : Index := Scalar.indexCast v92
  let c0_64 : Index := 0#32
  ![1, v132.toNat, 0]
def k0_off4 (k0_t1 : Fin k0_t1_loop.trips) (c0_i32_47 : BitVec 32) : Fin 4 → Nat :=
  let c0_72 : Index := 0#32
  let c0_i32_6 : BitVec 32 := 0#32
  let v156 : Index := Scalar.indexCast c0_i32_6
  let c0_i32_43 : BitVec 32 := 0#32
  let c1_i32_44 : BitVec 32 := 1#32
  let arg15 : BitVec 32 := Scf.iv c0_i32_43 c1_i32_44 k0_t1
  let c4_i32 : BitVec 32 := 4#32
  let v89 : BitVec 32 := Scalar.muli arg15 c4_i32
  let v90 : BitVec 32 := Scalar.addi v89 c0_i32_47
  let c128_i32_48 : BitVec 32 := 128#32
  let v91 : BitVec 32 := Scalar.muli v90 c128_i32_48
  let v92 : BitVec 32 := v91
  let v157 : Index := Scalar.indexCast v92
  let c0_73 : Index := 0#32
  ![0, 0, v157.toNat, 0]
def k0_off5 (k0_t1 : Fin k0_t1_loop.trips) (c0_i32_47 : BitVec 32) : Fin 2 → Nat :=
  let c0_i32_43 : BitVec 32 := 0#32
  let c1_i32_44 : BitVec 32 := 1#32
  let arg15 : BitVec 32 := Scf.iv c0_i32_43 c1_i32_44 k0_t1
  let c4_i32 : BitVec 32 := 4#32
  let v89 : BitVec 32 := Scalar.muli arg15 c4_i32
  let v90 : BitVec 32 := Scalar.addi v89 c0_i32_47
  let c128_i32_48 : BitVec 32 := 128#32
  let v91 : BitVec 32 := Scalar.muli v90 c128_i32_48
  let v92 : BitVec 32 := v91
  let v171 : Index := Scalar.indexCast v92
  let c128 : Index := 128#32
  ![v171.toNat, 128]
def k0_off6 (k0_t1 : Fin k0_t1_loop.trips) (c0_i32_47 : BitVec 32) : Fin 3 → Nat :=
  let c0_77 : Index := 0#32
  let c0_i32_43 : BitVec 32 := 0#32
  let c1_i32_44 : BitVec 32 := 1#32
  let arg15 : BitVec 32 := Scf.iv c0_i32_43 c1_i32_44 k0_t1
  let c4_i32 : BitVec 32 := 4#32
  let v89 : BitVec 32 := Scalar.muli arg15 c4_i32
  let v90 : BitVec 32 := Scalar.addi v89 c0_i32_47
  let c128_i32_48 : BitVec 32 := 128#32
  let v91 : BitVec 32 := Scalar.muli v90 c128_i32_48
  let v92 : BitVec 32 := v91
  let v175 : Index := Scalar.indexCast v92
  let c128_78 : Index := 128#32
  ![0, v175.toNat, 128]
def k0_off7 (k0_t1 : Fin k0_t1_loop.trips) (c0_i32_47 : BitVec 32) : Fin 3 → Nat :=
  let c1_86 : Index := 1#32
  let c0_i32_43 : BitVec 32 := 0#32
  let c1_i32_44 : BitVec 32 := 1#32
  let arg15 : BitVec 32 := Scf.iv c0_i32_43 c1_i32_44 k0_t1
  let c4_i32 : BitVec 32 := 4#32
  let v89 : BitVec 32 := Scalar.muli arg15 c4_i32
  let v90 : BitVec 32 := Scalar.addi v89 c0_i32_47
  let c128_i32_48 : BitVec 32 := 128#32
  let v91 : BitVec 32 := Scalar.muli v90 c128_i32_48
  let v92 : BitVec 32 := v91
  let v198 : Index := Scalar.indexCast v92
  let c128_87 : Index := 128#32
  ![1, v198.toNat, 128]
def k0_off8 (k0_t1 : Fin k0_t1_loop.trips) (c0_i32_47 : BitVec 32) : Fin 4 → Nat :=
  let c0_95 : Index := 0#32
  let c0_i32_6 : BitVec 32 := 0#32
  let v222 : Index := Scalar.indexCast c0_i32_6
  let c0_i32_43 : BitVec 32 := 0#32
  let c1_i32_44 : BitVec 32 := 1#32
  let arg15 : BitVec 32 := Scf.iv c0_i32_43 c1_i32_44 k0_t1
  let c4_i32 : BitVec 32 := 4#32
  let v89 : BitVec 32 := Scalar.muli arg15 c4_i32
  let v90 : BitVec 32 := Scalar.addi v89 c0_i32_47
  let c128_i32_48 : BitVec 32 := 128#32
  let v91 : BitVec 32 := Scalar.muli v90 c128_i32_48
  let v92 : BitVec 32 := v91
  let v223 : Index := Scalar.indexCast v92
  let c128_96 : Index := 128#32
  ![0, 0, v223.toNat, 128]
def k0_mult2 (k0_t1 : Fin k0_t1_loop.trips) : BitVec 32 :=
  let c0_i32_43 : BitVec 32 := 0#32
  let c1_i32_44 : BitVec 32 := 1#32
  let arg15 : BitVec 32 := Scf.iv c0_i32_43 c1_i32_44 k0_t1
  let c4_i32_99 : BitVec 32 := 4#32
  let v237 : BitVec 32 := Scalar.muli arg15 c4_i32_99
  let c1_i32_100 : BitVec 32 := 1#32
  let v238 : BitVec 32 := Scalar.addi v237 c1_i32_100
  let c128_i32_101 : BitVec 32 := 128#32
  let v239 : BitVec 32 := Scalar.muli v238 c128_i32_101
  v239
def k0_mult3 (k0_t1 : Fin k0_t1_loop.trips) : BitVec 32 :=
  let c0_i32_43 : BitVec 32 := 0#32
  let c1_i32_44 : BitVec 32 := 1#32
  let arg15 : BitVec 32 := Scf.iv c0_i32_43 c1_i32_44 k0_t1
  let c4_i32_154 : BitVec 32 := 4#32
  let v385 : BitVec 32 := Scalar.muli arg15 c4_i32_154
  let c2_i32_155 : BitVec 32 := 2#32
  let v386 : BitVec 32 := Scalar.addi v385 c2_i32_155
  let c128_i32_156 : BitVec 32 := 128#32
  let v387 : BitVec 32 := Scalar.muli v386 c128_i32_156
  v387
def k0_mult4 (k0_t1 : Fin k0_t1_loop.trips) : BitVec 32 :=
  let c0_i32_43 : BitVec 32 := 0#32
  let c1_i32_44 : BitVec 32 := 1#32
  let arg15 : BitVec 32 := Scf.iv c0_i32_43 c1_i32_44 k0_t1
  let c4_i32_209 : BitVec 32 := 4#32
  let v533 : BitVec 32 := Scalar.muli arg15 c4_i32_209
  let c3_i32 : BitVec 32 := 3#32
  let v534 : BitVec 32 := Scalar.addi v533 c3_i32
  let c128_i32_210 : BitVec 32 := 128#32
  let v535 : BitVec 32 := Scalar.muli v534 c128_i32_210
  v535
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg2 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, arg1.toNat, v2.toNat, c1_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c16_i32 : BitVec 32 := 16#32
  let v1 : BitVec 32 := Scalar.muli v0 c16_i32
  let c63_i32 : BitVec 32 := 63#32
  let v2 : BitVec 32 := Scalar.minsi v1 c63_i32
  let c1_i32_0 : BitVec 32 := 1#32
  let c0_i32 : BitVec 32 := 0#32
  ![arg0.toNat, arg1.toNat, v2.toNat, c1_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg2 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, arg1.toNat, v2.toNat, c2_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c16_i32 : BitVec 32 := 16#32
  let v1 : BitVec 32 := Scalar.muli v0 c16_i32
  let c63_i32 : BitVec 32 := 63#32
  let v2 : BitVec 32 := Scalar.minsi v1 c63_i32
  let c2_i32 : BitVec 32 := 2#32
  let c0_i32 : BitVec 32 := 0#32
  ![arg0.toNat, arg1.toNat, v2.toNat, c2_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference1Ideal.lean ====
abbrev S12x1x4096x768 : Shape := ⟨4, ![12, 1, 4096, 768]⟩
abbrev S12x1x4096x256 : Shape := ⟨4, ![12, 1, 4096, 256]⟩
abbrev S12x1x4096x4x64 : Shape := ⟨5, ![12, 1, 4096, 4, 64]⟩
abbrev S12x1x4x4096x4096 : Shape := ⟨5, ![12, 1, 4, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S12x1x4x4096 : Shape := ⟨4, ![12, 1, 4, 4096]⟩
abbrev S12x1x4x4096x1 : Shape := ⟨5, ![12, 1, 4, 4096, 1]⟩
abbrev S12x1x4x64x4096 : Shape := ⟨5, ![12, 1, 4, 64, 4096]⟩
abbrev S12x1x4096x4 : Shape := ⟨4, ![12, 1, 4096, 4]⟩
abbrev S12x1x4096x4x1 : Shape := ⟨5, ![12, 1, 4096, 4, 1]⟩

abbrev nBuf : Space → Nat
  | .hbm => 52
  | .vmem => 0
  | .smem => 0
  | _ => 0

abbrev bufTy : (tb : Table) → Fin (tcTables nBuf tb) → BufTy
  | .hbm, ⟨0, _⟩ => ⟨S12x1x4096x768, .f32⟩
  | .hbm, ⟨1, _⟩ => ⟨S12x1x4096x256, .f32⟩
  | .hbm, ⟨2, _⟩ => ⟨S12x1x4096x4x64, .f32⟩
  | .hbm, ⟨3, _⟩ => ⟨S12x1x4096x256, .f32⟩
  | .hbm, ⟨4, _⟩ => ⟨S12x1x4096x4x64, .f32⟩
  | .hbm, ⟨5, _⟩ => ⟨S12x1x4096x256, .f32⟩
  | .hbm, ⟨6, _⟩ => ⟨S12x1x4096x4x64, .f32⟩
  | .hbm, ⟨7, _⟩ => ⟨S12x1x4x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S4096x4096, .i32⟩
  | .hbm, ⟨15, _⟩ => ⟨S_, .i32⟩
  | .hbm, ⟨16, _⟩ => ⟨S4096x4096, .i32⟩
  | .hbm, ⟨17, _⟩ => ⟨S4096x4096, .i1⟩
  | .hbm, ⟨18, _⟩ => ⟨S_, .f32⟩
  | .hbm, ⟨19, _⟩ => ⟨S_, .f32⟩
  | .hbm, ⟨20, _⟩ => ⟨S12x1x4x4096x4096, .i1⟩
  | .hbm, ⟨21, _⟩ => ⟨S12x1x4x4096x4096, .f32⟩
  | .hbm, ⟨22, _⟩ => ⟨S12x1x4x4096x4096, .f32⟩
  | .hbm, ⟨23, _⟩ => ⟨S_, .f32⟩
  | .hbm, ⟨24, _⟩ => ⟨S12x1x4x4096, .f32⟩
  | .hbm, ⟨25, _⟩ => ⟨S12x1x4x4096x1, .f32⟩
  | .hbm, ⟨26, _⟩ => ⟨S12x1x4x4096x4096, .f32⟩
  | .hbm, ⟨27, _⟩ => ⟨S12x1x4x4096x4096, .f32⟩
  | .hbm, ⟨28, _⟩ => ⟨S12x1x4x4096x4096, .f32⟩
  | .hbm, ⟨29, _⟩ => ⟨S_, .f32⟩
  | .hbm, ⟨30, _⟩ => ⟨S_, .f32⟩
  | .hbm, ⟨31, _⟩ => ⟨S12x1x4x4096x4096, .i1⟩
  | .hbm, ⟨32, _⟩ => ⟨S12x1x4x4096x4096, .f32⟩
  | .hbm, ⟨33, _⟩ => ⟨S12x1x4x4096x4096, .f32⟩
  | .hbm, ⟨34, _⟩ => ⟨S_, .f32⟩
  | .hbm, ⟨35, _⟩ => ⟨S12x1x4x4096, .f32⟩
  | .hbm, ⟨36, _⟩ => ⟨S12x1x4x4096x1, .f32⟩
  | .hbm, ⟨37, _⟩ => ⟨S_, .f32⟩
  | .hbm, ⟨38, _⟩ => ⟨S12x1x4x4096x1, .f32⟩
  | .hbm, ⟨39, _⟩ => ⟨S12x1x4x4096x1, .f32⟩
  | .hbm, ⟨40, _⟩ => ⟨S12x1x4x4096x4096, .f32⟩
  | .hbm, ⟨41, _⟩ => ⟨S12x1x4x4096x4096, .f32⟩
  | .hbm, ⟨42, _⟩ => ⟨S12x1x4x64x4096, .f32⟩
  | .hbm, ⟨43, _⟩ => ⟨S12x1x4096x4x64, .f32⟩
  | .hbm, ⟨44, _⟩ => ⟨S12x1x4x4096x1, .f32⟩
  | .hbm, ⟨45, _⟩ => ⟨S12x1x4x4096x1, .f32⟩
  | .hbm, ⟨46, _⟩ => ⟨S12x1x4x4096, .f32⟩
  | .hbm, ⟨47, _⟩ => ⟨S12x1x4096x4, .f32⟩
  | .hbm, ⟨48, _⟩ => ⟨S12x1x4096x4x1, .f32⟩
  | .hbm, ⟨49, _⟩ => ⟨S12x1x4096x4x64, .f32⟩
  | .hbm, ⟨50, _⟩ => ⟨S12x1x4096x256, .f32⟩
  | .hbm, ⟨51, _⟩ => ⟨S12x1x4096x256, .f32⟩
  | _, _ => ⟨S12x1x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_c : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel4.lean ====
abbrev S12x4x1024x768 : Shape := ⟨4, ![12, 4, 1024, 768]⟩
abbrev S12x4x1024x256 : Shape := ⟨4, ![12, 4, 1024, 256]⟩
abbrev S1x1x1024x256 : Shape := ⟨4, ![1, 1, 1024, 256]⟩
abbrev S1x1x64x256 : Shape := ⟨4, ![1, 1, 64, 256]⟩
abbrev S2x1024x256 : Shape := ⟨3, ![2, 1024, 256]⟩
abbrev S1152x256 : Shape := ⟨2, ![1152, 256]⟩
abbrev S1024x256 : Shape := ⟨2, ![1024, 256]⟩
abbrev S128x128 : Shape := ⟨2, ![128, 128]⟩
abbrev S128x256 : Shape := ⟨2, ![128, 256]⟩
abbrev S1x1024x256 : Shape := ⟨3, ![1, 1024, 256]⟩
abbrev S64x256 : Shape := ⟨2, ![64, 256]⟩
abbrev S256x128 : Shape := ⟨2, ![256, 128]⟩
abbrev S1x128x128 : Shape := ⟨3, ![1, 128, 128]⟩
abbrev S128 : Shape := ⟨1, ![128]⟩
abbrev S128x1 : Shape := ⟨2, ![128, 1]⟩
abbrev S1x1x128x128 : Shape := ⟨4, ![1, 1, 128, 128]⟩

abbrev nBuf : Space → Nat
  | .hbm => 3
  | .vmem => 21
  | .smem => 0
  | _ => 0

abbrev bufTy : (tb : Table) → Fin (tcTables nBuf tb) → BufTy
  | .hbm, ⟨0, _⟩ => ⟨S12x4x1024x768, .f32⟩
  | .hbm, ⟨1, _⟩ => ⟨S12x4x1024x256, .f32⟩
  | .hbm, ⟨2, _⟩ => ⟨S12x4x1024x256, .f32⟩
  | .local _ .vmem, ⟨0, _⟩ => ⟨S1x1x1024x256, .f32⟩
  | .local _ .vmem, ⟨1, _⟩ => ⟨S1x1x1024x256, .f32⟩
  | .local _ .vmem, ⟨2, _⟩ => ⟨S1x1x64x256, .f32⟩
  | .local _ .vmem, ⟨3, _⟩ => ⟨S1x1x64x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x64x256, .f32⟩
  | .local _ .vmem, ⟨7, _⟩ => ⟨S1x1x64x256, .f32⟩
  | .local _ .vmem, ⟨8, _⟩ => ⟨S1x1x64x256, .f32⟩
  | .local _ .vmem, ⟨9, _⟩ => ⟨S1x1x64x256, .f32⟩
  | .local _ .vmem, ⟨10, _⟩ => ⟨S1x1x1024x256, .f32⟩
  | .local _ .vmem, ⟨11, _⟩ => ⟨S1x1x1024x256, .f32⟩
  | .local _ .vmem, ⟨12, _⟩ => ⟨S1x1x64x256, .f32⟩
  | .local _ .vmem, ⟨13, _⟩ => ⟨S1x1x64x256, .f32⟩
  | .local _ .vmem, ⟨14, _⟩ => ⟨S1x1x1024x256, .f32⟩
  | .local _ .vmem, ⟨15, _⟩ => ⟨S1x1x1024x256, .f32⟩
  | .local _ .vmem, ⟨16, _⟩ => ⟨S1x1x1024x256, .f32⟩
  | .local _ .vmem, ⟨17, _⟩ => ⟨S1x1x1024x256, .f32⟩
  | .local _ .vmem, ⟨18, _⟩ => ⟨S2x1024x256, .bf16⟩
  | .local _ .vmem, ⟨19, _⟩ => ⟨S1152x256, .bf16⟩
  | .local _ .vmem, ⟨20, _⟩ => ⟨S1152x256, .bf16⟩
  | _, _ => ⟨S12x4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![12, 4, 1], ![false, false, false]⟩

@[reducible] def k0_t1_loop : Scf.Loop 32 :=
  let c0_i32_43 : BitVec 32 := 0#32
  let c2_i32 : BitVec 32 := 2#32
  let v88 : BitVec 32 := Scalar.addi c0_i32_43 c2_i32
  let c1_i32_44 : BitVec 32 := 1#32
  ⟨c0_i32_43, v88, c1_i32_44⟩
def k0_mult1 (k0_t1 : Fin k0_t1_loop.trips) : BitVec 32 :=
  let c0_i32_43 : BitVec 32 := 0#32
  let c1_i32_44 : BitVec 32 := 1#32
  let arg15 : BitVec 32 := Scf.iv c0_i32_43 c1_i32_44 k0_t1
  let c4_i32 : BitVec 32 := 4#32
  let v89 : BitVec 32 := Scalar.muli arg15 c4_i32
  let c0_i32_47 : BitVec 32 := 0#32
  let v90 : BitVec 32 := Scalar.addi v89 c0_i32_47
  let c128_i32_48 : BitVec 32 := 128#32
  let v91 : BitVec 32 := Scalar.muli v90 c128_i32_48
  v91
def k0_off1 (k0_t1 : Fin k0_t1_loop.trips) (c0_i32_47 : BitVec 32) : Fin 2 → Nat :=
  let c0_i32_43 : BitVec 32 := 0#32
  let c1_i32_44 : BitVec 32 := 1#32
  let arg15 : BitVec 32 := Scf.iv c0_i32_43 c1_i32_44 k0_t1
  let c4_i32 : BitVec 32 := 4#32
  let v89 : BitVec 32 := Scalar.muli arg15 c4_i32
  let v90 : BitVec 32 := Scalar.addi v89 c0_i32_47
  let c128_i32_48 : BitVec 32 := 128#32
  let v91 : BitVec 32 := Scalar.muli v90 c128_i32_48
  let v92 : BitVec 32 := v91
  let v105 : Index := Scalar.indexCast v92
  let c0_52 : Index := 0#32
  ![v105.toNat, 0]
def k0_off2 (k0_t1 : Fin k0_t1_loop.trips) (c0_i32_47 : BitVec 32) : Fin 3 → Nat :=
  let c0_54 : Index := 0#32
  let c0_i32_43 : BitVec 32 := 0#32
  let c1_i32_44 : BitVec 32 := 1#32
  let arg15 : BitVec 32 := Scf.iv c0_i32_43 c1_i32_44 k0_t1
  let c4_i32 : BitVec 32 := 4#32
  let v89 : BitVec 32 := Scalar.muli arg15 c4_i32
  let v90 : BitVec 32 := Scalar.addi v89 c0_i32_47
  let c128_i32_48 : BitVec 32 := 128#32
  let v91 : BitVec 32 := Scalar.muli v90 c128_i32_48
  let v92 : BitVec 32 := v91
  let v109 : Index := Scalar.indexCast v92
  let c0_55 : Index := 0#32
  ![0, v109.toNat, 0]
def k0_off3 (k0_t1 : Fin k0_t1_loop.trips) (c0_i32_47 : BitVec 32) : Fin 3 → Nat :=
  let c1_63 : Index := 1#32
  let c0_i32_43 : BitVec 32 := 0#32
  let c1_i32_44 : BitVec 32 := 1#32
  let arg15 : BitVec 32 := Scf.iv c0_i32_43 c1_i32_44 k0_t1
  let c4_i32 : BitVec 32 := 4#32
  let v89 : BitVec 32 := Scalar.muli arg15 c4_i32
  let v90 : BitVec 32 := Scalar.addi v89 c0_i32_47
  let c128_i32_48 : BitVec 32 := 128#32
  let v91 : BitVec 32 := Scalar.muli v90 c128_i32_48
  let v92 : BitVec 32 := v91
  let v132 : Index := Scalar.indexCast v92
  let c0_64 : Index := 0#32
  ![1, v132.toNat, 0]
def k0_off4 (k0_t1 : Fin k0_t1_loop.trips) (c0_i32_47 : BitVec 32) : Fin 4 → Nat :=
  let c0_72 : Index := 0#32
  let c0_i32_6 : BitVec 32 := 0#32
  let v156 : Index := Scalar.indexCast c0_i32_6
  let c0_i32_43 : BitVec 32 := 0#32
  let c1_i32_44 : BitVec 32 := 1#32
  let arg15 : BitVec 32 := Scf.iv c0_i32_43 c1_i32_44 k0_t1
  let c4_i32 : BitVec 32 := 4#32
  let v89 : BitVec 32 := Scalar.muli arg15 c4_i32
  let v90 : BitVec 32 := Scalar.addi v89 c0_i32_47
  let c128_i32_48 : BitVec 32 := 128#32
  let v91 : BitVec 32 := Scalar.muli v90 c128_i32_48
  let v92 : BitVec 32 := v91
  let v157 : Index := Scalar.indexCast v92
  let c0_73 : Index := 0#32
  ![0, 0, v157.toNat, 0]
def k0_off5 (k0_t1 : Fin k0_t1_loop.trips) (c0_i32_47 : BitVec 32) : Fin 2 → Nat :=
  let c0_i32_43 : BitVec 32 := 0#32
  let c1_i32_44 : BitVec 32 := 1#32
  let arg15 : BitVec 32 := Scf.iv c0_i32_43 c1_i32_44 k0_t1
  let c4_i32 : BitVec 32 := 4#32
  let v89 : BitVec 32 := Scalar.muli arg15 c4_i32
  let v90 : BitVec 32 := Scalar.addi v89 c0_i32_47
  let c128_i32_48 : BitVec 32 := 128#32
  let v91 : BitVec 32 := Scalar.muli v90 c128_i32_48
  let v92 : BitVec 32 := v91
  let v171 : Index := Scalar.indexCast v92
  let c128 : Index := 128#32
  ![v171.toNat, 128]
def k0_off6 (k0_t1 : Fin k0_t1_loop.trips) (c0_i32_47 : BitVec 32) : Fin 3 → Nat :=
  let c0_77 : Index := 0#32
  let c0_i32_43 : BitVec 32 := 0#32
  let c1_i32_44 : BitVec 32 := 1#32
  let arg15 : BitVec 32 := Scf.iv c0_i32_43 c1_i32_44 k0_t1
  let c4_i32 : BitVec 32 := 4#32
  let v89 : BitVec 32 := Scalar.muli arg15 c4_i32
  let v90 : BitVec 32 := Scalar.addi v89 c0_i32_47
  let c128_i32_48 : BitVec 32 := 128#32
  let v91 : BitVec 32 := Scalar.muli v90 c128_i32_48
  let v92 : BitVec 32 := v91
  let v175 : Index := Scalar.indexCast v92
  let c128_78 : Index := 128#32
  ![0, v175.toNat, 128]
def k0_off7 (k0_t1 : Fin k0_t1_loop.trips) (c0_i32_47 : BitVec 32) : Fin 3 → Nat :=
  let c1_86 : Index := 1#32
  let c0_i32_43 : BitVec 32 := 0#32
  let c1_i32_44 : BitVec 32 := 1#32
  let arg15 : BitVec 32 := Scf.iv c0_i32_43 c1_i32_44 k0_t1
  let c4_i32 : BitVec 32 := 4#32
  let v89 : BitVec 32 := Scalar.muli arg15 c4_i32
  let v90 : BitVec 32 := Scalar.addi v89 c0_i32_47
  let c128_i32_48 : BitVec 32 := 128#32
  let v91 : BitVec 32 := Scalar.muli v90 c128_i32_48
  let v92 : BitVec 32 := v91
  let v198 : Index := Scalar.indexCast v92
  let c128_87 : Index := 128#32
  ![1, v198.toNat, 128]
def k0_off8 (k0_t1 : Fin k0_t1_loop.trips) (c0_i32_47 : BitVec 32) : Fin 4 → Nat :=
  let c0_95 : Index := 0#32
  let c0_i32_6 : BitVec 32 := 0#32
  let v222 : Index := Scalar.indexCast c0_i32_6
  let c0_i32_43 : BitVec 32 := 0#32
  let c1_i32_44 : BitVec 32 := 1#32
  let arg15 : BitVec 32 := Scf.iv c0_i32_43 c1_i32_44 k0_t1
  let c4_i32 : BitVec 32 := 4#32
  let v89 : BitVec 32 := Scalar.muli arg15 c4_i32
  let v90 : BitVec 32 := Scalar.addi v89 c0_i32_47
  let c128_i32_48 : BitVec 32 := 128#32
  let v91 : BitVec 32 := Scalar.muli v90 c128_i32_48
  let v92 : BitVec 32 := v91
  let v223 : Index := Scalar.indexCast v92
  let c128_96 : Index := 128#32
  ![0, 0, v223.toNat, 128]
def k0_mult2 (k0_t1 : Fin k0_t1_loop.trips) : BitVec 32 :=
  let c0_i32_43 : BitVec 32 := 0#32
  let c1_i32_44 : BitVec 32 := 1#32
  let arg15 : BitVec 32 := Scf.iv c0_i32_43 c1_i32_44 k0_t1
  let c4_i32_99 : BitVec 32 := 4#32
  let v237 : BitVec 32 := Scalar.muli arg15 c4_i32_99
  let c1_i32_100 : BitVec 32 := 1#32
  let v238 : BitVec 32 := Scalar.addi v237 c1_i32_100
  let c128_i32_101 : BitVec 32 := 128#32
  let v239 : BitVec 32 := Scalar.muli v238 c128_i32_101
  v239
def k0_mult3 (k0_t1 : Fin k0_t1_loop.trips) : BitVec 32 :=
  let c0_i32_43 : BitVec 32 := 0#32
  let c1_i32_44 : BitVec 32 := 1#32
  let arg15 : BitVec 32 := Scf.iv c0_i32_43 c1_i32_44 k0_t1
  let c4_i32_154 : BitVec 32 := 4#32
  let v385 : BitVec 32 := Scalar.muli arg15 c4_i32_154
  let c2_i32_155 : BitVec 32 := 2#32
  let v386 : BitVec 32 := Scalar.addi v385 c2_i32_155
  let c128_i32_156 : BitVec 32 := 128#32
  let v387 : BitVec 32 := Scalar.muli v386 c128_i32_156
  v387
def k0_mult4 (k0_t1 : Fin k0_t1_loop.trips) : BitVec 32 :=
  let c0_i32_43 : BitVec 32 := 0#32
  let c1_i32_44 : BitVec 32 := 1#32
  let arg15 : BitVec 32 := Scf.iv c0_i32_43 c1_i32_44 k0_t1
  let c4_i32_209 : BitVec 32 := 4#32
  let v533 : BitVec 32 := Scalar.muli arg15 c4_i32_209
  let c3_i32 : BitVec 32 := 3#32
  let v534 : BitVec 32 := Scalar.addi v533 c3_i32
  let c128_i32_210 : BitVec 32 := 128#32
  let v535 : BitVec 32 := Scalar.muli v534 c128_i32_210
  v535
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg2 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, arg1.toNat, v2.toNat, c1_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c16_i32 : BitVec 32 := 16#32
  let v1 : BitVec 32 := Scalar.muli v0 c16_i32
  let c15_i32 : BitVec 32 := 15#32
  let v2 : BitVec 32 := Scalar.minsi v1 c15_i32
  let c1_i32_0 : BitVec 32 := 1#32
  let c0_i32 : BitVec 32 := 0#32
  ![arg0.toNat, arg1.toNat, v2.toNat, c1_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg2 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, arg1.toNat, v2.toNat, c2_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c16_i32 : BitVec 32 := 16#32
  let v1 : BitVec 32 := Scalar.muli v0 c16_i32
  let c15_i32 : BitVec 32 := 15#32
  let v2 : BitVec 32 := Scalar.minsi v1 c15_i32
  let c2_i32 : BitVec 32 := 2#32
  let c0_i32 : BitVec 32 := 0#32
  ![arg0.toNat, arg1.toNat, v2.toNat, c2_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference4Ideal.lean ====
abbrev S12x4x1024x768 : Shape := ⟨4, ![12, 4, 1024, 768]⟩
abbrev S12x4x1024x256 : Shape := ⟨4, ![12, 4, 1024, 256]⟩
abbrev S12x4x1024x4x64 : Shape := ⟨5, ![12, 4, 1024, 4, 64]⟩
abbrev S12x4x4x1024x1024 : Shape := ⟨5, ![12, 4, 4, 1024, 1024]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S_ : Shape := ⟨0, ![]⟩
abbrev S12x4x4x1024 : Shape := ⟨4, ![12, 4, 4, 1024]⟩
abbrev S12x4x4x1024x1 : Shape := ⟨5, ![12, 4, 4, 1024, 1]⟩
abbrev S12x4x4x64x1024 : Shape := ⟨5, ![12, 4, 4, 64, 1024]⟩
abbrev S12x4x1024x4 : Shape := ⟨4, ![12, 4, 1024, 4]⟩
abbrev S12x4x1024x4x1 : Shape := ⟨5, ![12, 4, 1024, 4, 1]⟩

abbrev nBuf : Space → Nat
  | .hbm => 52
  | .vmem => 0
  | .smem => 0
  | _ => 0

abbrev bufTy : (tb : Table) → Fin (tcTables nBuf tb) → BufTy
  | .hbm, ⟨0, _⟩ => ⟨S12x4x1024x768, .f32⟩
  | .hbm, ⟨1, _⟩ => ⟨S12x4x1024x256, .f32⟩
  | .hbm, ⟨2, _⟩ => ⟨S12x4x1024x4x64, .f32⟩
  | .hbm, ⟨3, _⟩ => ⟨S12x4x1024x256, .f32⟩
  | .hbm, ⟨4, _⟩ => ⟨S12x4x1024x4x64, .f32⟩
  | .hbm, ⟨5, _⟩ => ⟨S12x4x1024x256, .f32⟩
  | .hbm, ⟨6, _⟩ => ⟨S12x4x1024x4x64, .f32⟩
  | .hbm, ⟨7, _⟩ => ⟨S12x4x4x1024x1024, .f32⟩
  | .hbm, ⟨8, _⟩ => ⟨S1024, .i32⟩
  | .hbm, ⟨9, _⟩ => ⟨S1x1024, .i32⟩
  | .hbm, ⟨10, _⟩ => ⟨S1024x1, .i32⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S_, .f32⟩
  | .hbm, ⟨19, _⟩ => ⟨S_, .f32⟩
  | .hbm, ⟨20, _⟩ => ⟨S12x4x4x1024x1024, .i1⟩
  | .hbm, ⟨21, _⟩ => ⟨S12x4x4x1024x1024, .f32⟩
  | .hbm, ⟨22, _⟩ => ⟨S12x4x4x1024x1024, .f32⟩
  | .hbm, ⟨23, _⟩ => ⟨S_, .f32⟩
  | .hbm, ⟨24, _⟩ => ⟨S12x4x4x1024, .f32⟩
  | .hbm, ⟨25, _⟩ => ⟨S12x4x4x1024x1, .f32⟩
  | .hbm, ⟨26, _⟩ => ⟨S12x4x4x1024x1024, .f32⟩
  | .hbm, ⟨27, _⟩ => ⟨S12x4x4x1024x1024, .f32⟩
  | .hbm, ⟨28, _⟩ => ⟨S12x4x4x1024x1024, .f32⟩
  | .hbm, ⟨29, _⟩ => ⟨S_, .f32⟩
  | .hbm, ⟨30, _⟩ => ⟨S_, .f32⟩
  | .hbm, ⟨31, _⟩ => ⟨S12x4x4x1024x1024, .i1⟩
  | .hbm, ⟨32, _⟩ => ⟨S12x4x4x1024x1024, .f32⟩
  | .hbm, ⟨33, _⟩ => ⟨S12x4x4x1024x1024, .f32⟩
  | .hbm, ⟨34, _⟩ => ⟨S_, .f32⟩
  | .hbm, ⟨35, _⟩ => ⟨S12x4x4x1024, .f32⟩
  | .hbm, ⟨36, _⟩ => ⟨S12x4x4x1024x1, .f32⟩
  | .hbm, ⟨37, _⟩ => ⟨S_, .f32⟩
  | .hbm, ⟨38, _⟩ => ⟨S12x4x4x1024x1, .f32⟩
  | .hbm, ⟨39, _⟩ => ⟨S12x4x4x1024x1, .f32⟩
  | .hbm, ⟨40, _⟩ => ⟨S12x4x4x1024x1024, .f32⟩
  | .hbm, ⟨41, _⟩ => ⟨S12x4x4x1024x1024, .f32⟩
  | .hbm, ⟨42, _⟩ => ⟨S12x4x4x64x1024, .f32⟩
  | .hbm, ⟨43, _⟩ => ⟨S12x4x1024x4x64, .f32⟩
  | .hbm, ⟨44, _⟩ => ⟨S12x4x4x1024x1, .f32⟩
  | .hbm, ⟨45, _⟩ => ⟨S12x4x4x1024x1, .f32⟩
  | .hbm, ⟨46, _⟩ => ⟨S12x4x4x1024, .f32⟩
  | .hbm, ⟨47, _⟩ => ⟨S12x4x1024x4, .f32⟩
  | .hbm, ⟨48, _⟩ => ⟨S12x4x1024x4x1, .f32⟩
  | .hbm, ⟨49, _⟩ => ⟨S12x4x1024x4x64, .f32⟩
  | .hbm, ⟨50, _⟩ => ⟨S12x4x1024x256, .f32⟩
  | .hbm, ⟨51, _⟩ => ⟨S12x4x1024x256, .f32⟩
  | _, _ => ⟨S12x4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_c : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel16.lean ====
abbrev S12x16x256x768 : Shape := ⟨4, ![12, 16, 256, 768]⟩
abbrev S12x16x256x256 : Shape := ⟨4, ![12, 16, 256, 256]⟩
abbrev S1x4x256x256 : Shape := ⟨4, ![1, 4, 256, 256]⟩
abbrev S1x4x64x256 : Shape := ⟨4, ![1, 4, 64, 256]⟩
abbrev S2x256x256 : Shape := ⟨3, ![2, 256, 256]⟩
abbrev S384x256 : Shape := ⟨2, ![384, 256]⟩
abbrev S256x256 : Shape := ⟨2, ![256, 256]⟩
abbrev S128x128 : Shape := ⟨2, ![128, 128]⟩
abbrev S128x256 : Shape := ⟨2, ![128, 256]⟩
abbrev S1x1x256x256 : Shape := ⟨4, ![1, 1, 256, 256]⟩
abbrev S1x256x256 : Shape := ⟨3, ![1, 256, 256]⟩
abbrev S1x1x64x256 : Shape := ⟨4, ![1, 1, 64, 256]⟩
abbrev S64x256 : Shape := ⟨2, ![64, 256]⟩
abbrev S256x128 : Shape := ⟨2, ![256, 128]⟩
abbrev S1x128x128 : Shape := ⟨3, ![1, 128, 128]⟩
abbrev S128 : Shape := ⟨1, ![128]⟩
abbrev S128x1 : Shape := ⟨2, ![128, 1]⟩
abbrev S1x1x128x128 : Shape := ⟨4, ![1, 1, 128, 128]⟩

abbrev nBuf : Space → Nat
  | .hbm => 3
  | .vmem => 21
  | .smem => 0
  | _ => 0

abbrev bufTy : (tb : Table) → Fin (tcTables nBuf tb) → BufTy
  | .hbm, ⟨0, _⟩ => ⟨S12x16x256x768, .f32⟩
  | .hbm, ⟨1, _⟩ => ⟨S12x16x256x256, .f32⟩
  | .hbm, ⟨2, _⟩ => ⟨S12x16x256x256, .f32⟩
  | .local _ .vmem, ⟨0, _⟩ => ⟨S1x4x256x256, .f32⟩
  | .local _ .vmem, ⟨1, _⟩ => ⟨S1x4x256x256, .f32⟩
  | .local _ .vmem, ⟨2, _⟩ => ⟨S1x4x64x256, .f32⟩
  | .local _ .vmem, ⟨3, _⟩ => ⟨S1x4x64x256, .f32⟩
  | .local _ .vmem, ⟨4, _⟩ => ⟨S1x4x256x256, .f32⟩
  | .local _ .vmem, ⟨5, _⟩ => ⟨S1x4x256x256, .f32⟩
  | .local _ .vmem, ⟨6, _⟩ => ⟨S1x4x64x256, .f32⟩
  | .local _ .vmem, ⟨7, _⟩ => ⟨S1x4x64x256, .f32⟩
  | .local _ .vmem, ⟨8, _⟩ => ⟨S1x4x64x256, .f32⟩
  | .local _ .vmem, ⟨9, _⟩ => ⟨S1x4x64x256, .f32⟩
  | .local _ .vmem, ⟨10, _⟩ => ⟨S1x4x256x256, .f32⟩
  | .local _ .vmem, ⟨11, _⟩ => ⟨S1x4x256x256, .f32⟩
  | .local _ .vmem, ⟨12, _⟩ => ⟨S1x4x64x256, .f32⟩
  | .local _ .vmem, ⟨13, _⟩ => ⟨S1x4x64x256, .f32⟩
  | .local _ .vmem, ⟨14, _⟩ => ⟨S1x4x256x256, .f32⟩
  | .local _ .vmem, ⟨15, _⟩ => ⟨S1x4x256x256, .f32⟩
  | .local _ .vmem, ⟨16, _⟩ => ⟨S1x4x256x256, .f32⟩
  | .local _ .vmem, ⟨17, _⟩ => ⟨S1x4x256x256, .f32⟩
  | .local _ .vmem, ⟨18, _⟩ => ⟨S2x256x256, .bf16⟩
  | .local _ .vmem, ⟨19, _⟩ => ⟨S384x256, .bf16⟩
  | .local _ .vmem, ⟨20, _⟩ => ⟨S384x256, .bf16⟩
  | _, _ => ⟨S12x16x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![12, 4, 1], ![false, false, false]⟩

@[reducible] def k0_t1_loop : Scf.Loop 32 :=
  let c0_i32_6 : BitVec 32 := 0#32
  let c4_i32 : BitVec 32 := 4#32
  let v31 : BitVec 32 := Scalar.addi c0_i32_6 c4_i32
  let c1_i32_7 : BitVec 32 := 1#32
  ⟨c0_i32_6, v31, c1_i32_7⟩
def k0_off1 (k0_t1 : Fin k0_t1_loop.trips) : Fin 4 → Nat :=
  let c0 : Index := 0#32
  let c0_i32_6 : BitVec 32 := 0#32
  let c1_i32_7 : BitVec 32 := 1#32
  let arg15 : BitVec 32 := Scf.iv c0_i32_6 c1_i32_7 k0_t1
  let v32 : Index := Scalar.indexCast arg15
  let c0_9 : Index := 0#32
  let c0_10 : Index := 0#32
  ![0, v32.toNat, 0, 0]
def k0_off2 (k0_t1 : Fin k0_t1_loop.trips) : Fin 4 → Nat :=
  let c0_17 : Index := 0#32
  let c0_i32_6 : BitVec 32 := 0#32
  let c1_i32_7 : BitVec 32 := 1#32
  let arg15 : BitVec 32 := Scf.iv c0_i32_6 c1_i32_7 k0_t1
  let v47 : Index := Scalar.indexCast arg15
  let c0_18 : Index := 0#32
  let c0_19 : Index := 0#32
  ![0, v47.toNat, 0, 0]
def k0_mult1 : BitVec 32 :=
  let c0_i32_45 : BitVec 32 := 0#32
  let c2_i32 : BitVec 32 := 2#32
  let v89 : BitVec 32 := Scalar.muli c0_i32_45 c2_i32
  let c0_i32_46 : BitVec 32 := 0#32
  let v90 : BitVec 32 := Scalar.addi v89 c0_i32_46
  let c128_i32_47 : BitVec 32 := 128#32
  let v91 : BitVec 32 := Scalar.muli v90 c128_i32_47
  v91
def k0_off3 (c0_i32_46 : BitVec 32) : Fin 2 → Nat :=
  let c0_i32_45 : BitVec 32 := 0#32
  let c2_i32 : BitVec 32 := 2#32
  let v89 : BitVec 32 := Scalar.muli c0_i32_45 c2_i32
  let v90 : BitVec 32 := Scalar.addi v89 c0_i32_46
  let c128_i32_47 : BitVec 32 := 128#32
  let v91 : BitVec 32 := Scalar.muli v90 c128_i32_47
  let v92 : BitVec 32 := v91
  let v105 : Index := Scalar.indexCast v92
  let c0_51 : Index := 0#32
  ![v105.toNat, 0]
def k0_off4 (c0_i32_46 : BitVec 32) : Fin 3 → Nat :=
  let c0_53 : Index := 0#32
  let c0_i32_45 : BitVec 32 := 0#32
  let c2_i32 : BitVec 32 := 2#32
  let v89 : BitVec 32 := Scalar.muli c0_i32_45 c2_i32
  let v90 : BitVec 32 := Scalar.addi v89 c0_i32_46
  let c128_i32_47 : BitVec 32 := 128#32
  let v91 : BitVec 32 := Scalar.muli v90 c128_i32_47
  let v92 : BitVec 32 := v91
  let v109 : Index := Scalar.indexCast v92
  let c0_54 : Index := 0#32
  ![0, v109.toNat, 0]
def k0_off5 (c0_i32_46 : BitVec 32) : Fin 3 → Nat :=
  let c1_62 : Index := 1#32
  let c0_i32_45 : BitVec 32 := 0#32
  let c2_i32 : BitVec 32 := 2#32
  let v89 : BitVec 32 := Scalar.muli c0_i32_45 c2_i32
  let v90 : BitVec 32 := Scalar.addi v89 c0_i32_46
  let c128_i32_47 : BitVec 32 := 128#32
  let v91 : BitVec 32 := Scalar.muli v90 c128_i32_47
  let v92 : BitVec 32 := v91
  let v132 : Index := Scalar.indexCast v92
  let c0_63 : Index := 0#32
  ![1, v132.toNat, 0]
def k0_off6 (k0_t1 : Fin k0_t1_loop.trips) (c0_i32_46 : BitVec 32) : Fin 4 → Nat :=
  let c0_71 : Index := 0#32
  let c0_i32_6 : BitVec 32 := 0#32
  let c1_i32_7 : BitVec 32 := 1#32
  let arg15 : BitVec 32 := Scf.iv c0_i32_6 c1_i32_7 k0_t1
  let v156 : Index := Scalar.indexCast arg15
  let c0_i32_45 : BitVec 32 := 0#32
  let c2_i32 : BitVec 32 := 2#32
  let v89 : BitVec 32 := Scalar.muli c0_i32_45 c2_i32
  let v90 : BitVec 32 := Scalar.addi v89 c0_i32_46
  let c128_i32_47 : BitVec 32 := 128#32
  let v91 : BitVec 32 := Scalar.muli v90 c128_i32_47
  let v92 : BitVec 32 := v91
  let v157 : Index := Scalar.indexCast v92
  let c0_72 : Index := 0#32
  ![0, v156.toNat, v157.toNat, 0]
def k0_off7 (c0_i32_46 : BitVec 32) : Fin 2 → Nat :=
  let c0_i32_45 : BitVec 32 := 0#32
  let c2_i32 : BitVec 32 := 2#32
  let v89 : BitVec 32 := Scalar.muli c0_i32_45 c2_i32
  let v90 : BitVec 32 := Scalar.addi v89 c0_i32_46
  let c128_i32_47 : BitVec 32 := 128#32
  let v91 : BitVec 32 := Scalar.muli v90 c128_i32_47
  let v92 : BitVec 32 := v91
  let v171 : Index := Scalar.indexCast v92
  let c128 : Index := 128#32
  ![v171.toNat, 128]
def k0_off8 (c0_i32_46 : BitVec 32) : Fin 3 → Nat :=
  let c0_76 : Index := 0#32
  let c0_i32_45 : BitVec 32 := 0#32
  let c2_i32 : BitVec 32 := 2#32
  let v89 : BitVec 32 := Scalar.muli c0_i32_45 c2_i32
  let v90 : BitVec 32 := Scalar.addi v89 c0_i32_46
  let c128_i32_47 : BitVec 32 := 128#32
  let v91 : BitVec 32 := Scalar.muli v90 c128_i32_47
  let v92 : BitVec 32 := v91
  let v175 : Index := Scalar.indexCast v92
  let c128_77 : Index := 128#32
  ![0, v175.toNat, 128]
def k0_off9 (c0_i32_46 : BitVec 32) : Fin 3 → Nat :=
  let c1_85 : Index := 1#32
  let c0_i32_45 : BitVec 32 := 0#32
  let c2_i32 : BitVec 32 := 2#32
  let v89 : BitVec 32 := Scalar.muli c0_i32_45 c2_i32
  let v90 : BitVec 32 := Scalar.addi v89 c0_i32_46
  let c128_i32_47 : BitVec 32 := 128#32
  let v91 : BitVec 32 := Scalar.muli v90 c128_i32_47
  let v92 : BitVec 32 := v91
  let v198 : Index := Scalar.indexCast v92
  let c128_86 : Index := 128#32
  ![1, v198.toNat, 128]
def k0_off10 (k0_t1 : Fin k0_t1_loop.trips) (c0_i32_46 : BitVec 32) : Fin 4 → Nat :=
  let c0_94 : Index := 0#32
  let c0_i32_6 : BitVec 32 := 0#32
  let c1_i32_7 : BitVec 32 := 1#32
  let arg15 : BitVec 32 := Scf.iv c0_i32_6 c1_i32_7 k0_t1
  let v222 : Index := Scalar.indexCast arg15
  let c0_i32_45 : BitVec 32 := 0#32
  let c2_i32 : BitVec 32 := 2#32
  let v89 : BitVec 32 := Scalar.muli c0_i32_45 c2_i32
  let v90 : BitVec 32 := Scalar.addi v89 c0_i32_46
  let c128_i32_47 : BitVec 32 := 128#32
  let v91 : BitVec 32 := Scalar.muli v90 c128_i32_47
  let v92 : BitVec 32 := v91
  let v223 : Index := Scalar.indexCast v92
  let c128_95 : Index := 128#32
  ![0, v222.toNat, v223.toNat, 128]
def k0_mult2 : BitVec 32 :=
  let c0_i32_45 : BitVec 32 := 0#32
  let c2_i32_98 : BitVec 32 := 2#32
  let v237 : BitVec 32 := Scalar.muli c0_i32_45 c2_i32_98
  let c1_i32_99 : BitVec 32 := 1#32
  let v238 : BitVec 32 := Scalar.addi v237 c1_i32_99
  let c128_i32_100 : BitVec 32 := 128#32
  let v239 : BitVec 32 := Scalar.muli v238 c128_i32_100
  v239
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, arg1.toNat, v2.toNat, c1_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c4_i32 : BitVec 32 := 4#32
  let v1 : BitVec 32 := Scalar.muli v0 c4_i32
  let c3_i32 : BitVec 32 := 3#32
  let v2 : BitVec 32 := Scalar.minsi v1 c3_i32
  let c1_i32_0 : BitVec 32 := 1#32
  let c0_i32 : BitVec 32 := 0#32
  ![arg0.toNat, arg1.toNat, v2.toNat, c1_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, arg1.toNat, v2.toNat, c2_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c4_i32 : BitVec 32 := 4#32
  let v1 : BitVec 32 := Scalar.muli v0 c4_i32
  let c3_i32 : BitVec 32 := 3#32
  let v2 : BitVec 32 := Scalar.minsi v1 c3_i32
  let c2_i32 : BitVec 32 := 2#32
  let c0_i32 : BitVec 32 := 0#32
  ![arg0.toNat, arg1.toNat, v2.toNat, c2_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x4x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x4x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x4x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x4x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference16Ideal.lean ====
abbrev S12x16x256x768 : Shape := ⟨4, ![12, 16, 256, 768]⟩
abbrev S12x16x256x256 : Shape := ⟨4, ![12, 16, 256, 256]⟩
abbrev S12x16x256x4x64 : Shape := ⟨5, ![12, 16, 256, 4, 64]⟩
abbrev S12x16x4x256x256 : Shape := ⟨5, ![12, 16, 4, 256, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S_ : Shape := ⟨0, ![]⟩
abbrev S12x16x4x256 : Shape := ⟨4, ![12, 16, 4, 256]⟩
abbrev S12x16x4x256x1 : Shape := ⟨5, ![12, 16, 4, 256, 1]⟩
abbrev S12x16x4x64x256 : Shape := ⟨5, ![12, 16, 4, 64, 256]⟩
abbrev S12x16x256x4 : Shape := ⟨4, ![12, 16, 256, 4]⟩
abbrev S12x16x256x4x1 : Shape := ⟨5, ![12, 16, 256, 4, 1]⟩

abbrev nBuf : Space → Nat
  | .hbm => 52
  | .vmem => 0
  | .smem => 0
  | _ => 0

abbrev bufTy : (tb : Table) → Fin (tcTables nBuf tb) → BufTy
  | .hbm, ⟨0, _⟩ => ⟨S12x16x256x768, .f32⟩
  | .hbm, ⟨1, _⟩ => ⟨S12x16x256x256, .f32⟩
  | .hbm, ⟨2, _⟩ => ⟨S12x16x256x4x64, .f32⟩
  | .hbm, ⟨3, _⟩ => ⟨S12x16x256x256, .f32⟩
  | .hbm, ⟨4, _⟩ => ⟨S12x16x256x4x64, .f32⟩
  | .hbm, ⟨5, _⟩ => ⟨S12x16x256x256, .f32⟩
  | .hbm, ⟨6, _⟩ => ⟨S12x16x256x4x64, .f32⟩
  | .hbm, ⟨7, _⟩ => ⟨S12x16x4x256x256, .f32⟩
  | .hbm, ⟨8, _⟩ => ⟨S256, .i32⟩
  | .hbm, ⟨9, _⟩ => ⟨S1x256, .i32⟩
  | .hbm, ⟨10, _⟩ => ⟨S256x1, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S_, .f32⟩
  | .hbm, ⟨19, _⟩ => ⟨S_, .f32⟩
  | .hbm, ⟨20, _⟩ => ⟨S12x16x4x256x256, .i1⟩
  | .hbm, ⟨21, _⟩ => ⟨S12x16x4x256x256, .f32⟩
  | .hbm, ⟨22, _⟩ => ⟨S12x16x4x256x256, .f32⟩
  | .hbm, ⟨23, _⟩ => ⟨S_, .f32⟩
  | .hbm, ⟨24, _⟩ => ⟨S12x16x4x256, .f32⟩
  | .hbm, ⟨25, _⟩ => ⟨S12x16x4x256x1, .f32⟩
  | .hbm, ⟨26, _⟩ => ⟨S12x16x4x256x256, .f32⟩
  | .hbm, ⟨27, _⟩ => ⟨S12x16x4x256x256, .f32⟩
  | .hbm, ⟨28, _⟩ => ⟨S12x16x4x256x256, .f32⟩
  | .hbm, ⟨29, _⟩ => ⟨S_, .f32⟩
  | .hbm, ⟨30, _⟩ => ⟨S_, .f32⟩
  | .hbm, ⟨31, _⟩ => ⟨S12x16x4x256x256, .i1⟩
  | .hbm, ⟨32, _⟩ => ⟨S12x16x4x256x256, .f32⟩
  | .hbm, ⟨33, _⟩ => ⟨S12x16x4x256x256, .f32⟩
  | .hbm, ⟨34, _⟩ => ⟨S_, .f32⟩
  | .hbm, ⟨35, _⟩ => ⟨S12x16x4x256, .f32⟩
  | .hbm, ⟨36, _⟩ => ⟨S12x16x4x256x1, .f32⟩
  | .hbm, ⟨37, _⟩ => ⟨S_, .f32⟩
  | .hbm, ⟨38, _⟩ => ⟨S12x16x4x256x1, .f32⟩
  | .hbm, ⟨39, _⟩ => ⟨S12x16x4x256x1, .f32⟩
  | .hbm, ⟨40, _⟩ => ⟨S12x16x4x256x256, .f32⟩
  | .hbm, ⟨41, _⟩ => ⟨S12x16x4x256x256, .f32⟩
  | .hbm, ⟨42, _⟩ => ⟨S12x16x4x64x256, .f32⟩
  | .hbm, ⟨43, _⟩ => ⟨S12x16x256x4x64, .f32⟩
  | .hbm, ⟨44, _⟩ => ⟨S12x16x4x256x1, .f32⟩
  | .hbm, ⟨45, _⟩ => ⟨S12x16x4x256x1, .f32⟩
  | .hbm, ⟨46, _⟩ => ⟨S12x16x4x256, .f32⟩
  | .hbm, ⟨47, _⟩ => ⟨S12x16x256x4, .f32⟩
  | .hbm, ⟨48, _⟩ => ⟨S12x16x256x4x1, .f32⟩
  | .hbm, ⟨49, _⟩ => ⟨S12x16x256x4x64, .f32⟩
  | .hbm, ⟨50, _⟩ => ⟨S12x16x256x256, .f32⟩
  | .hbm, ⟨51, _⟩ => ⟨S12x16x256x256, .f32⟩
  | _, _ => ⟨S12x16x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_c : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== KernelFfn.lean ====
abbrev S49152x1024 : Shape := ⟨2, ![49152, 1024]⟩
abbrev S1024x6144 : Shape := ⟨2, ![1024, 6144]⟩
abbrev S3x3072 : Shape := ⟨2, ![3, 3072]⟩
abbrev S3072 : Shape := ⟨1, ![3072]⟩
abbrev S3072x1024 : Shape := ⟨2, ![3072, 1024]⟩
abbrev S1024 : Shape := ⟨1, ![1024]⟩
abbrev S1x3072 : Shape := ⟨2, ![1, 3072]⟩
abbrev S1x1024 : Shape := ⟨2, ![1, 1024]⟩
abbrev S32768x1024 : Shape := ⟨2, ![32768, 1024]⟩
abbrev S16384x1024 : Shape := ⟨2, ![16384, 1024]⟩
abbrev S512x1024 : Shape := ⟨2, ![512, 1024]⟩
abbrev S8x1024 : Shape := ⟨2, ![8, 1024]⟩
abbrev S16x1024 : Shape := ⟨2, ![16, 1024]⟩
abbrev S528x1024 : Shape := ⟨2, ![528, 1024]⟩
abbrev S512x1536 : Shape := ⟨2, ![512, 1536]⟩
abbrev S1024x1536 : Shape := ⟨2, ![1024, 1536]⟩
abbrev S528x1536 : Shape := ⟨2, ![528, 1536]⟩
abbrev S1x1536 : Shape := ⟨2, ![1, 1536]⟩
abbrev S3x1536 : Shape := ⟨2, ![3, 1536]⟩
abbrev S1536x1024 : Shape := ⟨2, ![1536, 1024]⟩
abbrev S512 : Shape := ⟨1, ![512]⟩
abbrev S512x1 : Shape := ⟨2, ![512, 1]⟩

abbrev nBuf : Space → Nat
  | .hbm => 14
  | .vmem => 16
  | .smem => 0
  | _ => 0

abbrev bufTy : (tb : Table) → Fin (tcTables nBuf tb) → BufTy
  | .hbm, ⟨0, _⟩ => ⟨S49152x1024, .f32⟩
  | .hbm, ⟨1, _⟩ => ⟨S1024x6144, .f32⟩
  | .hbm, ⟨2, _⟩ => ⟨S3x3072, .f32⟩
  | .hbm, ⟨3, _⟩ => ⟨S3072, .f32⟩
  | .hbm, ⟨4, _⟩ => ⟨S3072x1024, .f32⟩
  | .hbm, ⟨5, _⟩ => ⟨S1024, .f32⟩
  | .hbm, ⟨6, _⟩ => ⟨S1024, .f32⟩
  | .hbm, ⟨7, _⟩ => ⟨S1024x6144, .bf16⟩
  | .hbm, ⟨8, _⟩ => ⟨S3072x1024, .bf16⟩
  | .hbm, ⟨9, _⟩ => ⟨S1x3072, .f32⟩
  | .hbm, ⟨10, _⟩ => ⟨S1x1024, .f32⟩
  | .hbm, ⟨11, _⟩ => ⟨S1x1024, .f32⟩
  | .hbm, ⟨12, _⟩ => ⟨S32768x1024, .f32⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1024x6144, .bf16⟩
  | .local _ .vmem, ⟨7, _⟩ => ⟨S3x3072, .f32⟩
  | .local _ .vmem, ⟨8, _⟩ => ⟨S1x3072, .f32⟩
  | .local _ .vmem, ⟨9, _⟩ => ⟨S3072x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![96], ![false]⟩

def k0_cond1 (i : grid0.Coords) : BitVec 1 :=
  let arg0 : BitVec 32 := BitVec.ofNat 32 (i 0).val
  let c64_i32 : BitVec 32 := 64#32
  let v176 : BitVec 1 := Scalar.cmpi .slt arg0 c64_i32
  let v177 : BitVec 32 := Scalar.extui v176
  let c0_i32_66 : BitVec 32 := 0#32
  let v178 : BitVec 1 := Scalar.cmpi .ne v177 c0_i32_66
  v178

def k0_cond2 (i : grid0.Coords) : BitVec 1 :=
  let arg0 : BitVec 32 := BitVec.ofNat 32 (i 0).val
  let c64_i32_67 : BitVec 32 := 64#32
  let v179 : BitVec 1 := Scalar.cmpi .sge arg0 c64_i32_67
  let v180 : BitVec 32 := Scalar.extui v179
  let c0_i32_68 : BitVec 32 := 0#32
  let v181 : BitVec 1 := Scalar.cmpi .ne v180 c0_i32_68
  v181

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c6143_i32 : BitVec 32 := 6143#32
  let v2 : BitVec 32 := Scalar.minsi v1 c6143_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceFfnIdeal.lean ====
abbrev S49152x1024 : Shape := ⟨2, ![49152, 1024]⟩
abbrev S1024x6144 : Shape := ⟨2, ![1024, 6144]⟩
abbrev S3x3072 : Shape := ⟨2, ![3, 3072]⟩
abbrev S3072 : Shape := ⟨1, ![3072]⟩
abbrev S3072x1024 : Shape := ⟨2, ![3072, 1024]⟩
abbrev S1024 : Shape := ⟨1, ![1024]⟩
abbrev S12x4096x1024 : Shape := ⟨3, ![12, 4096, 1024]⟩
abbrev S12x4096x6144 : Shape := ⟨3, ![12, 4096, 6144]⟩
abbrev S12x4096x3072 : Shape := ⟨3, ![12, 4096, 3072]⟩
abbrev S_ : Shape := ⟨0, ![]⟩
abbrev S12x1x3072 : Shape := ⟨3, ![12, 1, 3072]⟩
abbrev S12x4095x3072 : Shape := ⟨3, ![12, 4095, 3072]⟩
abbrev S1x3072 : Shape := ⟨2, ![1, 3072]⟩
abbrev S1x1x3072 : Shape := ⟨3, ![1, 1, 3072]⟩
abbrev S12x4096 : Shape := ⟨2, ![12, 4096]⟩
abbrev S12x4096x1 : Shape := ⟨3, ![12, 4096, 1]⟩
abbrev S1x1x1024 : Shape := ⟨3, ![1, 1, 1024]⟩
abbrev S8x4096x1024 : Shape := ⟨3, ![8, 4096, 1024]⟩
abbrev S32768x1024 : Shape := ⟨2, ![32768, 1024]⟩
abbrev S4x4096x1024 : Shape := ⟨3, ![4, 4096, 1024]⟩
abbrev S16384x1024 : Shape := ⟨2, ![16384, 1024]⟩

abbrev nBuf : Space → Nat
  | .hbm => 91
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S1024x6144, .f32⟩
  | .hbm, ⟨2, _⟩ => ⟨S3x3072, .f32⟩
  | .hbm, ⟨3, _⟩ => ⟨S3072, .f32⟩
  | .hbm, ⟨4, _⟩ => ⟨S3072x1024, .f32⟩
  | .hbm, ⟨5, _⟩ => ⟨S1024, .f32⟩
  | .hbm, ⟨6, _⟩ => ⟨S1024, .f32⟩
  | .hbm, ⟨7, _⟩ => ⟨S12x4096x1024, .f32⟩
  | .hbm, ⟨8, _⟩ => ⟨S12x4096x6144, .f32⟩
  | .hbm, ⟨9, _⟩ => ⟨S12x4096x3072, .f32⟩
  | .hbm, ⟨10, _⟩ => ⟨S12x4096x3072, .f32⟩
  | .hbm, ⟨11, _⟩ => ⟨S_, .f32⟩
  | .hbm, ⟨12, _⟩ => ⟨S12x1x3072, .f32⟩
  | .hbm, ⟨13, _⟩ => ⟨S12x4095x3072, .f32⟩
  | .hbm, ⟨14, _⟩ => ⟨S12x4096x3072, .f32⟩
  | .hbm, ⟨15, _⟩ => ⟨S12x4095x3072, .f32⟩
  | .hbm, ⟨16, _⟩ => ⟨S12x4096x3072, .f32⟩
  | .hbm, ⟨17, _⟩ => ⟨S1x3072, .f32⟩
  | .hbm, ⟨18, _⟩ => ⟨S3072, .f32⟩
  | .hbm, ⟨19, _⟩ => ⟨S1x1x3072, .f32⟩
  | .hbm, ⟨20, _⟩ => ⟨S12x4096x3072, .f32⟩
  | .hbm, ⟨21, _⟩ => ⟨S12x4096x3072, .f32⟩
  | .hbm, ⟨22, _⟩ => ⟨S1x3072, .f32⟩
  | .hbm, ⟨23, _⟩ => ⟨S3072, .f32⟩
  | .hbm, ⟨24, _⟩ => ⟨S1x1x3072, .f32⟩
  | .hbm, ⟨25, _⟩ => ⟨S12x4096x3072, .f32⟩
  | .hbm, ⟨26, _⟩ => ⟨S12x4096x3072, .f32⟩
  | .hbm, ⟨27, _⟩ => ⟨S12x4096x3072, .f32⟩
  | .hbm, ⟨28, _⟩ => ⟨S1x3072, .f32⟩
  | .hbm, ⟨29, _⟩ => ⟨S3072, .f32⟩
  | .hbm, ⟨30, _⟩ => ⟨S1x1x3072, .f32⟩
  | .hbm, ⟨31, _⟩ => ⟨S12x4096x3072, .f32⟩
  | .hbm, ⟨32, _⟩ => ⟨S12x4096x3072, .f32⟩
  | .hbm, ⟨33, _⟩ => ⟨S12x4096x3072, .f32⟩
  | .hbm, ⟨34, _⟩ => ⟨S1x1x3072, .f32⟩
  | .hbm, ⟨35, _⟩ => ⟨S12x4096x3072, .f32⟩
  | .hbm, ⟨36, _⟩ => ⟨S12x4096x3072, .f32⟩
  | .hbm, ⟨37, _⟩ => ⟨S_, .f32⟩
  | .hbm, ⟨38, _⟩ => ⟨S12x4096x1024, .f32⟩
  | .hbm, ⟨39, _⟩ => ⟨S12x4096x1024, .f32⟩
  | .hbm, ⟨40, _⟩ => ⟨S12x4096x3072, .f32⟩
  | .hbm, ⟨41, _⟩ => ⟨S12x4096x3072, .f32⟩
  | .hbm, ⟨42, _⟩ => ⟨S_, .f32⟩
  | .hbm, ⟨43, _⟩ => ⟨S12x4096x3072, .f32⟩
  | .hbm, ⟨44, _⟩ => ⟨S12x4096x3072, .f32⟩
  | .hbm, ⟨45, _⟩ => ⟨S12x4096x3072, .f32⟩
  | .hbm, ⟨46, _⟩ => ⟨S_, .f32⟩
  | .hbm, ⟨47, _⟩ => ⟨S12x4096x3072, .f32⟩
  | .hbm, ⟨48, _⟩ => ⟨S12x4096x3072, .f32⟩
  | .hbm, ⟨49, _⟩ => ⟨S12x4096x3072, .f32⟩
  | .hbm, ⟨50, _⟩ => ⟨S_, .f32⟩
  | .hbm, ⟨51, _⟩ => ⟨S12x4096x3072, .f32⟩
  | .hbm, ⟨52, _⟩ => ⟨S12x4096x3072, .f32⟩
  | .hbm, ⟨53, _⟩ => ⟨S_, .f32⟩
  | .hbm, ⟨54, _⟩ => ⟨S12x4096x3072, .f32⟩
  | .hbm, ⟨55, _⟩ => ⟨S12x4096x3072, .f32⟩
  | .hbm, ⟨56, _⟩ => ⟨S12x4096x3072, .f32⟩
  | .hbm, ⟨57, _⟩ => ⟨S12x4096x3072, .f32⟩
  | .hbm, ⟨58, _⟩ => ⟨S12x4096x1024, .f32⟩
  | .hbm, ⟨59, _⟩ => ⟨S12x4096x1024, .f32⟩
  | .hbm, ⟨60, _⟩ => ⟨S_, .f32⟩
  | .hbm, ⟨61, _⟩ => ⟨S12x4096, .f32⟩
  | .hbm, ⟨62, _⟩ => ⟨S12x4096x1, .f32⟩
  | .hbm, ⟨63, _⟩ => ⟨S_, .f32⟩
  | .hbm, ⟨64, _⟩ => ⟨S12x4096x1, .f32⟩
  | .hbm, ⟨65, _⟩ => ⟨S12x4096x1, .f32⟩
  | .hbm, ⟨66, _⟩ => ⟨S12x4096x1024, .f32⟩
  | .hbm, ⟨67, _⟩ => ⟨S12x4096x1024, .f32⟩
  | .hbm, ⟨68, _⟩ => ⟨S12x4096x1024, .f32⟩
  | .hbm, ⟨69, _⟩ => ⟨S_, .f32⟩
  | .hbm, ⟨70, _⟩ => ⟨S12x4096, .f32⟩
  | .hbm, ⟨71, _⟩ => ⟨S12x4096x1, .f32⟩
  | .hbm, ⟨72, _⟩ => ⟨S_, .f32⟩
  | .hbm, ⟨73, _⟩ => ⟨S12x4096x1, .f32⟩
  | .hbm, ⟨74, _⟩ => ⟨S12x4096x1, .f32⟩
  | .hbm, ⟨75, _⟩ => ⟨S_, .f32⟩
  | .hbm, ⟨76, _⟩ => ⟨S12x4096x1, .f32⟩
  | .hbm, ⟨77, _⟩ => ⟨S12x4096x1, .f32⟩
  | .hbm, ⟨78, _⟩ => ⟨S12x4096x1, .f32⟩
  | .hbm, ⟨79, _⟩ => ⟨S12x4096x1024, .f32⟩
  | .hbm, ⟨80, _⟩ => ⟨S12x4096x1024, .f32⟩
  | .hbm, ⟨81, _⟩ => ⟨S1x1x1024, .f32⟩
  | .hbm, ⟨82, _⟩ => ⟨S12x4096x1024, .f32⟩
  | .hbm, ⟨83, _⟩ => ⟨S12x4096x1024, .f32⟩
  | .hbm, ⟨84, _⟩ => ⟨S1x1x1024, .f32⟩
  | .hbm, ⟨85, _⟩ => ⟨S12x4096x1024, .f32⟩
  | .hbm, ⟨86, _⟩ => ⟨S12x4096x1024, .f32⟩
  | .hbm, ⟨87, _⟩ => ⟨S8x4096x1024, .f32⟩
  | .hbm, ⟨88, _⟩ => ⟨S32768x1024, .f32⟩
  | .hbm, ⟨89, _⟩ => ⟨S4x4096x1024, .f32⟩
  | .hbm, ⟨90, _⟩ => ⟨S16384x1024, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_0 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_1 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_5 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== KernelProj.lean ====
abbrev S49152x1024 : Shape := ⟨2, ![49152, 1024]⟩
abbrev S1024x4864 : Shape := ⟨2, ![1024, 4864]⟩
abbrev S3x1536 : Shape := ⟨2, ![3, 1536]⟩
abbrev S1536 : Shape := ⟨1, ![1536]⟩
abbrev S4096x32 : Shape := ⟨2, ![4096, 32]⟩
abbrev S4096x64 : Shape := ⟨2, ![4096, 64]⟩
abbrev S1x4096x1x64 : Shape := ⟨4, ![1, 4096, 1, 64]⟩
abbrev S1x4096x4x64 : Shape := ⟨4, ![1, 4096, 4, 64]⟩
abbrev S4096x256 : Shape := ⟨2, ![4096, 256]⟩
abbrev S1x1536 : Shape := ⟨2, ![1, 1536]⟩
abbrev S49152x2048 : Shape := ⟨2, ![49152, 2048]⟩
abbrev S12x1x4096x768 : Shape := ⟨4, ![12, 1, 4096, 768]⟩
abbrev S12x4x1024x768 : Shape := ⟨4, ![12, 4, 1024, 768]⟩
abbrev S12x16x256x768 : Shape := ⟨4, ![12, 16, 256, 768]⟩
abbrev S512x1024 : Shape := ⟨2, ![512, 1024]⟩
abbrev S8x1024 : Shape := ⟨2, ![8, 1024]⟩
abbrev S512x256 : Shape := ⟨2, ![512, 256]⟩
abbrev S512x2048 : Shape := ⟨2, ![512, 2048]⟩
abbrev S1x1x512x768 : Shape := ⟨4, ![1, 1, 512, 768]⟩
abbrev S1x4x128x768 : Shape := ⟨4, ![1, 4, 128, 768]⟩
abbrev S1x16x32x768 : Shape := ⟨4, ![1, 16, 32, 768]⟩
abbrev S6x512x128 : Shape := ⟨3, ![6, 512, 128]⟩
abbrev S1024x512 : Shape := ⟨2, ![1024, 512]⟩
abbrev S512x512 : Shape := ⟨2, ![512, 512]⟩
abbrev S528x1024 : Shape := ⟨2, ![528, 1024]⟩
abbrev S528x512 : Shape := ⟨2, ![528, 512]⟩
abbrev S1x512 : Shape := ⟨2, ![1, 512]⟩
abbrev S3x512 : Shape := ⟨2, ![3, 512]⟩
abbrev S1024x256 : Shape := ⟨2, ![1024, 256]⟩
abbrev S1x1x512x256 : Shape := ⟨4, ![1, 1, 512, 256]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S1x1x128x128 : Shape := ⟨4, ![1, 1, 128, 128]⟩
abbrev S1x32x128 : Shape := ⟨3, ![1, 32, 128]⟩
abbrev S32x128 : Shape := ⟨2, ![32, 128]⟩
abbrev S1x1x32x128 : Shape := ⟨4, ![1, 1, 32, 128]⟩

abbrev nBuf : Space → Nat
  | .hbm => 21
  | .vmem => 22
  | .smem => 0
  | _ => 0

abbrev bufTy : (tb : Table) → Fin (tcTables nBuf tb) → BufTy
  | .hbm, ⟨0, _⟩ => ⟨S49152x1024, .f32⟩
  | .hbm, ⟨1, _⟩ => ⟨S1024x4864, .f32⟩
  | .hbm, ⟨2, _⟩ => ⟨S3x1536, .f32⟩
  | .hbm, ⟨3, _⟩ => ⟨S1536, .f32⟩
  | .hbm, ⟨4, _⟩ => ⟨S4096x32, .f32⟩
  | .hbm, ⟨5, _⟩ => ⟨S4096x32, .f32⟩
  | .hbm, ⟨6, _⟩ => ⟨S1024x4864, .bf16⟩
  | .hbm, ⟨7, _⟩ => ⟨S4096x64, .f32⟩
  | .hbm, ⟨8, _⟩ => ⟨S1x4096x1x64, .f32⟩
  | .hbm, ⟨9, _⟩ => ⟨S1x4096x4x64, .f32⟩
  | .hbm, ⟨10, _⟩ => ⟨S4096x256, .f32⟩
  | .hbm, ⟨11, _⟩ => ⟨S4096x32, .f32⟩
  | .hbm, ⟨12, _⟩ => ⟨S4096x64, .f32⟩
  | .hbm, ⟨13, _⟩ => ⟨S1x4096x1x64, .f32⟩
  | .hbm, ⟨14, _⟩ => ⟨S1x4096x4x64, .f32⟩
  | .hbm, ⟨15, _⟩ => ⟨S4096x256, .f32⟩
  | .hbm, ⟨16, _⟩ => ⟨S1x1536, .f32⟩
  | .hbm, ⟨17, _⟩ => ⟨S49152x2048, .f32⟩
  | .hbm, ⟨18, _⟩ => ⟨S12x1x4096x768, .f32⟩
  | .hbm, ⟨19, _⟩ => ⟨S12x4x1024x768, .f32⟩
  | .hbm, ⟨20, _⟩ => ⟨S12x16x256x768, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1024x4864, .bf16⟩
  | .local _ .vmem, ⟨7, _⟩ => ⟨S3x1536, .f32⟩
  | .local _ .vmem, ⟨8, _⟩ => ⟨S1x1536, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x2048, .f32⟩
  | .local _ .vmem, ⟨14, _⟩ => ⟨S512x2048, .f32⟩
  | .local _ .vmem, ⟨15, _⟩ => ⟨S1x1x512x768, .f32⟩
  | .local _ .vmem, ⟨16, _⟩ => ⟨S1x1x512x768, .f32⟩
  | .local _ .vmem, ⟨17, _⟩ => ⟨S1x4x128x768, .f32⟩
  | .local _ .vmem, ⟨18, _⟩ => ⟨S1x4x128x768, .f32⟩
  | .local _ .vmem, ⟨19, _⟩ => ⟨S1x16x32x768, .f32⟩
  | .local _ .vmem, ⟨20, _⟩ => ⟨S1x16x32x768, .f32⟩
  | .local _ .vmem, ⟨21, _⟩ => ⟨S6x512x128, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c95_i32 : BitVec 32 := 95#32
  let v1 : BitVec 32 := Scalar.maxsi c0_i32_0 v0
  let v2 : BitVec 32 := Scalar.minsi c95_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c95_i32 : BitVec 32 := 95#32
  let v1 : BitVec 32 := Scalar.maxsi c0_i32_0 v0
  let v2 : BitVec 32 := Scalar.minsi c95_i32 v1
  let c64_i32 : BitVec 32 := 64#32
  let v3 : BitVec 32 := Scalar.muli v2 c64_i32
  let c1_i32 : BitVec 32 := 1#32
  let v4 : BitVec 32 := Scalar.subi v3 c1_i32
  let c0_i32_1 : BitVec 32 := 0#32
  let v5 : BitVec 32 := Scalar.maxsi v4 c0_i32_1
  let c0_i32_2 : BitVec 32 := 0#32
  let c0_i32_3 : BitVec 32 := 0#32
  ![v5.toNat, c0_i32_2.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c95_i32 : BitVec 32 := 95#32
  let v1 : BitVec 32 := Scalar.maxsi c0_i32_0 v0
  let v2 : BitVec 32 := Scalar.minsi c95_i32 v1
  let c1_i32 : BitVec 32 := 1#32
  let v3 : BitVec 32 := Scalar.addi v2 c1_i32
  let c64_i32 : BitVec 32 := 64#32
  let v4 : BitVec 32 := Scalar.muli v3 c64_i32
  let c6143_i32 : BitVec 32 := 6143#32
  let v5 : BitVec 32 := Scalar.minsi v4 c6143_i32
  let c0_i32_1 : BitVec 32 := 0#32
  let c0_i32_2 : BitVec 32 := 0#32
  ![v5.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4864 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x128x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16x32x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceProjIdeal.lean ====
abbrev S49152x1024 : Shape := ⟨2, ![49152, 1024]⟩
abbrev S1024x4864 : Shape := ⟨2, ![1024, 4864]⟩
abbrev S3x1536 : Shape := ⟨2, ![3, 1536]⟩
abbrev S1536 : Shape := ⟨1, ![1536]⟩
abbrev S4096x32 : Shape := ⟨2, ![4096, 32]⟩
abbrev S12x4096x1024 : Shape := ⟨3, ![12, 4096, 1024]⟩
abbrev S12x4096x4864 : Shape := ⟨3, ![12, 4096, 4864]⟩
abbrev S12x4096x1536 : Shape := ⟨3, ![12, 4096, 1536]⟩
abbrev S_ : Shape := ⟨0, ![]⟩
abbrev S12x1x1536 : Shape := ⟨3, ![12, 1, 1536]⟩
abbrev S12x4095x1536 : Shape := ⟨3, ![12, 4095, 1536]⟩
abbrev S1x1536 : Shape := ⟨2, ![1, 1536]⟩
abbrev S1x1x1536 : Shape := ⟨3, ![1, 1, 1536]⟩
abbrev S12x4096x512 : Shape := ⟨3, ![12, 4096, 512]⟩
abbrev S12x4096x2048 : Shape := ⟨3, ![12, 4096, 2048]⟩
abbrev S12x4096x768 : Shape := ⟨3, ![12, 4096, 768]⟩
abbrev S12x4096x12x64 : Shape := ⟨4, ![12, 4096, 12, 64]⟩
abbrev S12x4096x12x32 : Shape := ⟨4, ![12, 4096, 12, 32]⟩
abbrev S1x4096x1x32 : Shape := ⟨4, ![1, 4096, 1, 32]⟩
abbrev S49152x2048 : Shape := ⟨2, ![49152, 2048]⟩
abbrev S12x4096x256 : Shape := ⟨3, ![12, 4096, 256]⟩
abbrev S12x4096x1x768 : Shape := ⟨4, ![12, 4096, 1, 768]⟩
abbrev S12x1x4096x768 : Shape := ⟨4, ![12, 1, 4096, 768]⟩
abbrev S12x1024x4x768 : Shape := ⟨4, ![12, 1024, 4, 768]⟩
abbrev S12x4x1024x768 : Shape := ⟨4, ![12, 4, 1024, 768]⟩
abbrev S12x256x16x768 : Shape := ⟨4, ![12, 256, 16, 768]⟩
abbrev S12x16x256x768 : Shape := ⟨4, ![12, 16, 256, 768]⟩

abbrev nBuf : Space → Nat
  | .hbm => 100
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S1024x4864, .f32⟩
  | .hbm, ⟨2, _⟩ => ⟨S3x1536, .f32⟩
  | .hbm, ⟨3, _⟩ => ⟨S1536, .f32⟩
  | .hbm, ⟨4, _⟩ => ⟨S4096x32, .f32⟩
  | .hbm, ⟨5, _⟩ => ⟨S4096x32, .f32⟩
  | .hbm, ⟨6, _⟩ => ⟨S12x4096x1024, .f32⟩
  | .hbm, ⟨7, _⟩ => ⟨S12x4096x4864, .f32⟩
  | .hbm, ⟨8, _⟩ => ⟨S12x4096x1536, .f32⟩
  | .hbm, ⟨9, _⟩ => ⟨S_, .f32⟩
  | .hbm, ⟨10, _⟩ => ⟨S12x1x1536, .f32⟩
  | .hbm, ⟨11, _⟩ => ⟨S12x4095x1536, .f32⟩
  | .hbm, ⟨12, _⟩ => ⟨S12x4096x1536, .f32⟩
  | .hbm, ⟨13, _⟩ => ⟨S12x4095x1536, .f32⟩
  | .hbm, ⟨14, _⟩ => ⟨S12x4096x1536, .f32⟩
  | .hbm, ⟨15, _⟩ => ⟨S1x1536, .f32⟩
  | .hbm, ⟨16, _⟩ => ⟨S1536, .f32⟩
  | .hbm, ⟨17, _⟩ => ⟨S1x1x1536, .f32⟩
  | .hbm, ⟨18, _⟩ => ⟨S12x4096x1536, .f32⟩
  | .hbm, ⟨19, _⟩ => ⟨S12x4096x1536, .f32⟩
  | .hbm, ⟨20, _⟩ => ⟨S1x1536, .f32⟩
  | .hbm, ⟨21, _⟩ => ⟨S1536, .f32⟩
  | .hbm, ⟨22, _⟩ => ⟨S1x1x1536, .f32⟩
  | .hbm, ⟨23, _⟩ => ⟨S12x4096x1536, .f32⟩
  | .hbm, ⟨24, _⟩ => ⟨S12x4096x1536, .f32⟩
  | .hbm, ⟨25, _⟩ => ⟨S12x4096x1536, .f32⟩
  | .hbm, ⟨26, _⟩ => ⟨S1x1536, .f32⟩
  | .hbm, ⟨27, _⟩ => ⟨S1536, .f32⟩
  | .hbm, ⟨28, _⟩ => ⟨S1x1x1536, .f32⟩
  | .hbm, ⟨29, _⟩ => ⟨S12x4096x1536, .f32⟩
  | .hbm, ⟨30, _⟩ => ⟨S12x4096x1536, .f32⟩
  | .hbm, ⟨31, _⟩ => ⟨S12x4096x1536, .f32⟩
  | .hbm, ⟨32, _⟩ => ⟨S1x1x1536, .f32⟩
  | .hbm, ⟨33, _⟩ => ⟨S12x4096x1536, .f32⟩
  | .hbm, ⟨34, _⟩ => ⟨S12x4096x1536, .f32⟩
  | .hbm, ⟨35, _⟩ => ⟨S12x4096x512, .f32⟩
  | .hbm, ⟨36, _⟩ => ⟨S12x4096x512, .f32⟩
  | .hbm, ⟨37, _⟩ => ⟨S12x4096x512, .f32⟩
  | .hbm, ⟨38, _⟩ => ⟨S12x4096x512, .f32⟩
  | .hbm, ⟨39, _⟩ => ⟨S12x4096x1024, .f32⟩
  | .hbm, ⟨40, _⟩ => ⟨S12x4096x2048, .f32⟩
  | .hbm, ⟨41, _⟩ => ⟨S12x4096x768, .f32⟩
  | .hbm, ⟨42, _⟩ => ⟨S12x4096x12x64, .f32⟩
  | .hbm, ⟨43, _⟩ => ⟨S12x4096x12x32, .f32⟩
  | .hbm, ⟨44, _⟩ => ⟨S12x4096x12x32, .f32⟩
  | .hbm, ⟨45, _⟩ => ⟨S1x4096x1x32, .f32⟩
  | .hbm, ⟨46, _⟩ => ⟨S1x4096x1x32, .f32⟩
  | .hbm, ⟨47, _⟩ => ⟨S12x4096x12x32, .f32⟩
  | .hbm, ⟨48, _⟩ => ⟨S12x4096x12x32, .f32⟩
  | .hbm, ⟨49, _⟩ => ⟨S12x4096x12x32, .f32⟩
  | .hbm, ⟨50, _⟩ => ⟨S12x4096x12x32, .f32⟩
  | .hbm, ⟨51, _⟩ => ⟨S12x4096x12x32, .f32⟩
  | .hbm, ⟨52, _⟩ => ⟨S12x4096x12x32, .f32⟩
  | .hbm, ⟨53, _⟩ => ⟨S12x4096x12x32, .f32⟩
  | .hbm, ⟨54, _⟩ => ⟨S12x4096x12x32, .f32⟩
  | .hbm, ⟨55, _⟩ => ⟨S12x4096x12x32, .f32⟩
  | .hbm, ⟨56, _⟩ => ⟨S12x4096x12x32, .f32⟩
  | .hbm, ⟨57, _⟩ => ⟨S12x4096x12x64, .f32⟩
  | .hbm, ⟨58, _⟩ => ⟨S12x4096x768, .f32⟩
  | .hbm, ⟨59, _⟩ => ⟨S_, .f32⟩
  | .hbm, ⟨60, _⟩ => ⟨S12x4096x768, .f32⟩
  | .hbm, ⟨61, _⟩ => ⟨S12x4096x768, .f32⟩
  | .hbm, ⟨62, _⟩ => ⟨S12x4096x768, .f32⟩
  | .hbm, ⟨63, _⟩ => ⟨S12x4096x12x64, .f32⟩
  | .hbm, ⟨64, _⟩ => ⟨S12x4096x12x32, .f32⟩
  | .hbm, ⟨65, _⟩ => ⟨S12x4096x12x32, .f32⟩
  | .hbm, ⟨66, _⟩ => ⟨S1x4096x1x32, .f32⟩
  | .hbm, ⟨67, _⟩ => ⟨S1x4096x1x32, .f32⟩
  | .hbm, ⟨68, _⟩ => ⟨S12x4096x12x32, .f32⟩
  | .hbm, ⟨69, _⟩ => ⟨S12x4096x12x32, .f32⟩
  | .hbm, ⟨70, _⟩ => ⟨S12x4096x12x32, .f32⟩
  | .hbm, ⟨71, _⟩ => ⟨S12x4096x12x32, .f32⟩
  | .hbm, ⟨72, _⟩ => ⟨S12x4096x12x32, .f32⟩
  | .hbm, ⟨73, _⟩ => ⟨S12x4096x12x32, .f32⟩
  | .hbm, ⟨74, _⟩ => ⟨S12x4096x12x32, .f32⟩
  | .hbm, ⟨75, _⟩ => ⟨S12x4096x12x32, .f32⟩
  | .hbm, ⟨76, _⟩ => ⟨S12x4096x12x32, .f32⟩
  | .hbm, ⟨77, _⟩ => ⟨S12x4096x12x32, .f32⟩
  | .hbm, ⟨78, _⟩ => ⟨S12x4096x12x64, .f32⟩
  | .hbm, ⟨79, _⟩ => ⟨S12x4096x768, .f32⟩
  | .hbm, ⟨80, _⟩ => ⟨S12x4096x768, .f32⟩
  | .hbm, ⟨81, _⟩ => ⟨S49152x2048, .f32⟩
  | .hbm, ⟨82, _⟩ => ⟨S12x4096x256, .f32⟩
  | .hbm, ⟨83, _⟩ => ⟨S12x4096x256, .f32⟩
  | .hbm, ⟨84, _⟩ => ⟨S12x4096x256, .f32⟩
  | .hbm, ⟨85, _⟩ => ⟨S12x4096x768, .f32⟩
  | .hbm, ⟨86, _⟩ => ⟨S12x4096x1x768, .f32⟩
  | .hbm, ⟨87, _⟩ => ⟨S12x1x4096x768, .f32⟩
  | .hbm, ⟨88, _⟩ => ⟨S12x4096x256, .f32⟩
  | .hbm, ⟨89, _⟩ => ⟨S12x4096x256, .f32⟩
  | .hbm, ⟨90, _⟩ => ⟨S12x4096x256, .f32⟩
  | .hbm, ⟨91, _⟩ => ⟨S12x4096x768, .f32⟩
  | .hbm, ⟨92, _⟩ => ⟨S12x1024x4x768, .f32⟩
  | .hbm, ⟨93, _⟩ => ⟨S12x4x1024x768, .f32⟩
  | .hbm, ⟨94, _⟩ => ⟨S12x4096x256, .f32⟩
  | .hbm, ⟨95, _⟩ => ⟨S12x4096x256, .f32⟩
  | .hbm, ⟨96, _⟩ => ⟨S12x4096x256, .f32⟩
  | .hbm, ⟨97, _⟩ => ⟨S12x4096x768, .f32⟩
  | .hbm, ⟨98, _⟩ => ⟨S12x256x16x768, .f32⟩
  | .hbm, ⟨99, _⟩ => ⟨S12x16x256x768, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_cst_0 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩

abbrev nD : Nat := 1
abbrev τ : Topo := Topo.v7x

variable {F : FTy → Type} [FloatOps F]
-- ==== KernelMerge.lean ====
abbrev S49152x1024 : Shape := ⟨2, ![49152, 1024]⟩
abbrev S49152x512 : Shape := ⟨2, ![49152, 512]⟩
abbrev S12x1x4096x256 : Shape := ⟨4, ![12, 1, 4096, 256]⟩
abbrev S12x4x1024x256 : Shape := ⟨4, ![12, 4, 1024, 256]⟩
abbrev S12x16x256x256 : Shape := ⟨4, ![12, 16, 256, 256]⟩
abbrev S1024x3072 : Shape := ⟨2, ![1024, 3072]⟩
abbrev S3072 : Shape := ⟨1, ![3072]⟩
abbrev S512x1024 : Shape := ⟨2, ![512, 1024]⟩
abbrev S256x1024 : Shape := ⟨2, ![256, 1024]⟩
abbrev S1024x1024 : Shape := ⟨2, ![1024, 1024]⟩
abbrev S1024 : Shape := ⟨1, ![1024]⟩
abbrev S1x3072 : Shape := ⟨2, ![1, 3072]⟩
abbrev S1x1024 : Shape := ⟨2, ![1, 1024]⟩
abbrev S512x512 : Shape := ⟨2, ![512, 512]⟩
abbrev S1x1x512x256 : Shape := ⟨4, ![1, 1, 512, 256]⟩
abbrev S1x4x128x256 : Shape := ⟨4, ![1, 4, 128, 256]⟩
abbrev S1x16x32x256 : Shape := ⟨4, ![1, 16, 32, 256]⟩
abbrev S2x512x128 : Shape := ⟨3, ![2, 512, 128]⟩
abbrev S512x256 : Shape := ⟨2, ![512, 256]⟩
abbrev S1x1x128x128 : Shape := ⟨4, ![1, 1, 128, 128]⟩
abbrev S128x128 : Shape := ⟨2, ![128, 128]⟩
abbrev S1x128x128 : Shape := ⟨3, ![1, 128, 128]⟩
abbrev S1x512x128 : Shape := ⟨3, ![1, 512, 128]⟩
abbrev S512x128 : Shape := ⟨2, ![512, 128]⟩
abbrev S1x1x32x128 : Shape := ⟨4, ![1, 1, 32, 128]⟩
abbrev S32x128 : Shape := ⟨2, ![32, 128]⟩
abbrev S1x32x128 : Shape := ⟨3, ![1, 32, 128]⟩
abbrev S512 : Shape := ⟨1, ![512]⟩
abbrev S512x1 : Shape := ⟨2, ![512, 1]⟩

abbrev nBuf : Space → Nat
  | .hbm => 26
  | .vmem => 32
  | .smem => 0
  | _ => 0

abbrev bufTy : (tb : Table) → Fin (tcTables nBuf tb) → BufTy
  | .hbm, ⟨0, _⟩ => ⟨S49152x1024, .f32⟩
  | .hbm, ⟨1, _⟩ => ⟨S49152x512, .f32⟩
  | .hbm, ⟨2, _⟩ => ⟨S12x1x4096x256, .f32⟩
  | .hbm, ⟨3, _⟩ => ⟨S12x4x1024x256, .f32⟩
  | .hbm, ⟨4, _⟩ => ⟨S12x16x256x256, .f32⟩
  | .hbm, ⟨5, _⟩ => ⟨S12x1x4096x256, .f32⟩
  | .hbm, ⟨6, _⟩ => ⟨S12x4x1024x256, .f32⟩
  | .hbm, ⟨7, _⟩ => ⟨S12x16x256x256, .f32⟩
  | .hbm, ⟨8, _⟩ => ⟨S49152x512, .f32⟩
  | .hbm, ⟨9, _⟩ => ⟨S1024x3072, .f32⟩
  | .hbm, ⟨10, _⟩ => ⟨S3072, .f32⟩
  | .hbm, ⟨11, _⟩ => ⟨S512x1024, .f32⟩
  | .hbm, ⟨12, _⟩ => ⟨S256x1024, .f32⟩
  | .hbm, ⟨13, _⟩ => ⟨S512x1024, .f32⟩
  | .hbm, ⟨14, _⟩ => ⟨S1024x1024, .f32⟩
  | .hbm, ⟨15, _⟩ => ⟨S1024, .f32⟩
  | .hbm, ⟨16, _⟩ => ⟨S1024, .f32⟩
  | .hbm, ⟨17, _⟩ => ⟨S1024x3072, .bf16⟩
  | .hbm, ⟨18, _⟩ => ⟨S512x1024, .bf16⟩
  | .hbm, ⟨19, _⟩ => ⟨S256x1024, .bf16⟩
  | .hbm, ⟨20, _⟩ => ⟨S512x1024, .bf16⟩
  | .hbm, ⟨21, _⟩ => ⟨S1024x1024, .bf16⟩
  | .hbm, ⟨22, _⟩ => ⟨S1x3072, .f32⟩
  | .hbm, ⟨23, _⟩ => ⟨S1x1024, .f32⟩
  | .hbm, ⟨24, _⟩ => ⟨S1x1024, .f32⟩
  | .hbm, ⟨25, _⟩ => ⟨S49152x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S1x1x512x256, .f32⟩
  | .local _ .vmem, ⟨5, _⟩ => ⟨S1x1x512x256, .f32⟩
  | .local _ .vmem, ⟨6, _⟩ => ⟨S1x4x128x256, .f32⟩
  | .local _ .vmem, ⟨7, _⟩ => ⟨S1x4x128x256, .f32⟩
  | .local _ .vmem, ⟨8, _⟩ => ⟨S1x16x32x256, .f32⟩
  | .local _ .vmem, ⟨9, _⟩ => ⟨S1x16x32x256, .f32⟩
  | .local _ .vmem, ⟨10, _⟩ => ⟨S1x1x512x256, .f32⟩
  | .local _ .vmem, ⟨11, _⟩ => ⟨S1x1x512x256, .f32⟩
  | .local _ .vmem, ⟨12, _⟩ => ⟨S1x4x128x256, .f32⟩
  | .local _ .vmem, ⟨13, _⟩ => ⟨S1x4x128x256, .f32⟩
  | .local _ .vmem, ⟨14, _⟩ => ⟨S1x16x32x256, .f32⟩
  | .local _ .vmem, ⟨15, _⟩ => ⟨S1x16x32x256, .f32⟩
  | .local _ .vmem, ⟨16, _⟩ => ⟨S512x512, .f32⟩
  | .local _ .vmem, ⟨17, _⟩ => ⟨S512x512, .f32⟩
  | .local _ .vmem, ⟨18, _⟩ => ⟨S1024x3072, .bf16⟩
  | .local _ .vmem, ⟨19, _⟩ => ⟨S1x3072, .f32⟩
  | .local _ .vmem, ⟨20, _⟩ => ⟨S512x1024, .bf16⟩
  | .local _ .vmem, ⟨21, _⟩ => ⟨S256x1024, .bf16⟩
  | .local _ .vmem, ⟨22, _⟩ => ⟨S512x1024, .bf16⟩
  | .local _ .vmem, ⟨23, _⟩ => ⟨S1024x1024, .bf16⟩
  | .local _ .vmem, ⟨24, _⟩ => ⟨S1x1024, .f32⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | .local _ .vmem, ⟨28, _⟩ => ⟨S2x512x128, .f32⟩
  | .local _ .vmem, ⟨29, _⟩ => ⟨S2x512x128, .f32⟩
  | .local _ .vmem, ⟨30, _⟩ => ⟨S2x512x128, .f32⟩
  | .local _ .vmem, ⟨31, _⟩ => ⟨S2x512x128, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c95_i32 : BitVec 32 := 95#32
  let v1 : BitVec 32 := Scalar.maxsi c0_i32_0 v0
  let v2 : BitVec 32 := Scalar.minsi c95_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceMergeIdeal.lean ====
abbrev S49152x1024 : Shape := ⟨2, ![49152, 1024]⟩
abbrev S49152x512 : Shape := ⟨2, ![49152, 512]⟩
abbrev S12x1x4096x256 : Shape := ⟨4, ![12, 1, 4096, 256]⟩
abbrev S12x4x1024x256 : Shape := ⟨4, ![12, 4, 1024, 256]⟩
abbrev S12x16x256x256 : Shape := ⟨4, ![12, 16, 256, 256]⟩
abbrev S1024x3072 : Shape := ⟨2, ![1024, 3072]⟩
abbrev S3072 : Shape := ⟨1, ![3072]⟩
abbrev S512x1024 : Shape := ⟨2, ![512, 1024]⟩
abbrev S256x1024 : Shape := ⟨2, ![256, 1024]⟩
abbrev S1024x1024 : Shape := ⟨2, ![1024, 1024]⟩
abbrev S1024 : Shape := ⟨1, ![1024]⟩
abbrev S12x4096x1x256 : Shape := ⟨4, ![12, 4096, 1, 256]⟩
abbrev S49152x256 : Shape := ⟨2, ![49152, 256]⟩
abbrev S12x1024x4x256 : Shape := ⟨4, ![12, 1024, 4, 256]⟩
abbrev S12x256x16x256 : Shape := ⟨4, ![12, 256, 16, 256]⟩
abbrev S1x49152x256 : Shape := ⟨3, ![1, 49152, 256]⟩
abbrev S3x49152x256 : Shape := ⟨3, ![3, 49152, 256]⟩
abbrev S_ : Shape := ⟨0, ![]⟩
abbrev S49152x3072 : Shape := ⟨2, ![49152, 3072]⟩
abbrev S1x3072 : Shape := ⟨2, ![1, 3072]⟩
abbrev S49152 : Shape := ⟨1, ![49152]⟩
abbrev S49152x1 : Shape := ⟨2, ![49152, 1]⟩
abbrev S1x1024 : Shape := ⟨2, ![1, 1024]⟩

abbrev nBuf : Space → Nat
  | .hbm => 106
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S49152x512, .f32⟩
  | .hbm, ⟨2, _⟩ => ⟨S12x1x4096x256, .f32⟩
  | .hbm, ⟨3, _⟩ => ⟨S12x4x1024x256, .f32⟩
  | .hbm, ⟨4, _⟩ => ⟨S12x16x256x256, .f32⟩
  | .hbm, ⟨5, _⟩ => ⟨S12x1x4096x256, .f32⟩
  | .hbm, ⟨6, _⟩ => ⟨S12x4x1024x256, .f32⟩
  | .hbm, ⟨7, _⟩ => ⟨S12x16x256x256, .f32⟩
  | .hbm, ⟨8, _⟩ => ⟨S49152x512, .f32⟩
  | .hbm, ⟨9, _⟩ => ⟨S1024x3072, .f32⟩
  | .hbm, ⟨10, _⟩ => ⟨S3072, .f32⟩
  | .hbm, ⟨11, _⟩ => ⟨S512x1024, .f32⟩
  | .hbm, ⟨12, _⟩ => ⟨S256x1024, .f32⟩
  | .hbm, ⟨13, _⟩ => ⟨S512x1024, .f32⟩
  | .hbm, ⟨14, _⟩ => ⟨S1024x1024, .f32⟩
  | .hbm, ⟨15, _⟩ => ⟨S1024, .f32⟩
  | .hbm, ⟨16, _⟩ => ⟨S1024, .f32⟩
  | .hbm, ⟨17, _⟩ => ⟨S12x4096x1x256, .f32⟩
  | .hbm, ⟨18, _⟩ => ⟨S49152x256, .f32⟩
  | .hbm, ⟨19, _⟩ => ⟨S12x1024x4x256, .f32⟩
  | .hbm, ⟨20, _⟩ => ⟨S49152x256, .f32⟩
  | .hbm, ⟨21, _⟩ => ⟨S12x256x16x256, .f32⟩
  | .hbm, ⟨22, _⟩ => ⟨S49152x256, .f32⟩
  | .hbm, ⟨23, _⟩ => ⟨S1x49152x256, .f32⟩
  | .hbm, ⟨24, _⟩ => ⟨S1x49152x256, .f32⟩
  | .hbm, ⟨25, _⟩ => ⟨S1x49152x256, .f32⟩
  | .hbm, ⟨26, _⟩ => ⟨S3x49152x256, .f32⟩
  | .hbm, ⟨27, _⟩ => ⟨S12x4096x1x256, .f32⟩
  | .hbm, ⟨28, _⟩ => ⟨S49152x256, .f32⟩
  | .hbm, ⟨29, _⟩ => ⟨S12x1024x4x256, .f32⟩
  | .hbm, ⟨30, _⟩ => ⟨S49152x256, .f32⟩
  | .hbm, ⟨31, _⟩ => ⟨S12x256x16x256, .f32⟩
  | .hbm, ⟨32, _⟩ => ⟨S49152x256, .f32⟩
  | .hbm, ⟨33, _⟩ => ⟨S1x49152x256, .f32⟩
  | .hbm, ⟨34, _⟩ => ⟨S1x49152x256, .f32⟩
  | .hbm, ⟨35, _⟩ => ⟨S1x49152x256, .f32⟩
  | .hbm, ⟨36, _⟩ => ⟨S3x49152x256, .f32⟩
  | .hbm, ⟨37, _⟩ => ⟨S49152x256, .f32⟩
  | .hbm, ⟨38, _⟩ => ⟨S49152x256, .f32⟩
  | .hbm, ⟨39, _⟩ => ⟨S1x49152x256, .f32⟩
  | .hbm, ⟨40, _⟩ => ⟨S3x49152x256, .f32⟩
  | .hbm, ⟨41, _⟩ => ⟨S3x49152x256, .f32⟩
  | .hbm, ⟨42, _⟩ => ⟨S3x49152x256, .f32⟩
  | .hbm, ⟨43, _⟩ => ⟨S_, .f32⟩
  | .hbm, ⟨44, _⟩ => ⟨S49152x256, .f32⟩
  | .hbm, ⟨45, _⟩ => ⟨S1x49152x256, .f32⟩
  | .hbm, ⟨46, _⟩ => ⟨S3x49152x256, .f32⟩
  | .hbm, ⟨47, _⟩ => ⟨S3x49152x256, .f32⟩
  | .hbm, ⟨48, _⟩ => ⟨S3x49152x256, .f32⟩
  | .hbm, ⟨49, _⟩ => ⟨S_, .f32⟩
  | .hbm, ⟨50, _⟩ => ⟨S49152x256, .f32⟩
  | .hbm, ⟨51, _⟩ => ⟨S49152x3072, .f32⟩
  | .hbm, ⟨52, _⟩ => ⟨S1x3072, .f32⟩
  | .hbm, ⟨53, _⟩ => ⟨S49152x3072, .f32⟩
  | .hbm, ⟨54, _⟩ => ⟨S49152x3072, .f32⟩
  | .hbm, ⟨55, _⟩ => ⟨S49152x3072, .f32⟩
  | .hbm, ⟨56, _⟩ => ⟨S49152x3072, .f32⟩
  | .hbm, ⟨57, _⟩ => ⟨S_, .f32⟩
  | .hbm, ⟨58, _⟩ => ⟨S49152x3072, .f32⟩
  | .hbm, ⟨59, _⟩ => ⟨S49152x3072, .f32⟩
  | .hbm, ⟨60, _⟩ => ⟨S_, .f32⟩
  | .hbm, ⟨61, _⟩ => ⟨S49152x3072, .f32⟩
  | .hbm, ⟨62, _⟩ => ⟨S49152x3072, .f32⟩
  | .hbm, ⟨63, _⟩ => ⟨S49152x1024, .f32⟩
  | .hbm, ⟨64, _⟩ => ⟨S49152x1024, .f32⟩
  | .hbm, ⟨65, _⟩ => ⟨S49152x1024, .f32⟩
  | .hbm, ⟨66, _⟩ => ⟨S49152x1024, .f32⟩
  | .hbm, ⟨67, _⟩ => ⟨S49152x1024, .f32⟩
  | .hbm, ⟨68, _⟩ => ⟨S49152x1024, .f32⟩
  | .hbm, ⟨69, _⟩ => ⟨S49152x1024, .f32⟩
  | .hbm, ⟨70, _⟩ => ⟨S49152x1024, .f32⟩
  | .hbm, ⟨71, _⟩ => ⟨S49152x1024, .f32⟩
  | .hbm, ⟨72, _⟩ => ⟨S49152x1024, .f32⟩
  | .hbm, ⟨73, _⟩ => ⟨S49152x1024, .f32⟩
  | .hbm, ⟨74, _⟩ => ⟨S_, .f32⟩
  | .hbm, ⟨75, _⟩ => ⟨S49152x1024, .f32⟩
  | .hbm, ⟨76, _⟩ => ⟨S49152x1024, .f32⟩
  | .hbm, ⟨77, _⟩ => ⟨S49152x1024, .f32⟩
  | .hbm, ⟨78, _⟩ => ⟨S49152x1024, .f32⟩
  | .hbm, ⟨79, _⟩ => ⟨S_, .f32⟩
  | .hbm, ⟨80, _⟩ => ⟨S49152, .f32⟩
  | .hbm, ⟨81, _⟩ => ⟨S49152x1, .f32⟩
  | .hbm, ⟨82, _⟩ => ⟨S_, .f32⟩
  | .hbm, ⟨83, _⟩ => ⟨S49152x1, .f32⟩
  | .hbm, ⟨84, _⟩ => ⟨S49152x1, .f32⟩
  | .hbm, ⟨85, _⟩ => ⟨S49152x1024, .f32⟩
  | .hbm, ⟨86, _⟩ => ⟨S49152x1024, .f32⟩
  | .hbm, ⟨87, _⟩ => ⟨S49152x1024, .f32⟩
  | .hbm, ⟨88, _⟩ => ⟨S_, .f32⟩
  | .hbm, ⟨89, _⟩ => ⟨S49152, .f32⟩
  | .hbm, ⟨90, _⟩ => ⟨S49152x1, .f32⟩
  | .hbm, ⟨91, _⟩ => ⟨S_, .f32⟩
  | .hbm, ⟨92, _⟩ => ⟨S49152x1, .f32⟩
  | .hbm, ⟨93, _⟩ => ⟨S49152x1, .f32⟩
  | .hbm, ⟨94, _⟩ => ⟨S_, .f32⟩
  | .hbm, ⟨95, _⟩ => ⟨S49152x1, .f32⟩
  | .hbm, ⟨96, _⟩ => ⟨S49152x1, .f32⟩
  | .hbm, ⟨97, _⟩ => ⟨S49152x1, .f32⟩
  | .hbm, ⟨98, _⟩ => ⟨S49152x1024, .f32⟩
  | .hbm, ⟨99, _⟩ => ⟨S49152x1024, .f32⟩
  | .hbm, ⟨100, _⟩ => ⟨S1x1024, .f32⟩
  | .hbm, ⟨101, _⟩ => ⟨S49152x1024, .f32⟩
  | .hbm, ⟨102, _⟩ => ⟨S49152x1024, .f32⟩
  | .hbm, ⟨103, _⟩ => ⟨S1x1024, .f32⟩
  | .hbm, ⟨104, _⟩ => ⟨S49152x1024, .f32⟩
  | .hbm, ⟨105, _⟩ => ⟨S49152x1024, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_1 : Ref sig .tc := ⟨.hbm, 57, rfl⟩
abbrev main_v38 : Ref sig .tc := ⟨.hbm, 58, rfl⟩
abbrev main_v39 : Ref sig .tc := ⟨.hbm, 59, rfl⟩
abbrev main_cst_2 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_3 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_4 : Ref sig .tc := ⟨.hbm, 79, rfl⟩
abbrev main_v57 : Ref sig .tc := ⟨.hbm, 80, rfl⟩
abbrev main_v58 : Ref sig .tc := ⟨.hbm, 81, rfl⟩
abbrev main_cst_5 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_6 : Ref sig .tc := ⟨.hbm, 88, rfl⟩
abbrev main_v64 : Ref sig .tc := ⟨.hbm, 89, rfl⟩
abbrev main_v65 : Ref sig .tc := ⟨.hbm, 90, rfl⟩
abbrev main_cst_7 : Ref sig .tc := ⟨.hbm, 91, rfl⟩
abbrev main_v66 : Ref sig .tc := ⟨.hbm, 92, rfl⟩
abbrev main_v67 : Ref sig .tc := ⟨.hbm, 93, rfl⟩
abbrev main_cst_8 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩

abbrev nD : Nat := 1
abbrev τ : Topo := Topo.v7x

variable {F : FTy → Type} [FloatOps F]
-- ==== Proof.Attn.Softmax.lean ====
module

public import Idealize.ShloMosaic.Lib.IdealHost
public import Idealize.ShloMosaic.PureOps.Ideal.Laws

@[expose] public section

/-!
# Masked softmax over a finite index set, on the extended reals

A row of attention is a set of candidates, a mask on it, a logit and a value per candidate. The same row can be
written over every position of the sequence or over a window of positions that holds all the unmasked ones. This
file defines the row's weights, its normaliser, its log-sum-exp and its output, and shows that the two ways of
writing it agree; and that dividing the weighted sum by the normaliser is the sum of the divided weights.
-/

noncomputable section

namespace Attn

open Idealize.ShloMosaic

/-- The logit a masked candidate is given (minus 1e30, as a float word). -/
def NEG : EReal := Ideal.ofBits .f32 0xF149F2CA#32
/-- The least normaliser (1e-30, as a float word). -/
def FLOOR : EReal := Ideal.ofBits .f32 0x0DA24260#32
/-- Where a running maximum starts. -/
def NINF : EReal := Ideal.ofBits .f32 0xFF800000#32

theorem FLOOR_pos : 0 < FLOOR := by
  unfold FLOOR
  simp only [Ideal.ofBits, Ideal.ieee]
  rw [if_neg (by decide), if_neg (by decide)]
  refine EReal.coe_pos.2 ?_
  rw [if_neg (by decide)]
  positivity

section row
variable {ι : Type} [Fintype ι] (M : ι → Prop) [DecidablePred M] (s : ι → EReal)

/-- The logit of a candidate, or the masked logit. -/
def logit (c : ι) : EReal := if M c then s c else NEG
/-- The greatest logit of the row. -/
def top : EReal := Finset.univ.fold max NINF (logit M s)
/-- A candidate's weight before normalisation. -/
def weight (c : ι) : EReal := if M c then Ideal.exp (logit M s c - top M s) else 0
/-- The normaliser. -/
def den : EReal := max (∑ c, weight M s c) FLOOR
/-- The row's log-sum-exp. -/
def lse : EReal := top M s + Ideal.log (den M s)
/-- The row's output, the sum divided by the normaliser. -/
def outSumDiv (V : ι → EReal) : EReal := Ideal.div (∑ c, weight M s c * V c) (den M s)
/-- The row's output, each weight divided by the normaliser. -/
def outDivSum (V : ι → EReal) : EReal := ∑ c, V c * Ideal.div (weight M s c) (den M s)

theorem den_pos : 0 < den M s := lt_of_lt_of_le FLOOR_pos (le_max_right _ _)

theorem weight_of_not {c : ι} (h : ¬ M c) : weight M s c = 0 := if_neg h

end row

/-- A nonnegative finite factor comes out of a sum. -/
theorem sum_mul_right {ι : Type} (S : Finset ι) (f : ι → EReal) {x : EReal} (h0 : 0 ≤ x) (ht : x ≠ ⊤) :
    (∑ c ∈ S, f c) * x = ∑ c ∈ S, f c * x := by
  classical
  induction S using Finset.induction_on with
  | empty => simp
  | insert a S ha ih =>
    rw [Finset.sum_insert ha, Finset.sum_insert ha, EReal.right_distrib_of_nonneg_of_ne_top h0 ht, ih]

/-- Dividing each weight is dividing the sum. -/
theorem outDivSum_eq {ι : Type} [Fintype ι] (M : ι → Prop) [DecidablePred M] (s V : ι → EReal) :
    outDivSum M s V = outSumDiv M s V := by
  have hd := den_pos M s
  have hne : den M s ≠ 0 := hd.ne'
  have h0 : 0 ≤ (den M s)⁻¹ := EReal.inv_nonneg_of_nonneg hd.le
  have ht : (den M s)⁻¹ ≠ ⊤ := by
    intro h
    induction hx : den M s with
    | bot => rw [hx] at hd; simp at hd
    | top => rw [hx] at h; simp at h
    | coe r => rw [hx, ← EReal.coe_inv] at h; exact EReal.coe_ne_top _ h
  unfold outDivSum outSumDiv Ideal.div
  simp only [if_neg hne]
  rw [sum_mul_right _ _ h0 ht]
  exact Finset.sum_congr rfl fun c _ => by rw [← mul_assoc, mul_comm (V c)]

section transfer
variable {ι κ : Type} [Fintype ι] [Fintype κ]
  (M : ι → Prop) [DecidablePred M] (s : ι → EReal) (M' : κ → Prop) [DecidablePred M'] (s' : κ → EReal)

/-- Two ways of listing one row: the unmasked candidates of each correspond one to one with equal logits, and each
    list has a masked candidate. -/
structure SameRow (f : ι → κ) : Prop where
  mem : ∀ c, M c → M' (f c)
  inj : ∀ c d, M c → M d → f c = f d → c = d
  onto : ∀ j, M' j → ∃ c, M c ∧ f c = j
  eq : ∀ c, M c → s c = s' (f c)
  masked : ∃ c, ¬ M c
  masked' : ∃ j, ¬ M' j

variable {M s M' s'} {f : ι → κ}

theorem SameRow.top_eq (h : SameRow M s M' s' f) : top M s = top M' s' := by
  unfold top
  apply le_antisymm
  · rw [Finset.fold_max_le]
    refine ⟨Finset.le_fold_max _ |>.2 (Or.inl le_rfl), fun c _ => ?_⟩
    refine (Finset.le_fold_max _).2 (Or.inr ?_)
    by_cases hc : M c
    · exact ⟨f c, Finset.mem_univ _, by rw [logit, logit, if_pos hc, if_pos (h.mem c hc), h.eq c hc]⟩
    · obtain ⟨j, hj⟩ := h.masked'
      exact ⟨j, Finset.mem_univ _, by rw [logit, logit, if_neg hc, if_neg hj]⟩
  · rw [Finset.fold_max_le]
    refine ⟨Finset.le_fold_max _ |>.2 (Or.inl le_rfl), fun j _ => ?_⟩
    refine (Finset.le_fold_max _).2 (Or.inr ?_)
    by_cases hj : M' j
    · obtain ⟨c, hc, rfl⟩ := h.onto j hj
      exact ⟨c, Finset.mem_univ _, by rw [logit, logit, if_pos hc, if_pos (h.mem c hc), h.eq c hc]⟩
    · obtain ⟨c, hc⟩ := h.masked
      exact ⟨c, Finset.mem_univ _, by rw [logit, logit, if_neg hc, if_neg hj]⟩

theorem SameRow.weight_eq (h : SameRow M s M' s' f) (c : ι) (hc : M c) : weight M s c = weight M' s' (f c) := by
  rw [weight, weight, if_pos hc, if_pos (h.mem c hc), logit, logit, if_pos hc, if_pos (h.mem c hc), h.eq c hc, h.top_eq]

/-- A sum that vanishes on masked candidates is the same over either list. -/
theorem SameRow.sum_eq (h : SameRow M s M' s' f) (g : ι → EReal) (g' : κ → EReal) (hg : ∀ c, M c → g c = g' (f c))
    (h0 : ∀ c, ¬ M c → g c = 0) (h0' : ∀ j, ¬ M' j → g' j = 0) : ∑ c, g c = ∑ j, g' j := by
  rw [← Finset.sum_filter_of_ne (p := M) (fun c _ hne => by by_contra hc; exact hne (h0 c hc)),
    ← Finset.sum_filter_of_ne (p := M') (fun c _ hne => by by_contra hc; exact hne (h0' c hc))]
  refine Finset.sum_bij (fun c _ => f c) (fun c hc => ?_) (fun c hc d hd e => ?_) (fun j hj => ?_) (fun c hc => ?_)
  · simp only [Finset.mem_filter, Finset.mem_univ, true_and] at hc ⊢; exact h.mem c hc
  · simp only [Finset.mem_filter, Finset.mem_univ, true_and] at hc hd; exact h.inj c d hc hd e
  · simp only [Finset.mem_filter, Finset.mem_univ, true_and] at hj
    obtain ⟨c, hc, e⟩ := h.onto j hj
    exact ⟨c, by simpa using hc, e⟩
  · simp only [Finset.mem_filter, Finset.mem_univ, true_and] at hc; exact hg c hc

theorem SameRow.den_eq (h : SameRow M s M' s' f) : den M s = den M' s' := by
  unfold den
  rw [h.sum_eq (weight M s) (weight M' s') h.weight_eq (fun c hc => weight_of_not M s hc)
    (fun c hc => weight_of_not M' s' hc)]

theorem SameRow.lse_eq (h : SameRow M s M' s' f) : lse M s = lse M' s' := by
  unfold lse; rw [h.top_eq, h.den_eq]

theorem SameRow.out_eq (h : SameRow M s M' s' f) (V : ι → EReal) (V' : κ → EReal) (hV : ∀ c, M c → V c = V' (f c)) :
    outSumDiv M s V = outDivSum M' s' V' := by
  rw [outDivSum_eq]
  unfold outSumDiv
  rw [h.den_eq, h.sum_eq (fun c => weight M s c * V c) (fun j => weight M' s' j * V' j)
    (fun c hc => by rw [h.weight_eq c hc, hV c hc])
    (fun c hc => by simp only [weight_of_not M s hc, zero_mul])
    (fun c hc => by simp only [weight_of_not M' s' hc, zero_mul])]

end transfer

/-- The window of 256 candidates around a block of 128 queries starting at `q0` lists the same row as all `n`
    positions do: candidate `c` of query `q0 + r` stands for position `q0 + c - 64`. -/
theorem sameRow_window (n q0 r : ℕ) (hr : r < 128) (hn : 256 ≤ n) (hq : q0 + 128 ≤ n) (s : Fin 256 → EReal) (s' : Fin n → EReal)
    (M : Fin 256 → Prop) [DecidablePred M] (M' : Fin n → Prop) [DecidablePred M']
    (hM : ∀ c : Fin 256, M c ↔ (r ≤ c.val ∧ c.val ≤ r + 128 ∧ 64 ≤ q0 + c.val ∧ q0 + c.val < n + 64))
    (hM' : ∀ j : Fin n, M' j ↔ (j.val ≤ q0 + r + 64 ∧ q0 + r ≤ j.val + 64))
    (hs : ∀ (c : Fin 256) (j : Fin n), q0 + c.val = j.val + 64 → s c = s' j) :
    SameRow M s M' s' (fun c => ⟨(q0 + c.val - 64) % n, Nat.mod_lt _ (by omega)⟩) where
  mem c hc := by
    rw [hM] at hc; rw [hM']
    show (q0 + c.val - 64) % n ≤ _ ∧ _ ≤ (q0 + c.val - 64) % n + 64
    rw [Nat.mod_eq_of_lt (by omega)]; omega
  inj c d hc hd e := by
    rw [hM] at hc hd
    have e := congrArg Fin.val e
    simp only at e
    rw [Nat.mod_eq_of_lt (by omega), Nat.mod_eq_of_lt (by omega)] at e
    exact Fin.ext (by omega)
  onto j hj := by
    rw [hM'] at hj
    refine ⟨⟨j.val + 64 - q0, by omega⟩, ?_, ?_⟩
    · rw [hM]; have := j.isLt; refine ⟨?_, ?_, ?_, ?_⟩ <;> simp only <;> omega
    · refine Fin.ext ?_
      have := j.isLt
      simp only
      rw [Nat.mod_eq_of_lt (by omega)]; omega
  eq c hc := by
    rw [hM] at hc
    refine hs c _ ?_
    simp only
    rw [Nat.mod_eq_of_lt (by omega)]; omega
  masked := by
    by_cases h : r = 0
    · exact ⟨⟨255, by omega⟩, by rw [hM]; simp only; omega⟩
    · exact ⟨⟨0, by omega⟩, by rw [hM]; simp only; omega⟩
  masked' := by
    by_cases h : q0 + r ≤ 64
    · exact ⟨⟨255, by omega⟩, by rw [hM']; simp only; omega⟩
    · exact ⟨⟨0, by omega⟩, by rw [hM']; simp only; omega⟩

end Attn

end
-- ==== Proof.Attn.Block.lean ====
module

public import proofs.«01_k».proof.Proof.Attn.Softmax
public import Idealize.ShloMosaic.Lib.Pointwise

@[expose] public section

set_option maxRecDepth 16384

/-!
# One block of 128 queries and one pair of heads

The kernel handles 128 queries at a time against a window of 256 keys, two heads of 64 lanes side by side in 128
lanes. The queries come twice, with the other head's lanes put to zero. This file states the two vectors stored for
such a block (the output and the log-sum-exp) as functions of the mask, the queries, the keys and the values, and
reads them at an index as the masked softmax of `Softmax.lean`.
-/

noncomputable section

namespace Attn

open Idealize.ShloMosaic

abbrev S128 : Shape := ⟨1, ![128]⟩
abbrev S128x1 : Shape := ⟨2, ![128, 1]⟩
abbrev S128x128 : Shape := ⟨2, ![128, 128]⟩
abbrev S128x256 : Shape := ⟨2, ![128, 256]⟩
abbrev S256x128 : Shape := ⟨2, ![256, 128]⟩
abbrev S1x128x128 : Shape := ⟨3, ![1, 128, 128]⟩
abbrev S1x1x128x128 : Shape := ⟨4, ![1, 1, 128, 128]⟩

/-- The masked logits of one head. -/
def logits (M : IVec S128x256 1) (K : FVec Ideal S256x128 .bf16) (q : FVec Ideal S1x128x128 .bf16) : FVec Ideal S128x256 .f32 :=
  select M (matmul (DotDims.transposedRhs 128 128 256) none (shapeCast S128x128 q (by decide)) K (constant S128x256 .f32 0x00000000#32))
    (broadcast S128x256 (Scalar.ofBits .f32 0xF149F2CA#32))

/-- The greatest logit of each query. -/
def tops (M : IVec S128x256 1) (K : FVec Ideal S256x128 .bf16) (q : FVec Ideal S1x128x128 .bf16) : FVec Ideal S128x1 .f32 :=
  shapeCast S128x1 (multiReduction .maximumf [1] S128 (logits M K q) 0xFF800000#32 (by decide) (.inl rfl) rfl) (by decide)

/-- The weights before normalisation. -/
def weights (M : IVec S128x256 1) (K : FVec Ideal S256x128 .bf16) (q : FVec Ideal S1x128x128 .bf16) : FVec Ideal S128x256 .f32 :=
  select M (exp (subf (logits M K q) (broadcastTo S128x256 (tops M K q) (by decide)))) (broadcast S128x256 (Scalar.ofBits .f32 0x00000000#32))

/-- The normalisers. -/
def dens (M : IVec S128x256 1) (K : FVec Ideal S256x128 .bf16) (q : FVec Ideal S1x128x128 .bf16) : FVec Ideal S128x1 .f32 :=
  maximumf (shapeCast S128x1 (multiReduction .add [1] S128 (weights M K q) 0x00000000#32 (by decide) (.inl rfl) rfl) (by decide))
    (broadcast S128x1 (Scalar.ofBits .f32 0x0DA24260#32))

/-- One head's output over 128 lanes. -/
def headOut (M : IVec S128x256 1) (K V : FVec Ideal S256x128 .bf16) (q : FVec Ideal S1x128x128 .bf16) : FVec Ideal S128x128 .f32 :=
  divf (matmul (DotDims.plain 128 256 128) none (truncf .bf16 (weights M K q) (by decide)) V (constant S128x128 .f32 0x00000000#32))
    (broadcastTo S128x128 (dens M K q) (by decide))

/-- One head's log-sum-exp. -/
def headLse (M : IVec S128x256 1) (K : FVec Ideal S256x128 .bf16) (q : FVec Ideal S1x128x128 .bf16) : FVec Ideal S128x1 .f32 :=
  addf (tops M K q) (log (dens M K q))

/-- What is stored into the output for one block and one pair of heads. -/
def outBlock (low : IVec S128x128 1) (M : IVec S128x256 1) (K V : FVec Ideal S256x128 .bf16) (q0 q1 : FVec Ideal S1x128x128 .bf16) :
    FVec Ideal S1x1x128x128 .f32 :=
  shapeCast S1x1x128x128 (select low (headOut M K V q0) (headOut M K V q1)) (by decide)

/-- What is stored into the log-sum-exp for one block and one pair of heads. -/
def lseBlock (low : IVec S128x128 1) (M : IVec S128x256 1) (K : FVec Ideal S256x128 .bf16) (q0 q1 : FVec Ideal S1x128x128 .bf16) :
    FVec Ideal S1x1x128x128 .f32 :=
  shapeCast S1x1x128x128 (select low
    (broadcastTo S128x128 (shapeCast S128x1 (headLse M K q0) (by decide)) (by decide))
    (broadcastTo S128x128 (shapeCast S128x1 (headLse M K q1) (by decide)) (by decide))) (by decide)

/-- A query's logit against a key of the window. -/
def qk (K : FVec Ideal S256x128 .bf16) (q : FVec Ideal S1x128x128 .bf16) (r : Fin 128) (c : Fin 256) : EReal :=
  ∑ e : Fin 128, q (ix3 0 r e) * K (ix2 c e)

section reads
variable (M : IVec S128x256 1) (K V : FVec Ideal S256x128 .bf16) (q : FVec Ideal S1x128x128 .bf16) (r : Fin 128)

theorem logits_apply (c : Fin 256) : logits M K q (ix2 r c) = logit (fun c => M (ix2 r c) = 1) (qk K q r) c := by
  pointwise [logits]
  simp only [logit, qk, NEG, Scalar.select]

theorem tops_apply : tops M K q (ix2 r 0) = top (fun c => M (ix2 r c) = 1) (qk K q r) := by
  pointwise [tops]
  simp only [top, logits_apply, NINF]

theorem weights_apply (c : Fin 256) : weights M K q (ix2 r c) = weight (fun c => M (ix2 r c) = 1) (qk K q r) c := by
  pointwise [weights]
  simp only [weight, logits_apply, tops_apply, Scalar.select]

theorem dens_apply : dens M K q (ix2 r 0) = den (fun c => M (ix2 r c) = 1) (qk K q r) := by
  pointwise [dens]
  simp only [den, weights_apply, FLOOR]

theorem headOut_apply (l : Fin 128) : headOut M K V q (ix2 r l)
    = outSumDiv (fun c => M (ix2 r c) = 1) (qk K q r) (fun c => V (ix2 c l)) := by
  pointwise [headOut]
  simp only [outSumDiv, weights_apply, dens_apply]

theorem headLse_apply : headLse M K q (ix2 r 0) = lse (fun c => M (ix2 r c) = 1) (qk K q r) := by
  pointwise [headLse]
  simp only [lse, tops_apply, dens_apply]

end reads

variable (low : IVec S128x128 1) (M : IVec S128x256 1) (K V : FVec Ideal S256x128 .bf16) (q0 q1 : FVec Ideal S1x128x128 .bf16)

theorem outBlock_apply (a b : Fin 1) (r l : Fin 128) : outBlock low M K V q0 q1 (ix4 a b r l)
    = outSumDiv (fun c => M (ix2 r c) = 1) (qk K (if low (ix2 r l) = 1 then q0 else q1) r) (fun c => V (ix2 c l)) := by
  pointwise [outBlock]
  simp only [headOut_apply, Scalar.select]
  by_cases h : low (ix2 r l) = 1 <;> simp only [h, if_true, if_false]

theorem lseBlock_apply (a b : Fin 1) (r l : Fin 128) : lseBlock low M K q0 q1 (ix4 a b r l)
    = lse (fun c => M (ix2 r c) = 1) (qk K (if low (ix2 r l) = 1 then q0 else q1) r) := by
  pointwise [lseBlock]
  simp only [headLse_apply, Scalar.select]
  by_cases h : low (ix2 r l) = 1 <;> simp only [h, if_true, if_false]

end Attn

end
-- ==== Proof.Attn.Piece.lean ====
module

public import proofs.«01_k».proof.Proof.Attn.Block
public import Idealize.ShloMosaic.Lib.WordArith
public import Idealize.ShloMosaic.Lib.Pipeline.Value

@[expose] public section

set_option maxRecDepth 16384

/-!
# One stored piece, read off the scratch arrays

The scratch of one step holds the queries twice (`Q`, once for each head of a pair), the keys and the values (`K`, `V`,
with 64 rows of the neighbours on either side). This file states what the output and the log-sum-exp are at any row and
lane as functions of these arrays, and shows that the piece stored for 128 queries and 128 lanes is a part of them.
-/

noncomputable section

namespace Attn

open Idealize.ShloMosaic

/-- A key of the window that a query attends to: row `r` of a block of queries starting at position `q0`, key `c` of
the window that starts 64 positions earlier, in a sequence of `n` positions. -/
def inBand (n q0 r c : ℕ) : Prop := r ≤ c ∧ c ≤ r + 128 ∧ 64 ≤ q0 + c ∧ q0 + c < n + 64

instance (n q0 r c : ℕ) : Decidable (inBand n q0 r c) := by unfold inBand; infer_instance

/-- Which of the two copies of the queries holds a lane's head. -/
def half (L : ℕ) : Fin 2 := if L % 128 < 64 then 0 else 1

section rows
variable {N N' : ℕ} [NeZero N'] (n q0 : ℕ)
  (Q : FVec Ideal ⟨3, ![2, N, 256]⟩ .bf16) (K V : FVec Ideal ⟨2, ![N', 256]⟩ .bf16)

/-- The logit of the query at row `R` against key `c` of its window, for the head of lane `L`. -/
def rowLogit (R : Fin N) (L : Fin 256) (c : Fin 256) : EReal :=
  ∑ e : Fin 128, Q (ix3 (half L) R (Fin.ofNat 256 (L / 128 * 128 + e))) *
    K (ix2 (Fin.ofNat N' (R / 128 * 128 + c)) (Fin.ofNat 256 (L / 128 * 128 + e)))

/-- The output at row `R` and lane `L`. -/
def rowOut (R : Fin N) (L : Fin 256) : EReal :=
  outSumDiv (fun c : Fin 256 => inBand n (q0 + R / 128 * 128) (R % 128) c) (rowLogit Q K R L)
    (fun c => V (ix2 (Fin.ofNat N' (R / 128 * 128 + c)) L))

/-- The log-sum-exp at row `R` and lane `L`. -/
def rowLse (R : Fin N) (L : Fin 256) : EReal :=
  lse (fun c : Fin 256 => inBand n (q0 + R / 128 * 128) (R % 128) c) (rowLogit Q K R L)

end rows

section congr
variable {ι : Type} [Fintype ι] {M M' : ι → Prop} [DecidablePred M] [DecidablePred M']

theorem outSumDiv_congr (h : ∀ c, M c ↔ M' c) (s : ι → EReal) {V V' : ι → EReal} (hV : ∀ c, V c = V' c) :
    outSumDiv M s V = outSumDiv M' s V' := by
  obtain rfl : M = M' := funext fun c => propext (h c)
  obtain rfl : V = V' := funext hV
  congr

theorem lse_congr (h : ∀ c, M c ↔ M' c) (s : ι → EReal) : lse M s = lse M' s := by
  obtain rfl : M = M' := funext fun c => propext (h c)
  congr

end congr

section piece
variable {N N' P : ℕ} [NeZero N'] {n q0 : ℕ}
  {Q : FVec Ideal ⟨3, ![2, N, 256]⟩ .bf16} {K V : FVec Ideal ⟨2, ![N', 256]⟩ .bf16}
  {low : IVec S128x128 1} {M : IVec S128x256 1} {R0 L0 p : ℕ}
  {offK : Fin 2 → ℕ} {offA offB : Fin 3 → ℕ} {offO : Fin 4 → ℕ}

theorem readK (hK : offK = ![R0, L0]) (hR : R0 + 256 ≤ N') (hL : L0 + 128 ≤ 256)
    (iK : ∀ a, offK a + S256x128.size a ≤ (⟨2, ![N', 256]⟩ : Shape).size a) (c : Fin 256) (e : Fin 128) :
    View.ld (Val := Elt Ideal) (e' := .bf16) K (Rect.unit (s := ⟨2, ![N', 256]⟩) offK S256x128.size iK) (ix2 c e)
      = K (ix2 (Fin.ofNat N' (R0 + c)) (Fin.ofNat 256 (L0 + e))) := by
  subst hK
  show K _ = K _
  congr 1
  funext a
  apply Fin.ext
  have h1 := c.isLt; have h2 := e.isLt
  fin_cases a
  · show R0 + 1 * c.val = (R0 + c.val) % N'
    rw [Nat.mod_eq_of_lt (by omega)]; omega
  · show L0 + 1 * e.val = (L0 + e.val) % 256
    rw [Nat.mod_eq_of_lt (by omega)]; omega

theorem readQ {h : Fin 2} (hA : offA = ![h.val, R0, L0]) (hR : R0 + 128 ≤ N) (hL : L0 + 128 ≤ 256)
    (iA : ∀ a, offA a + S1x128x128.size a ≤ (⟨3, ![2, N, 256]⟩ : Shape).size a) (r e : Fin 128) :
    View.ld (Val := Elt Ideal) (e' := .bf16) Q (Rect.unit (s := ⟨3, ![2, N, 256]⟩) offA S1x128x128.size iA) (ix3 0 r e)
      = Q (ix3 h ⟨R0 + r, by omega⟩ (Fin.ofNat 256 (L0 + e))) := by
  subst hA
  show Q _ = Q _
  congr 1
  funext a
  apply Fin.ext
  have h2 := e.isLt
  fin_cases a
  · show h.val + 1 * 0 = h.val
    omega
  · show R0 + 1 * r.val = R0 + r.val
    omega
  · show L0 + 1 * e.val = (L0 + e.val) % 256
    rw [Nat.mod_eq_of_lt (by omega)]; omega

variable (hR : 128 ∣ R0) (hR' : R0 + 128 ≤ N) (hN : N' = N + 128) (hL : 128 ∣ L0) (hL' : L0 + 128 ≤ 256)
  (hlow : ∀ r l : Fin 128, low (ix2 r l) = 1 ↔ l.val < 64)
  (hM : ∀ (r : Fin 128) (c : Fin 256), M (ix2 r c) = 1 ↔ inBand n (q0 + R0) r c)
  (hK : offK = ![R0, L0]) (hA : offA = ![0, R0, L0]) (hB : offB = ![1, R0, L0]) (hO : offO = ![0, p, R0, L0])
  (iK : ∀ a, offK a + S256x128.size a ≤ (⟨2, ![N', 256]⟩ : Shape).size a)
  (iA : ∀ a, offA a + S1x128x128.size a ≤ (⟨3, ![2, N, 256]⟩ : Shape).size a)
  (iB : ∀ a, offB a + S1x128x128.size a ≤ (⟨3, ![2, N, 256]⟩ : Shape).size a)
  (iO : ∀ a, offO a + S1x1x128x128.size a ≤ (⟨4, ![1, P, N, 256]⟩ : Shape).size a)

include hR hR' hN hL hL' hlow hK hA hB in
theorem qk_piece (r l : Fin 128) (hr : R0 + r.val < N) (hl : L0 + l.val < 256) :
    qk (View.ld (Val := Elt Ideal) (e' := .bf16) K (Rect.unit (s := ⟨2, ![N', 256]⟩) offK S256x128.size iK))
      (if low (ix2 r l) = 1 then View.ld (Val := Elt Ideal) (e' := .bf16) Q (Rect.unit (s := ⟨3, ![2, N, 256]⟩) offA S1x128x128.size iA)
        else View.ld (Val := Elt Ideal) (e' := .bf16) Q (Rect.unit (s := ⟨3, ![2, N, 256]⟩) offB S1x128x128.size iB)) r
      = rowLogit Q K ⟨R0 + r, hr⟩ ⟨L0 + l, hl⟩ := by
  funext c
  unfold qk rowLogit half
  refine Finset.sum_congr rfl fun e _ => ?_
  obtain ⟨A, rfl⟩ := hR
  obtain ⟨B, rfl⟩ := hL
  have hr' := r.isLt; have hl' := l.isLt
  have e1 : (128 * A + r.val) / 128 * 128 = 128 * A := by omega
  have e2 : (128 * B + l.val) / 128 * 128 = 128 * B := by omega
  have e3 : (128 * B + l.val) % 128 = l.val := by omega
  rw [readK hK (by omega) hL' iK]
  simp only [e1, e2, e3]
  congr 1
  by_cases h : l.val < 64
  · rw [if_pos ((hlow r l).2 h), if_pos h]
    exact readQ (h := 0) hA hR' hL' iA r e
  · rw [if_neg (fun h' => h ((hlow r l).1 h')), if_neg h]
    exact readQ (h := 1) hB hR' hL' iB r e

theorem outIdx (hO : offO = ![0, p, R0, L0]) (a b : Fin 1) (r l : Fin 128) (hr : R0 + r.val < N) (hl : L0 + l.val < 256) :
    ((Rect.unit (s := ⟨4, ![1, P, N, 256]⟩) offO S1x1x128x128.size iO).emb (ix4 a b r l)) 2 = (⟨R0 + r, hr⟩ : Fin N)
    ∧ ((Rect.unit (s := ⟨4, ![1, P, N, 256]⟩) offO S1x1x128x128.size iO).emb (ix4 a b r l)) 3 = (⟨L0 + l, hl⟩ : Fin 256)
    ∧ (((Rect.unit (s := ⟨4, ![1, P, N, 256]⟩) offO S1x1x128x128.size iO).emb (ix4 a b r l)) 1).val = p := by
  subst hO
  refine ⟨Fin.ext ?_, Fin.ext ?_, ?_⟩
  · show R0 + 1 * r.val = R0 + r.val; omega
  · show L0 + 1 * l.val = L0 + l.val; omega
  · show p + 1 * b.val = p; omega

include hR hR' hN hL hL' hlow hM hK hA hB hO in
/-- The piece of the output. -/
theorem out_piece (x : S1x1x128x128.Idx) :
    outBlock low M (View.ld (Val := Elt Ideal) (e' := .bf16) K (Rect.unit (s := ⟨2, ![N', 256]⟩) offK S256x128.size iK))
      (View.ld (Val := Elt Ideal) (e' := .bf16) V (Rect.unit (s := ⟨2, ![N', 256]⟩) offK S256x128.size iK))
      (View.ld (Val := Elt Ideal) (e' := .bf16) Q (Rect.unit (s := ⟨3, ![2, N, 256]⟩) offA S1x128x128.size iA))
      (View.ld (Val := Elt Ideal) (e' := .bf16) Q (Rect.unit (s := ⟨3, ![2, N, 256]⟩) offB S1x128x128.size iB)) x
      = (fun y : (⟨4, ![1, P, N, 256]⟩ : Shape).Idx => rowOut n q0 Q K V (y 2) (y 3))
          ((Rect.unit (s := ⟨4, ![1, P, N, 256]⟩) offO S1x1x128x128.size iO).emb x) := by
  idx_vars x
  have hr : R0 + x2.val < N := by omega
  have hl : L0 + x3.val < 256 := by omega
  rw [outBlock_apply]
  have hi := outIdx (P := P) iO hO x0 x1 x2 x3 hr hl
  show _ = rowOut n q0 Q K V _ _
  rw [hi.1, hi.2.1, qk_piece hR hR' hN hL hL' hlow hK hA hB iK iA iB x2 x3 hr hl]
  unfold rowOut
  obtain ⟨A, rfl⟩ := hR
  have hr' := x2.isLt; have hl' := x3.isLt
  have e1 : (128 * A + x2.val) / 128 * 128 = 128 * A := by omega
  have e2 : (128 * A + x2.val) % 128 = x2.val := by omega
  simp only [e1, e2]
  refine outSumDiv_congr (hM x2) _ fun c => ?_
  · rw [readK hK (by omega) hL' iK]
    refine congrArg V (congrArg (ix2 _) ?_)
    exact Fin.ext (Nat.mod_eq_of_lt hl)

include hR hR' hN hL hL' hlow hM hK hA hB hO in
/-- The piece of the log-sum-exp. -/
theorem lse_piece (x : S1x1x128x128.Idx) :
    lseBlock low M (View.ld (Val := Elt Ideal) (e' := .bf16) K (Rect.unit (s := ⟨2, ![N', 256]⟩) offK S256x128.size iK))
      (View.ld (Val := Elt Ideal) (e' := .bf16) Q (Rect.unit (s := ⟨3, ![2, N, 256]⟩) offA S1x128x128.size iA))
      (View.ld (Val := Elt Ideal) (e' := .bf16) Q (Rect.unit (s := ⟨3, ![2, N, 256]⟩) offB S1x128x128.size iB)) x
      = (fun y : (⟨4, ![1, P, N, 256]⟩ : Shape).Idx => rowLse n q0 Q K (y 2) (y 3))
          ((Rect.unit (s := ⟨4, ![1, P, N, 256]⟩) offO S1x1x128x128.size iO).emb x) := by
  idx_vars x
  have hr : R0 + x2.val < N := by omega
  have hl : L0 + x3.val < 256 := by omega
  rw [lseBlock_apply]
  have hi := outIdx (P := P) iO hO x0 x1 x2 x3 hr hl
  show _ = rowLse n q0 Q K _ _
  rw [hi.1, hi.2.1, qk_piece hR hR' hN hL hL' hlow hK hA hB iK iA iB x2 x3 hr hl]
  unfold rowLse
  obtain ⟨A, rfl⟩ := hR
  have hr' := x2.isLt
  have e1 : (128 * A + x2.val) / 128 * 128 = 128 * A := by omega
  have e2 : (128 * A + x2.val) % 128 = x2.val := by omega
  simp only [e1, e2]
  exact lse_congr (hM x2) _

end piece

/-! ## The mask -/

/-- The columns' numbers. -/
def colsOf : IVec S128x256 32 := iota .tc S128x256 32 [1] (by decide)

/-- How far a column is outside the band of its row, in the window's own numbers. -/
def bandOf : IVec S128x256 32 :=
  subi (absi (subi (subi colsOf (broadcast S128x256 64#32)) (iota .tc S128x256 32 [0] (by decide)))) (broadcast S128x256 64#32)

/-- The mask as the kernel computes it: the distance to the band's edge and to the ends of the sequence. -/
def maskOf (base last : BitVec 32) (cols band : IVec S128x256 32) : IVec S128x256 1 :=
  cmpi .sle (maxsi (maxsi band (subi (broadcast S128x256 0#32) (addi cols (broadcast S128x256 base))))
    (subi (addi cols (broadcast S128x256 base)) (broadcast S128x256 last))) (broadcast S128x256 0#32)

/-- The lanes of the even heads. -/
def lowOf : IVec S128x128 1 := cmpi .slt (iota .tc S128x128 32 [1] (by decide)) (broadcast S128x128 64#32)

theorem bool_one (b : Bool) : BitVec.ofBool b = 1 ↔ b = true := by cases b <;> decide

theorem toInt_sub (x y : BitVec 32) {a b : ℤ} (hx : x.toInt = a) (hy : y.toInt = b) (h1 : -2 ^ 31 ≤ a - b) (h2 : a - b < 2 ^ 31) :
    (IntOp.subi x y).toInt = a - b := by
  subst hx hy; exact WordArith.toInt_sub_of_bounds x y h1 h2

theorem toInt_add (x y : BitVec 32) {a b : ℤ} (hx : x.toInt = a) (hy : y.toInt = b) (h1 : -2 ^ 31 ≤ a + b) (h2 : a + b < 2 ^ 31) :
    (IntOp.addi x y).toInt = a + b := by
  subst hx hy; exact WordArith.toInt_add_of_bounds x y h1 h2

theorem toInt_max (x y : BitVec 32) {a b : ℤ} (hx : x.toInt = a) (hy : y.toInt = b) : (IntOp.maxsi x y).toInt = max a b := by
  subst hx hy
  unfold IntOp.maxsi BitVec.slt
  by_cases h : y.toInt < x.toInt
  · rw [if_pos (by simpa using h), max_eq_left (by omega)]
  · rw [if_neg (by simpa using h), max_eq_right (by omega)]

theorem toInt_abs (x : BitVec 32) {a : ℤ} (hx : x.toInt = a) (h : -2 ^ 31 < a) : (IntOp.absi x).toInt = |a| := by
  subst hx
  unfold IntOp.absi
  rw [BitVec.msb_eq_toInt]
  by_cases h0 : x.toInt < 0
  · rw [if_pos (by simpa using h0), abs_of_neg h0]
    have := toInt_sub 0#32 x (a := 0) (by decide) rfl (by omega) (by have := BitVec.le_toInt x; omega)
    unfold IntOp.subi at this; rw [BitVec.zero_sub] at this; omega
  · rw [if_neg (by simpa using h0), abs_of_nonneg (by omega)]

theorem sle_zero (x : BitVec 32) {a : ℤ} (hx : x.toInt = a) : IntOp.cmpi .sle x 0#32 = 1 ↔ a ≤ 0 := by
  subst hx
  show BitVec.ofBool (x.sle 0#32) = 1 ↔ _
  rw [bool_one, BitVec.sle_eq_decide, decide_eq_true_iff]
  rfl

theorem bandOf_apply (r : Fin 128) (c : Fin 256) : (bandOf (ix2 r c)).toInt = |(c.val : ℤ) - 64 - r.val| - 64 := by
  have h1 := r.isLt; have h2 := c.isLt
  pointwise [bandOf, colsOf]
  have hc := WordArith.toInt_ofNat_small c.val (by omega)
  have hr := WordArith.toInt_ofNat_small r.val (by omega)
  have ha := toInt_sub _ _ (toInt_sub _ 64#32 hc (b := 64) (by decide) (by omega) (by omega)) hr (by omega) (by omega)
  have hb := toInt_abs _ ha (by omega)
  exact toInt_sub _ _ hb (by decide) (by have := abs_nonneg ((c.val : ℤ) - 64 - r.val); omega)
    (by have : |(c.val : ℤ) - 64 - r.val| ≤ 1000 := abs_le.2 ⟨by omega, by omega⟩
        omega)

theorem maskOf_apply {n q0 : ℕ} {base last : BitVec 32} (hb : base.toInt = (q0 : ℤ) - 64) (hl : last.toInt = (n : ℤ) - 1)
    (hq : q0 < 2 ^ 20) (hn : n < 2 ^ 20) (r : Fin 128) (c : Fin 256) :
    maskOf base last colsOf bandOf (ix2 r c) = 1 ↔ inBand n q0 r c := by
  have h1 := r.isLt; have h2 := c.isLt
  pointwise [maskOf, colsOf]
  have hp := toInt_add _ _ (WordArith.toInt_ofNat_small c.val (by omega)) hb (by omega) (by omega)
  rw [sle_zero _ (toInt_max _ _ (toInt_max _ _ (bandOf_apply r c)
    (toInt_sub 0#32 _ (a := 0) (by decide) hp (by omega) (by omega)))
    (toInt_sub _ _ hp hl (by omega) (by omega)))]
  unfold inBand
  simp only [max_le_iff, sub_nonpos, abs_le]
  omega

theorem lowOf_apply (r l : Fin 128) : lowOf (ix2 r l) = 1 ↔ l.val < 64 := by
  have h2 := l.isLt
  pointwise [lowOf]
  unfold IntOp.cmpi
  rw [bool_one, BitVec.slt_eq_decide, decide_eq_true_iff, WordArith.toInt_ofNat_small l.val (by omega)]
  show (l.val : ℤ) < 64 ↔ _
  omega

end Attn

end
-- ==== Proof.Attn1.Trip.lean ====
module

public import proofs.«01_k».proof.Proof.Gen.Kernel1Ideal.Value
public import proofs.«01_k».proof.Proof.Attn.Piece
public import Idealize.ShloMosaic.Lib.Pipeline.ReadBack

@[expose] public section

set_option maxRecDepth 16384

/-!
# One trip of the loop over the queries

A trip handles four blocks of 128 queries, each for two pairs of heads. Each of the eight pieces it stores into an output
is a part of one function of the row and the lane (`Attn.rowOut`, `Attn.rowLse`).
-/

noncomputable section

namespace Cert.Kernel1Ideal.Gen

open Attn
open Idealize.ShloMosaic Idealize.ShloMosaic.TcCoe Idealize.ShloMosaic.Tactic
open Idealize.SL Idealize.SL.Sem

/-- The first row of block `u` of trip `k`. -/
theorem tripRow : ∀ k : Fin k0_t1_loop.trips, ∀ u : Fin 4,
    Scalar.muli (Scalar.addi (Scalar.muli (Scf.iv 0#32 1#32 k) 4#32) (BitVec.ofNat 32 u.val)) 128#32
      = BitVec.ofNat 32 (512 * k.val + 128 * u.val) := by decide +kernel

theorem trips_lt (k : Fin k0_t1_loop.trips) : k.val < 2 := Nat.lt_of_lt_of_le k.isLt k0_t1_abs.2.1

/-- The position of the first key of the window of block `u` of trip `k`. -/
def tripBase (v0 : BitVec 32) (k : Fin k0_t1_loop.trips) (u : Fin 4) : BitVec 32 :=
  Scalar.subi (Scalar.addi v0 (Scalar.muli (Scalar.addi (Scalar.muli (Scf.iv 0#32 1#32 k) 4#32) (BitVec.ofNat 32 u.val)) 128#32)) 64#32

theorem tripBase_toInt {v0 : BitVec 32} {q0 : ℕ} (h0 : v0.toInt = q0) (hq : q0 < 2 ^ 19) (k : Fin k0_t1_loop.trips) (u : Fin 4) :
    (tripBase v0 k u).toInt = ((q0 + (512 * k.val + 128 * u.val) : ℕ) : ℤ) - 64 := by
  have hk := trips_lt k
  have hu := u.isLt
  unfold tripBase
  rw [tripRow]
  have hr := WordArith.toInt_ofNat_small (512 * k.val + 128 * u.val) (by omega)
  rw [show (((q0 + (512 * k.val + 128 * u.val) : ℕ) : ℤ) - 64) = ((q0 : ℤ) + ((512 * k.val + 128 * u.val : ℕ) : ℤ)) - 64 by omega]
  exact toInt_sub _ _ (toInt_add _ _ h0 hr (by omega) (by omega)) (by decide) (by omega) (by omega)

section
variable (𝒱 : Variants) (c : Dev nD) (bd : Option 𝒱.V) (i : grid0.Coords)
  (arg3 : Memref sig .tc .vmem S1x1x1024x256 .f32) (harg3 : arg3.IsWhole) (arg4 : Memref sig .tc .vmem S1x1x64x256 .f32) (harg4 : arg4.IsWhole)
  (arg5 : Memref sig .tc .vmem S1x1x1024x256 .f32) (harg5 : arg5.IsWhole) (arg6 : Memref sig .tc .vmem S1x1x64x256 .f32) (harg6 : arg6.IsWhole)
  (arg7 : Memref sig .tc .vmem S1x1x64x256 .f32) (harg7 : arg7.IsWhole) (arg8 : Memref sig .tc .vmem S1x1x1024x256 .f32) (harg8 : arg8.IsWhole)
  (arg9 : Memref sig .tc .vmem S1x1x64x256 .f32) (harg9 : arg9.IsWhole) (arg10 : Memref sig .tc .vmem S1x1x1024x256 .f32) (harg10 : arg10.IsWhole)
  (arg11 : Memref sig .tc .vmem S1x1x1024x256 .f32) (harg11 : arg11.IsWhole) (arg12 : Memref sig .tc .vmem S2x1024x256 .bf16) (harg12 : arg12.IsWhole)
  (arg13 : Memref sig .tc .vmem S1152x256 .bf16) (harg13 : arg13.IsWhole) (arg14 : Memref sig .tc .vmem S1152x256 .bf16) (harg14 : arg14.IsWhole)
  (v0 : BitVec 32) (c0_i32_6 : BitVec 32) (X12 : BufTy.Contents (Elt Ideal) arg12.view.ty) (X13 : BufTy.Contents (Elt Ideal) arg13.view.ty)
  (X14 : BufTy.Contents (Elt Ideal) arg14.view.ty)
  {q0 : ℕ} (h0 : v0.toInt = q0) (hq : q0 < 2 ^ 19) (k : Fin k0_t1_loop.trips)

abbrev gOut (q0 : ℕ) (y : S1x1x1024x256.Idx) : EReal :=
  rowOut 4096 q0 (arg12.view.read (Elt Ideal) X12) (arg13.view.read (Elt Ideal) X13) (arg14.view.read (Elt Ideal) X14) (y 2) (y 3)

abbrev gLse (q0 : ℕ) (y : S1x1x1024x256.Idx) : EReal :=
  rowLse 4096 q0 (arg12.view.read (Elt Ideal) X12) (arg13.view.read (Elt Ideal) X13) (y 2) (y 3)

/-- The block of 128 rows and 128 lanes that `off` names, of either output. -/
abbrev atOut {off : Fin 4 → ℕ} (h : ∀ a, off a + S1x1x128x128.size a ≤ S1x1x1024x256.size a) : Rect S1x1x1024x256 :=
  Rect.unit (s := S1x1x1024x256) off S1x1x128x128.size h

include h0 hq in
theorem out_lo (u : Fin 4) (x : S1x1x128x128.Idx) :
    outBlock lowOf (maskOf (tripBase v0 k u) 4095#32 colsOf bandOf)
      (View.ld (arg13.view.read (Elt Ideal) X13) (Rect.unit (s := S1152x256) (k0_off1 k (BitVec.ofNat 32 u.val)) S256x128.size (k0_off1_inb k u)))
      (View.ld (arg14.view.read (Elt Ideal) X14) (Rect.unit (s := S1152x256) (k0_off1 k (BitVec.ofNat 32 u.val)) S256x128.size (k0_off1_inb k u)))
      (View.ld (arg12.view.read (Elt Ideal) X12) (Rect.unit (s := S2x1024x256) (k0_off2 k (BitVec.ofNat 32 u.val)) S1x128x128.size (k0_off2_inb k u)))
      (View.ld (arg12.view.read (Elt Ideal) X12) (Rect.unit (s := S2x1024x256) (k0_off3 k (BitVec.ofNat 32 u.val)) S1x128x128.size (k0_off3_inb k u))) x
    = gOut arg12 arg13 arg14 X12 X13 X14 q0 ((atOut (k0_off4_inb k u)).emb x) :=
  have hk := trips_lt k
  have hu := u.isLt
  out_piece (N := 1024) (N' := 1152) (P := 1) (R0 := 512 * k.val + 128 * u.val) (L0 := 0) (p := 0) (by omega) (by omega) (by omega) (by omega)
    (by omega) lowOf_apply (maskOf_apply (tripBase_toInt h0 hq k u) (by decide) (by omega) (by omega))
    (k0_off1_eq k u) (k0_off2_eq k u) (k0_off3_eq k u) (k0_off4_eq k u) (k0_off1_inb k u) (k0_off2_inb k u) (k0_off3_inb k u) (k0_off4_inb k u) x

include h0 hq in
theorem out_hi (u : Fin 4) (x : S1x1x128x128.Idx) :
    outBlock lowOf (maskOf (tripBase v0 k u) 4095#32 colsOf bandOf)
      (View.ld (arg13.view.read (Elt Ideal) X13) (Rect.unit (s := S1152x256) (k0_off5 k (BitVec.ofNat 32 u.val)) S256x128.size (k0_off5_inb k u)))
      (View.ld (arg14.view.read (Elt Ideal) X14) (Rect.unit (s := S1152x256) (k0_off5 k (BitVec.ofNat 32 u.val)) S256x128.size (k0_off5_inb k u)))
      (View.ld (arg12.view.read (Elt Ideal) X12) (Rect.unit (s := S2x1024x256) (k0_off6 k (BitVec.ofNat 32 u.val)) S1x128x128.size (k0_off6_inb k u)))
      (View.ld (arg12.view.read (Elt Ideal) X12) (Rect.unit (s := S2x1024x256) (k0_off7 k (BitVec.ofNat 32 u.val)) S1x128x128.size (k0_off7_inb k u))) x
    = gOut arg12 arg13 arg14 X12 X13 X14 q0 ((atOut (k0_off8_inb k u)).emb x) :=
  have hk := trips_lt k
  have hu := u.isLt
  out_piece (N := 1024) (N' := 1152) (P := 1) (R0 := 512 * k.val + 128 * u.val) (L0 := 128) (p := 0) (by omega) (by omega) (by omega) (by omega)
    (by omega) lowOf_apply (maskOf_apply (tripBase_toInt h0 hq k u) (by decide) (by omega) (by omega))
    (k0_off5_eq k u) (k0_off6_eq k u) (k0_off7_eq k u) (k0_off8_eq k u) (k0_off5_inb k u) (k0_off6_inb k u) (k0_off7_inb k u) (k0_off8_inb k u) x

include h0 hq in
theorem lse_lo (u : Fin 4) (x : S1x1x128x128.Idx) :
    lseBlock lowOf (maskOf (tripBase v0 k u) 4095#32 colsOf bandOf)
      (View.ld (arg13.view.read (Elt Ideal) X13) (Rect.unit (s := S1152x256) (k0_off1 k (BitVec.ofNat 32 u.val)) S256x128.size (k0_off1_inb k u)))
      (View.ld (arg12.view.read (Elt Ideal) X12) (Rect.unit (s := S2x1024x256) (k0_off2 k (BitVec.ofNat 32 u.val)) S1x128x128.size (k0_off2_inb k u)))
      (View.ld (arg12.view.read (Elt Ideal) X12) (Rect.unit (s := S2x1024x256) (k0_off3 k (BitVec.ofNat 32 u.val)) S1x128x128.size (k0_off3_inb k u))) x
    = gLse arg12 arg13 X12 X13 q0 ((atOut (k0_off4_inb k u)).emb x) :=
  have hk := trips_lt k
  have hu := u.isLt
  lse_piece (N := 1024) (N' := 1152) (P := 1) (R0 := 512 * k.val + 128 * u.val) (L0 := 0) (p := 0) (by omega) (by omega) (by omega) (by omega)
    (by omega) lowOf_apply (maskOf_apply (tripBase_toInt h0 hq k u) (by decide) (by omega) (by omega))
    (k0_off1_eq k u) (k0_off2_eq k u) (k0_off3_eq k u) (k0_off4_eq k u) (k0_off1_inb k u) (k0_off2_inb k u) (k0_off3_inb k u) (k0_off4_inb k u) x

include h0 hq in
theorem lse_hi (u : Fin 4) (x : S1x1x128x128.Idx) :
    lseBlock lowOf (maskOf (tripBase v0 k u) 4095#32 colsOf bandOf)
      (View.ld (arg13.view.read (Elt Ideal) X13) (Rect.unit (s := S1152x256) (k0_off5 k (BitVec.ofNat 32 u.val)) S256x128.size (k0_off5_inb k u)))
      (View.ld (arg12.view.read (Elt Ideal) X12) (Rect.unit (s := S2x1024x256) (k0_off6 k (BitVec.ofNat 32 u.val)) S1x128x128.size (k0_off6_inb k u)))
      (View.ld (arg12.view.read (Elt Ideal) X12) (Rect.unit (s := S2x1024x256) (k0_off7 k (BitVec.ofNat 32 u.val)) S1x128x128.size (k0_off7_inb k u))) x
    = gLse arg12 arg13 X12 X13 q0 ((atOut (k0_off8_inb k u)).emb x) :=
  have hk := trips_lt k
  have hu := u.isLt
  lse_piece (N := 1024) (N' := 1152) (P := 1) (R0 := 512 * k.val + 128 * u.val) (L0 := 128) (p := 0) (by omega) (by omega) (by omega) (by omega)
    (by omega) lowOf_apply (maskOf_apply (tripBase_toInt h0 hq k u) (by decide) (by omega) (by omega))
    (k0_off5_eq k u) (k0_off6_eq k u) (k0_off7_eq k u) (k0_off8_eq k u) (k0_off5_inb k u) (k0_off6_inb k u) (k0_off7_inb k u) (k0_off8_inb k u) x

include h0 hq in
/-- Every piece a trip stores into the output is a part of `gOut`. -/
theorem trip_out : View.PiecesOf (gOut arg12 arg13 arg14 X12 X13 X14 q0) (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 v0 k0_pay114 colsOf k0_pay115 c0_i32_6 X12 X13 X14 k).1 := by
  have lo := out_lo arg12 arg13 arg14 v0 X12 X13 X14 h0 hq k
  have hi := out_hi arg12 arg13 arg14 v0 X12 X13 X14 h0 hq k
  unfold tripL_k0_t1 trip_k0_t1
  dsimp only
  exact ⟨hi 3, lo 3, hi 2, lo 2, hi 1, lo 1, hi 0, lo 0, trivial⟩

include h0 hq in
/-- Every piece a trip stores into the log-sum-exp is a part of `gLse`. -/
theorem trip_lse : View.PiecesOf (gLse arg12 arg13 X12 X13 q0) (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 v0 k0_pay114 colsOf k0_pay115 c0_i32_6 X12 X13 X14 k).2 := by
  have lo := lse_lo arg12 arg13 v0 X12 X13 h0 hq k
  have hi := lse_hi arg12 arg13 v0 X12 X13 h0 hq k
  unfold tripL_k0_t1 trip_k0_t1
  dsimp only
  exact ⟨hi 3, lo 3, hi 2, lo 2, hi 1, lo 1, hi 0, lo 0, trivial⟩

end

end Cert.Kernel1Ideal.Gen

end
-- ==== Proof.Attn.Row.lean ====
module

public import proofs.«01_k».proof.Proof.Attn.Piece

@[expose] public section

set_option maxRecDepth 16384

/-!
# A row of the kernel is a row of the attention

The scratch holds the queries of one step, split by heads, and a stretch of keys and values. When these are parts of the
whole sequence's queries, keys and values, the row's output and log-sum-exp are the masked softmax over the whole
sequence, with the logits taken over the 64 lanes of one head.
-/

noncomputable section

namespace Attn

open Idealize.ShloMosaic

theorem headLane_lt (L : Fin 256) (e : Fin 64) : L / 64 * 64 + e.val < 256 := by omega

/-- The lane `e` of the head that holds lane `L`. -/
def headLane (L : Fin 256) (e : Fin 64) : Fin 256 := ⟨L / 64 * 64 + e, headLane_lt L e⟩

section
variable {n : ℕ} (aq ak av : Fin n → Fin 256 → EReal)

/-- The logit of position `i` against position `j`, in the head of lane `L`. -/
def posLogit (i : Fin n) (L : Fin 256) (j : Fin n) : EReal := ∑ e : Fin 64, aq i (headLane L e) * ak j (headLane L e)

/-- The positions that position `i` attends to. -/
def near (i j : Fin n) : Prop := j.val ≤ i.val + 64 ∧ i.val ≤ j.val + 64

instance (i j : Fin n) : Decidable (near i j) := by unfold near; infer_instance

/-- The attention's output at position `i` and lane `L`. -/
def posOut (i : Fin n) (L : Fin 256) : EReal := outDivSum (near i) (posLogit aq ak i L) (fun j => av j L)

/-- The attention's log-sum-exp at position `i`, for the head of lane `L`. -/
def posLse (i : Fin n) (L : Fin 256) : EReal := lse (near i) (posLogit aq ak i L)

end

/-- The position of row `R` of a step that starts at `q0`. -/
def place {N n q0 : ℕ} (hq : q0 + N ≤ n) (R : Fin N) : Fin n := ⟨q0 + R, Nat.lt_of_lt_of_le (Nat.add_lt_add_left R.isLt q0) hq⟩

theorem half_eq (L : Fin 256) (e : Fin 128) :
    half (L / 128 * 128 + e : ℕ) = half L ↔ (L.val % 128 < 64 ↔ e.val < 64) := by
  unfold half
  have he := e.isLt
  have h1 : (L.val / 128 * 128 + e.val) % 128 = e.val := by omega
  rw [h1]
  by_cases h : L.val % 128 < 64 <;> by_cases h' : e.val < 64 <;> simp [h, h']

/-- A sum over the 128 lanes of a pair of heads that vanishes off the head of `L` is the sum over that head's lanes. -/
theorem sum_head (L : Fin 256) (f : Fin 128 → EReal) (g : Fin 64 → EReal)
    (h0 : ∀ e : Fin 128, half (L / 128 * 128 + e : ℕ) ≠ half L → f e = 0)
    (hg : ∀ (e : Fin 128) (e' : Fin 64), L / 128 * 128 + e.val = L / 64 * 64 + e'.val → f e = g e') :
    ∑ e, f e = ∑ e, g e := by
  have hs : ∑ e, f e = ∑ e : Fin (64 + 64), f e := rfl
  rw [hs, Fin.sum_univ_add]
  by_cases h : L.val % 128 < 64
  · rw [Finset.sum_eq_zero (s := Finset.univ) (f := fun e : Fin 64 => f (Fin.natAdd 64 e)) (fun e _ => h0 _ (by
      rw [Ne, half_eq]; simp only [h, true_iff]; exact fun hc => absurd hc (by simp))), add_zero]
    exact Finset.sum_congr rfl fun e _ => hg _ e (by simp only [Fin.val_castAdd]; omega)
  · rw [Finset.sum_eq_zero (s := Finset.univ) (f := fun e : Fin 64 => f (Fin.castAdd 64 e)) (fun e _ => h0 _ (by
      rw [Ne, half_eq]; have := e.isLt; simp only [h, false_iff, Fin.val_castAdd]; omega)), zero_add]
    exact Finset.sum_congr rfl fun e _ => hg _ e (by simp only [Fin.val_natAdd]; omega)

section
variable {N N' n q0 : ℕ} [NeZero N']
  {Q : FVec Ideal ⟨3, ![2, N, 256]⟩ .bf16} {K V : FVec Ideal ⟨2, ![N', 256]⟩ .bf16} {aq ak av : Fin n → Fin 256 → EReal}
  (hN : N' = N + 128) (hd : 128 ∣ N) (hn : 256 ≤ n) (hq : q0 + N ≤ n)
  (hQ : ∀ (h : Fin 2) (R : Fin N) (e : Fin 256), Q (ix3 h R e) = if half e = h then aq (place hq R) e else 0)
  (hK : ∀ (r : Fin N') (j : Fin n) (e : Fin 256), q0 + r.val = j.val + 64 → K (ix2 r e) = ak j e)
  (hV : ∀ (r : Fin N') (j : Fin n) (e : Fin 256), q0 + r.val = j.val + 64 → V (ix2 r e) = av j e)
  (R : Fin N) (L : Fin 256)

include hN hd hn hQ hK in
theorem row_same : SameRow (fun c : Fin 256 => inBand n (q0 + R / 128 * 128) (R % 128) c) (rowLogit Q K R L)
    (near (place hq R)) (posLogit aq ak (place hq R) L)
    (fun c => ⟨(q0 + R / 128 * 128 + c.val - 64) % n, Nat.mod_lt _ (Nat.lt_of_lt_of_le (by decide) hn)⟩) := by
  obtain ⟨B, rfl⟩ := hd
  have hR := R.isLt
  refine sameRow_window n (q0 + R / 128 * 128) (R % 128) (by omega) hn (by omega) _ _ _ _ (fun c => Iff.rfl) (fun j => ?_) (fun c j hj => ?_)
  · unfold near
    show (_ ≤ q0 + R.val + 64 ∧ q0 + R.val ≤ _) ↔ _
    omega
  · have hc := c.isLt
    unfold rowLogit posLogit
    have hr : (R.val / 128 * 128 + c.val) % N' = R.val / 128 * 128 + c.val := Nat.mod_eq_of_lt (by omega)
    refine sum_head L _ _ (fun e he => ?_) (fun e e' he => ?_)
    · have h1 := e.isLt; have h2 := L.isLt
      have hm : (L.val / 128 * 128 + e.val) % 256 = L.val / 128 * 128 + e.val := Nat.mod_eq_of_lt (by omega)
      rw [hQ, if_neg, zero_mul]
      show half ((L.val / 128 * 128 + e.val) % 256) ≠ _
      rwa [hm]
    · have h1 := e.isLt; have h2 := L.isLt; have h3 := e'.isLt
      have hm : (L.val / 128 * 128 + e.val) % 256 = L.val / 128 * 128 + e.val := Nat.mod_eq_of_lt (by omega)
      have hl : Fin.ofNat 256 (L.val / 128 * 128 + e.val) = headLane L e' := Fin.ext (hm.trans he)
      rw [hl, hQ, if_pos, hK _ j _ (by show q0 + (R.val / 128 * 128 + c.val) % N' = _; omega)]
      show half (L.val / 64 * 64 + e'.val) = _
      rw [← he, half_eq]; omega

include hN hd hn hQ hK hV in
theorem rowOut_eq : rowOut n q0 Q K V R L = posOut aq ak av (place hq R) L := by
  refine (row_same hN hd hn hq hQ hK R L).out_eq _ _ fun c hc => ?_
  obtain ⟨B, rfl⟩ := hd
  have hR := R.isLt; have h1 := c.isLt
  have hr : (R.val / 128 * 128 + c.val) % N' = R.val / 128 * 128 + c.val := Nat.mod_eq_of_lt (by omega)
  unfold inBand at hc
  refine hV _ _ _ ?_
  show q0 + (R.val / 128 * 128 + c.val) % N' = (q0 + R / 128 * 128 + c.val - 64) % n + 64
  rw [hr, Nat.mod_eq_of_lt (by omega)]; omega

include hN hd hn hQ hK in
theorem rowLse_eq : rowLse n q0 Q K R L = posLse aq ak (place hq R) L :=
  (row_same hN hd hn hq hQ hK R L).lse_eq

end

end Attn

end
-- ==== Proof.Attn.Fill.lean ====
module

public import proofs.«01_k».proof.Proof.Attn.Row
public import Idealize.ShloMosaic.Lib.Writes
public import Idealize.ShloMosaic.Lib.Pipeline.ReadBack

@[expose] public section

set_option maxRecDepth 16384

/-!
# What the scratch holds

The queries' scratch is filled by two stores, the keys' and the values' by three. Read back at an index, each is the
store that covers the index.
-/

noncomputable section

namespace Attn

open Idealize.ShloMosaic

variable {sig : RefSig} {κ : Kind} {sp : Space}

section
variable {s : Shape} {e : EltTy} (v : View sig κ sp s e) (f : v.ty.Contents (Elt Ideal)) {off size : Fin s.rank → ℕ}
  (inb : ∀ a, off a + size a ≤ s.size a) (w : (Rect.unit off size inb).shape.Idx → Elt Ideal e) (L : List (View.Piece (Elt Ideal) s e))

/-- An index under the last store reads its payload. -/
theorem read_here (y : s.Idx) (x : (Rect.unit off size inb).shape.Idx) (h : ∀ a, (y a : ℕ) = off a + x a) :
    v.read (Elt Ideal) (v.writes (Elt Ideal) f (⟨Rect.unit off size inb, w⟩ :: L)) y = w x := by
  obtain rfl : (Rect.unit off size inb).emb x = y := funext fun a => Fin.ext (by
    rw [h a]; show off a + 1 * _ = _; omega)
  exact View.read_writes_cons_emb v f _ w L x

/-- An index off the last store reads what the earlier stores left. -/
theorem read_past (y : s.Idx) (a : Fin s.rank) (h : (y a : ℕ) < off a ∨ off a + size a ≤ y a) :
    v.read (Elt Ideal) (v.writes (Elt Ideal) f (⟨Rect.unit off size inb, w⟩ :: L)) y
      = v.read (Elt Ideal) (v.writes (Elt Ideal) f L) y := by
  refine View.read_slice_write_of_not_mem (Rect.unit off size inb) _ _ _ fun hy => ?_
  rw [Rect.map_emb_univ, Rect.mem_set_unit] at hy
  have := hy a
  omega

end

/-- Two stores, one for each copy of the queries. -/
theorem read_two {N : ℕ} (v : View sig κ sp ⟨3, ![2, N, 256]⟩ .bf16) (f : v.ty.Contents (Elt Ideal))
    (i1 : ∀ a, (![1, 0, 0] : Fin 3 → ℕ) a + (![1, N, 256] : Fin 3 → ℕ) a ≤ (⟨3, ![2, N, 256]⟩ : Shape).size a)
    (i0 : ∀ a, (![0, 0, 0] : Fin 3 → ℕ) a + (![1, N, 256] : Fin 3 → ℕ) a ≤ (⟨3, ![2, N, 256]⟩ : Shape).size a)
    (w1 w0 : FVec Ideal ⟨3, ![1, N, 256]⟩ .bf16) (h : Fin 2) (R : Fin N) (e : Fin 256) :
    v.read (Elt Ideal) (v.writes (Elt Ideal) f [⟨Rect.unit (s := ⟨3, ![2, N, 256]⟩) ![1, 0, 0] ![1, N, 256] i1, w1⟩,
      ⟨Rect.unit (s := ⟨3, ![2, N, 256]⟩) ![0, 0, 0] ![1, N, 256] i0, w0⟩]) (ix3 h R e)
      = if h = 0 then w0 (ix3 0 R e) else w1 (ix3 0 R e) := by
  by_cases hh : h = 0
  · subst hh
    rw [if_pos rfl, read_past v f _ _ _ _ 0 (.inl Nat.zero_lt_one)]
    exact read_here v f _ w0 _ _ (ix3 0 R e) fun a => by fin_cases a <;> simp [ix3]
  · rw [if_neg hh]
    have h1 : h = 1 := by omega
    subst h1
    exact read_here v f _ w1 _ _ (ix3 0 R e) fun a => by fin_cases a <;> simp [ix3]

/-- Three stores: 64 rows of the neighbour before, the step's own rows, 64 rows of the neighbour after. -/
theorem read_three {N N' o : ℕ} (v : View sig κ sp ⟨2, ![N', 256]⟩ .bf16) (f : v.ty.Contents (Elt Ideal)) (ho : o = N + 64)
    (i2 : ∀ a, (![o, 0] : Fin 2 → ℕ) a + (![64, 256] : Fin 2 → ℕ) a ≤ (⟨2, ![N', 256]⟩ : Shape).size a)
    (i1 : ∀ a, (![64, 0] : Fin 2 → ℕ) a + (![N, 256] : Fin 2 → ℕ) a ≤ (⟨2, ![N', 256]⟩ : Shape).size a)
    (i0 : ∀ a, (![0, 0] : Fin 2 → ℕ) a + (![64, 256] : Fin 2 → ℕ) a ≤ (⟨2, ![N', 256]⟩ : Shape).size a)
    (w2 w0 : FVec Ideal ⟨2, ![64, 256]⟩ .bf16) (w1 : FVec Ideal ⟨2, ![N, 256]⟩ .bf16) (hN : N' = N + 128) (r : Fin N') (e : Fin 256) (x : EReal)
    (h0 : ∀ h : r.val < 64, w0 (ix2 ⟨r, h⟩ e) = x) (h1 : ∀ h : r.val - 64 < N, 64 ≤ r.val → w1 (ix2 ⟨r - 64, h⟩ e) = x)
    (h2 : ∀ h : r.val - o < 64, o ≤ r.val → w2 (ix2 ⟨r - o, h⟩ e) = x) :
    v.read (Elt Ideal) (v.writes (Elt Ideal) f [⟨Rect.unit (s := ⟨2, ![N', 256]⟩) ![o, 0] ![64, 256] i2, w2⟩,
      ⟨Rect.unit (s := ⟨2, ![N', 256]⟩) ![64, 0] ![N, 256] i1, w1⟩, ⟨Rect.unit (s := ⟨2, ![N', 256]⟩) ![0, 0] ![64, 256] i0, w0⟩]) (ix2 r e) = x := by
  have hr := r.isLt
  by_cases ha : r.val < 64
  · rw [read_past v f _ _ _ (ix2 r e) 0 (.inl (by show r.val < o; omega)), read_past v f _ _ _ (ix2 r e) 0 (.inl ha)]
    refine (read_here v f _ w0 _ (ix2 r e) (ix2 ⟨r, ha⟩ e) fun a => ?_).trans (h0 ha)
    fin_cases a <;> simp [ix2]
  by_cases hb : r.val < o
  · rw [read_past v f _ _ _ (ix2 r e) 0 (.inl hb)]
    refine (read_here v f _ w1 _ (ix2 r e) (ix2 ⟨r - 64, by omega⟩ e) fun a => ?_).trans (h1 _ (by omega))
    fin_cases a <;> simp [ix2]; omega
  · refine (read_here v f _ w2 _ (ix2 r e) (ix2 ⟨r - o, by omega⟩ e) fun a => ?_).trans (h2 _ (by omega))
    fin_cases a <;> simp [ix2]; omega

/-- Appended pieces of one function. -/
theorem piecesOf_append {s : Shape} {e : EltTy} {G : s.Idx → Elt Ideal e} : ∀ {L L' : List (View.Piece (Elt Ideal) s e)},
    View.PiecesOf G L → View.PiecesOf G L' → View.PiecesOf G (L ++ L')
  | [], _, _, h' => h'
  | _ :: _, _, h, h' => ⟨h.1, piecesOf_append h.2 h'⟩

end Attn

end
-- ==== Proof.Attn1.Step.lean ====
module

public import proofs.«01_k».proof.Proof.Attn1.Trip
public import proofs.«01_k».proof.Proof.Attn.Fill

@[expose] public section

set_option maxRecDepth 16384

/-!
# One step of the grid

A step fills the scratch from its seven blocks and runs the two trips of the loop. What it leaves in the two output
blocks is, at every row and lane, the attention over the whole sequence, whenever the blocks are the parts of the
sequence's queries, keys and values that the step asks for.
-/

noncomputable section

namespace Cert.Kernel1Ideal.Gen

open Attn
open Idealize.ShloMosaic Idealize.ShloMosaic.TcCoe Idealize.ShloMosaic.Tactic
open Idealize.SL Idealize.SL.Sem

section
variable (𝒱 : Variants) (c : Dev nD) (bd : Option 𝒱.V) (i : grid0.Coords)
  (arg3 : Memref sig .tc .vmem S1x1x1024x256 .f32) (harg3 : arg3.IsWhole) (arg4 : Memref sig .tc .vmem S1x1x64x256 .f32) (harg4 : arg4.IsWhole)
  (arg5 : Memref sig .tc .vmem S1x1x1024x256 .f32) (harg5 : arg5.IsWhole) (arg6 : Memref sig .tc .vmem S1x1x64x256 .f32) (harg6 : arg6.IsWhole)
  (arg7 : Memref sig .tc .vmem S1x1x64x256 .f32) (harg7 : arg7.IsWhole) (arg8 : Memref sig .tc .vmem S1x1x1024x256 .f32) (harg8 : arg8.IsWhole)
  (arg9 : Memref sig .tc .vmem S1x1x64x256 .f32) (harg9 : arg9.IsWhole) (arg10 : Memref sig .tc .vmem S1x1x1024x256 .f32) (harg10 : arg10.IsWhole)
  (arg11 : Memref sig .tc .vmem S1x1x1024x256 .f32) (harg11 : arg11.IsWhole) (arg12 : Memref sig .tc .vmem S2x1024x256 .bf16) (harg12 : arg12.IsWhole)
  (arg13 : Memref sig .tc .vmem S1152x256 .bf16) (harg13 : arg13.IsWhole) (arg14 : Memref sig .tc .vmem S1152x256 .bf16) (harg14 : arg14.IsWhole)
  (v0 : BitVec 32) (c0_i32_6 : BitVec 32) (X12 : BufTy.Contents (Elt Ideal) arg12.view.ty) (X13 : BufTy.Contents (Elt Ideal) arg13.view.ty)
  (X14 : BufTy.Contents (Elt Ideal) arg14.view.ty)
  {q0 : ℕ} (h0 : v0.toInt = q0) (hq : q0 < 2 ^ 19)

include h0 hq in
theorem pieces_out : ∀ k ≤ k0_t1_loop.trips, View.PiecesOf (gOut arg12 arg13 arg14 X12 X13 X14 q0)
    (pb_k0_t1 (F := Ideal) 𝒱 c bd i arg3 harg3 arg4 harg4 arg5 harg5 arg6 harg6 arg7 harg7 arg8 harg8 arg9 harg9 arg10 harg10 arg11 harg11 arg12 harg12 arg13 harg13 arg14 harg14 v0 k0_pay114 colsOf k0_pay115 c0_i32_6 X12 X13 X14 k).1
  | 0, _ => trivial
  | k + 1, hk => by
    rw [pb_k0_t1_succ _ _ _ _ _ _ _ _ _ _ _ _ _ _ _ _ _ _ _ _ _ _ _ _ _ _ _ _ _ _ _ _ _ _ _ _ ⟨k, hk⟩]
    exact piecesOf_append (trip_out (h0 := h0) (hq := hq) ..) (pieces_out k (by omega))

include h0 hq in
theorem pieces_lse : ∀ k ≤ k0_t1_loop.trips, View.PiecesOf (gLse arg12 arg13 X12 X13 q0)
    (pb_k0_t1 (F := Ideal) 𝒱 c bd i arg3 harg3 arg4 harg4 arg5 harg5 arg6 harg6 arg7 harg7 arg8 harg8 arg9 harg9 arg10 harg10 arg11 harg11 arg12 harg12 arg13 harg13 arg14 harg14 v0 k0_pay114 colsOf k0_pay115 c0_i32_6 X12 X13 X14 k).2
  | 0, _ => trivial
  | k + 1, hk => by
    rw [pb_k0_t1_succ _ _ _ _ _ _ _ _ _ _ _ _ _ _ _ _ _ _ _ _ _ _ _ _ _ _ _ _ _ _ _ _ _ _ _ _ ⟨k, hk⟩]
    exact piecesOf_append (trip_lse (h0 := h0) (hq := hq) ..) (pieces_lse k (by omega))

end

/-! ## The scratch -/

theorem lanes_apply (R : Fin 1024) (e : Fin 256) : k0_pay113 (ix2 R e) = 1 ↔ e.val % 128 < 64 := by
  pointwise [k0_pay113]
  revert e
  decide +kernel

theorem fillEven_apply (x : Vec Ideal S1x1x1024x256 .f32) (R : Fin 1024) (e : Fin 256) :
    k0_pay118 (k0_pay117 x) (ix3 0 R e) = if half e = 0 then x (ix4 0 0 R e) else 0 := by
  pointwise [k0_pay118, k0_pay117, k0_pay116]
  unfold half
  by_cases h : e.val % 128 < 64
  · simp [h, (lanes_apply R e).2 h, Scalar.select]
  · have : k0_pay113 (ix2 R e) ≠ 1 := fun h' => h ((lanes_apply R e).1 h')
    simp only [Scalar.select, if_neg this, if_neg h]
    simp

theorem fillOdd_apply (x : Vec Ideal S1x1x1024x256 .f32) (R : Fin 1024) (e : Fin 256) :
    k0_pay119 k0_pay113 (k0_pay116 x) (ix3 0 R e) = if half e = 1 then x (ix4 0 0 R e) else 0 := by
  pointwise [k0_pay119, k0_pay116]
  unfold half
  by_cases h : e.val % 128 < 64
  · simp [h, (lanes_apply R e).2 h, Scalar.select]
  · have : k0_pay113 (ix2 R e) ≠ 1 := fun h' => h ((lanes_apply R e).1 h')
    simp only [Scalar.select, if_neg this, if_neg h]
    simp

theorem fillPrev_apply (x : Vec Ideal S1x1x64x256 .f32) (r : Fin 64) (e : Fin 256) : k0_pay120 x (ix2 r e) = x (ix4 0 0 r e) := by
  pointwise [k0_pay120]

theorem fillOwn_apply (x : Vec Ideal S1x1x1024x256 .f32) (r : Fin 1024) (e : Fin 256) : k0_pay121 x (ix2 r e) = x (ix4 0 0 r e) := by
  pointwise [k0_pay121]

section
variable (c : Dev nD) (i : grid0.Coords)
  (arg3 : Memref sig .tc .vmem S1x1x1024x256 .f32) (harg3 : arg3.IsWhole) (arg4 : Memref sig .tc .vmem S1x1x64x256 .f32) (harg4 : arg4.IsWhole)
  (arg5 : Memref sig .tc .vmem S1x1x1024x256 .f32) (harg5 : arg5.IsWhole) (arg6 : Memref sig .tc .vmem S1x1x64x256 .f32) (harg6 : arg6.IsWhole)
  (arg7 : Memref sig .tc .vmem S1x1x64x256 .f32) (harg7 : arg7.IsWhole) (arg8 : Memref sig .tc .vmem S1x1x1024x256 .f32) (harg8 : arg8.IsWhole)
  (arg9 : Memref sig .tc .vmem S1x1x64x256 .f32) (harg9 : arg9.IsWhole) (arg10 : Memref sig .tc .vmem S1x1x1024x256 .f32) (harg10 : arg10.IsWhole)
  (arg11 : Memref sig .tc .vmem S1x1x1024x256 .f32) (harg11 : arg11.IsWhole) (arg12 : Memref sig .tc .vmem S2x1024x256 .bf16) (harg12 : arg12.IsWhole)
  (arg13 : Memref sig .tc .vmem S1152x256 .bf16) (harg13 : arg13.IsWhole) (arg14 : Memref sig .tc .vmem S1152x256 .bf16) (harg14 : arg14.IsWhole)
  (x0 x2 x5 : Vec Ideal S1x1x1024x256 .f32) (x1 x3 x4 x6 : Vec Ideal S1x1x64x256 .f32)
  {aq ak av : Fin 4096 → Fin 256 → EReal} {q0 : ℕ} (hq : q0 + 1024 ≤ 4096)
  (hx0 : ∀ (r : Fin 1024) (j : Fin 4096) (e : Fin 256), j.val = q0 + r → x0 (ix4 0 0 r e) = aq j e)
  (hx1 : ∀ (r : Fin 64) (j : Fin 4096) (e : Fin 256), j.val + 64 = q0 + r → x1 (ix4 0 0 r e) = ak j e)
  (hx2 : ∀ (r : Fin 1024) (j : Fin 4096) (e : Fin 256), j.val = q0 + r → x2 (ix4 0 0 r e) = ak j e)
  (hx3 : ∀ (r : Fin 64) (j : Fin 4096) (e : Fin 256), j.val = q0 + 1024 + r → x3 (ix4 0 0 r e) = ak j e)
  (hx4 : ∀ (r : Fin 64) (j : Fin 4096) (e : Fin 256), j.val + 64 = q0 + r → x4 (ix4 0 0 r e) = av j e)
  (hx5 : ∀ (r : Fin 1024) (j : Fin 4096) (e : Fin 256), j.val = q0 + r → x5 (ix4 0 0 r e) = av j e)
  (hx6 : ∀ (r : Fin 64) (j : Fin 4096) (e : Fin 256), j.val = q0 + 1024 + r → x6 (ix4 0 0 r e) = av j e)

/-- The queries' scratch after its two stores. -/
abbrev scrQ : BufTy.Contents (Elt Ideal) arg12.view.ty :=
  arg12.view.writes (Elt Ideal) arg12.view.junk
    [⟨Rect.unit (s := S2x1024x256) ![1, 0, 0] S1x1024x256.size inb_S2x1024x256_S1x1024x256_1_0_0, k0_pay119 k0_pay113 (k0_pay116 x0)⟩,
     ⟨Rect.unit (s := S2x1024x256) ![0, 0, 0] S1x1024x256.size inb_S2x1024x256_S1x1024x256_0_0_0, k0_pay118 (k0_pay117 x0)⟩]

/-- The keys' (or the values') scratch after its three stores. -/
abbrev scrK (arg : Memref sig .tc .vmem S1152x256 .bf16) (a c : Vec Ideal S1x1x64x256 .f32) (b : Vec Ideal S1x1x1024x256 .f32) :
    BufTy.Contents (Elt Ideal) arg.view.ty :=
  arg.view.writes (Elt Ideal) arg.view.junk
    [⟨Rect.unit (s := S1152x256) ![1088, 0] S64x256.size inb_S1152x256_S64x256_1088_0, k0_pay120 c⟩,
     ⟨Rect.unit (s := S1152x256) ![64, 0] S1024x256.size inb_S1152x256_S1024x256_64_0, k0_pay121 b⟩,
     ⟨Rect.unit (s := S1152x256) ![0, 0] S64x256.size inb_S1152x256_S64x256_0_0, k0_pay120 a⟩]

include hx0 in
theorem scrQ_apply (h : Fin 2) (R : Fin 1024) (e : Fin 256) :
    arg12.view.read (Elt Ideal) (scrQ arg12 x0) (ix3 h R e) = if half e = h then aq (place hq R) e else 0 := by
  rw [scrQ]
  refine (read_two arg12.view _ _ _ _ _ h R e).trans ?_
  rw [← hx0 R (place hq R) e rfl]
  by_cases hh : h = 0
  · subst hh; rw [if_pos rfl, fillEven_apply]
  · have h1 : h = 1 := by omega
    subst h1; rw [if_neg hh, fillOdd_apply]

theorem scrK_apply (arg : Memref sig .tc .vmem S1152x256 .bf16) (a c : Vec Ideal S1x1x64x256 .f32) (b : Vec Ideal S1x1x1024x256 .f32)
    {ak : Fin 4096 → Fin 256 → EReal}
    (ha : ∀ (r : Fin 64) (j : Fin 4096) (e : Fin 256), j.val + 64 = q0 + r → a (ix4 0 0 r e) = ak j e)
    (hb : ∀ (r : Fin 1024) (j : Fin 4096) (e : Fin 256), j.val = q0 + r → b (ix4 0 0 r e) = ak j e)
    (hc : ∀ (r : Fin 64) (j : Fin 4096) (e : Fin 256), j.val = q0 + 1024 + r → c (ix4 0 0 r e) = ak j e)
    (r : Fin 1152) (j : Fin 4096) (e : Fin 256) (hj : q0 + r.val = j.val + 64) :
    arg.view.read (Elt Ideal) (scrK arg a c b) (ix2 r e) = ak j e := by
  rw [scrK]
  refine read_three (N := 1024) arg.view _ rfl _ _ _ _ _ _ rfl r e _ (fun h => ?_) (fun h h' => ?_) (fun h h' => ?_)
  · rw [fillPrev_apply]; exact ha _ j e (by show j.val + 64 = q0 + r.val; omega)
  · rw [fillOwn_apply]; exact hb _ j e (by show j.val = q0 + (r.val - 64); omega)
  · rw [fillPrev_apply]; exact hc _ j e (by show j.val = q0 + 1024 + (r.val - 1088); omega)

variable (h0 : (Scalar.muli (BitVec.ofNat 32 (i 2).val) 1024#32).toInt = q0)

theorem load_own (x : Vec Ideal S1x1x1024x256 .f32) (h) :
    View.ld x (Rect.unit (s := S1x1x1024x256) ![0, 0, 0, 0] ![1, 1, 1024, 256] h) = x := View.ld_unit_zero (by decide) h x

theorem load_halo (x : Vec Ideal S1x1x64x256 .f32) (h) :
    View.ld x (Rect.unit (s := S1x1x64x256) ![0, 0, 0, 0] ![1, 1, 64, 256] h) = x := View.ld_unit_zero (by decide) h x

theorem fill_next (x : Vec Ideal S1x1x64x256 .f32) : k0_pay122 x = k0_pay120 x := rfl
theorem fill_own' (x : Vec Ideal S1x1x1024x256 .f32) : k0_pay2 x = k0_pay121 x := rfl
theorem fill_prev' (x : Vec Ideal S1x1x64x256 .f32) : k0_pay1 (k0_pay123 x) = k0_pay120 x := rfl
theorem fill_next' (x : Vec Ideal S1x1x64x256 .f32) : k0_pay3 x = k0_pay120 x := rfl

/-- The pieces of a step are the pieces of the loop, over the filled scratch. -/
theorem run_pieces : ((kernelRun0_A (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6).1, (kernelRun0_A (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6).2.1)
    = pb_k0_t1 (F := Ideal) Variants.none c none i arg3 harg3 arg4 harg4 arg5 harg5 arg6 harg6 arg7 harg7 arg8 harg8 arg9 harg9 arg10 harg10 arg11 harg11
    arg12 harg12 arg13 harg13 arg14 harg14 (Scalar.muli (BitVec.ofNat 32 (i 2).val) 1024#32) k0_pay114 colsOf k0_pay115 0#32
    (scrQ arg12 x0) (scrK arg13 x1 x3 x2) (scrK arg14 x4 x6 x5) k0_t1_loop.trips := by
  unfold kernelRun0_A
  dsimp only
  sl_unfold_words
  simp only [View.readAt_eq_ld, Memref.IsWhole.read_unread, load_own, load_halo, fill_next, fill_own', fill_prev', fill_next']
  rfl

include h0 hq in
theorem out_scr (y : S1x1x1024x256.Idx) : out0_A_7 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6 y
    = gOut arg12 arg13 arg14 (scrQ arg12 x0) (scrK arg13 x1 x3 x2) (scrK arg14 x4 x6 x5) q0 y := by
  unfold out0_A_7
  refine View.read_writes_apply_of_pieces _ _ _ _ (View.PiecesOf.mem ?_) y (cover0_A_7 c i arg3 harg3 arg4 harg4 arg5 harg5 arg6 harg6 arg7 harg7 arg8 harg8 arg9 harg9 arg10 harg10 arg11 harg11 arg12 harg12 arg13 harg13 arg14 harg14 x0 x1 x2 x3 x4 x5 x6 y)
  have hp := pieces_out Variants.none c none i arg3 harg3 arg4 harg4 arg5 harg5 arg6 harg6 arg7 harg7 arg8 harg8 arg9 harg9 arg10 harg10 arg11 harg11
    arg12 harg12 arg13 harg13 arg14 harg14 (Scalar.muli (BitVec.ofNat 32 (i 2).val) 1024#32) 0#32
    (scrQ arg12 x0) (scrK arg13 x1 x3 x2) (scrK arg14 x4 x6 x5) h0 (by omega) k0_t1_loop.trips le_rfl
  rw [← run_pieces] at hp
  exact hp

include h0 hq in
theorem lse_scr (y : S1x1x1024x256.Idx) : out0_A_8 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6 y
    = gLse arg12 arg13 (scrQ arg12 x0) (scrK arg13 x1 x3 x2) q0 y := by
  unfold out0_A_8
  refine View.read_writes_apply_of_pieces _ _ _ _ (View.PiecesOf.mem ?_) y (cover0_A_8 c i arg3 harg3 arg4 harg4 arg5 harg5 arg6 harg6 arg7 harg7 arg8 harg8 arg9 harg9 arg10 harg10 arg11 harg11 arg12 harg12 arg13 harg13 arg14 harg14 x0 x1 x2 x3 x4 x5 x6 y)
  have hp := pieces_lse Variants.none c none i arg3 harg3 arg4 harg4 arg5 harg5 arg6 harg6 arg7 harg7 arg8 harg8 arg9 harg9 arg10 harg10 arg11 harg11
    arg12 harg12 arg13 harg13 arg14 harg14 (Scalar.muli (BitVec.ofNat 32 (i 2).val) 1024#32) 0#32
    (scrQ arg12 x0) (scrK arg13 x1 x3 x2) (scrK arg14 x4 x6 x5) h0 (by omega) k0_t1_loop.trips le_rfl
  rw [← run_pieces] at hp
  exact hp

include h0 hq hx0 hx1 hx2 hx3 hx4 hx5 hx6 in
/-- The output block of a step, at a row and a lane. -/
theorem out_step (a b : Fin 1) (R : Fin 1024) (L : Fin 256) : out0_A_7 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6 (ix4 a b R L)
    = posOut aq ak av (place hq R) L :=
  (out_scr c i arg3 harg3 arg4 harg4 arg5 harg5 arg6 harg6 arg7 harg7 arg8 harg8 arg9 harg9 arg10 harg10 arg11 harg11 arg12 harg12 arg13 harg13 arg14 harg14 x0 x2 x5 x1 x3 x4 x6 hq h0 _).trans
    (rowOut_eq (N := 1024) (N' := 1152) rfl (by decide) (by decide) hq (scrQ_apply arg12 x0 hq hx0) (scrK_apply arg13 x1 x3 x2 hx1 hx2 hx3)
      (scrK_apply arg14 x4 x6 x5 hx4 hx5 hx6) R L)

include h0 hq hx0 hx1 hx2 hx3 in
/-- The log-sum-exp block of a step, at a row and a lane. -/
theorem lse_step (a b : Fin 1) (R : Fin 1024) (L : Fin 256) : out0_A_8 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6 (ix4 a b R L)
    = posLse aq ak (place hq R) L :=
  (lse_scr c i arg3 harg3 arg4 harg4 arg5 harg5 arg6 harg6 arg7 harg7 arg8 harg8 arg9 harg9 arg10 harg10 arg11 harg11 arg12 harg12 arg13 harg13 arg14 harg14 x0 x2 x5 x1 x3 x4 x6 hq h0 _).trans
    (rowLse_eq (N := 1024) (N' := 1152) rfl (by decide) (by decide) hq (scrQ_apply arg12 x0 hq hx0) (scrK_apply arg13 x1 x3 x2 hx1 hx2 hx3) R L)

end

end Cert.Kernel1Ideal.Gen

end
-- ==== Proof.Attn.Whole.lean ====
module

public import proofs.«01_k».proof.Proof.Attn.Row

@[expose] public section

set_option maxRecDepth 16384

/-!
# The whole arrays

The two results of the attention call as functions of its one argument, which holds the queries in lanes 0..255, the
keys in 256..511 and the values in 512..767.
-/

noncomputable section

namespace Attn

open Idealize.ShloMosaic

variable {B D n : ℕ} (att : FVec Ideal ⟨4, ![B, D, n, 768]⟩ .f32) (b : Fin B) (d : Fin D)

/-- The lane `e` of the queries (`o = 0`), the keys (`o = 256`) or the values (`o = 512`). -/
def lane (o : ℕ) (ho : o ≤ 512) (e : Fin 256) : Fin 768 :=
  ⟨o + e, Nat.lt_of_lt_of_le (Nat.add_lt_add_left e.isLt o) (Nat.add_le_add_right ho 256)⟩

/-- One of the three parts of a batch row and a residue's sequence. -/
def part (o : ℕ) (ho : o ≤ 512) (j : Fin n) (e : Fin 256) : EReal := att (ix4 b d j (lane o ho e))

/-- The output. -/
def attOut (y : (⟨4, ![B, D, n, 256]⟩ : Shape).Idx) : EReal :=
  posOut (part att (y 0) (y 1) 0 (by decide)) (part att (y 0) (y 1) 256 (by decide)) (part att (y 0) (y 1) 512 (by decide)) (y 2) (y 3)

/-- The log-sum-exp, the same in all lanes of a head. -/
def attLse (y : (⟨4, ![B, D, n, 256]⟩ : Shape).Idx) : EReal :=
  posLse (part att (y 0) (y 1) 0 (by decide)) (part att (y 0) (y 1) 256 (by decide)) (y 2) (y 3)

end Attn

end
-- ==== Proof.Attn1.Array.lean ====
module

public import proofs.«01_k».proof.Proof.Attn1.Step
public import proofs.«01_k».proof.Proof.Attn.Whole
public import Idealize.ShloMosaic.Lib.Pipeline.ValueKit

@[expose] public section

set_option maxRecDepth 16384

/-!
# The arrays after the run

Every step writes its two blocks back, and the blocks tile the arrays; each block reads the argument where its window
places it.
-/

noncomputable section

namespace Cert.Kernel1Ideal.Gen

open Attn
open Idealize.ShloMosaic Idealize.ShloMosaic.TcCoe Idealize.ShloMosaic.Tactic
open Idealize.SL Idealize.SL.Sem

/-- Where each window places the block of a step. -/
theorem windows : ∀ t : Fin cfg0.N,
    win0_0.index t = ![(grid0.coords t 0).val, (grid0.coords t 1).val, (grid0.coords t 2).val, 0]
    ∧ win0_1.index t = ![(grid0.coords t 0).val, (grid0.coords t 1).val, (grid0.coords t 2).val * 16 - 1, 1]
    ∧ win0_2.index t = ![(grid0.coords t 0).val, (grid0.coords t 1).val, (grid0.coords t 2).val, 1]
    ∧ win0_3.index t = ![(grid0.coords t 0).val, (grid0.coords t 1).val, min ((grid0.coords t 2).val * 16 + 16) 63, 1]
    ∧ win0_4.index t = ![(grid0.coords t 0).val, (grid0.coords t 1).val, (grid0.coords t 2).val * 16 - 1, 2]
    ∧ win0_5.index t = ![(grid0.coords t 0).val, (grid0.coords t 1).val, (grid0.coords t 2).val, 2]
    ∧ win0_6.index t = ![(grid0.coords t 0).val, (grid0.coords t 1).val, min ((grid0.coords t 2).val * 16 + 16) 63, 2]
    ∧ win0_7.index t = ![(grid0.coords t 0).val, (grid0.coords t 1).val, (grid0.coords t 2).val, 0]
    ∧ win0_8.index t = ![(grid0.coords t 0).val, (grid0.coords t 1).val, (grid0.coords t 2).val, 0] := by decide +kernel

theorem start_toInt : ∀ t : Fin cfg0.N,
    (Scalar.muli (BitVec.ofNat 32 (grid0.coords t 2).val) 1024#32).toInt = ((1024 * (grid0.coords t 2).val : ℕ) : ℤ)
    ∧ 1024 * (grid0.coords t 2).val + 1024 ≤ 4096 := by decide +kernel

section
variable (m : (ℓ : Loc nD τ sig) → Buf (Elt Ideal) ℓ) (c : Dev nD)

theorem read_q (t : Fin cfg0.N) (r : Fin 1024) (j : Fin 4096) (e : Fin 256) (h : j.val = 1024 * (grid0.coords t 2).val + r.val) :
    iblk m c 0 t (ix4 0 0 r e) = part (B := 12) (D := 1) (n := 4096) (m ((c : Thread nD τ).loc main_arg0)) (grid0.coords t 0) (grid0.coords t 1) 0 (by decide) j e := by
  have ht := (start_toInt t).2
  unfold part lane
  blk_ext [iblk, V, windows t]

theorem read_k_past (t : Fin cfg0.N) (r : Fin 64) (j : Fin 4096) (e : Fin 256) (h : j.val + 64 = 1024 * (grid0.coords t 2).val + r.val) :
    iblk m c 1 t (ix4 0 0 r e) = part (B := 12) (D := 1) (n := 4096) (m ((c : Thread nD τ).loc main_arg0)) (grid0.coords t 0) (grid0.coords t 1) 256 (by decide) j e := by
  have ht := (start_toInt t).2
  unfold part lane
  blk_ext [iblk, V, windows t]

theorem read_k_here (t : Fin cfg0.N) (r : Fin 1024) (j : Fin 4096) (e : Fin 256) (h : j.val = 1024 * (grid0.coords t 2).val + r.val) :
    iblk m c 2 t (ix4 0 0 r e) = part (B := 12) (D := 1) (n := 4096) (m ((c : Thread nD τ).loc main_arg0)) (grid0.coords t 0) (grid0.coords t 1) 256 (by decide) j e := by
  have ht := (start_toInt t).2
  unfold part lane
  blk_ext [iblk, V, windows t]

theorem read_k_next (t : Fin cfg0.N) (r : Fin 64) (j : Fin 4096) (e : Fin 256) (h : j.val = 1024 * (grid0.coords t 2).val + 1024 + r.val) :
    iblk m c 3 t (ix4 0 0 r e) = part (B := 12) (D := 1) (n := 4096) (m ((c : Thread nD τ).loc main_arg0)) (grid0.coords t 0) (grid0.coords t 1) 256 (by decide) j e := by
  have ht := (start_toInt t).2
  unfold part lane
  blk_ext [iblk, V, windows t]

theorem read_v_past (t : Fin cfg0.N) (r : Fin 64) (j : Fin 4096) (e : Fin 256) (h : j.val + 64 = 1024 * (grid0.coords t 2).val + r.val) :
    iblk m c 4 t (ix4 0 0 r e) = part (B := 12) (D := 1) (n := 4096) (m ((c : Thread nD τ).loc main_arg0)) (grid0.coords t 0) (grid0.coords t 1) 512 (by decide) j e := by
  have ht := (start_toInt t).2
  unfold part lane
  blk_ext [iblk, V, windows t]

theorem read_v_here (t : Fin cfg0.N) (r : Fin 1024) (j : Fin 4096) (e : Fin 256) (h : j.val = 1024 * (grid0.coords t 2).val + r.val) :
    iblk m c 5 t (ix4 0 0 r e) = part (B := 12) (D := 1) (n := 4096) (m ((c : Thread nD τ).loc main_arg0)) (grid0.coords t 0) (grid0.coords t 1) 512 (by decide) j e := by
  have ht := (start_toInt t).2
  unfold part lane
  blk_ext [iblk, V, windows t]

theorem read_v_next (t : Fin cfg0.N) (r : Fin 64) (j : Fin 4096) (e : Fin 256) (h : j.val = 1024 * (grid0.coords t 2).val + 1024 + r.val) :
    iblk m c 6 t (ix4 0 0 r e) = part (B := 12) (D := 1) (n := 4096) (m ((c : Thread nD τ).loc main_arg0)) (grid0.coords t 0) (grid0.coords t 1) 512 (by decide) j e := by
  have ht := (start_toInt t).2
  unfold part lane
  blk_ext [iblk, V, windows t]

theorem array_out : (dats m 0 c).arrAt 7 cfg0.N = attOut (B := 12) (D := 1) (n := 4096) (m ((c : Thread nD τ).loc main_arg0)) := by
  refine (dats m 0 c).arrAt_eq_of_covers 7 _ (by decide +kernel) fun t hf y => ?_
  blk_simp
  rw [after0_7]
  idx_vars y
  refine (out_step c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ _ _ _ _ _ (start_toInt t).2
    (read_q m c t) (read_k_past m c t) (read_k_here m c t) (read_k_next m c t)
    (read_v_past m c t) (read_v_here m c t) (read_v_next m c t) (start_toInt t).1 _ _ _ _).trans ?_
  have he : ((View.whole main_v0_0).slice (win0_7.rect t)).emb (ix4 y0 y1 y2 y3)
      = ix4 (grid0.coords t 0) (grid0.coords t 1) (place (start_toInt t).2 y2) y3 := by
    unfold place
    blk_ext [windows t]
  rw [he]
  rfl

theorem array_lse : (dats m 0 c).arrAt 8 cfg0.N = attLse (B := 12) (D := 1) (n := 4096) (m ((c : Thread nD τ).loc main_arg0)) := by
  refine (dats m 0 c).arrAt_eq_of_covers 8 _ (by decide +kernel) fun t hf y => ?_
  blk_simp
  rw [after0_8]
  idx_vars y
  refine (lse_step c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ _ _ _ _ _ (start_toInt t).2
    (read_q m c t) (read_k_past m c t) (read_k_here m c t) (read_k_next m c t)
    (start_toInt t).1 _ _ _ _).trans ?_
  have he : ((View.whole main_v0_1).slice (win0_8.rect t)).emb (ix4 y0 y1 y2 y3)
      = ix4 (grid0.coords t 0) (grid0.coords t 1) (place (start_toInt t).2 y2) y3 := by
    unfold place
    blk_ext [windows t]
  rw [he]
  rfl

end

end Cert.Kernel1Ideal.Gen

end
-- ==== Proof.Attn1.Reference.lean ====
module

public import proofs.«01_k».proof.Proof.Gen.Reference1Ideal
public import proofs.«01_k».proof.Proof.Gen.Reference1Ideal.Read
public import proofs.«01_k».proof.Proof.Attn.Whole
public import proofs.«01_k».proof.Proof.Attn.Piece
public import Idealize.ShloMosaic.Lib.Pipeline.ValueKit
public import Idealize.ShloMosaic.Lib.Pointwise

@[expose] public section

set_option maxRecDepth 16384

/-!
# What the reference computes

The stages of the reference read at an index, up to its two results.
-/

noncomputable section

namespace Cert.Reference1Ideal.Read

open Attn Cert.Reference1Ideal.Gen
open Idealize.ShloMosaic Idealize.ShloMosaic.TcCoe Idealize.ShloMosaic.Tactic

variable (x : (⟨S12x1x4096x768, .f32⟩ : BufTy).Contents (Elt Ideal))
variable (b : Fin 12) (d : Fin 1) (i j : Fin 4096) (L : Fin 256) (e : Fin 64)

theorem headNo_lt : L.val / 64 < 4 := by omega
/-- The head of a lane. -/
def headNo : Fin 4 := ⟨L.val / 64, headNo_lt L⟩
/-- The place of a lane in its head. -/
def inHead : Fin 64 := ⟨L.val % 64, Nat.mod_lt _ (by decide)⟩

theorem q_at : val_main_v1 (F := Ideal) x (ix5 b d i (headNo L) e) = part (B := 12) (D := 1) (n := 4096) x b d 0 (by decide) i (headLane L e) := by
  rw [val_main_v1_apply, val_main_v0_apply]
  unfold part lane headLane headNo
  blk_ext []

theorem k_at : val_main_v3 (F := Ideal) x (ix5 b d i (headNo L) e) = part (B := 12) (D := 1) (n := 4096) x b d 256 (by decide) i (headLane L e) := by
  rw [val_main_v3_apply, val_main_v2_apply]
  unfold part lane headLane headNo
  blk_ext []

theorem v_at : val_main_v5 (F := Ideal) x (ix5 b d i (headNo L) (inHead L)) = part (B := 12) (D := 1) (n := 4096) x b d 512 (by decide) i L := by
  rw [val_main_v5_apply, val_main_v4_apply]
  unfold part lane headNo inHead
  blk_ext []

theorem logit_at : val_main_v6 (F := Ideal) x (ix5 b d (headNo L) i j)
    = posLogit (part (B := 12) (D := 1) (n := 4096) x b d 0 (by decide)) (part (B := 12) (D := 1) (n := 4096) x b d 256 (by decide)) i L j := by
  rw [val_main_v6_apply]
  refine Finset.sum_congr rfl fun e _ => ?_
  rw [← q_at, ← k_at]
  congr 1 <;> exact congrArg _ (by blk_ext [])

theorem mask_at : val_main_v15 (F := Ideal) (ix2 i j) = 1 ↔ near i j := by
  have hi := i.isLt; have hj := j.isLt
  rw [val_main_v15_apply, val_main_v13_apply, val_main_v12_apply, val_main_v10_apply, val_main_v11_apply, val_main_v14_apply,
    val_main_v8_apply, val_main_v9_apply, val_main_v7_apply, val_main_v7_apply, val_main_c_apply]
  show BitVec.ofBool (BitVec.sle (IntOp.absi (IntOp.subi (BitVec.ofNat 32 j.val) (BitVec.ofNat 32 i.val))) 64#32) = 1 ↔ _
  rw [bool_one, BitVec.sle_eq_decide, decide_eq_true_iff,
    toInt_abs _ (toInt_sub _ _ (WordArith.toInt_ofNat_small j.val (by omega)) (WordArith.toInt_ofNat_small i.val (by omega))
      (by omega) (by omega)) (by omega)]
  show |(j.val : ℤ) - i.val| ≤ 64 ↔ _
  unfold near
  rw [abs_le]
  omega

theorem pick {M : Prop} [Decidable M] {w : BitVec 1} (h : w = 1 ↔ M) (u v : EReal) : Scalar.select w u v = if M then u else v := by
  unfold Scalar.select
  by_cases hm : M
  · rw [if_pos hm, if_pos (h.2 hm)]
  · rw [if_neg hm, if_neg (mt h.1 hm)]

theorem masked_at : val_main_v16 (F := Ideal) x (ix5 b d (headNo L) i j)
    = logit (near i) (posLogit (part (B := 12) (D := 1) (n := 4096) x b d 0 (by decide)) (part (B := 12) (D := 1) (n := 4096) x b d 256 (by decide)) i L) j := by
  rw [val_main_v16_apply, logit_at, val_main_call0_v1_apply, val_main_call0_v2_apply]
  exact pick ((iff_of_eq (by congr 2; blk_ext [])).trans (mask_at i j)) _ _

theorem top_at : val_main_v17 (F := Ideal) x (ix4 b d (headNo L) i)
    = top (near i) (posLogit (part (B := 12) (D := 1) (n := 4096) x b d 0 (by decide)) (part (B := 12) (D := 1) (n := 4096) x b d 256 (by decide)) i L) := by
  pointwise [val_main_v17]
  unfold top
  congr 1
  funext j
  refine Eq.trans (congrArg (val_main_v16 (F := Ideal) x) ?_) (masked_at x b d i j L)
  blk_ext []

theorem weight_at : val_main_v22 (F := Ideal) x (ix5 b d (headNo L) i j)
    = weight (near i) (posLogit (part (B := 12) (D := 1) (n := 4096) x b d 0 (by decide)) (part (B := 12) (D := 1) (n := 4096) x b d 256 (by decide)) i L) j := by
  rw [val_main_v22_apply, val_main_call1_v1_apply, val_main_call1_v2_apply, val_main_v21_apply, val_main_v20_apply, masked_at,
    val_main_v19_apply, val_main_v18_apply]
  refine (pick ((iff_of_eq (by congr 2; blk_ext [])).trans (mask_at i j)) _ _).trans ?_
  unfold weight
  rw [← top_at]
  have h0 : val_main_call1_v0 (F := Ideal) (idx_main_call1_v2 (ix5 b d (headNo L) i j)) = 0 := Ideal.ofBits_zero_f32
  rw [h0]
  exact if_congr Iff.rfl (congrArg Ideal.exp (congrArg _ (congrArg (val_main_v17 (F := Ideal) x) (by blk_ext [])))) rfl

theorem den_at : val_main_v26 (F := Ideal) x (ix5 b d (headNo L) i 0)
    = den (near i) (posLogit (part (B := 12) (D := 1) (n := 4096) x b d 0 (by decide)) (part (B := 12) (D := 1) (n := 4096) x b d 256 (by decide)) i L) := by
  rw [val_main_v26_apply, val_main_v24_apply, val_main_v23_apply, val_main_v25_apply]
  have h0 : val_main_cst_2 (F := Ideal) (Shape.Idx.first h_S_) = 0 := Ideal.ofBits_zero_f32
  rw [h0, zero_add]
  unfold den
  refine congrArg₂ max (Finset.sum_congr rfl fun j _ => ?_) rfl
  rw [← weight_at]
  exact congrArg (val_main_v22 (F := Ideal) x) (by blk_ext [])

theorem quot_at : val_main_v28 (F := Ideal) x (ix5 b d (headNo L) i j)
    = Ideal.div (weight (near i) (posLogit (part (B := 12) (D := 1) (n := 4096) x b d 0 (by decide)) (part (B := 12) (D := 1) (n := 4096) x b d 256 (by decide)) i L) j) (den (near i) (posLogit (part (B := 12) (D := 1) (n := 4096) x b d 0 (by decide)) (part (B := 12) (D := 1) (n := 4096) x b d 256 (by decide)) i L)) := by
  rw [val_main_v28_apply, val_main_v27_apply, ← weight_at, ← den_at]
  exact congrArg (Ideal.div _) (congrArg (val_main_v26 (F := Ideal) x) (by blk_ext []))

theorem out_at : val_main_v37 (F := Ideal) x (ix4 b d i L)
    = attOut (B := 12) (D := 1) (n := 4096) x (ix4 b d i L) := by
  have hv : idx_main_v30 (idx_main_v37 (ix4 b d i L)) = ix5 b d (headNo L) (inHead L) i := by
    unfold headNo inHead
    blk_ext []
  rw [val_main_v37_apply, val_main_v30_apply, hv, val_main_v29_apply]
  show _ = posOut _ _ _ i L
  unfold posOut outDivSum
  refine Finset.sum_congr rfl fun j _ => congrArg₂ (· * ·) ?_ ?_
  · show _ = part x b d 512 _ j L
    rw [← v_at]
    exact congrArg (val_main_v5 (F := Ideal) x) (by blk_ext [])
  · show _ = Ideal.div (weight _ (posLogit (part x b d 0 _) (part x b d 256 _) i L) j) (den _ (posLogit (part x b d 0 _) (part x b d 256 _) i L))
    rw [← quot_at]
    exact congrArg (val_main_v28 (F := Ideal) x) (by blk_ext [])

theorem lse_at : val_main_v38 (F := Ideal) x (ix4 b d i L)
    = attLse (B := 12) (D := 1) (n := 4096) x (ix4 b d i L) := by
  have hu : idx_main_v38 (ix4 b d i L) = ix5 b d i (headNo L) (inHead L) := by
    unfold headNo inHead
    blk_ext []
  have hv : idx_main_v33 (idx_main_v34 (idx_main_v35 (idx_main_v36 (ix5 b d i (headNo L) (inHead L))))) = ix5 b d (headNo L) i 0 := by
    unfold headNo inHead
    blk_ext []
  have ht : idx_main_v18 (ix5 b d (headNo L) i 0) = ix4 b d (headNo L) i := by blk_ext []
  rw [val_main_v38_apply, hu, val_main_v36_apply, val_main_v35_apply, val_main_v34_apply, val_main_v33_apply, hv, val_main_v32_apply,
    val_main_v31_apply, den_at, val_main_v18_apply, ht, top_at]
  rfl

theorem value_out : val_main_v37 (F := Ideal) x = attOut (B := 12) (D := 1) (n := 4096) x := by
  funext y
  idx_vars y
  exact out_at x y0 y1 y2 y3

theorem value_lse : val_main_v38 (F := Ideal) x = attLse (B := 12) (D := 1) (n := 4096) x := by
  funext y
  idx_vars y
  exact lse_at x y0 y1 y2 y3

end Cert.Reference1Ideal.Read

end
-- ==== Proof.Attn1.Equation.lean ====
module

public import proofs.«01_k».proof.Defs
public import proofs.«01_k».proof.Proof.Attn1.Array
public import proofs.«01_k».proof.Proof.Attn1.Reference
public import proofs.«01_k».proof.Proof.Gen.Kernel1Ideal.Value
public import proofs.«01_k».proof.Proof.Gen.Reference1Ideal.Run

@[expose] public section

/-!
# The kernel at dilation 1 computes the reference's attention
-/

noncomputable section

namespace Cert.Proof.Attn1

open Idealize.ShloMosaic Idealize.ShloMosaic.TcCoe Idealize.SL.Sem

/-- The kernel's run: its two results and its argument. -/
theorem kernel_run (m : (ℓ : Loc Kernel1Ideal.nD Kernel1Ideal.τ Kernel1Ideal.sig) → Buf (Elt Ideal) ℓ)
    (g : Dev Kernel1Ideal.nD → PrngReg) :
    θ_run (Kernel1Ideal.defs (F := Ideal)) (onTc (τ := Kernel1Ideal.τ) (Kernel1Ideal.main (F := Ideal))) ⟨m, fun _ => 0, g⟩ (fun r =>
      ∀ c : Dev Kernel1Ideal.nD,
        r.2.mem ((c.tc : Thread Kernel1Ideal.nD Kernel1Ideal.τ).loc Kernel1Ideal.main_v0_0)
            = _root_.Attn.attOut (m ((c.tc : Thread Kernel1Ideal.nD Kernel1Ideal.τ).loc Kernel1Ideal.main_arg0))
          ∧ r.2.mem ((c.tc : Thread Kernel1Ideal.nD Kernel1Ideal.τ).loc Kernel1Ideal.main_v0_1)
            = _root_.Attn.attLse (m ((c.tc : Thread Kernel1Ideal.nD Kernel1Ideal.τ).loc Kernel1Ideal.main_arg0))
          ∧ r.2.mem ((c.tc : Thread Kernel1Ideal.nD Kernel1Ideal.τ).loc Kernel1Ideal.main_arg0)
            = m ((c.tc : Thread Kernel1Ideal.nD Kernel1Ideal.τ).loc Kernel1Ideal.main_arg0)) :=
  (θ_run _ _ _).mono (fun r h c => ⟨(h c).1.trans (Kernel1Ideal.Gen.array_out m c), (h c).2.1.trans (Kernel1Ideal.Gen.array_lse m c), (h c).2.2⟩)
    (Kernel1Ideal.Value.run_blocks m g)

/-- The reference's run: the same two results, of its own argument. -/
theorem reference_run (m : (ℓ : Loc Reference1Ideal.nD Reference1Ideal.τ Reference1Ideal.sig) → Buf (Elt Ideal) ℓ)
    (g : Dev Reference1Ideal.nD → PrngReg) :
    θ_run (Reference1Ideal.defs (F := Ideal)) (onTc (τ := Reference1Ideal.τ) (Reference1Ideal.main (F := Ideal))) ⟨m, fun _ => 0, g⟩ (fun r =>
      ∀ c : Dev Reference1Ideal.nD,
        r.2.mem ((c.tc : Thread Reference1Ideal.nD Reference1Ideal.τ).loc Reference1Ideal.main_v37)
            = _root_.Attn.attOut (m ((c.tc : Thread Reference1Ideal.nD Reference1Ideal.τ).loc Reference1Ideal.main_arg0))
          ∧ r.2.mem ((c.tc : Thread Reference1Ideal.nD Reference1Ideal.τ).loc Reference1Ideal.main_v38)
            = _root_.Attn.attLse (m ((c.tc : Thread Reference1Ideal.nD Reference1Ideal.τ).loc Reference1Ideal.main_arg0))
          ∧ r.2.mem ((c.tc : Thread Reference1Ideal.nD Reference1Ideal.τ).loc Reference1Ideal.main_arg0)
            = m ((c.tc : Thread Reference1Ideal.nD Reference1Ideal.τ).loc Reference1Ideal.main_arg0)) :=
  (θ_run _ _ _).mono (fun r h c => ⟨(h c).1.trans ((Reference1Ideal.Read.val_main_v37_eq m c).trans (Reference1Ideal.Read.value_out _)),
      (h c).2.1.trans ((Reference1Ideal.Read.val_main_v38_eq m c).trans (Reference1Ideal.Read.value_lse _)), (h c).2.2⟩)
    (Reference1Ideal.Value.run m g)

theorem algebraic : Cert.algebraic_Kernel1Ideal_Reference1Ideal := by
  intro m g m' g' _ hm
  refine ⟨_, _, kernel_run m g, ?_⟩
  refine (θ_run _ _ _).mono (fun r h c => ?_) (reference_run m' g')
  rw [← hm c]
  exact h c

end Cert.Proof.Attn1

end
-- ==== Proof.Attn4.Trip.lean ====
module

public import proofs.«01_k».proof.Proof.Gen.Kernel4Ideal.Value
public import proofs.«01_k».proof.Proof.Attn.Piece
public import Idealize.ShloMosaic.Lib.Pipeline.ReadBack

@[expose] public section

set_option maxRecDepth 16384

/-!
# One trip of the loop over the queries

A trip handles four blocks of 128 queries, each for two pairs of heads. Each of the eight pieces it stores into an output
is a part of one function of the row and the lane (`Attn.rowOut`, `Attn.rowLse`).
-/

noncomputable section

namespace Cert.Kernel4Ideal.Gen

open Attn
open Idealize.ShloMosaic Idealize.ShloMosaic.TcCoe Idealize.ShloMosaic.Tactic
open Idealize.SL Idealize.SL.Sem

/-- The first row of block `u` of trip `k`. -/
theorem tripRow : ∀ k : Fin k0_t1_loop.trips, ∀ u : Fin 4,
    Scalar.muli (Scalar.addi (Scalar.muli (Scf.iv 0#32 1#32 k) 4#32) (BitVec.ofNat 32 u.val)) 128#32
      = BitVec.ofNat 32 (512 * k.val + 128 * u.val) := by decide +kernel

theorem trips_lt (k : Fin k0_t1_loop.trips) : k.val < 2 := Nat.lt_of_lt_of_le k.isLt k0_t1_abs.2.1

/-- The position of the first key of the window of block `u` of trip `k`. -/
def tripBase (v0 : BitVec 32) (k : Fin k0_t1_loop.trips) (u : Fin 4) : BitVec 32 :=
  Scalar.subi (Scalar.addi v0 (Scalar.muli (Scalar.addi (Scalar.muli (Scf.iv 0#32 1#32 k) 4#32) (BitVec.ofNat 32 u.val)) 128#32)) 64#32

theorem tripBase_toInt {v0 : BitVec 32} {q0 : ℕ} (h0 : v0.toInt = q0) (hq : q0 < 2 ^ 19) (k : Fin k0_t1_loop.trips) (u : Fin 4) :
    (tripBase v0 k u).toInt = ((q0 + (512 * k.val + 128 * u.val) : ℕ) : ℤ) - 64 := by
  have hk := trips_lt k
  have hu := u.isLt
  unfold tripBase
  rw [tripRow]
  have hr := WordArith.toInt_ofNat_small (512 * k.val + 128 * u.val) (by omega)
  rw [show (((q0 + (512 * k.val + 128 * u.val) : ℕ) : ℤ) - 64) = ((q0 : ℤ) + ((512 * k.val + 128 * u.val : ℕ) : ℤ)) - 64 by omega]
  exact toInt_sub _ _ (toInt_add _ _ h0 hr (by omega) (by omega)) (by decide) (by omega) (by omega)

section
variable (𝒱 : Variants) (c : Dev nD) (bd : Option 𝒱.V) (i : grid0.Coords)
  (arg3 : Memref sig .tc .vmem S1x1x1024x256 .f32) (harg3 : arg3.IsWhole) (arg4 : Memref sig .tc .vmem S1x1x64x256 .f32) (harg4 : arg4.IsWhole)
  (arg5 : Memref sig .tc .vmem S1x1x1024x256 .f32) (harg5 : arg5.IsWhole) (arg6 : Memref sig .tc .vmem S1x1x64x256 .f32) (harg6 : arg6.IsWhole)
  (arg7 : Memref sig .tc .vmem S1x1x64x256 .f32) (harg7 : arg7.IsWhole) (arg8 : Memref sig .tc .vmem S1x1x1024x256 .f32) (harg8 : arg8.IsWhole)
  (arg9 : Memref sig .tc .vmem S1x1x64x256 .f32) (harg9 : arg9.IsWhole) (arg10 : Memref sig .tc .vmem S1x1x1024x256 .f32) (harg10 : arg10.IsWhole)
  (arg11 : Memref sig .tc .vmem S1x1x1024x256 .f32) (harg11 : arg11.IsWhole) (arg12 : Memref sig .tc .vmem S2x1024x256 .bf16) (harg12 : arg12.IsWhole)
  (arg13 : Memref sig .tc .vmem S1152x256 .bf16) (harg13 : arg13.IsWhole) (arg14 : Memref sig .tc .vmem S1152x256 .bf16) (harg14 : arg14.IsWhole)
  (v0 : BitVec 32) (c0_i32_6 : BitVec 32) (X12 : BufTy.Contents (Elt Ideal) arg12.view.ty) (X13 : BufTy.Contents (Elt Ideal) arg13.view.ty)
  (X14 : BufTy.Contents (Elt Ideal) arg14.view.ty)
  {q0 : ℕ} (h0 : v0.toInt = q0) (hq : q0 < 2 ^ 19) (k : Fin k0_t1_loop.trips)

abbrev gOut (q0 : ℕ) (y : S1x1x1024x256.Idx) : EReal :=
  rowOut 1024 q0 (arg12.view.read (Elt Ideal) X12) (arg13.view.read (Elt Ideal) X13) (arg14.view.read (Elt Ideal) X14) (y 2) (y 3)

abbrev gLse (q0 : ℕ) (y : S1x1x1024x256.Idx) : EReal :=
  rowLse 1024 q0 (arg12.view.read (Elt Ideal) X12) (arg13.view.read (Elt Ideal) X13) (y 2) (y 3)

/-- The block of 128 rows and 128 lanes that `off` names, of either output. -/
abbrev atOut {off : Fin 4 → ℕ} (h : ∀ a, off a + S1x1x128x128.size a ≤ S1x1x1024x256.size a) : Rect S1x1x1024x256 :=
  Rect.unit (s := S1x1x1024x256) off S1x1x128x128.size h

include h0 hq in
theorem out_lo (u : Fin 4) (x : S1x1x128x128.Idx) :
    outBlock lowOf (maskOf (tripBase v0 k u) 1023#32 colsOf bandOf)
      (View.ld (arg13.view.read (Elt Ideal) X13) (Rect.unit (s := S1152x256) (k0_off1 k (BitVec.ofNat 32 u.val)) S256x128.size (k0_off1_inb k u)))
      (View.ld (arg14.view.read (Elt Ideal) X14) (Rect.unit (s := S1152x256) (k0_off1 k (BitVec.ofNat 32 u.val)) S256x128.size (k0_off1_inb k u)))
      (View.ld (arg12.view.read (Elt Ideal) X12) (Rect.unit (s := S2x1024x256) (k0_off2 k (BitVec.ofNat 32 u.val)) S1x128x128.size (k0_off2_inb k u)))
      (View.ld (arg12.view.read (Elt Ideal) X12) (Rect.unit (s := S2x1024x256) (k0_off3 k (BitVec.ofNat 32 u.val)) S1x128x128.size (k0_off3_inb k u))) x
    = gOut arg12 arg13 arg14 X12 X13 X14 q0 ((atOut (k0_off4_inb k u)).emb x) :=
  have hk := trips_lt k
  have hu := u.isLt
  out_piece (N := 1024) (N' := 1152) (P := 1) (R0 := 512 * k.val + 128 * u.val) (L0 := 0) (p := 0) (by omega) (by omega) (by omega) (by omega)
    (by omega) lowOf_apply (maskOf_apply (tripBase_toInt h0 hq k u) (by decide) (by omega) (by omega))
    (k0_off1_eq k u) (k0_off2_eq k u) (k0_off3_eq k u) (k0_off4_eq k u) (k0_off1_inb k u) (k0_off2_inb k u) (k0_off3_inb k u) (k0_off4_inb k u) x

include h0 hq in
theorem out_hi (u : Fin 4) (x : S1x1x128x128.Idx) :
    outBlock lowOf (maskOf (tripBase v0 k u) 1023#32 colsOf bandOf)
      (View.ld (arg13.view.read (Elt Ideal) X13) (Rect.unit (s := S1152x256) (k0_off5 k (BitVec.ofNat 32 u.val)) S256x128.size (k0_off5_inb k u)))
      (View.ld (arg14.view.read (Elt Ideal) X14) (Rect.unit (s := S1152x256) (k0_off5 k (BitVec.ofNat 32 u.val)) S256x128.size (k0_off5_inb k u)))
      (View.ld (arg12.view.read (Elt Ideal) X12) (Rect.unit (s := S2x1024x256) (k0_off6 k (BitVec.ofNat 32 u.val)) S1x128x128.size (k0_off6_inb k u)))
      (View.ld (arg12.view.read (Elt Ideal) X12) (Rect.unit (s := S2x1024x256) (k0_off7 k (BitVec.ofNat 32 u.val)) S1x128x128.size (k0_off7_inb k u))) x
    = gOut arg12 arg13 arg14 X12 X13 X14 q0 ((atOut (k0_off8_inb k u)).emb x) :=
  have hk := trips_lt k
  have hu := u.isLt
  out_piece (N := 1024) (N' := 1152) (P := 1) (R0 := 512 * k.val + 128 * u.val) (L0 := 128) (p := 0) (by omega) (by omega) (by omega) (by omega)
    (by omega) lowOf_apply (maskOf_apply (tripBase_toInt h0 hq k u) (by decide) (by omega) (by omega))
    (k0_off5_eq k u) (k0_off6_eq k u) (k0_off7_eq k u) (k0_off8_eq k u) (k0_off5_inb k u) (k0_off6_inb k u) (k0_off7_inb k u) (k0_off8_inb k u) x

include h0 hq in
theorem lse_lo (u : Fin 4) (x : S1x1x128x128.Idx) :
    lseBlock lowOf (maskOf (tripBase v0 k u) 1023#32 colsOf bandOf)
      (View.ld (arg13.view.read (Elt Ideal) X13) (Rect.unit (s := S1152x256) (k0_off1 k (BitVec.ofNat 32 u.val)) S256x128.size (k0_off1_inb k u)))
      (View.ld (arg12.view.read (Elt Ideal) X12) (Rect.unit (s := S2x1024x256) (k0_off2 k (BitVec.ofNat 32 u.val)) S1x128x128.size (k0_off2_inb k u)))
      (View.ld (arg12.view.read (Elt Ideal) X12) (Rect.unit (s := S2x1024x256) (k0_off3 k (BitVec.ofNat 32 u.val)) S1x128x128.size (k0_off3_inb k u))) x
    = gLse arg12 arg13 X12 X13 q0 ((atOut (k0_off4_inb k u)).emb x) :=
  have hk := trips_lt k
  have hu := u.isLt
  lse_piece (N := 1024) (N' := 1152) (P := 1) (R0 := 512 * k.val + 128 * u.val) (L0 := 0) (p := 0) (by omega) (by omega) (by omega) (by omega)
    (by omega) lowOf_apply (maskOf_apply (tripBase_toInt h0 hq k u) (by decide) (by omega) (by omega))
    (k0_off1_eq k u) (k0_off2_eq k u) (k0_off3_eq k u) (k0_off4_eq k u) (k0_off1_inb k u) (k0_off2_inb k u) (k0_off3_inb k u) (k0_off4_inb k u) x

include h0 hq in
theorem lse_hi (u : Fin 4) (x : S1x1x128x128.Idx) :
    lseBlock lowOf (maskOf (tripBase v0 k u) 1023#32 colsOf bandOf)
      (View.ld (arg13.view.read (Elt Ideal) X13) (Rect.unit (s := S1152x256) (k0_off5 k (BitVec.ofNat 32 u.val)) S256x128.size (k0_off5_inb k u)))
      (View.ld (arg12.view.read (Elt Ideal) X12) (Rect.unit (s := S2x1024x256) (k0_off6 k (BitVec.ofNat 32 u.val)) S1x128x128.size (k0_off6_inb k u)))
      (View.ld (arg12.view.read (Elt Ideal) X12) (Rect.unit (s := S2x1024x256) (k0_off7 k (BitVec.ofNat 32 u.val)) S1x128x128.size (k0_off7_inb k u))) x
    = gLse arg12 arg13 X12 X13 q0 ((atOut (k0_off8_inb k u)).emb x) :=
  have hk := trips_lt k
  have hu := u.isLt
  lse_piece (N := 1024) (N' := 1152) (P := 1) (R0 := 512 * k.val + 128 * u.val) (L0 := 128) (p := 0) (by omega) (by omega) (by omega) (by omega)
    (by omega) lowOf_apply (maskOf_apply (tripBase_toInt h0 hq k u) (by decide) (by omega) (by omega))
    (k0_off5_eq k u) (k0_off6_eq k u) (k0_off7_eq k u) (k0_off8_eq k u) (k0_off5_inb k u) (k0_off6_inb k u) (k0_off7_inb k u) (k0_off8_inb k u) x

include h0 hq in
/-- Every piece a trip stores into the output is a part of `gOut`. -/
theorem trip_out : View.PiecesOf (gOut arg12 arg13 arg14 X12 X13 X14 q0) (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 v0 k0_pay114 colsOf k0_pay115 c0_i32_6 X12 X13 X14 k).1 := by
  have lo := out_lo arg12 arg13 arg14 v0 X12 X13 X14 h0 hq k
  have hi := out_hi arg12 arg13 arg14 v0 X12 X13 X14 h0 hq k
  unfold tripL_k0_t1 trip_k0_t1
  dsimp only
  exact ⟨hi 3, lo 3, hi 2, lo 2, hi 1, lo 1, hi 0, lo 0, trivial⟩

include h0 hq in
/-- Every piece a trip stores into the log-sum-exp is a part of `gLse`. -/
theorem trip_lse : View.PiecesOf (gLse arg12 arg13 X12 X13 q0) (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 v0 k0_pay114 colsOf k0_pay115 c0_i32_6 X12 X13 X14 k).2 := by
  have lo := lse_lo arg12 arg13 v0 X12 X13 h0 hq k
  have hi := lse_hi arg12 arg13 v0 X12 X13 h0 hq k
  unfold tripL_k0_t1 trip_k0_t1
  dsimp only
  exact ⟨hi 3, lo 3, hi 2, lo 2, hi 1, lo 1, hi 0, lo 0, trivial⟩

end

end Cert.Kernel4Ideal.Gen

end
-- ==== Proof.Attn4.Step.lean ====
module

public import proofs.«01_k».proof.Proof.Attn4.Trip
public import proofs.«01_k».proof.Proof.Attn.Fill

@[expose] public section

set_option maxRecDepth 16384

/-!
# One step of the grid

A step fills the scratch from its seven blocks and runs the two trips of the loop. What it leaves in the two output
blocks is, at every row and lane, the attention over the whole sequence, whenever the blocks are the parts of the
sequence's queries, keys and values that the step asks for.
-/

noncomputable section

namespace Cert.Kernel4Ideal.Gen

open Attn
open Idealize.ShloMosaic Idealize.ShloMosaic.TcCoe Idealize.ShloMosaic.Tactic
open Idealize.SL Idealize.SL.Sem

section
variable (𝒱 : Variants) (c : Dev nD) (bd : Option 𝒱.V) (i : grid0.Coords)
  (arg3 : Memref sig .tc .vmem S1x1x1024x256 .f32) (harg3 : arg3.IsWhole) (arg4 : Memref sig .tc .vmem S1x1x64x256 .f32) (harg4 : arg4.IsWhole)
  (arg5 : Memref sig .tc .vmem S1x1x1024x256 .f32) (harg5 : arg5.IsWhole) (arg6 : Memref sig .tc .vmem S1x1x64x256 .f32) (harg6 : arg6.IsWhole)
  (arg7 : Memref sig .tc .vmem S1x1x64x256 .f32) (harg7 : arg7.IsWhole) (arg8 : Memref sig .tc .vmem S1x1x1024x256 .f32) (harg8 : arg8.IsWhole)
  (arg9 : Memref sig .tc .vmem S1x1x64x256 .f32) (harg9 : arg9.IsWhole) (arg10 : Memref sig .tc .vmem S1x1x1024x256 .f32) (harg10 : arg10.IsWhole)
  (arg11 : Memref sig .tc .vmem S1x1x1024x256 .f32) (harg11 : arg11.IsWhole) (arg12 : Memref sig .tc .vmem S2x1024x256 .bf16) (harg12 : arg12.IsWhole)
  (arg13 : Memref sig .tc .vmem S1152x256 .bf16) (harg13 : arg13.IsWhole) (arg14 : Memref sig .tc .vmem S1152x256 .bf16) (harg14 : arg14.IsWhole)
  (v0 : BitVec 32) (c0_i32_6 : BitVec 32) (X12 : BufTy.Contents (Elt Ideal) arg12.view.ty) (X13 : BufTy.Contents (Elt Ideal) arg13.view.ty)
  (X14 : BufTy.Contents (Elt Ideal) arg14.view.ty)
  {q0 : ℕ} (h0 : v0.toInt = q0) (hq : q0 < 2 ^ 19)

include h0 hq in
theorem pieces_out : ∀ k ≤ k0_t1_loop.trips, View.PiecesOf (gOut arg12 arg13 arg14 X12 X13 X14 q0)
    (pb_k0_t1 (F := Ideal) 𝒱 c bd i arg3 harg3 arg4 harg4 arg5 harg5 arg6 harg6 arg7 harg7 arg8 harg8 arg9 harg9 arg10 harg10 arg11 harg11 arg12 harg12 arg13 harg13 arg14 harg14 v0 k0_pay114 colsOf k0_pay115 c0_i32_6 X12 X13 X14 k).1
  | 0, _ => trivial
  | k + 1, hk => by
    rw [pb_k0_t1_succ _ _ _ _ _ _ _ _ _ _ _ _ _ _ _ _ _ _ _ _ _ _ _ _ _ _ _ _ _ _ _ _ _ _ _ _ ⟨k, hk⟩]
    exact piecesOf_append (trip_out (h0 := h0) (hq := hq) ..) (pieces_out k (by omega))

include h0 hq in
theorem pieces_lse : ∀ k ≤ k0_t1_loop.trips, View.PiecesOf (gLse arg12 arg13 X12 X13 q0)
    (pb_k0_t1 (F := Ideal) 𝒱 c bd i arg3 harg3 arg4 harg4 arg5 harg5 arg6 harg6 arg7 harg7 arg8 harg8 arg9 harg9 arg10 harg10 arg11 harg11 arg12 harg12 arg13 harg13 arg14 harg14 v0 k0_pay114 colsOf k0_pay115 c0_i32_6 X12 X13 X14 k).2
  | 0, _ => trivial
  | k + 1, hk => by
    rw [pb_k0_t1_succ _ _ _ _ _ _ _ _ _ _ _ _ _ _ _ _ _ _ _ _ _ _ _ _ _ _ _ _ _ _ _ _ _ _ _ _ ⟨k, hk⟩]
    exact piecesOf_append (trip_lse (h0 := h0) (hq := hq) ..) (pieces_lse k (by omega))

end

/-! ## The scratch -/

theorem lanes_apply (R : Fin 1024) (e : Fin 256) : k0_pay113 (ix2 R e) = 1 ↔ e.val % 128 < 64 := by
  pointwise [k0_pay113]
  revert e
  decide +kernel

theorem fillEven_apply (x : Vec Ideal S1x1x1024x256 .f32) (R : Fin 1024) (e : Fin 256) :
    k0_pay118 (k0_pay117 x) (ix3 0 R e) = if half e = 0 then x (ix4 0 0 R e) else 0 := by
  pointwise [k0_pay118, k0_pay117, k0_pay116]
  unfold half
  by_cases h : e.val % 128 < 64
  · simp [h, (lanes_apply R e).2 h, Scalar.select]
  · have : k0_pay113 (ix2 R e) ≠ 1 := fun h' => h ((lanes_apply R e).1 h')
    simp only [Scalar.select, if_neg this, if_neg h]
    simp

theorem fillOdd_apply (x : Vec Ideal S1x1x1024x256 .f32) (R : Fin 1024) (e : Fin 256) :
    k0_pay119 k0_pay113 (k0_pay116 x) (ix3 0 R e) = if half e = 1 then x (ix4 0 0 R e) else 0 := by
  pointwise [k0_pay119, k0_pay116]
  unfold half
  by_cases h : e.val % 128 < 64
  · simp [h, (lanes_apply R e).2 h, Scalar.select]
  · have : k0_pay113 (ix2 R e) ≠ 1 := fun h' => h ((lanes_apply R e).1 h')
    simp only [Scalar.select, if_neg this, if_neg h]
    simp

theorem fillPrev_apply (x : Vec Ideal S1x1x64x256 .f32) (r : Fin 64) (e : Fin 256) : k0_pay120 x (ix2 r e) = x (ix4 0 0 r e) := by
  pointwise [k0_pay120]

theorem fillOwn_apply (x : Vec Ideal S1x1x1024x256 .f32) (r : Fin 1024) (e : Fin 256) : k0_pay121 x (ix2 r e) = x (ix4 0 0 r e) := by
  pointwise [k0_pay121]

section
variable (c : Dev nD) (i : grid0.Coords)
  (arg3 : Memref sig .tc .vmem S1x1x1024x256 .f32) (harg3 : arg3.IsWhole) (arg4 : Memref sig .tc .vmem S1x1x64x256 .f32) (harg4 : arg4.IsWhole)
  (arg5 : Memref sig .tc .vmem S1x1x1024x256 .f32) (harg5 : arg5.IsWhole) (arg6 : Memref sig .tc .vmem S1x1x64x256 .f32) (harg6 : arg6.IsWhole)
  (arg7 : Memref sig .tc .vmem S1x1x64x256 .f32) (harg7 : arg7.IsWhole) (arg8 : Memref sig .tc .vmem S1x1x1024x256 .f32) (harg8 : arg8.IsWhole)
  (arg9 : Memref sig .tc .vmem S1x1x64x256 .f32) (harg9 : arg9.IsWhole) (arg10 : Memref sig .tc .vmem S1x1x1024x256 .f32) (harg10 : arg10.IsWhole)
  (arg11 : Memref sig .tc .vmem S1x1x1024x256 .f32) (harg11 : arg11.IsWhole) (arg12 : Memref sig .tc .vmem S2x1024x256 .bf16) (harg12 : arg12.IsWhole)
  (arg13 : Memref sig .tc .vmem S1152x256 .bf16) (harg13 : arg13.IsWhole) (arg14 : Memref sig .tc .vmem S1152x256 .bf16) (harg14 : arg14.IsWhole)
  (x0 x2 x5 : Vec Ideal S1x1x1024x256 .f32) (x1 x3 x4 x6 : Vec Ideal S1x1x64x256 .f32)
  {aq ak av : Fin 1024 → Fin 256 → EReal} {q0 : ℕ} (hq : q0 + 1024 ≤ 1024)
  (hx0 : ∀ (r : Fin 1024) (j : Fin 1024) (e : Fin 256), j.val = q0 + r → x0 (ix4 0 0 r e) = aq j e)
  (hx1 : ∀ (r : Fin 64) (j : Fin 1024) (e : Fin 256), j.val + 64 = q0 + r → x1 (ix4 0 0 r e) = ak j e)
  (hx2 : ∀ (r : Fin 1024) (j : Fin 1024) (e : Fin 256), j.val = q0 + r → x2 (ix4 0 0 r e) = ak j e)
  (hx3 : ∀ (r : Fin 64) (j : Fin 1024) (e : Fin 256), j.val = q0 + 1024 + r → x3 (ix4 0 0 r e) = ak j e)
  (hx4 : ∀ (r : Fin 64) (j : Fin 1024) (e : Fin 256), j.val + 64 = q0 + r → x4 (ix4 0 0 r e) = av j e)
  (hx5 : ∀ (r : Fin 1024) (j : Fin 1024) (e : Fin 256), j.val = q0 + r → x5 (ix4 0 0 r e) = av j e)
  (hx6 : ∀ (r : Fin 64) (j : Fin 1024) (e : Fin 256), j.val = q0 + 1024 + r → x6 (ix4 0 0 r e) = av j e)

/-- The queries' scratch after its two stores. -/
abbrev scrQ : BufTy.Contents (Elt Ideal) arg12.view.ty :=
  arg12.view.writes (Elt Ideal) arg12.view.junk
    [⟨Rect.unit (s := S2x1024x256) ![1, 0, 0] S1x1024x256.size inb_S2x1024x256_S1x1024x256_1_0_0, k0_pay119 k0_pay113 (k0_pay116 x0)⟩,
     ⟨Rect.unit (s := S2x1024x256) ![0, 0, 0] S1x1024x256.size inb_S2x1024x256_S1x1024x256_0_0_0, k0_pay118 (k0_pay117 x0)⟩]

/-- The keys' (or the values') scratch after its three stores. -/
abbrev scrK (arg : Memref sig .tc .vmem S1152x256 .bf16) (a c : Vec Ideal S1x1x64x256 .f32) (b : Vec Ideal S1x1x1024x256 .f32) :
    BufTy.Contents (Elt Ideal) arg.view.ty :=
  arg.view.writes (Elt Ideal) arg.view.junk
    [⟨Rect.unit (s := S1152x256) ![1088, 0] S64x256.size inb_S1152x256_S64x256_1088_0, k0_pay120 c⟩,
     ⟨Rect.unit (s := S1152x256) ![64, 0] S1024x256.size inb_S1152x256_S1024x256_64_0, k0_pay121 b⟩,
     ⟨Rect.unit (s := S1152x256) ![0, 0] S64x256.size inb_S1152x256_S64x256_0_0, k0_pay120 a⟩]

include hx0 in
theorem scrQ_apply (h : Fin 2) (R : Fin 1024) (e : Fin 256) :
    arg12.view.read (Elt Ideal) (scrQ arg12 x0) (ix3 h R e) = if half e = h then aq (place hq R) e else 0 := by
  rw [scrQ]
  refine (read_two arg12.view _ _ _ _ _ h R e).trans ?_
  rw [← hx0 R (place hq R) e rfl]
  by_cases hh : h = 0
  · subst hh; rw [if_pos rfl, fillEven_apply]
  · have h1 : h = 1 := by omega
    subst h1; rw [if_neg hh, fillOdd_apply]

theorem scrK_apply (arg : Memref sig .tc .vmem S1152x256 .bf16) (a c : Vec Ideal S1x1x64x256 .f32) (b : Vec Ideal S1x1x1024x256 .f32)
    {ak : Fin 1024 → Fin 256 → EReal}
    (ha : ∀ (r : Fin 64) (j : Fin 1024) (e : Fin 256), j.val + 64 = q0 + r → a (ix4 0 0 r e) = ak j e)
    (hb : ∀ (r : Fin 1024) (j : Fin 1024) (e : Fin 256), j.val = q0 + r → b (ix4 0 0 r e) = ak j e)
    (hc : ∀ (r : Fin 64) (j : Fin 1024) (e : Fin 256), j.val = q0 + 1024 + r → c (ix4 0 0 r e) = ak j e)
    (r : Fin 1152) (j : Fin 1024) (e : Fin 256) (hj : q0 + r.val = j.val + 64) :
    arg.view.read (Elt Ideal) (scrK arg a c b) (ix2 r e) = ak j e := by
  rw [scrK]
  refine read_three (N := 1024) arg.view _ rfl _ _ _ _ _ _ rfl r e _ (fun h => ?_) (fun h h' => ?_) (fun h h' => ?_)
  · rw [fillPrev_apply]; exact ha _ j e (by show j.val + 64 = q0 + r.val; omega)
  · rw [fillOwn_apply]; exact hb _ j e (by show j.val = q0 + (r.val - 64); omega)
  · rw [fillPrev_apply]; exact hc _ j e (by show j.val = q0 + 1024 + (r.val - 1088); omega)

variable (h0 : (Scalar.muli (BitVec.ofNat 32 (i 2).val) 1024#32).toInt = q0)

theorem load_own (x : Vec Ideal S1x1x1024x256 .f32) (h) :
    View.ld x (Rect.unit (s := S1x1x1024x256) ![0, 0, 0, 0] ![1, 1, 1024, 256] h) = x := View.ld_unit_zero (by decide) h x

theorem load_halo (x : Vec Ideal S1x1x64x256 .f32) (h) :
    View.ld x (Rect.unit (s := S1x1x64x256) ![0, 0, 0, 0] ![1, 1, 64, 256] h) = x := View.ld_unit_zero (by decide) h x

theorem fill_next (x : Vec Ideal S1x1x64x256 .f32) : k0_pay122 x = k0_pay120 x := rfl
theorem fill_own' (x : Vec Ideal S1x1x1024x256 .f32) : k0_pay2 x = k0_pay121 x := rfl
theorem fill_prev' (x : Vec Ideal S1x1x64x256 .f32) : k0_pay1 (k0_pay123 x) = k0_pay120 x := rfl
theorem fill_next' (x : Vec Ideal S1x1x64x256 .f32) : k0_pay3 x = k0_pay120 x := rfl

/-- The pieces of a step are the pieces of the loop, over the filled scratch. -/
theorem run_pieces : ((kernelRun0_A (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6).1, (kernelRun0_A (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6).2.1)
    = pb_k0_t1 (F := Ideal) Variants.none c none i arg3 harg3 arg4 harg4 arg5 harg5 arg6 harg6 arg7 harg7 arg8 harg8 arg9 harg9 arg10 harg10 arg11 harg11
    arg12 harg12 arg13 harg13 arg14 harg14 (Scalar.muli (BitVec.ofNat 32 (i 2).val) 1024#32) k0_pay114 colsOf k0_pay115 0#32
    (scrQ arg12 x0) (scrK arg13 x1 x3 x2) (scrK arg14 x4 x6 x5) k0_t1_loop.trips := by
  unfold kernelRun0_A
  dsimp only
  sl_unfold_words
  simp only [View.readAt_eq_ld, Memref.IsWhole.read_unread, load_own, load_halo, fill_next, fill_own', fill_prev', fill_next']
  rfl

include h0 hq in
theorem out_scr (y : S1x1x1024x256.Idx) : out0_A_7 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6 y
    = gOut arg12 arg13 arg14 (scrQ arg12 x0) (scrK arg13 x1 x3 x2) (scrK arg14 x4 x6 x5) q0 y := by
  unfold out0_A_7
  refine View.read_writes_apply_of_pieces _ _ _ _ (View.PiecesOf.mem ?_) y (cover0_A_7 c i arg3 harg3 arg4 harg4 arg5 harg5 arg6 harg6 arg7 harg7 arg8 harg8 arg9 harg9 arg10 harg10 arg11 harg11 arg12 harg12 arg13 harg13 arg14 harg14 x0 x1 x2 x3 x4 x5 x6 y)
  have hp := pieces_out Variants.none c none i arg3 harg3 arg4 harg4 arg5 harg5 arg6 harg6 arg7 harg7 arg8 harg8 arg9 harg9 arg10 harg10 arg11 harg11
    arg12 harg12 arg13 harg13 arg14 harg14 (Scalar.muli (BitVec.ofNat 32 (i 2).val) 1024#32) 0#32
    (scrQ arg12 x0) (scrK arg13 x1 x3 x2) (scrK arg14 x4 x6 x5) h0 (by omega) k0_t1_loop.trips le_rfl
  rw [← run_pieces] at hp
  exact hp

include h0 hq in
theorem lse_scr (y : S1x1x1024x256.Idx) : out0_A_8 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6 y
    = gLse arg12 arg13 (scrQ arg12 x0) (scrK arg13 x1 x3 x2) q0 y := by
  unfold out0_A_8
  refine View.read_writes_apply_of_pieces _ _ _ _ (View.PiecesOf.mem ?_) y (cover0_A_8 c i arg3 harg3 arg4 harg4 arg5 harg5 arg6 harg6 arg7 harg7 arg8 harg8 arg9 harg9 arg10 harg10 arg11 harg11 arg12 harg12 arg13 harg13 arg14 harg14 x0 x1 x2 x3 x4 x5 x6 y)
  have hp := pieces_lse Variants.none c none i arg3 harg3 arg4 harg4 arg5 harg5 arg6 harg6 arg7 harg7 arg8 harg8 arg9 harg9 arg10 harg10 arg11 harg11
    arg12 harg12 arg13 harg13 arg14 harg14 (Scalar.muli (BitVec.ofNat 32 (i 2).val) 1024#32) 0#32
    (scrQ arg12 x0) (scrK arg13 x1 x3 x2) (scrK arg14 x4 x6 x5) h0 (by omega) k0_t1_loop.trips le_rfl
  rw [← run_pieces] at hp
  exact hp

include h0 hq hx0 hx1 hx2 hx3 hx4 hx5 hx6 in
/-- The output block of a step, at a row and a lane. -/
theorem out_step (a b : Fin 1) (R : Fin 1024) (L : Fin 256) : out0_A_7 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6 (ix4 a b R L)
    = posOut aq ak av (place hq R) L :=
  (out_scr c i arg3 harg3 arg4 harg4 arg5 harg5 arg6 harg6 arg7 harg7 arg8 harg8 arg9 harg9 arg10 harg10 arg11 harg11 arg12 harg12 arg13 harg13 arg14 harg14 x0 x2 x5 x1 x3 x4 x6 hq h0 _).trans
    (rowOut_eq (N := 1024) (N' := 1152) rfl (by decide) (by decide) hq (scrQ_apply arg12 x0 hq hx0) (scrK_apply arg13 x1 x3 x2 hx1 hx2 hx3)
      (scrK_apply arg14 x4 x6 x5 hx4 hx5 hx6) R L)

include h0 hq hx0 hx1 hx2 hx3 in
/-- The log-sum-exp block of a step, at a row and a lane. -/
theorem lse_step (a b : Fin 1) (R : Fin 1024) (L : Fin 256) : out0_A_8 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6 (ix4 a b R L)
    = posLse aq ak (place hq R) L :=
  (lse_scr c i arg3 harg3 arg4 harg4 arg5 harg5 arg6 harg6 arg7 harg7 arg8 harg8 arg9 harg9 arg10 harg10 arg11 harg11 arg12 harg12 arg13 harg13 arg14 harg14 x0 x2 x5 x1 x3 x4 x6 hq h0 _).trans
    (rowLse_eq (N := 1024) (N' := 1152) rfl (by decide) (by decide) hq (scrQ_apply arg12 x0 hq hx0) (scrK_apply arg13 x1 x3 x2 hx1 hx2 hx3) R L)

end

end Cert.Kernel4Ideal.Gen

end
-- ==== Proof.Attn4.Array.lean ====
module

public import proofs.«01_k».proof.Proof.Attn4.Step
public import proofs.«01_k».proof.Proof.Attn.Whole
public import Idealize.ShloMosaic.Lib.Pipeline.ValueKit

@[expose] public section

set_option maxRecDepth 16384

/-!
# The arrays after the run

Every step writes its two blocks back, and the blocks tile the arrays; each block reads the argument where its window
places it.
-/

noncomputable section

namespace Cert.Kernel4Ideal.Gen

open Attn
open Idealize.ShloMosaic Idealize.ShloMosaic.TcCoe Idealize.ShloMosaic.Tactic
open Idealize.SL Idealize.SL.Sem

/-- Where each window places the block of a step. -/
theorem windows : ∀ t : Fin cfg0.N,
    win0_0.index t = ![(grid0.coords t 0).val, (grid0.coords t 1).val, (grid0.coords t 2).val, 0]
    ∧ win0_1.index t = ![(grid0.coords t 0).val, (grid0.coords t 1).val, (grid0.coords t 2).val * 16 - 1, 1]
    ∧ win0_2.index t = ![(grid0.coords t 0).val, (grid0.coords t 1).val, (grid0.coords t 2).val, 1]
    ∧ win0_3.index t = ![(grid0.coords t 0).val, (grid0.coords t 1).val, min ((grid0.coords t 2).val * 16 + 16) 15, 1]
    ∧ win0_4.index t = ![(grid0.coords t 0).val, (grid0.coords t 1).val, (grid0.coords t 2).val * 16 - 1, 2]
    ∧ win0_5.index t = ![(grid0.coords t 0).val, (grid0.coords t 1).val, (grid0.coords t 2).val, 2]
    ∧ win0_6.index t = ![(grid0.coords t 0).val, (grid0.coords t 1).val, min ((grid0.coords t 2).val * 16 + 16) 15, 2]
    ∧ win0_7.index t = ![(grid0.coords t 0).val, (grid0.coords t 1).val, (grid0.coords t 2).val, 0]
    ∧ win0_8.index t = ![(grid0.coords t 0).val, (grid0.coords t 1).val, (grid0.coords t 2).val, 0] := by decide +kernel

theorem start_toInt : ∀ t : Fin cfg0.N,
    (Scalar.muli (BitVec.ofNat 32 (grid0.coords t 2).val) 1024#32).toInt = ((1024 * (grid0.coords t 2).val : ℕ) : ℤ)
    ∧ 1024 * (grid0.coords t 2).val + 1024 ≤ 1024 := by decide +kernel

section
variable (m : (ℓ : Loc nD τ sig) → Buf (Elt Ideal) ℓ) (c : Dev nD)

theorem read_q (t : Fin cfg0.N) (r : Fin 1024) (j : Fin 1024) (e : Fin 256) (h : j.val = 1024 * (grid0.coords t 2).val + r.val) :
    iblk m c 0 t (ix4 0 0 r e) = part (B := 12) (D := 4) (n := 1024) (m ((c : Thread nD τ).loc main_arg0)) (grid0.coords t 0) (grid0.coords t 1) 0 (by decide) j e := by
  have ht := (start_toInt t).2
  unfold part lane
  blk_ext [iblk, V, windows t]

theorem read_k_past (t : Fin cfg0.N) (r : Fin 64) (j : Fin 1024) (e : Fin 256) (h : j.val + 64 = 1024 * (grid0.coords t 2).val + r.val) :
    iblk m c 1 t (ix4 0 0 r e) = part (B := 12) (D := 4) (n := 1024) (m ((c : Thread nD τ).loc main_arg0)) (grid0.coords t 0) (grid0.coords t 1) 256 (by decide) j e := by
  have ht := (start_toInt t).2
  unfold part lane
  blk_ext [iblk, V, windows t]

theorem read_k_here (t : Fin cfg0.N) (r : Fin 1024) (j : Fin 1024) (e : Fin 256) (h : j.val = 1024 * (grid0.coords t 2).val + r.val) :
    iblk m c 2 t (ix4 0 0 r e) = part (B := 12) (D := 4) (n := 1024) (m ((c : Thread nD τ).loc main_arg0)) (grid0.coords t 0) (grid0.coords t 1) 256 (by decide) j e := by
  have ht := (start_toInt t).2
  unfold part lane
  blk_ext [iblk, V, windows t]

theorem read_k_next (t : Fin cfg0.N) (r : Fin 64) (j : Fin 1024) (e : Fin 256) (h : j.val = 1024 * (grid0.coords t 2).val + 1024 + r.val) :
    iblk m c 3 t (ix4 0 0 r e) = part (B := 12) (D := 4) (n := 1024) (m ((c : Thread nD τ).loc main_arg0)) (grid0.coords t 0) (grid0.coords t 1) 256 (by decide) j e := by
  have ht := (start_toInt t).2
  unfold part lane
  blk_ext [iblk, V, windows t]

theorem read_v_past (t : Fin cfg0.N) (r : Fin 64) (j : Fin 1024) (e : Fin 256) (h : j.val + 64 = 1024 * (grid0.coords t 2).val + r.val) :
    iblk m c 4 t (ix4 0 0 r e) = part (B := 12) (D := 4) (n := 1024) (m ((c : Thread nD τ).loc main_arg0)) (grid0.coords t 0) (grid0.coords t 1) 512 (by decide) j e := by
  have ht := (start_toInt t).2
  unfold part lane
  blk_ext [iblk, V, windows t]

theorem read_v_here (t : Fin cfg0.N) (r : Fin 1024) (j : Fin 1024) (e : Fin 256) (h : j.val = 1024 * (grid0.coords t 2).val + r.val) :
    iblk m c 5 t (ix4 0 0 r e) = part (B := 12) (D := 4) (n := 1024) (m ((c : Thread nD τ).loc main_arg0)) (grid0.coords t 0) (grid0.coords t 1) 512 (by decide) j e := by
  have ht := (start_toInt t).2
  unfold part lane
  blk_ext [iblk, V, windows t]

theorem read_v_next (t : Fin cfg0.N) (r : Fin 64) (j : Fin 1024) (e : Fin 256) (h : j.val = 1024 * (grid0.coords t 2).val + 1024 + r.val) :
    iblk m c 6 t (ix4 0 0 r e) = part (B := 12) (D := 4) (n := 1024) (m ((c : Thread nD τ).loc main_arg0)) (grid0.coords t 0) (grid0.coords t 1) 512 (by decide) j e := by
  have ht := (start_toInt t).2
  unfold part lane
  blk_ext [iblk, V, windows t]

theorem array_out : (dats m 0 c).arrAt 7 cfg0.N = attOut (B := 12) (D := 4) (n := 1024) (m ((c : Thread nD τ).loc main_arg0)) := by
  refine (dats m 0 c).arrAt_eq_of_covers 7 _ (by decide +kernel) fun t hf y => ?_
  blk_simp
  rw [after0_7]
  idx_vars y
  refine (out_step c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ _ _ _ _ _ (start_toInt t).2
    (read_q m c t) (read_k_past m c t) (read_k_here m c t) (read_k_next m c t)
    (read_v_past m c t) (read_v_here m c t) (read_v_next m c t) (start_toInt t).1 _ _ _ _).trans ?_
  have he : ((View.whole main_v0_0).slice (win0_7.rect t)).emb (ix4 y0 y1 y2 y3)
      = ix4 (grid0.coords t 0) (grid0.coords t 1) (place (start_toInt t).2 y2) y3 := by
    unfold place
    blk_ext [windows t]
  rw [he]
  rfl

theorem array_lse : (dats m 0 c).arrAt 8 cfg0.N = attLse (B := 12) (D := 4) (n := 1024) (m ((c : Thread nD τ).loc main_arg0)) := by
  refine (dats m 0 c).arrAt_eq_of_covers 8 _ (by decide +kernel) fun t hf y => ?_
  blk_simp
  rw [after0_8]
  idx_vars y
  refine (lse_step c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ _ _ _ _ _ (start_toInt t).2
    (read_q m c t) (read_k_past m c t) (read_k_here m c t) (read_k_next m c t)
    (start_toInt t).1 _ _ _ _).trans ?_
  have he : ((View.whole main_v0_1).slice (win0_8.rect t)).emb (ix4 y0 y1 y2 y3)
      = ix4 (grid0.coords t 0) (grid0.coords t 1) (place (start_toInt t).2 y2) y3 := by
    unfold place
    blk_ext [windows t]
  rw [he]
  rfl

end

end Cert.Kernel4Ideal.Gen

end
-- ==== Proof.Attn4.Reference.lean ====
module

public import proofs.«01_k».proof.Proof.Gen.Reference4Ideal
public import proofs.«01_k».proof.Proof.Gen.Reference4Ideal.Read
public import proofs.«01_k».proof.Proof.Attn.Whole
public import proofs.«01_k».proof.Proof.Attn.Piece
public import Idealize.ShloMosaic.Lib.Pipeline.ValueKit
public import Idealize.ShloMosaic.Lib.Pointwise

@[expose] public section

set_option maxRecDepth 16384

/-!
# What the reference computes

The stages of the reference read at an index, up to its two results.
-/

noncomputable section

namespace Cert.Reference4Ideal.Read

open Attn Cert.Reference4Ideal.Gen
open Idealize.ShloMosaic Idealize.ShloMosaic.TcCoe Idealize.ShloMosaic.Tactic

variable (x : (⟨S12x4x1024x768, .f32⟩ : BufTy).Contents (Elt Ideal))
variable (b : Fin 12) (d : Fin 4) (i j : Fin 1024) (L : Fin 256) (e : Fin 64)

theorem headNo_lt : L.val / 64 < 4 := by omega
/-- The head of a lane. -/
def headNo : Fin 4 := ⟨L.val / 64, headNo_lt L⟩
/-- The place of a lane in its head. -/
def inHead : Fin 64 := ⟨L.val % 64, Nat.mod_lt _ (by decide)⟩

theorem q_at : val_main_v1 (F := Ideal) x (ix5 b d i (headNo L) e) = part (B := 12) (D := 4) (n := 1024) x b d 0 (by decide) i (headLane L e) := by
  rw [val_main_v1_apply, val_main_v0_apply]
  unfold part lane headLane headNo
  blk_ext []

theorem k_at : val_main_v3 (F := Ideal) x (ix5 b d i (headNo L) e) = part (B := 12) (D := 4) (n := 1024) x b d 256 (by decide) i (headLane L e) := by
  rw [val_main_v3_apply, val_main_v2_apply]
  unfold part lane headLane headNo
  blk_ext []

theorem v_at : val_main_v5 (F := Ideal) x (ix5 b d i (headNo L) (inHead L)) = part (B := 12) (D := 4) (n := 1024) x b d 512 (by decide) i L := by
  rw [val_main_v5_apply, val_main_v4_apply]
  unfold part lane headNo inHead
  blk_ext []

theorem logit_at : val_main_v6 (F := Ideal) x (ix5 b d (headNo L) i j)
    = posLogit (part (B := 12) (D := 4) (n := 1024) x b d 0 (by decide)) (part (B := 12) (D := 4) (n := 1024) x b d 256 (by decide)) i L j := by
  rw [val_main_v6_apply]
  refine Finset.sum_congr rfl fun e _ => ?_
  rw [← q_at, ← k_at]
  congr 1 <;> exact congrArg _ (by blk_ext [])

theorem mask_at : val_main_v15 (F := Ideal) (ix2 i j) = 1 ↔ near i j := by
  have hi := i.isLt; have hj := j.isLt
  rw [val_main_v15_apply, val_main_v13_apply, val_main_v12_apply, val_main_v10_apply, val_main_v11_apply, val_main_v14_apply,
    val_main_v8_apply, val_main_v9_apply, val_main_v7_apply, val_main_v7_apply, val_main_c_apply]
  show BitVec.ofBool (BitVec.sle (IntOp.absi (IntOp.subi (BitVec.ofNat 32 j.val) (BitVec.ofNat 32 i.val))) 64#32) = 1 ↔ _
  rw [bool_one, BitVec.sle_eq_decide, decide_eq_true_iff,
    toInt_abs _ (toInt_sub _ _ (WordArith.toInt_ofNat_small j.val (by omega)) (WordArith.toInt_ofNat_small i.val (by omega))
      (by omega) (by omega)) (by omega)]
  show |(j.val : ℤ) - i.val| ≤ 64 ↔ _
  unfold near
  rw [abs_le]
  omega

theorem pick {M : Prop} [Decidable M] {w : BitVec 1} (h : w = 1 ↔ M) (u v : EReal) : Scalar.select w u v = if M then u else v := by
  unfold Scalar.select
  by_cases hm : M
  · rw [if_pos hm, if_pos (h.2 hm)]
  · rw [if_neg hm, if_neg (mt h.1 hm)]

theorem masked_at : val_main_v16 (F := Ideal) x (ix5 b d (headNo L) i j)
    = logit (near i) (posLogit (part (B := 12) (D := 4) (n := 1024) x b d 0 (by decide)) (part (B := 12) (D := 4) (n := 1024) x b d 256 (by decide)) i L) j := by
  rw [val_main_v16_apply, logit_at, val_main_call0_v1_apply, val_main_call0_v2_apply]
  exact pick ((iff_of_eq (by congr 2; blk_ext [])).trans (mask_at i j)) _ _

theorem top_at : val_main_v17 (F := Ideal) x (ix4 b d (headNo L) i)
    = top (near i) (posLogit (part (B := 12) (D := 4) (n := 1024) x b d 0 (by decide)) (part (B := 12) (D := 4) (n := 1024) x b d 256 (by decide)) i L) := by
  pointwise [val_main_v17]
  unfold top
  congr 1
  funext j
  refine Eq.trans (congrArg (val_main_v16 (F := Ideal) x) ?_) (masked_at x b d i j L)
  blk_ext []

theorem weight_at : val_main_v22 (F := Ideal) x (ix5 b d (headNo L) i j)
    = weight (near i) (posLogit (part (B := 12) (D := 4) (n := 1024) x b d 0 (by decide)) (part (B := 12) (D := 4) (n := 1024) x b d 256 (by decide)) i L) j := by
  rw [val_main_v22_apply, val_main_call1_v1_apply, val_main_call1_v2_apply, val_main_v21_apply, val_main_v20_apply, masked_at,
    val_main_v19_apply, val_main_v18_apply]
  refine (pick ((iff_of_eq (by congr 2; blk_ext [])).trans (mask_at i j)) _ _).trans ?_
  unfold weight
  rw [← top_at]
  have h0 : val_main_call1_v0 (F := Ideal) (idx_main_call1_v2 (ix5 b d (headNo L) i j)) = 0 := Ideal.ofBits_zero_f32
  rw [h0]
  exact if_congr Iff.rfl (congrArg Ideal.exp (congrArg _ (congrArg (val_main_v17 (F := Ideal) x) (by blk_ext [])))) rfl

theorem den_at : val_main_v26 (F := Ideal) x (ix5 b d (headNo L) i 0)
    = den (near i) (posLogit (part (B := 12) (D := 4) (n := 1024) x b d 0 (by decide)) (part (B := 12) (D := 4) (n := 1024) x b d 256 (by decide)) i L) := by
  rw [val_main_v26_apply, val_main_v24_apply, val_main_v23_apply, val_main_v25_apply]
  have h0 : val_main_cst_2 (F := Ideal) (Shape.Idx.first h_S_) = 0 := Ideal.ofBits_zero_f32
  rw [h0, zero_add]
  unfold den
  refine congrArg₂ max (Finset.sum_congr rfl fun j _ => ?_) rfl
  rw [← weight_at]
  exact congrArg (val_main_v22 (F := Ideal) x) (by blk_ext [])

theorem quot_at : val_main_v28 (F := Ideal) x (ix5 b d (headNo L) i j)
    = Ideal.div (weight (near i) (posLogit (part (B := 12) (D := 4) (n := 1024) x b d 0 (by decide)) (part (B := 12) (D := 4) (n := 1024) x b d 256 (by decide)) i L) j) (den (near i) (posLogit (part (B := 12) (D := 4) (n := 1024) x b d 0 (by decide)) (part (B := 12) (D := 4) (n := 1024) x b d 256 (by decide)) i L)) := by
  rw [val_main_v28_apply, val_main_v27_apply, ← weight_at, ← den_at]
  exact congrArg (Ideal.div _) (congrArg (val_main_v26 (F := Ideal) x) (by blk_ext []))

theorem out_at : val_main_v37 (F := Ideal) x (ix4 b d i L)
    = attOut (B := 12) (D := 4) (n := 1024) x (ix4 b d i L) := by
  have hv : idx_main_v30 (idx_main_v37 (ix4 b d i L)) = ix5 b d (headNo L) (inHead L) i := by
    unfold headNo inHead
    blk_ext []
  rw [val_main_v37_apply, val_main_v30_apply, hv, val_main_v29_apply]
  show _ = posOut _ _ _ i L
  unfold posOut outDivSum
  refine Finset.sum_congr rfl fun j _ => congrArg₂ (· * ·) ?_ ?_
  · show _ = part x b d 512 _ j L
    rw [← v_at]
    exact congrArg (val_main_v5 (F := Ideal) x) (by blk_ext [])
  · show _ = Ideal.div (weight _ (posLogit (part x b d 0 _) (part x b d 256 _) i L) j) (den _ (posLogit (part x b d 0 _) (part x b d 256 _) i L))
    rw [← quot_at]
    exact congrArg (val_main_v28 (F := Ideal) x) (by blk_ext [])

theorem lse_at : val_main_v38 (F := Ideal) x (ix4 b d i L)
    = attLse (B := 12) (D := 4) (n := 1024) x (ix4 b d i L) := by
  have hu : idx_main_v38 (ix4 b d i L) = ix5 b d i (headNo L) (inHead L) := by
    unfold headNo inHead
    blk_ext []
  have hv : idx_main_v33 (idx_main_v34 (idx_main_v35 (idx_main_v36 (ix5 b d i (headNo L) (inHead L))))) = ix5 b d (headNo L) i 0 := by
    unfold headNo inHead
    blk_ext []
  have ht : idx_main_v18 (ix5 b d (headNo L) i 0) = ix4 b d (headNo L) i := by blk_ext []
  rw [val_main_v38_apply, hu, val_main_v36_apply, val_main_v35_apply, val_main_v34_apply, val_main_v33_apply, hv, val_main_v32_apply,
    val_main_v31_apply, den_at, val_main_v18_apply, ht, top_at]
  rfl

theorem value_out : val_main_v37 (F := Ideal) x = attOut (B := 12) (D := 4) (n := 1024) x := by
  funext y
  idx_vars y
  exact out_at x y0 y1 y2 y3

theorem value_lse : val_main_v38 (F := Ideal) x = attLse (B := 12) (D := 4) (n := 1024) x := by
  funext y
  idx_vars y
  exact lse_at x y0 y1 y2 y3

end Cert.Reference4Ideal.Read

end
-- ==== Proof.Attn4.Equation.lean ====
module

public import proofs.«01_k».proof.Defs
public import proofs.«01_k».proof.Proof.Attn4.Array
public import proofs.«01_k».proof.Proof.Attn4.Reference
public import proofs.«01_k».proof.Proof.Gen.Kernel4Ideal.Value
public import proofs.«01_k».proof.Proof.Gen.Reference4Ideal.Run

@[expose] public section

/-!
# The kernel at dilation 4 computes the reference's attention
-/

noncomputable section

namespace Cert.Proof.Attn4

open Idealize.ShloMosaic Idealize.ShloMosaic.TcCoe Idealize.SL.Sem

/-- The kernel's run: its two results and its argument. -/
theorem kernel_run (m : (ℓ : Loc Kernel4Ideal.nD Kernel4Ideal.τ Kernel4Ideal.sig) → Buf (Elt Ideal) ℓ)
    (g : Dev Kernel4Ideal.nD → PrngReg) :
    θ_run (Kernel4Ideal.defs (F := Ideal)) (onTc (τ := Kernel4Ideal.τ) (Kernel4Ideal.main (F := Ideal))) ⟨m, fun _ => 0, g⟩ (fun r =>
      ∀ c : Dev Kernel4Ideal.nD,
        r.2.mem ((c.tc : Thread Kernel4Ideal.nD Kernel4Ideal.τ).loc Kernel4Ideal.main_v0_0)
            = _root_.Attn.attOut (m ((c.tc : Thread Kernel4Ideal.nD Kernel4Ideal.τ).loc Kernel4Ideal.main_arg0))
          ∧ r.2.mem ((c.tc : Thread Kernel4Ideal.nD Kernel4Ideal.τ).loc Kernel4Ideal.main_v0_1)
            = _root_.Attn.attLse (m ((c.tc : Thread Kernel4Ideal.nD Kernel4Ideal.τ).loc Kernel4Ideal.main_arg0))
          ∧ r.2.mem ((c.tc : Thread Kernel4Ideal.nD Kernel4Ideal.τ).loc Kernel4Ideal.main_arg0)
            = m ((c.tc : Thread Kernel4Ideal.nD Kernel4Ideal.τ).loc Kernel4Ideal.main_arg0)) :=
  (θ_run _ _ _).mono (fun r h c => ⟨(h c).1.trans (Kernel4Ideal.Gen.array_out m c), (h c).2.1.trans (Kernel4Ideal.Gen.array_lse m c), (h c).2.2⟩)
    (Kernel4Ideal.Value.run_blocks m g)

/-- The reference's run: the same two results, of its own argument. -/
theorem reference_run (m : (ℓ : Loc Reference4Ideal.nD Reference4Ideal.τ Reference4Ideal.sig) → Buf (Elt Ideal) ℓ)
    (g : Dev Reference4Ideal.nD → PrngReg) :
    θ_run (Reference4Ideal.defs (F := Ideal)) (onTc (τ := Reference4Ideal.τ) (Reference4Ideal.main (F := Ideal))) ⟨m, fun _ => 0, g⟩ (fun r =>
      ∀ c : Dev Reference4Ideal.nD,
        r.2.mem ((c.tc : Thread Reference4Ideal.nD Reference4Ideal.τ).loc Reference4Ideal.main_v37)
            = _root_.Attn.attOut (m ((c.tc : Thread Reference4Ideal.nD Reference4Ideal.τ).loc Reference4Ideal.main_arg0))
          ∧ r.2.mem ((c.tc : Thread Reference4Ideal.nD Reference4Ideal.τ).loc Reference4Ideal.main_v38)
            = _root_.Attn.attLse (m ((c.tc : Thread Reference4Ideal.nD Reference4Ideal.τ).loc Reference4Ideal.main_arg0))
          ∧ r.2.mem ((c.tc : Thread Reference4Ideal.nD Reference4Ideal.τ).loc Reference4Ideal.main_arg0)
            = m ((c.tc : Thread Reference4Ideal.nD Reference4Ideal.τ).loc Reference4Ideal.main_arg0)) :=
  (θ_run _ _ _).mono (fun r h c => ⟨(h c).1.trans ((Reference4Ideal.Read.val_main_v37_eq m c).trans (Reference4Ideal.Read.value_out _)),
      (h c).2.1.trans ((Reference4Ideal.Read.val_main_v38_eq m c).trans (Reference4Ideal.Read.value_lse _)), (h c).2.2⟩)
    (Reference4Ideal.Value.run m g)

theorem algebraic : Cert.algebraic_Kernel4Ideal_Reference4Ideal := by
  intro m g m' g' _ hm
  refine ⟨_, _, kernel_run m g, ?_⟩
  refine (θ_run _ _ _).mono (fun r h c => ?_) (reference_run m' g')
  rw [← hm c]
  exact h c

end Cert.Proof.Attn4

end
-- ==== Proof.Attn16.LoopIdeal.lean ====
module

public import proofs.«01_k».proof.Proof.Gen.Kernel16Ideal.Loops

@[expose] public section

set_option maxRecDepth 8192
set_option maxHeartbeats 4000000

/-!
# The loop over the residues of a step

A trip fills the scratch from one residue's planes and stores that residue's four pieces into each output. What a trip stores
depends only on the inputs, not on what the scratch held before it.
-/

noncomputable section

namespace Cert.Kernel16Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a trip holds: the inputs, the outputs and the scratch, each at its contents. -/
abbrev Buffers (c : Dev nD)
  (arg3 : Memref sig .tc .vmem S1x4x256x256 .f32) (arg4 : Memref sig .tc .vmem S1x4x64x256 .f32)
  (arg5 : Memref sig .tc .vmem S1x4x256x256 .f32) (arg6 : Memref sig .tc .vmem S1x4x64x256 .f32)
  (arg7 : Memref sig .tc .vmem S1x4x64x256 .f32) (arg8 : Memref sig .tc .vmem S1x4x256x256 .f32)
  (arg9 : Memref sig .tc .vmem S1x4x64x256 .f32) (arg10 : Memref sig .tc .vmem S1x4x256x256 .f32)
  (arg11 : Memref sig .tc .vmem S1x4x256x256 .f32) (arg12 : Memref sig .tc .vmem S2x256x256 .bf16)
  (arg13 : Memref sig .tc .vmem S384x256 .bf16) (arg14 : Memref sig .tc .vmem S384x256 .bf16)
  (x3 : BufTy.Contents (Elt F) arg3.view.ty) (x4 : BufTy.Contents (Elt F) arg4.view.ty) (x5 : BufTy.Contents (Elt F) arg5.view.ty)
  (x6 : BufTy.Contents (Elt F) arg6.view.ty) (x7 : BufTy.Contents (Elt F) arg7.view.ty) (x8 : BufTy.Contents (Elt F) arg8.view.ty)
  (x9 : BufTy.Contents (Elt F) arg9.view.ty) (x10 : BufTy.Contents (Elt F) arg10.view.ty) (x11 : BufTy.Contents (Elt F) arg11.view.ty)
  (x12 : BufTy.Contents (Elt F) arg12.view.ty) (x13 : BufTy.Contents (Elt F) arg13.view.ty) (x14 : BufTy.Contents (Elt F) arg14.view.ty) : sProp 𝕄 :=
  iprop((arg3.view.loc (c : Thread nD τ) ↦[arg3.view.set]{fullShare} x3)
    ∗ (arg4.view.loc (c : Thread nD τ) ↦[arg4.view.set]{fullShare} x4)
    ∗ (arg5.view.loc (c : Thread nD τ) ↦[arg5.view.set]{fullShare} x5)
    ∗ (arg6.view.loc (c : Thread nD τ) ↦[arg6.view.set]{fullShare} x6)
    ∗ (arg7.view.loc (c : Thread nD τ) ↦[arg7.view.set]{fullShare} x7)
    ∗ (arg8.view.loc (c : Thread nD τ) ↦[arg8.view.set]{fullShare} x8)
    ∗ (arg9.view.loc (c : Thread nD τ) ↦[arg9.view.set]{fullShare} x9)
    ∗ (arg10.view.loc (c : Thread nD τ) ↦[arg10.view.set]{fullShare} x10)
    ∗ (arg11.view.loc (c : Thread nD τ) ↦[arg11.view.set]{fullShare} x11)
    ∗ (arg12.view.loc (c : Thread nD τ) ↦[arg12.view.set]{fullShare} x12)
    ∗ (arg13.view.loc (c : Thread nD τ) ↦[arg13.view.set]{fullShare} x13)
    ∗ (arg14.view.loc (c : Thread nD τ) ↦[arg14.view.set]{fullShare} x14))

section
variable (c : Dev nD) (i : grid0.Coords)
  (arg3 : Memref sig .tc .vmem S1x4x256x256 .f32) (harg3 : arg3.IsWhole) (arg4 : Memref sig .tc .vmem S1x4x64x256 .f32) (harg4 : arg4.IsWhole) (arg5 : Memref sig .tc .vmem S1x4x256x256 .f32) (harg5 : arg5.IsWhole) (arg6 : Memref sig .tc .vmem S1x4x64x256 .f32) (harg6 : arg6.IsWhole) (arg7 : Memref sig .tc .vmem S1x4x64x256 .f32) (harg7 : arg7.IsWhole) (arg8 : Memref sig .tc .vmem S1x4x256x256 .f32) (harg8 : arg8.IsWhole) (arg9 : Memref sig .tc .vmem S1x4x64x256 .f32) (harg9 : arg9.IsWhole) (arg10 : Memref sig .tc .vmem S1x4x256x256 .f32) (harg10 : arg10.IsWhole) (arg11 : Memref sig .tc .vmem S1x4x256x256 .f32) (harg11 : arg11.IsWhole) (arg12 : Memref sig .tc .vmem S2x256x256 .bf16) (harg12 : arg12.IsWhole) (arg13 : Memref sig .tc .vmem S384x256 .bf16) (harg13 : arg13.IsWhole) (arg14 : Memref sig .tc .vmem S384x256 .bf16) (harg14 : arg14.IsWhole)
  (v0 : BitVec 32) (v24 : IVec S128x256 32)
  (X_arg3 : BufTy.Contents (Elt F) arg3.view.ty) (X_arg4 : BufTy.Contents (Elt F) arg4.view.ty) (X_arg5 : BufTy.Contents (Elt F) arg5.view.ty)
  (X_arg6 : BufTy.Contents (Elt F) arg6.view.ty) (X_arg7 : BufTy.Contents (Elt F) arg7.view.ty) (X_arg8 : BufTy.Contents (Elt F) arg8.view.ty)
  (X_arg9 : BufTy.Contents (Elt F) arg9.view.ty)

/-- One trip at a symbolic `k`: the pieces it stores into the two outputs depend on the inputs alone, whatever the
    scratch buffers hold when it starts; it leaves them at some contents. -/
@[irreducible] def residue (k : Fin k0_t1_loop.trips) :
    Σ' (L10 : List (View.Piece (Elt F) S1x4x256x256 .f32)), { L11 : List (View.Piece (Elt F) S1x4x256x256 .f32) //
      ∀ (E : Set ℕ) (f10 : BufTy.Contents (Elt F) arg10.view.ty) (f11 : BufTy.Contents (Elt F) arg11.view.ty) (f12 : BufTy.Contents (Elt F) arg12.view.ty)
        (f13 : BufTy.Contents (Elt F) arg13.view.ty) (f14 : BufTy.Contents (Elt F) arg14.view.ty),
      Buffers (F := F) c arg3 arg4 arg5 arg6 arg7 arg8 arg9 arg10 arg11 arg12 arg13 arg14 X_arg3 X_arg4 X_arg5 X_arg6 X_arg7 X_arg8 X_arg9 f10 f11 f12 f13 f14
      ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg13 harg13 arg14 harg14 v0 v24 k PUnit.unit)
          (fun _ => iprop(∃ s12 s13 s14, Buffers (F := F) c arg3 arg4 arg5 arg6 arg7 arg8 arg9 arg10 arg11 arg12 arg13 arg14 X_arg3 X_arg4 X_arg5 X_arg6 X_arg7 X_arg8 X_arg9 (arg10.view.writes (Elt F) f10 L10) (arg11.view.writes (Elt F) f11 L11) s12 s13 s14)) } := by
  have hk : k.val < 4 := Nat.lt_of_lt_of_le k.isLt k0_t1_abs.2.1
  refine ⟨?_, ?_, fun E f10 f11 f12 f13 f14 => ?run⟩
  case run =>
    unfold k0_t1_body
    iintro ⟨HR3, HR4, HR5, HR6, HR7, HR8, HR9, HW10, HW11, HW12, HW13, HW14⟩
    sl_exec
    sl_step
    iexists _, _, _
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HW10]; · iexact HW10
    isplitl [HW11]; · iexact HW11
    isplitl [HW12]; · iexact HW12
    isplitl [HW13]; · iexact HW13
    iexact HW14

/-- The pieces of the residues before `k`, last first, of the two outputs. -/
def before : ℕ → List (View.Piece (Elt F) S1x4x256x256 .f32) × List (View.Piece (Elt F) S1x4x256x256 .f32)
  | 0 => ([], [])
  | k + 1 => if h : k < k0_t1_loop.trips then
      ((residue (F := F) c i arg3 harg3 arg4 harg4 arg5 harg5 arg6 harg6 arg7 harg7 arg8 harg8 arg9 harg9 arg10 harg10 arg11 harg11 arg12 harg12 arg13 harg13 arg14 harg14 v0 v24 X_arg3 X_arg4 X_arg5 X_arg6 X_arg7 X_arg8 X_arg9 ⟨k, h⟩).1 ++ (before k).1, (residue (F := F) c i arg3 harg3 arg4 harg4 arg5 harg5 arg6 harg6 arg7 harg7 arg8 harg8 arg9 harg9 arg10 harg10 arg11 harg11 arg12 harg12 arg13 harg13 arg14 harg14 v0 v24 X_arg3 X_arg4 X_arg5 X_arg6 X_arg7 X_arg8 X_arg9 ⟨k, h⟩).2.1 ++ (before k).2)
    else before k

theorem before_succ (k : Fin k0_t1_loop.trips) :
    before (F := F) c i arg3 harg3 arg4 harg4 arg5 harg5 arg6 harg6 arg7 harg7 arg8 harg8 arg9 harg9 arg10 harg10 arg11 harg11 arg12 harg12 arg13 harg13 arg14 harg14 v0 v24 X_arg3 X_arg4 X_arg5 X_arg6 X_arg7 X_arg8 X_arg9 (k.val + 1)
      = ((residue (F := F) c i arg3 harg3 arg4 harg4 arg5 harg5 arg6 harg6 arg7 harg7 arg8 harg8 arg9 harg9 arg10 harg10 arg11 harg11 arg12 harg12 arg13 harg13 arg14 harg14 v0 v24 X_arg3 X_arg4 X_arg5 X_arg6 X_arg7 X_arg8 X_arg9 k).1 ++ (before (F := F) c i arg3 harg3 arg4 harg4 arg5 harg5 arg6 harg6 arg7 harg7 arg8 harg8 arg9 harg9 arg10 harg10 arg11 harg11 arg12 harg12 arg13 harg13 arg14 harg14 v0 v24 X_arg3 X_arg4 X_arg5 X_arg6 X_arg7 X_arg8 X_arg9 k.val).1,
         (residue (F := F) c i arg3 harg3 arg4 harg4 arg5 harg5 arg6 harg6 arg7 harg7 arg8 harg8 arg9 harg9 arg10 harg10 arg11 harg11 arg12 harg12 arg13 harg13 arg14 harg14 v0 v24 X_arg3 X_arg4 X_arg5 X_arg6 X_arg7 X_arg8 X_arg9 k).2.1 ++ (before (F := F) c i arg3 harg3 arg4 harg4 arg5 harg5 arg6 harg6 arg7 harg7 arg8 harg8 arg9 harg9 arg10 harg10 arg11 harg11 arg12 harg12 arg13 harg13 arg14 harg14 v0 v24 X_arg3 X_arg4 X_arg5 X_arg6 X_arg7 X_arg8 X_arg9 k.val).2) := by
  rw [before.eq_2]; exact dif_pos k.isLt

/-- Before trip `k`: the inputs as they were, the outputs with the pieces of the trips before, the scratch at anything. -/
abbrev heldBefore (G10 : BufTy.Contents (Elt F) arg10.view.ty) (G11 : BufTy.Contents (Elt F) arg11.view.ty) (k : ℕ) (_u : PUnit) : sProp 𝕄 :=
  iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9)
    ∗ (∃ f, (arg10.view.loc (c : Thread nD τ) ↦[arg10.view.set]{fullShare} f) ∗ ⌜f = arg10.view.writes (Elt F) G10 (before (F := F) c i arg3 harg3 arg4 harg4 arg5 harg5 arg6 harg6 arg7 harg7 arg8 harg8 arg9 harg9 arg10 harg10 arg11 harg11 arg12 harg12 arg13 harg13 arg14 harg14 v0 v24 X_arg3 X_arg4 X_arg5 X_arg6 X_arg7 X_arg8 X_arg9 k).1⌝)
    ∗ (∃ f, (arg11.view.loc (c : Thread nD τ) ↦[arg11.view.set]{fullShare} f) ∗ ⌜f = arg11.view.writes (Elt F) G11 (before (F := F) c i arg3 harg3 arg4 harg4 arg5 harg5 arg6 harg6 arg7 harg7 arg8 harg8 arg9 harg9 arg10 harg10 arg11 harg11 arg12 harg12 arg13 harg13 arg14 harg14 v0 v24 X_arg3 X_arg4 X_arg5 X_arg6 X_arg7 X_arg8 X_arg9 k).2⌝)
    ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f))

set_option warn.classDefReducibility false in
/-- The loop over the residues, by that invariant. -/
def loopInv (E : Set ℕ) (G10 : BufTy.Contents (Elt F) arg10.view.ty) (G11 : BufTy.Contents (Elt F) arg11.view.ty) :
    LoopInvTy_k0_t1 (F := F) Unit ℕ (UR sig nD τ) ℕ Variants.none c none E i arg3 harg3 arg4 harg4 arg5 harg5 arg6 harg6 arg7 harg7 arg8 harg8 arg9 harg9 arg10 harg10 arg11 harg11 arg12 harg12 arg13 harg13 arg14 harg14 v0 v24 where
  inv := heldBefore (F := F) c i arg3 harg3 arg4 harg4 arg5 harg5 arg6 harg6 arg7 harg7 arg8 harg8 arg9 harg9 arg10 harg10 arg11 harg11 arg12 harg12 arg13 harg13 arg14 harg14 v0 v24 X_arg3 X_arg4 X_arg5 X_arg6 X_arg7 X_arg8 X_arg9 G10 G11
  step k acc := by
    iintro ⟨HR3, HR4, HR5, HR6, HR7, HR8, HR9, ⟨%f10, HW10, %h10⟩, ⟨%f11, HW11, %h11⟩, ⟨%f12, HW12⟩, ⟨%f13, HW13⟩, ⟨%f14, HW14⟩⟩
    iapply (wp_wand_r Idealize.ShloMosaic.frame (wpE (defs₀ (F := F)) Variants.none (c : Thread nD τ) none) E)
    isplitl [HR3 HR4 HR5 HR6 HR7 HR8 HR9 HW10 HW11 HW12 HW13 HW14]
    · iapply ((residue (F := F) c i arg3 harg3 arg4 harg4 arg5 harg5 arg6 harg6 arg7 harg7 arg8 harg8 arg9 harg9 arg10 harg10 arg11 harg11 arg12 harg12 arg13 harg13 arg14 harg14 v0 v24 X_arg3 X_arg4 X_arg5 X_arg6 X_arg7 X_arg8 X_arg9 k).2.2 E f10 f11 f12 f13 f14)
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HW10]; · iexact HW10
      isplitl [HW11]; · iexact HW11
      isplitl [HW12]; · iexact HW12
      isplitl [HW13]; · iexact HW13
      iexact HW14
    · iintro %_ ⟨%s12, %s13, %s14, HR3, HR4, HR5, HR6, HR7, HR8, HR9, HW10, HW11, HW12, HW13, HW14⟩
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      rw [before_succ]
      isplitl [HW10]
      · iexists _; isplitl [HW10]; · iexact HW10
        ipureintro; rw [h10, ← View.writes_append]
      isplitl [HW11]
      · iexists _; isplitl [HW11]; · iexact HW11
        ipureintro; rw [h11, ← View.writes_append]
      isplitl [HW12]; · iexists _; iexact HW12
      isplitl [HW13]; · iexists _; iexact HW13
      iexists _; iexact HW14

end

end Cert.Kernel16Ideal.Gen

end
-- ==== Proof.Attn16.RunIdeal.lean ====
module

public import proofs.«01_k».proof.Proof.Attn16.LoopIdeal
public import proofs.«01_k».proof.Proof.Gen.Kernel16Ideal.Frame
public import Idealize.ShloMosaic.Lib.Pipeline.FrameBody
public import Idealize.ShloMosaic.Lib.Ring
public import Idealize.ShloMosaic.Lib.Claim

@[expose] public section

set_option maxRecDepth 16384
set_option maxHeartbeats 4000000

/-!
# The run of one step

A step handles its four residues by the loop. Their pieces tile each output block, so what the output buffers held before
does not matter.
-/

noncomputable section

namespace Cert.Kernel16Ideal.Gen

open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords)
  (arg3 : Memref sig .tc .vmem S1x4x256x256 .f32) (harg3 : arg3.IsWhole) (arg4 : Memref sig .tc .vmem S1x4x64x256 .f32) (harg4 : arg4.IsWhole) (arg5 : Memref sig .tc .vmem S1x4x256x256 .f32) (harg5 : arg5.IsWhole) (arg6 : Memref sig .tc .vmem S1x4x64x256 .f32) (harg6 : arg6.IsWhole) (arg7 : Memref sig .tc .vmem S1x4x64x256 .f32) (harg7 : arg7.IsWhole) (arg8 : Memref sig .tc .vmem S1x4x256x256 .f32) (harg8 : arg8.IsWhole) (arg9 : Memref sig .tc .vmem S1x4x64x256 .f32) (harg9 : arg9.IsWhole) (arg10 : Memref sig .tc .vmem S1x4x256x256 .f32) (harg10 : arg10.IsWhole) (arg11 : Memref sig .tc .vmem S1x4x256x256 .f32) (harg11 : arg11.IsWhole) (arg12 : Memref sig .tc .vmem S2x256x256 .bf16) (harg12 : arg12.IsWhole) (arg13 : Memref sig .tc .vmem S384x256 .bf16) (harg13 : arg13.IsWhole) (arg14 : Memref sig .tc .vmem S384x256 .bf16) (harg14 : arg14.IsWhole)
  (x0 : Vec F S1x4x256x256 .f32) (x1 : Vec F S1x4x64x256 .f32) (x2 : Vec F S1x4x256x256 .f32) (x3 : Vec F S1x4x64x256 .f32) (x4 : Vec F S1x4x64x256 .f32) (x5 : Vec F S1x4x256x256 .f32) (x6 : Vec F S1x4x64x256 .f32)

/-- The pieces of a step: those of its four residues. -/
def pieces : List (View.Piece (Elt F) S1x4x256x256 .f32) × List (View.Piece (Elt F) S1x4x256x256 .f32) :=
  before (F := F) c i arg3 harg3 arg4 harg4 arg5 harg5 arg6 harg6 arg7 harg7 arg8 harg8 arg9 harg9 arg10 harg10 arg11 harg11 arg12 harg12 arg13 harg13 arg14 harg14 (Scalar.muli (BitVec.ofNat 32 (i 2).val) 256#32) (iota .tc S128x256 32 [1] iota_S128x256_d1_w32) (harg3.unread x0) (harg4.unread x1) (harg5.unread x2) (harg6.unread x3) (harg7.unread x4) (harg8.unread x5) (harg9.unread x6) k0_t1_loop.trips

set_option maxHeartbeats 1000000 in
/-- A step leaves the inputs as they were, its pieces in the outputs' buffers, and the scratch at some contents. -/
theorem body_run (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
          ∗ (∃ f, arg10.view.loc (c : Thread nD τ) ↦[arg10.view.set]{fullShare} arg10.view.writes (Elt F) f (pieces (F := F) c i arg3 harg3 arg4 harg4 arg5 harg5 arg6 harg6 arg7 harg7 arg8 harg8 arg9 harg9 arg10 harg10 arg11 harg11 arg12 harg12 arg13 harg13 arg14 harg14 x0 x1 x2 x3 x4 x5 x6).1)
          ∗ (∃ f, arg11.view.loc (c : Thread nD τ) ↦[arg11.view.set]{fullShare} arg11.view.writes (Elt F) f (pieces (F := F) c i arg3 harg3 arg4 harg4 arg5 harg5 arg6 harg6 arg7 harg7 arg8 harg8 arg9 harg9 arg10 harg10 arg11 harg11 arg12 harg12 arg13 harg13 arg14 harg14 x0 x1 x2 x3 x4 x5 x6).2)
          ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_dilated_attention_d16 i arg3 harg3 arg4 harg4 arg5 harg5 arg6 harg6 arg7 harg7 arg8 harg8 arg9 harg9 arg10 harg10 arg11 harg11 arg12 harg12 arg13 harg13 arg14 harg14) K := by
  simp only [cc0_dilated_attention_d16_eq_skeleton]; unfold cc0_dilated_attention_d16_skel
  unfold owns pieces
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%ds2, %fs2, -, HS2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  let inv := loopInv (F := F) c i arg3 harg3 arg4 harg4 arg5 harg5 arg6 harg6 arg7 harg7 arg8 harg8 arg9 harg9 arg10 harg10 arg11 harg11 arg12 harg12 arg13 harg13 arg14 harg14 (Scalar.muli (BitVec.ofNat 32 (i 2).val) 256#32) (iota .tc S128x256 32 [1] iota_S128x256_d1_w32) (harg3.unread x0) (harg4.unread x1) (harg5.unread x2) (harg6.unread x3) (harg7.unread x4) (harg8.unread x5) (harg9.unread x6) E f7 f8
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]; · iexists _; iexact H7
  isplitl [H8]; · iexists _; iexact H8
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

/-- The pieces of an output tile it. -/
theorem cover_out (y : S1x4x256x256.Idx) : ∃ pc ∈ (pieces (F := F) c i arg3 harg3 arg4 harg4 arg5 harg5 arg6 harg6 arg7 harg7 arg8 harg8 arg9 harg9 arg10 harg10 arg11 harg11 arg12 harg12 arg13 harg13 arg14 harg14 x0 x1 x2 x3 x4 x5 x6).1, y ∈ pc.1.set :=
  View.cover_of_tiledL (pieces (F := F) c i arg3 harg3 arg4 harg4 arg5 harg5 arg6 harg6 arg7 harg7 arg8 harg8 arg9 harg9 arg10 harg10 arg11 harg11 arg12 harg12 arg13 harg13 arg14 harg14 x0 x1 x2 x3 x4 x5 x6).1 S1x1x128x128.size (by sl_kernel_rfl) y

theorem cover_lse (y : S1x4x256x256.Idx) : ∃ pc ∈ (pieces (F := F) c i arg3 harg3 arg4 harg4 arg5 harg5 arg6 harg6 arg7 harg7 arg8 harg8 arg9 harg9 arg10 harg10 arg11 harg11 arg12 harg12 arg13 harg13 arg14 harg14 x0 x1 x2 x3 x4 x5 x6).2, y ∈ pc.1.set :=
  View.cover_of_tiledL (pieces (F := F) c i arg3 harg3 arg4 harg4 arg5 harg5 arg6 harg6 arg7 harg7 arg8 harg8 arg9 harg9 arg10 harg10 arg11 harg11 arg12 harg12 arg13 harg13 arg14 harg14 x0 x1 x2 x3 x4 x5 x6).2 S1x1x128x128.size (by sl_kernel_rfl) y

end

end Cert.Kernel16Ideal.Gen

end
-- ==== Proof.Attn16.FrameIdeal.lean ====
module

public import proofs.«01_k».proof.Proof.Attn16.RunIdeal
public import Idealize.ShloMosaic.Lib.Claim

@[expose] public section

set_option maxRecDepth 8192
set_option maxHeartbeats 4000000

/-!
# The run of the whole kernel

Each step reads its seven blocks and leaves its pieces in the two output blocks, which are then written back; the argument stays
as it was.
-/

noncomputable section

namespace Cert.Kernel16Ideal.Gen

open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers of a step -/

abbrev ms0_0 (t : Fin cfg0.N) : Memref sig .tc .vmem S1x4x256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x64x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x64x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4x64x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4x64x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4x256x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x4x256x256 .f32 := win0_8.stage (cfg0.slots t 8)
abbrev hs0_8 (t : Fin cfg0.N) : (ms0_8 t).IsWhole := hstage0_8 ((cfg0.slots t 8).cast nbuf0_8)
abbrev scM0_0 : Memref sig .tc .vmem S2x256x256 .bf16 := Memref.whole cc0_scratch0
abbrev scM0_1 : Memref sig .tc .vmem S384x256 .bf16 := Memref.whole cc0_scratch1
abbrev scM0_2 : Memref sig .tc .vmem S384x256 .bf16 := Memref.whole cc0_scratch2

theorem scratch_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The pieces of step `t`. -/
def piecesAt (c : Dev nD) (t : Fin cfg0.N) : List (View.Piece (Elt F) S1x4x256x256 .f32) × List (View.Piece (Elt F) S1x4x256x256 .f32) :=
  pieces c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t)

/-- What step `t` leaves in an output's buffer. -/
def outAt (c : Dev nD) (t : Fin cfg0.N) : Vec F S1x4x256x256 .f32 :=
  (ms0_7 t).view.read (Elt F) ((ms0_7 t).view.writes (Elt F) (ms0_7 t).view.junk (piecesAt m c t).1)

def lseAt (c : Dev nD) (t : Fin cfg0.N) : Vec F S1x4x256x256 .f32 :=
  (ms0_8 t).view.read (Elt F) ((ms0_8 t).view.writes (Elt F) (ms0_8 t).view.junk (piecesAt m c t).2)

/-- What every buffer holds after every step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
    | ⟨8, _⟩ => lseAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]
theorem after0_8 (c : Dev nD) (t : Fin cfg0.N) : (dats m 0 c).after 8 t = lseAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body's obligation -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, scratch_eq]
  unfold outAt lseAt piecesAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, H5, H6, ⟨%e7, H7⟩, ⟨%e8, H8⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover_out c _ _ _ _ _ _ _ _ _ _ _ _ _ _ _ _ _ _ _ _ _ _ _ _ _ _ _ _ _ _ _ _)
  unfold owns; iexists _; isplitr
  swap; · iexact H8
  ipureintro; exact View.read_writes_of_cover _ _ _ _ _ (cover_lse c _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every execution ends with each window's array as its write-backs leave it. -/
theorem run_main : θ_run defs (onTc (τ := τ) (main (F := F))) (s₀ m ρ) (Pipeline.FramePost cfgs (dats m) 0 (V m)) :=
  (θ_run defs _ _).mono (fun _ h => h.1) (run_main_quiescent m ρ)

/-- The argument ends unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- Every execution ends with the two results as the write-backs leave them, the argument unchanged. -/
theorem run_blocks : θ_run defs (onTc (τ := τ) (main (F := F))) ⟨m, fun _ => 0, ρ⟩ (fun r => ∀ c : Dev nD,
      r.2.mem ((c.tc : Thread nD τ).loc main_v0_0) = (dats m 0 c).arrAt 7 cfg0.N
      ∧ r.2.mem ((c.tc : Thread nD τ).loc main_v0_1) = (dats m 0 c).arrAt 8 cfg0.N
      ∧ r.2.mem ((c.tc : Thread nD τ).loc main_arg0) = m ((c.tc : Thread nD τ).loc main_arg0)) :=
  (θ_run defs _ _).mono (fun _ h c => ⟨(h.1 c).1 7, (h.1 c).1 8, h.2 c⟩) (θ_run_and (run_main m ρ) (unchanged m ρ))

/-- The argument ends unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.Kernel16Ideal.Gen

end
-- ==== Proof.Attn16.Trip.lean ====
module

public import proofs.«01_k».proof.Proof.Attn16.FrameIdeal
public import proofs.«01_k».proof.Proof.Attn.Piece
public import proofs.«01_k».proof.Proof.Attn.Fill
public import Idealize.ShloMosaic.Lib.Pipeline.ReadBack

@[expose] public section

set_option maxRecDepth 16384

/-!
# One residue of a step

A trip of the loop takes one residue: it fills the scratch from the residue's planes of the seven blocks, then handles two
blocks of 128 queries, each for two pairs of heads. Each of the four pieces it stores into an output is a part of one
function of the row and the lane (`Attn.rowOut`, `Attn.rowLse`).
-/

noncomputable section

namespace Cert.Kernel16Ideal.Gen

open Attn
open Idealize.ShloMosaic Idealize.ShloMosaic.TcCoe Idealize.ShloMosaic.Tactic
open Idealize.SL Idealize.SL.Sem

theorem off3 : ∀ u : Fin 2, k0_off3 (BitVec.ofNat 32 u.val) = ![128 * u.val, 0] := by decide +kernel
theorem off4 : ∀ u : Fin 2, k0_off4 (BitVec.ofNat 32 u.val) = ![0, 128 * u.val, 0] := by decide +kernel
theorem off5 : ∀ u : Fin 2, k0_off5 (BitVec.ofNat 32 u.val) = ![1, 128 * u.val, 0] := by decide +kernel
theorem off6 : ∀ k : Fin k0_t1_loop.trips, ∀ u : Fin 2, k0_off6 k (BitVec.ofNat 32 u.val) = ![0, k.val, 128 * u.val, 0] := by decide +kernel
theorem off7 : ∀ u : Fin 2, k0_off7 (BitVec.ofNat 32 u.val) = ![128 * u.val, 128] := by decide +kernel
theorem off8 : ∀ u : Fin 2, k0_off8 (BitVec.ofNat 32 u.val) = ![0, 128 * u.val, 128] := by decide +kernel
theorem off9 : ∀ u : Fin 2, k0_off9 (BitVec.ofNat 32 u.val) = ![1, 128 * u.val, 128] := by decide +kernel
theorem off10 : ∀ k : Fin k0_t1_loop.trips, ∀ u : Fin 2, k0_off10 k (BitVec.ofNat 32 u.val) = ![0, k.val, 128 * u.val, 128] := by decide +kernel
theorem off1 : ∀ k : Fin k0_t1_loop.trips, k0_off1 k = ![0, k.val, 0, 0] := by decide +kernel
theorem off2 : ∀ k : Fin k0_t1_loop.trips, k0_off2 k = ![0, k.val, 0, 0] := by decide +kernel

theorem trips_lt (k : Fin k0_t1_loop.trips) : k.val < 4 := Nat.lt_of_lt_of_le k.isLt k0_t1_abs.2.1

/-- The position of the first key of the window of block `u`. -/
def tripBase (v0 : BitVec 32) (u : Fin 2) : BitVec 32 :=
  Scalar.subi (Scalar.addi v0 (Scalar.muli (Scalar.addi (Scalar.muli 0#32 2#32) (BitVec.ofNat 32 u.val)) 128#32)) 64#32

theorem tripRow : ∀ u : Fin 2, Scalar.muli (Scalar.addi (Scalar.muli 0#32 2#32) (BitVec.ofNat 32 u.val)) 128#32 = BitVec.ofNat 32 (128 * u.val) := by
  decide +kernel

theorem tripBase_toInt {v0 : BitVec 32} {q0 : ℕ} (h0 : v0.toInt = q0) (hq : q0 < 2 ^ 19) (u : Fin 2) :
    (tripBase v0 u).toInt = ((q0 + 128 * u.val : ℕ) : ℤ) - 64 := by
  have hu := u.isLt
  unfold tripBase
  rw [tripRow]
  have hr := WordArith.toInt_ofNat_small (128 * u.val) (by omega)
  rw [show (((q0 + 128 * u.val : ℕ) : ℤ) - 64) = ((q0 : ℤ) + ((128 * u.val : ℕ) : ℤ)) - 64 by omega]
  exact toInt_sub _ _ (toInt_add _ _ h0 hr (by omega) (by omega)) (by decide) (by omega) (by omega)

section
variable (c : Dev nD) (i : grid0.Coords)
  (arg3 : Memref sig .tc .vmem S1x4x256x256 .f32) (harg3 : arg3.IsWhole)
  (arg4 : Memref sig .tc .vmem S1x4x64x256 .f32) (harg4 : arg4.IsWhole)
  (arg5 : Memref sig .tc .vmem S1x4x256x256 .f32) (harg5 : arg5.IsWhole)
  (arg6 : Memref sig .tc .vmem S1x4x64x256 .f32) (harg6 : arg6.IsWhole)
  (arg7 : Memref sig .tc .vmem S1x4x64x256 .f32) (harg7 : arg7.IsWhole)
  (arg8 : Memref sig .tc .vmem S1x4x256x256 .f32) (harg8 : arg8.IsWhole)
  (arg9 : Memref sig .tc .vmem S1x4x64x256 .f32) (harg9 : arg9.IsWhole)
  (arg10 : Memref sig .tc .vmem S1x4x256x256 .f32) (harg10 : arg10.IsWhole)
  (arg11 : Memref sig .tc .vmem S1x4x256x256 .f32) (harg11 : arg11.IsWhole)
  (arg12 : Memref sig .tc .vmem S2x256x256 .bf16) (harg12 : arg12.IsWhole)
  (arg13 : Memref sig .tc .vmem S384x256 .bf16) (harg13 : arg13.IsWhole)
  (arg14 : Memref sig .tc .vmem S384x256 .bf16) (harg14 : arg14.IsWhole)
  (v0 : BitVec 32)
  (X_arg3 : BufTy.Contents (Elt Ideal) arg3.view.ty) (X_arg4 : BufTy.Contents (Elt Ideal) arg4.view.ty) (X_arg5 : BufTy.Contents (Elt Ideal) arg5.view.ty)
  (X_arg6 : BufTy.Contents (Elt Ideal) arg6.view.ty) (X_arg7 : BufTy.Contents (Elt Ideal) arg7.view.ty) (X_arg8 : BufTy.Contents (Elt Ideal) arg8.view.ty)
  (X_arg9 : BufTy.Contents (Elt Ideal) arg9.view.ty)
  {q0 : ℕ} (h0 : v0.toInt = q0) (hq : q0 < 2 ^ 19) (k : Fin k0_t1_loop.trips)

/-- A residue's plane of a block of 256 rows. -/
abbrev own (x : Vec Ideal S1x4x256x256 .f32) : Vec Ideal S1x1x256x256 .f32 :=
  View.ld x (Rect.unit (s := S1x4x256x256) (k0_off1 k) S1x1x256x256.size (k0_off1_inb k))

/-- A residue's plane of a block of 64 rows. -/
abbrev halo (x : Vec Ideal S1x4x64x256 .f32) : Vec Ideal S1x1x64x256 .f32 :=
  View.ld x (Rect.unit (s := S1x4x64x256) (k0_off2 k) S1x1x64x256.size (k0_off2_inb k))

/-- The queries' scratch after its two stores. -/
abbrev scrQ (x : Vec Ideal S1x4x256x256 .f32) : BufTy.Contents (Elt Ideal) arg12.view.ty :=
  arg12.view.writes (Elt Ideal) arg12.view.junk
    [⟨Rect.unit (s := S2x256x256) ![1, 0, 0] S1x256x256.size inb_S2x256x256_S1x256x256_1_0_0, k0_pay11 k0_pay1 (own k x)⟩,
     ⟨Rect.unit (s := S2x256x256) ![0, 0, 0] S1x256x256.size inb_S2x256x256_S1x256x256_0_0_0, k0_pay10 k0_pay1 (own k x)⟩]

/-- The keys' (or the values') scratch after its three stores. -/
abbrev scrK (arg : Memref sig .tc .vmem S384x256 .bf16) (a c : Vec Ideal S1x4x64x256 .f32) (b : Vec Ideal S1x4x256x256 .f32) :
    BufTy.Contents (Elt Ideal) arg.view.ty :=
  arg.view.writes (Elt Ideal) arg.view.junk
    [⟨Rect.unit (s := S384x256) ![320, 0] S64x256.size inb_S384x256_S64x256_320_0, k0_pay14 (halo k c)⟩,
     ⟨Rect.unit (s := S384x256) ![64, 0] S256x256.size inb_S384x256_S256x256_64_0, k0_pay13 (own k b)⟩,
     ⟨Rect.unit (s := S384x256) ![0, 0] S64x256.size inb_S384x256_S64x256_0_0, k0_pay12 (halo k a)⟩]

variable (Q : Vec Ideal S2x256x256 .bf16) (K V : Vec Ideal S384x256 .bf16)

/-- The block of 128 rows and 128 lanes that `off` names, of either output. -/
abbrev atOut {off : Fin 4 → ℕ} (h : ∀ a, off a + S1x1x128x128.size a ≤ S1x4x256x256.size a) : Rect S1x4x256x256 :=
  Rect.unit (s := S1x4x256x256) off S1x1x128x128.size h

include h0 hq in
theorem out_lo (u : Fin 2) (x : S1x1x128x128.Idx) :
    outBlock lowOf (maskOf (tripBase v0 u) 255#32 colsOf bandOf)
      (View.ld K (Rect.unit (s := S384x256) (k0_off3 (BitVec.ofNat 32 u.val)) S256x128.size (k0_off3_inb u)))
      (View.ld V (Rect.unit (s := S384x256) (k0_off3 (BitVec.ofNat 32 u.val)) S256x128.size (k0_off3_inb u)))
      (View.ld Q (Rect.unit (s := S2x256x256) (k0_off4 (BitVec.ofNat 32 u.val)) S1x128x128.size (k0_off4_inb u)))
      (View.ld Q (Rect.unit (s := S2x256x256) (k0_off5 (BitVec.ofNat 32 u.val)) S1x128x128.size (k0_off5_inb u))) x
    = (fun y : S1x4x256x256.Idx => rowOut 256 q0 Q K V (y 2) (y 3)) ((atOut (k0_off6_inb k u)).emb x) :=
  have hk := trips_lt k
  have hu := u.isLt
  out_piece (N := 256) (N' := 384) (P := 4) (R0 := 128 * u.val) (L0 := 0) (p := k.val) (by omega) (by omega) (by omega) (by omega)
    (by omega) lowOf_apply (maskOf_apply (tripBase_toInt h0 hq u) (by decide) (by omega) (by omega))
    (off3 u) (off4 u) (off5 u) (off6 k u) (k0_off3_inb u) (k0_off4_inb u) (k0_off5_inb u) (k0_off6_inb k u) x

include h0 hq in
theorem out_hi (u : Fin 2) (x : S1x1x128x128.Idx) :
    outBlock lowOf (maskOf (tripBase v0 u) 255#32 colsOf bandOf)
      (View.ld K (Rect.unit (s := S384x256) (k0_off7 (BitVec.ofNat 32 u.val)) S256x128.size (k0_off7_inb u)))
      (View.ld V (Rect.unit (s := S384x256) (k0_off7 (BitVec.ofNat 32 u.val)) S256x128.size (k0_off7_inb u)))
      (View.ld Q (Rect.unit (s := S2x256x256) (k0_off8 (BitVec.ofNat 32 u.val)) S1x128x128.size (k0_off8_inb u)))
      (View.ld Q (Rect.unit (s := S2x256x256) (k0_off9 (BitVec.ofNat 32 u.val)) S1x128x128.size (k0_off9_inb u))) x
    = (fun y : S1x4x256x256.Idx => rowOut 256 q0 Q K V (y 2) (y 3)) ((atOut (k0_off10_inb k u)).emb x) :=
  have hk := trips_lt k
  have hu := u.isLt
  out_piece (N := 256) (N' := 384) (P := 4) (R0 := 128 * u.val) (L0 := 128) (p := k.val) (by omega) (by omega) (by omega) (by omega)
    (by omega) lowOf_apply (maskOf_apply (tripBase_toInt h0 hq u) (by decide) (by omega) (by omega))
    (off7 u) (off8 u) (off9 u) (off10 k u) (k0_off7_inb u) (k0_off8_inb u) (k0_off9_inb u) (k0_off10_inb k u) x

include h0 hq in
theorem lse_lo (u : Fin 2) (x : S1x1x128x128.Idx) :
    lseBlock lowOf (maskOf (tripBase v0 u) 255#32 colsOf bandOf)
      (View.ld K (Rect.unit (s := S384x256) (k0_off3 (BitVec.ofNat 32 u.val)) S256x128.size (k0_off3_inb u)))
      (View.ld Q (Rect.unit (s := S2x256x256) (k0_off4 (BitVec.ofNat 32 u.val)) S1x128x128.size (k0_off4_inb u)))
      (View.ld Q (Rect.unit (s := S2x256x256) (k0_off5 (BitVec.ofNat 32 u.val)) S1x128x128.size (k0_off5_inb u))) x
    = (fun y : S1x4x256x256.Idx => rowLse 256 q0 Q K (y 2) (y 3)) ((atOut (k0_off6_inb k u)).emb x) :=
  have hk := trips_lt k
  have hu := u.isLt
  lse_piece (N := 256) (N' := 384) (P := 4) (R0 := 128 * u.val) (L0 := 0) (p := k.val) (by omega) (by omega) (by omega) (by omega)
    (by omega) lowOf_apply (maskOf_apply (tripBase_toInt h0 hq u) (by decide) (by omega) (by omega))
    (off3 u) (off4 u) (off5 u) (off6 k u) (k0_off3_inb u) (k0_off4_inb u) (k0_off5_inb u) (k0_off6_inb k u) x

include h0 hq in
theorem lse_hi (u : Fin 2) (x : S1x1x128x128.Idx) :
    lseBlock lowOf (maskOf (tripBase v0 u) 255#32 colsOf bandOf)
      (View.ld K (Rect.unit (s := S384x256) (k0_off7 (BitVec.ofNat 32 u.val)) S256x128.size (k0_off7_inb u)))
      (View.ld Q (Rect.unit (s := S2x256x256) (k0_off8 (BitVec.ofNat 32 u.val)) S1x128x128.size (k0_off8_inb u)))
      (View.ld Q (Rect.unit (s := S2x256x256) (k0_off9 (BitVec.ofNat 32 u.val)) S1x128x128.size (k0_off9_inb u))) x
    = (fun y : S1x4x256x256.Idx => rowLse 256 q0 Q K (y 2) (y 3)) ((atOut (k0_off10_inb k u)).emb x) :=
  have hk := trips_lt k
  have hu := u.isLt
  lse_piece (N := 256) (N' := 384) (P := 4) (R0 := 128 * u.val) (L0 := 128) (p := k.val) (by omega) (by omega) (by omega) (by omega)
    (by omega) lowOf_apply (maskOf_apply (tripBase_toInt h0 hq u) (by decide) (by omega) (by omega))
    (off7 u) (off8 u) (off9 u) (off10 k u) (k0_off7_inb u) (k0_off8_inb u) (k0_off9_inb u) (k0_off10_inb k u) x

/-- The output of a step, from the scratch that each residue fills. -/
abbrev gOut (q0 : ℕ) (y : S1x4x256x256.Idx) : EReal :=
  rowOut 256 q0 (arg12.view.read (Elt Ideal) (scrQ arg12 (y 1) (arg3.view.read (Elt Ideal) X_arg3)))
    (arg13.view.read (Elt Ideal) (scrK (y 1) arg13 (arg4.view.read (Elt Ideal) X_arg4) (arg6.view.read (Elt Ideal) X_arg6) (arg5.view.read (Elt Ideal) X_arg5)))
    (arg14.view.read (Elt Ideal) (scrK (y 1) arg14 (arg7.view.read (Elt Ideal) X_arg7) (arg9.view.read (Elt Ideal) X_arg9) (arg8.view.read (Elt Ideal) X_arg8)))
    (y 2) (y 3)

/-- The log-sum-exp of a step. -/
abbrev gLse (q0 : ℕ) (y : S1x4x256x256.Idx) : EReal :=
  rowLse 256 q0 (arg12.view.read (Elt Ideal) (scrQ arg12 (y 1) (arg3.view.read (Elt Ideal) X_arg3)))
    (arg13.view.read (Elt Ideal) (scrK (y 1) arg13 (arg4.view.read (Elt Ideal) X_arg4) (arg6.view.read (Elt Ideal) X_arg6) (arg5.view.read (Elt Ideal) X_arg5)))
    (y 2) (y 3)

theorem plane_lo (u : Fin 2) (x : S1x1x128x128.Idx) : ((atOut (k0_off6_inb k u)).emb x) 1 = k := by
  have := trips_lt k
  refine Fin.ext ?_
  show k0_off6 k (BitVec.ofNat 32 u.val) 1 + 1 * (x 1).val = k.val
  rw [off6]
  have := (x 1).isLt
  show k.val + 1 * (x 1).val = k.val
  have h : (x 1).val < 1 := (x 1).isLt
  omega

theorem plane_hi (u : Fin 2) (x : S1x1x128x128.Idx) : ((atOut (k0_off10_inb k u)).emb x) 1 = k := by
  refine Fin.ext ?_
  show k0_off10 k (BitVec.ofNat 32 u.val) 1 + 1 * (x 1).val = k.val
  rw [off10]
  show k.val + 1 * (x 1).val = k.val
  have h : (x 1).val < 1 := (x 1).isLt
  omega

include h0 hq in
/-- Every piece a trip stores into the output is a part of `gOut`. -/
theorem trip_out : View.PiecesOf (gOut arg3 arg4 arg5 arg6 arg7 arg8 arg9 arg12 arg13 arg14 X_arg3 X_arg4 X_arg5 X_arg6 X_arg7 X_arg8 X_arg9 q0)
    (residue (F := Ideal) c i arg3 harg3 arg4 harg4 arg5 harg5 arg6 harg6 arg7 harg7 arg8 harg8 arg9 harg9 arg10 harg10 arg11 harg11 arg12 harg12 arg13 harg13 arg14 harg14 v0 colsOf X_arg3 X_arg4 X_arg5 X_arg6 X_arg7 X_arg8 X_arg9 k).1 := by
  have lo := fun u x => (out_lo v0 h0 hq k
    (arg12.view.read (Elt Ideal) (scrQ arg12 k (arg3.view.read (Elt Ideal) X_arg3)))
    (arg13.view.read (Elt Ideal) (scrK k arg13 (arg4.view.read (Elt Ideal) X_arg4) (arg6.view.read (Elt Ideal) X_arg6) (arg5.view.read (Elt Ideal) X_arg5)))
    (arg14.view.read (Elt Ideal) (scrK k arg14 (arg7.view.read (Elt Ideal) X_arg7) (arg9.view.read (Elt Ideal) X_arg9) (arg8.view.read (Elt Ideal) X_arg8)))
    u x).trans (show _ = gOut arg3 arg4 arg5 arg6 arg7 arg8 arg9 arg12 arg13 arg14 X_arg3 X_arg4 X_arg5 X_arg6 X_arg7 X_arg8 X_arg9 q0 ((atOut (k0_off6_inb k u)).emb x) by
      unfold gOut; rw [plane_lo k u x])
  have hi := fun u x => (out_hi v0 h0 hq k
    (arg12.view.read (Elt Ideal) (scrQ arg12 k (arg3.view.read (Elt Ideal) X_arg3)))
    (arg13.view.read (Elt Ideal) (scrK k arg13 (arg4.view.read (Elt Ideal) X_arg4) (arg6.view.read (Elt Ideal) X_arg6) (arg5.view.read (Elt Ideal) X_arg5)))
    (arg14.view.read (Elt Ideal) (scrK k arg14 (arg7.view.read (Elt Ideal) X_arg7) (arg9.view.read (Elt Ideal) X_arg9) (arg8.view.read (Elt Ideal) X_arg8)))
    u x).trans (show _ = gOut arg3 arg4 arg5 arg6 arg7 arg8 arg9 arg12 arg13 arg14 X_arg3 X_arg4 X_arg5 X_arg6 X_arg7 X_arg8 X_arg9 q0 ((atOut (k0_off10_inb k u)).emb x) by
      unfold gOut; rw [plane_hi k u x])
  unfold residue
  dsimp only
  exact ⟨hi 1, lo 1, hi 0, lo 0, trivial⟩

include h0 hq in
/-- Every piece a trip stores into the log-sum-exp is a part of `gLse`. -/
theorem trip_lse : View.PiecesOf (gLse arg3 arg4 arg5 arg6 arg12 arg13 X_arg3 X_arg4 X_arg5 X_arg6 q0)
    (residue (F := Ideal) c i arg3 harg3 arg4 harg4 arg5 harg5 arg6 harg6 arg7 harg7 arg8 harg8 arg9 harg9 arg10 harg10 arg11 harg11 arg12 harg12 arg13 harg13 arg14 harg14 v0 colsOf X_arg3 X_arg4 X_arg5 X_arg6 X_arg7 X_arg8 X_arg9 k).2.1 := by
  have lo := fun u x => (lse_lo v0 h0 hq k
    (arg12.view.read (Elt Ideal) (scrQ arg12 k (arg3.view.read (Elt Ideal) X_arg3)))
    (arg13.view.read (Elt Ideal) (scrK k arg13 (arg4.view.read (Elt Ideal) X_arg4) (arg6.view.read (Elt Ideal) X_arg6) (arg5.view.read (Elt Ideal) X_arg5)))
    u x).trans (show _ = gLse arg3 arg4 arg5 arg6 arg12 arg13 X_arg3 X_arg4 X_arg5 X_arg6 q0 ((atOut (k0_off6_inb k u)).emb x) by
      unfold gLse; rw [plane_lo k u x])
  have hi := fun u x => (lse_hi v0 h0 hq k
    (arg12.view.read (Elt Ideal) (scrQ arg12 k (arg3.view.read (Elt Ideal) X_arg3)))
    (arg13.view.read (Elt Ideal) (scrK k arg13 (arg4.view.read (Elt Ideal) X_arg4) (arg6.view.read (Elt Ideal) X_arg6) (arg5.view.read (Elt Ideal) X_arg5)))
    u x).trans (show _ = gLse arg3 arg4 arg5 arg6 arg12 arg13 X_arg3 X_arg4 X_arg5 X_arg6 q0 ((atOut (k0_off10_inb k u)).emb x) by
      unfold gLse; rw [plane_hi k u x])
  unfold residue
  dsimp only
  exact ⟨hi 1, lo 1, hi 0, lo 0, trivial⟩

end

end Cert.Kernel16Ideal.Gen

end
-- ==== Proof.Attn16.Step.lean ====
module

public import proofs.«01_k».proof.Proof.Attn16.Trip

@[expose] public section

set_option maxRecDepth 16384

/-!
# One step of the grid

A step handles four residues, one at each trip of its loop. What it leaves in the two output blocks is, at every residue,
row and lane, the attention over that residue's whole sequence, whenever the blocks are the parts of the sequences' queries,
keys and values that the step asks for.
-/

noncomputable section

namespace Cert.Kernel16Ideal.Gen

open Attn
open Idealize.ShloMosaic Idealize.ShloMosaic.TcCoe Idealize.ShloMosaic.Tactic
open Idealize.SL Idealize.SL.Sem

section
variable (c : Dev nD) (i : grid0.Coords)
  (arg3 : Memref sig .tc .vmem S1x4x256x256 .f32) (harg3 : arg3.IsWhole)
  (arg4 : Memref sig .tc .vmem S1x4x64x256 .f32) (harg4 : arg4.IsWhole)
  (arg5 : Memref sig .tc .vmem S1x4x256x256 .f32) (harg5 : arg5.IsWhole)
  (arg6 : Memref sig .tc .vmem S1x4x64x256 .f32) (harg6 : arg6.IsWhole)
  (arg7 : Memref sig .tc .vmem S1x4x64x256 .f32) (harg7 : arg7.IsWhole)
  (arg8 : Memref sig .tc .vmem S1x4x256x256 .f32) (harg8 : arg8.IsWhole)
  (arg9 : Memref sig .tc .vmem S1x4x64x256 .f32) (harg9 : arg9.IsWhole)
  (arg10 : Memref sig .tc .vmem S1x4x256x256 .f32) (harg10 : arg10.IsWhole)
  (arg11 : Memref sig .tc .vmem S1x4x256x256 .f32) (harg11 : arg11.IsWhole)
  (arg12 : Memref sig .tc .vmem S2x256x256 .bf16) (harg12 : arg12.IsWhole)
  (arg13 : Memref sig .tc .vmem S384x256 .bf16) (harg13 : arg13.IsWhole)
  (arg14 : Memref sig .tc .vmem S384x256 .bf16) (harg14 : arg14.IsWhole)
  (v0 : BitVec 32)
  (X_arg3 : BufTy.Contents (Elt Ideal) arg3.view.ty) (X_arg4 : BufTy.Contents (Elt Ideal) arg4.view.ty) (X_arg5 : BufTy.Contents (Elt Ideal) arg5.view.ty)
  (X_arg6 : BufTy.Contents (Elt Ideal) arg6.view.ty) (X_arg7 : BufTy.Contents (Elt Ideal) arg7.view.ty) (X_arg8 : BufTy.Contents (Elt Ideal) arg8.view.ty)
  (X_arg9 : BufTy.Contents (Elt Ideal) arg9.view.ty)
  {q0 : ℕ} (h0 : v0.toInt = q0) (hq : q0 < 2 ^ 19)

include h0 hq in
theorem pieces_out : ∀ k ≤ k0_t1_loop.trips,
    View.PiecesOf (gOut arg3 arg4 arg5 arg6 arg7 arg8 arg9 arg12 arg13 arg14 X_arg3 X_arg4 X_arg5 X_arg6 X_arg7 X_arg8 X_arg9 q0)
      (before (F := Ideal) c i arg3 harg3 arg4 harg4 arg5 harg5 arg6 harg6 arg7 harg7 arg8 harg8 arg9 harg9 arg10 harg10 arg11 harg11 arg12 harg12 arg13 harg13 arg14 harg14 v0 colsOf X_arg3 X_arg4 X_arg5 X_arg6 X_arg7 X_arg8 X_arg9 k).1
  | 0, _ => trivial
  | k + 1, hk => by
    rw [before_succ (k := ⟨k, hk⟩)]
    exact piecesOf_append (trip_out (h0 := h0) (hq := hq) ..) (pieces_out k (by omega))

include h0 hq in
theorem pieces_lse : ∀ k ≤ k0_t1_loop.trips,
    View.PiecesOf (gLse arg3 arg4 arg5 arg6 arg12 arg13 X_arg3 X_arg4 X_arg5 X_arg6 q0)
      (before (F := Ideal) c i arg3 harg3 arg4 harg4 arg5 harg5 arg6 harg6 arg7 harg7 arg8 harg8 arg9 harg9 arg10 harg10 arg11 harg11 arg12 harg12 arg13 harg13 arg14 harg14 v0 colsOf X_arg3 X_arg4 X_arg5 X_arg6 X_arg7 X_arg8 X_arg9 k).2
  | 0, _ => trivial
  | k + 1, hk => by
    rw [before_succ (k := ⟨k, hk⟩)]
    exact piecesOf_append (trip_lse (h0 := h0) (hq := hq) ..) (pieces_lse k (by omega))

end

/-! ## The scratch -/

theorem lanes_apply (R : Fin 256) (e : Fin 256) : k0_pay1 (ix2 R e) = 1 ↔ e.val % 128 < 64 := by
  pointwise [k0_pay1]
  revert e
  decide +kernel

theorem fillEven_apply (x : Vec Ideal S1x1x256x256 .f32) (R : Fin 256) (e : Fin 256) :
    k0_pay10 k0_pay1 x (ix3 0 R e) = if half e = 0 then x (ix4 0 0 R e) else 0 := by
  pointwise [k0_pay10, k0_pay9]
  unfold half
  by_cases h : e.val % 128 < 64
  · simp [h, (lanes_apply R e).2 h, Scalar.select]
  · have : k0_pay1 (ix2 R e) ≠ 1 := fun h' => h ((lanes_apply R e).1 h')
    simp only [Scalar.select, if_neg this, if_neg h]
    simp

theorem fillOdd_apply (x : Vec Ideal S1x1x256x256 .f32) (R : Fin 256) (e : Fin 256) :
    k0_pay11 k0_pay1 x (ix3 0 R e) = if half e = 1 then x (ix4 0 0 R e) else 0 := by
  pointwise [k0_pay11, k0_pay9]
  unfold half
  by_cases h : e.val % 128 < 64
  · simp [h, (lanes_apply R e).2 h, Scalar.select]
  · have : k0_pay1 (ix2 R e) ≠ 1 := fun h' => h ((lanes_apply R e).1 h')
    simp only [Scalar.select, if_neg this, if_neg h]
    simp

theorem fillPrev_apply (x : Vec Ideal S1x1x64x256 .f32) (r : Fin 64) (e : Fin 256) : k0_pay12 x (ix2 r e) = x (ix4 0 0 r e) := by
  pointwise [k0_pay12]

theorem fillOwn_apply (x : Vec Ideal S1x1x256x256 .f32) (r : Fin 256) (e : Fin 256) : k0_pay13 x (ix2 r e) = x (ix4 0 0 r e) := by
  pointwise [k0_pay13]

theorem fillNext_apply (x : Vec Ideal S1x1x64x256 .f32) (r : Fin 64) (e : Fin 256) : k0_pay14 x (ix2 r e) = x (ix4 0 0 r e) := by
  pointwise [k0_pay14]

theorem own_apply (k : Fin k0_t1_loop.trips) (x : Vec Ideal S1x4x256x256 .f32) (r : Fin 256) (e : Fin 256) :
    own k x (ix4 0 0 r e) = x (ix4 0 ⟨k.val, trips_lt k⟩ r e) := by
  refine congrArg x (funext fun a => Fin.ext ?_)
  show k0_off1 k a + 1 * (ix4 (0 : Fin 1) (0 : Fin 1) r e a).val = _
  rw [off1]
  fin_cases a <;> simp [ix4]

theorem halo_apply (k : Fin k0_t1_loop.trips) (x : Vec Ideal S1x4x64x256 .f32) (r : Fin 64) (e : Fin 256) :
    halo k x (ix4 0 0 r e) = x (ix4 0 ⟨k.val, trips_lt k⟩ r e) := by
  refine congrArg x (funext fun a => Fin.ext ?_)
  show k0_off2 k a + 1 * (ix4 (0 : Fin 1) (0 : Fin 1) r e a).val = _
  rw [off2]
  fin_cases a <;> simp [ix4]

section
variable (c : Dev nD) (i : grid0.Coords)
  (arg3 : Memref sig .tc .vmem S1x4x256x256 .f32) (harg3 : arg3.IsWhole)
  (arg4 : Memref sig .tc .vmem S1x4x64x256 .f32) (harg4 : arg4.IsWhole)
  (arg5 : Memref sig .tc .vmem S1x4x256x256 .f32) (harg5 : arg5.IsWhole)
  (arg6 : Memref sig .tc .vmem S1x4x64x256 .f32) (harg6 : arg6.IsWhole)
  (arg7 : Memref sig .tc .vmem S1x4x64x256 .f32) (harg7 : arg7.IsWhole)
  (arg8 : Memref sig .tc .vmem S1x4x256x256 .f32) (harg8 : arg8.IsWhole)
  (arg9 : Memref sig .tc .vmem S1x4x64x256 .f32) (harg9 : arg9.IsWhole)
  (arg10 : Memref sig .tc .vmem S1x4x256x256 .f32) (harg10 : arg10.IsWhole)
  (arg11 : Memref sig .tc .vmem S1x4x256x256 .f32) (harg11 : arg11.IsWhole)
  (arg12 : Memref sig .tc .vmem S2x256x256 .bf16) (harg12 : arg12.IsWhole)
  (arg13 : Memref sig .tc .vmem S384x256 .bf16) (harg13 : arg13.IsWhole)
  (arg14 : Memref sig .tc .vmem S384x256 .bf16) (harg14 : arg14.IsWhole)
  (x0 x2 x5 : Vec Ideal S1x4x256x256 .f32) (x1 x3 x4 x6 : Vec Ideal S1x4x64x256 .f32)
  {aq ak av : Fin 4 → Fin 256 → Fin 256 → EReal} {q0 : ℕ} (hq : q0 + 256 ≤ 256)
  (hx0 : ∀ (p : Fin 4) (r : Fin 256) (j : Fin 256) (e : Fin 256), j.val = q0 + r → x0 (ix4 0 p r e) = aq p j e)
  (hx1 : ∀ (p : Fin 4) (r : Fin 64) (j : Fin 256) (e : Fin 256), j.val + 64 = q0 + r → x1 (ix4 0 p r e) = ak p j e)
  (hx2 : ∀ (p : Fin 4) (r : Fin 256) (j : Fin 256) (e : Fin 256), j.val = q0 + r → x2 (ix4 0 p r e) = ak p j e)
  (hx3 : ∀ (p : Fin 4) (r : Fin 64) (j : Fin 256) (e : Fin 256), j.val = q0 + 256 + r → x3 (ix4 0 p r e) = ak p j e)
  (hx4 : ∀ (p : Fin 4) (r : Fin 64) (j : Fin 256) (e : Fin 256), j.val + 64 = q0 + r → x4 (ix4 0 p r e) = av p j e)
  (hx5 : ∀ (p : Fin 4) (r : Fin 256) (j : Fin 256) (e : Fin 256), j.val = q0 + r → x5 (ix4 0 p r e) = av p j e)
  (hx6 : ∀ (p : Fin 4) (r : Fin 64) (j : Fin 256) (e : Fin 256), j.val = q0 + 256 + r → x6 (ix4 0 p r e) = av p j e)

include hx0 in
theorem scrQ_apply (k : Fin k0_t1_loop.trips) (h : Fin 2) (R : Fin 256) (e : Fin 256) :
    arg12.view.read (Elt Ideal) (scrQ arg12 k x0) (ix3 h R e) = if half e = h then aq ⟨k.val, trips_lt k⟩ (place hq R) e else 0 := by
  rw [scrQ]
  refine (read_two arg12.view _ _ _ _ _ h R e).trans ?_
  rw [← hx0 _ R (place hq R) e rfl, ← own_apply k x0 R e]
  by_cases hh : h = 0
  · subst hh; rw [if_pos rfl, fillEven_apply]
  · have h1 : h = 1 := by omega
    subst h1; rw [if_neg hh, fillOdd_apply]

theorem scrK_apply (k : Fin k0_t1_loop.trips) (arg : Memref sig .tc .vmem S384x256 .bf16) (a c : Vec Ideal S1x4x64x256 .f32) (b : Vec Ideal S1x4x256x256 .f32)
    {ak : Fin 4 → Fin 256 → Fin 256 → EReal}
    (ha : ∀ (p : Fin 4) (r : Fin 64) (j : Fin 256) (e : Fin 256), j.val + 64 = q0 + r → a (ix4 0 p r e) = ak p j e)
    (hb : ∀ (p : Fin 4) (r : Fin 256) (j : Fin 256) (e : Fin 256), j.val = q0 + r → b (ix4 0 p r e) = ak p j e)
    (hc : ∀ (p : Fin 4) (r : Fin 64) (j : Fin 256) (e : Fin 256), j.val = q0 + 256 + r → c (ix4 0 p r e) = ak p j e)
    (r : Fin 384) (j : Fin 256) (e : Fin 256) (hj : q0 + r.val = j.val + 64) :
    arg.view.read (Elt Ideal) (scrK k arg a c b) (ix2 r e) = ak ⟨k.val, trips_lt k⟩ j e := by
  rw [scrK]
  refine read_three (N := 256) arg.view _ rfl _ _ _ _ _ _ rfl r e _ (fun h => ?_) (fun h h' => ?_) (fun h h' => ?_)
  · rw [fillPrev_apply, halo_apply]; exact ha _ _ j e (by show j.val + 64 = q0 + r.val; omega)
  · rw [fillOwn_apply, own_apply]; exact hb _ _ j e (by show j.val = q0 + (r.val - 64); omega)
  · rw [fillNext_apply, halo_apply]; exact hc _ _ j e (by show j.val = q0 + 256 + (r.val - 320); omega)

variable (h0 : (Scalar.muli (BitVec.ofNat 32 (i 2).val) 256#32).toInt = q0)

include h0 hq hx0 hx1 hx2 hx3 hx4 hx5 hx6 in
/-- The output block of a step, at a residue, a row and a lane. -/
theorem out_step (f : BufTy.Contents (Elt Ideal) arg10.view.ty) (a : Fin 1) (p : Fin 4) (R : Fin 256) (L : Fin 256) :
    arg10.view.read (Elt Ideal) (arg10.view.writes (Elt Ideal) f (pieces (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6).1) (ix4 a p R L)
      = posOut (aq p) (ak p) (av p) (place hq R) L := by
  have hp := pieces_out c i arg3 harg3 arg4 harg4 arg5 harg5 arg6 harg6 arg7 harg7 arg8 harg8 arg9 harg9 arg10 harg10 arg11 harg11 arg12 harg12 arg13 harg13 arg14 harg14 _ (harg3.unread x0) (harg4.unread x1) (harg5.unread x2) (harg6.unread x3) (harg7.unread x4) (harg8.unread x5) (harg9.unread x6) h0 (by omega) k0_t1_loop.trips le_rfl
  refine (View.read_writes_apply_of_pieces _ f _ (pieces (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6).1 (View.PiecesOf.mem hp) _
    (cover_out c i arg3 harg3 arg4 harg4 arg5 harg5 arg6 harg6 arg7 harg7 arg8 harg8 arg9 harg9 arg10 harg10 arg11 harg11 arg12 harg12 arg13 harg13 arg14 harg14 x0 x1 x2 x3 x4 x5 x6 _)).trans ?_
  unfold gOut
  simp only [Memref.IsWhole.read_unread]
  exact rowOut_eq (N := 256) (N' := 384) rfl (by decide) (by decide) hq (scrQ_apply arg12 x0 hq hx0 p) (scrK_apply p arg13 x1 x3 x2 hx1 hx2 hx3)
      (scrK_apply p arg14 x4 x6 x5 hx4 hx5 hx6) R L

include h0 hq hx0 hx1 hx2 hx3 in
/-- The log-sum-exp block of a step, at a residue, a row and a lane. -/
theorem lse_step (f : BufTy.Contents (Elt Ideal) arg11.view.ty) (a : Fin 1) (p : Fin 4) (R : Fin 256) (L : Fin 256) :
    arg11.view.read (Elt Ideal) (arg11.view.writes (Elt Ideal) f (pieces (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6).2) (ix4 a p R L)
      = posLse (aq p) (ak p) (place hq R) L := by
  have hp := pieces_lse c i arg3 harg3 arg4 harg4 arg5 harg5 arg6 harg6 arg7 harg7 arg8 harg8 arg9 harg9 arg10 harg10 arg11 harg11 arg12 harg12 arg13 harg13 arg14 harg14 _ (harg3.unread x0) (harg4.unread x1) (harg5.unread x2) (harg6.unread x3) (harg7.unread x4) (harg8.unread x5) (harg9.unread x6) h0 (by omega) k0_t1_loop.trips le_rfl
  refine (View.read_writes_apply_of_pieces _ f _ (pieces (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6).2 (View.PiecesOf.mem hp) _
    (cover_lse c i arg3 harg3 arg4 harg4 arg5 harg5 arg6 harg6 arg7 harg7 arg8 harg8 arg9 harg9 arg10 harg10 arg11 harg11 arg12 harg12 arg13 harg13 arg14 harg14 x0 x1 x2 x3 x4 x5 x6 _)).trans ?_
  unfold gLse
  simp only [Memref.IsWhole.read_unread]
  exact rowLse_eq (N := 256) (N' := 384) rfl (by decide) (by decide) hq (scrQ_apply arg12 x0 hq hx0 p) (scrK_apply p arg13 x1 x3 x2 hx1 hx2 hx3) R L

end

end Cert.Kernel16Ideal.Gen

end
-- ==== Proof.Attn16.Array.lean ====
module

public import proofs.«01_k».proof.Proof.Attn16.Step
public import proofs.«01_k».proof.Proof.Attn.Whole
public import Idealize.ShloMosaic.Lib.Pipeline.ValueKit

@[expose] public section

set_option maxRecDepth 16384

/-!
# The arrays after the run

Every step writes its two blocks back, and the blocks tile the arrays; each block reads the argument where its window
places it.
-/

noncomputable section

namespace Cert.Kernel16Ideal.Gen

open Attn
open Idealize.ShloMosaic Idealize.ShloMosaic.TcCoe Idealize.ShloMosaic.Tactic
open Idealize.SL Idealize.SL.Sem

/-- Where each window places the block of a step. -/
theorem windows : ∀ t : Fin cfg0.N,
    win0_0.index t = ![(grid0.coords t 0).val, (grid0.coords t 1).val, (grid0.coords t 2).val, 0]
    ∧ win0_1.index t = ![(grid0.coords t 0).val, (grid0.coords t 1).val, (grid0.coords t 2).val * 4 - 1, 1]
    ∧ win0_2.index t = ![(grid0.coords t 0).val, (grid0.coords t 1).val, (grid0.coords t 2).val, 1]
    ∧ win0_3.index t = ![(grid0.coords t 0).val, (grid0.coords t 1).val, min ((grid0.coords t 2).val * 4 + 4) 3, 1]
    ∧ win0_4.index t = ![(grid0.coords t 0).val, (grid0.coords t 1).val, (grid0.coords t 2).val * 4 - 1, 2]
    ∧ win0_5.index t = ![(grid0.coords t 0).val, (grid0.coords t 1).val, (grid0.coords t 2).val, 2]
    ∧ win0_6.index t = ![(grid0.coords t 0).val, (grid0.coords t 1).val, min ((grid0.coords t 2).val * 4 + 4) 3, 2]
    ∧ win0_7.index t = ![(grid0.coords t 0).val, (grid0.coords t 1).val, (grid0.coords t 2).val, 0]
    ∧ win0_8.index t = ![(grid0.coords t 0).val, (grid0.coords t 1).val, (grid0.coords t 2).val, 0] := by decide +kernel

/-- The sequence residue of a step's plane. -/
def residueAt (t : Fin cfg0.N) (p : Fin 4) : Fin 16 :=
  ⟨4 * (grid0.coords t 1).val + p.val, by have h : (grid0.coords t 1).val < 4 := (grid0.coords t 1).isLt; omega⟩

theorem start_toInt : ∀ t : Fin cfg0.N,
    (Scalar.muli (BitVec.ofNat 32 (grid0.coords t 2).val) 256#32).toInt = ((256 * (grid0.coords t 2).val : ℕ) : ℤ)
    ∧ 256 * (grid0.coords t 2).val + 256 ≤ 256 := by decide +kernel

section
variable (m : (ℓ : Loc nD τ sig) → Buf (Elt Ideal) ℓ) (c : Dev nD)

theorem read_q (t : Fin cfg0.N) (p : Fin 4) (r : Fin 256) (j : Fin 256) (e : Fin 256) (h : j.val = 256 * (grid0.coords t 2).val + r.val) :
    iblk m c 0 t (ix4 0 p r e) = part (B := 12) (D := 16) (n := 256) (m ((c : Thread nD τ).loc main_arg0)) (grid0.coords t 0) (residueAt t p) 0 (by decide) j e := by
  have ht := (start_toInt t).2
  unfold part lane residueAt
  blk_ext [iblk, V, windows t]

theorem read_k_past (t : Fin cfg0.N) (p : Fin 4) (r : Fin 64) (j : Fin 256) (e : Fin 256) (h : j.val + 64 = 256 * (grid0.coords t 2).val + r.val) :
    iblk m c 1 t (ix4 0 p r e) = part (B := 12) (D := 16) (n := 256) (m ((c : Thread nD τ).loc main_arg0)) (grid0.coords t 0) (residueAt t p) 256 (by decide) j e := by
  have ht := (start_toInt t).2
  unfold part lane residueAt
  blk_ext [iblk, V, windows t]

theorem read_k_here (t : Fin cfg0.N) (p : Fin 4) (r : Fin 256) (j : Fin 256) (e : Fin 256) (h : j.val = 256 * (grid0.coords t 2).val + r.val) :
    iblk m c 2 t (ix4 0 p r e) = part (B := 12) (D := 16) (n := 256) (m ((c : Thread nD τ).loc main_arg0)) (grid0.coords t 0) (residueAt t p) 256 (by decide) j e := by
  have ht := (start_toInt t).2
  unfold part lane residueAt
  blk_ext [iblk, V, windows t]

theorem read_k_next (t : Fin cfg0.N) (p : Fin 4) (r : Fin 64) (j : Fin 256) (e : Fin 256) (h : j.val = 256 * (grid0.coords t 2).val + 256 + r.val) :
    iblk m c 3 t (ix4 0 p r e) = part (B := 12) (D := 16) (n := 256) (m ((c : Thread nD τ).loc main_arg0)) (grid0.coords t 0) (residueAt t p) 256 (by decide) j e := by
  have ht := (start_toInt t).2
  unfold part lane residueAt
  blk_ext [iblk, V, windows t]

theorem read_v_past (t : Fin cfg0.N) (p : Fin 4) (r : Fin 64) (j : Fin 256) (e : Fin 256) (h : j.val + 64 = 256 * (grid0.coords t 2).val + r.val) :
    iblk m c 4 t (ix4 0 p r e) = part (B := 12) (D := 16) (n := 256) (m ((c : Thread nD τ).loc main_arg0)) (grid0.coords t 0) (residueAt t p) 512 (by decide) j e := by
  have ht := (start_toInt t).2
  unfold part lane residueAt
  blk_ext [iblk, V, windows t]

theorem read_v_here (t : Fin cfg0.N) (p : Fin 4) (r : Fin 256) (j : Fin 256) (e : Fin 256) (h : j.val = 256 * (grid0.coords t 2).val + r.val) :
    iblk m c 5 t (ix4 0 p r e) = part (B := 12) (D := 16) (n := 256) (m ((c : Thread nD τ).loc main_arg0)) (grid0.coords t 0) (residueAt t p) 512 (by decide) j e := by
  have ht := (start_toInt t).2
  unfold part lane residueAt
  blk_ext [iblk, V, windows t]

theorem read_v_next (t : Fin cfg0.N) (p : Fin 4) (r : Fin 64) (j : Fin 256) (e : Fin 256) (h : j.val = 256 * (grid0.coords t 2).val + 256 + r.val) :
    iblk m c 6 t (ix4 0 p r e) = part (B := 12) (D := 16) (n := 256) (m ((c : Thread nD τ).loc main_arg0)) (grid0.coords t 0) (residueAt t p) 512 (by decide) j e := by
  have ht := (start_toInt t).2
  unfold part lane residueAt
  blk_ext [iblk, V, windows t]

theorem array_out : (dats m 0 c).arrAt 7 cfg0.N = attOut (B := 12) (D := 16) (n := 256) (m ((c : Thread nD τ).loc main_arg0)) := by
  refine (dats m 0 c).arrAt_eq_of_covers 7 _ (by decide +kernel) fun t hf y => ?_
  blk_simp
  rw [after0_7, outAt, piecesAt]
  idx_vars y
  refine (out_step (aq := fun p => part (B := 12) (D := 16) (n := 256) (m ((c : Thread nD τ).loc main_arg0)) (grid0.coords t 0) (residueAt t p) 0 (by decide))
    (ak := fun p => part (B := 12) (D := 16) (n := 256) (m ((c : Thread nD τ).loc main_arg0)) (grid0.coords t 0) (residueAt t p) 256 (by decide))
    (av := fun p => part (B := 12) (D := 16) (n := 256) (m ((c : Thread nD τ).loc main_arg0)) (grid0.coords t 0) (residueAt t p) 512 (by decide))
    c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ _ _ _ _ _ (start_toInt t).2
    (read_q m c t) (read_k_past m c t) (read_k_here m c t) (read_k_next m c t)
    (read_v_past m c t) (read_v_here m c t) (read_v_next m c t) (start_toInt t).1 _ _ _ _ _).trans ?_
  have he : ((View.whole main_v0_0).slice (win0_7.rect t)).emb (ix4 y0 y1 y2 y3)
      = ix4 (grid0.coords t 0) (residueAt t y1) (place (start_toInt t).2 y2) y3 := by
    unfold place residueAt
    blk_ext [windows t]
  rw [he]
  rfl

theorem array_lse : (dats m 0 c).arrAt 8 cfg0.N = attLse (B := 12) (D := 16) (n := 256) (m ((c : Thread nD τ).loc main_arg0)) := by
  refine (dats m 0 c).arrAt_eq_of_covers 8 _ (by decide +kernel) fun t hf y => ?_
  blk_simp
  rw [after0_8, lseAt, piecesAt]
  idx_vars y
  refine (lse_step (aq := fun p => part (B := 12) (D := 16) (n := 256) (m ((c : Thread nD τ).loc main_arg0)) (grid0.coords t 0) (residueAt t p) 0 (by decide))
    (ak := fun p => part (B := 12) (D := 16) (n := 256) (m ((c : Thread nD τ).loc main_arg0)) (grid0.coords t 0) (residueAt t p) 256 (by decide))
    c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) _ _ _ _ _ _ _ (start_toInt t).2
    (read_q m c t) (read_k_past m c t) (read_k_here m c t) (read_k_next m c t)
    (start_toInt t).1 _ _ _ _ _).trans ?_
  have he : ((View.whole main_v0_1).slice (win0_8.rect t)).emb (ix4 y0 y1 y2 y3)
      = ix4 (grid0.coords t 0) (residueAt t y1) (place (start_toInt t).2 y2) y3 := by
    unfold place residueAt
    blk_ext [windows t]
  rw [he]
  rfl

end

end Cert.Kernel16Ideal.Gen

end
-- ==== Proof.Attn16.Reference.lean ====
module

public import proofs.«01_k».proof.Proof.Gen.Reference16Ideal
public import proofs.«01_k».proof.Proof.Gen.Reference16Ideal.Read
public import proofs.«01_k».proof.Proof.Attn.Whole
public import proofs.«01_k».proof.Proof.Attn.Piece
public import Idealize.ShloMosaic.Lib.Pipeline.ValueKit
public import Idealize.ShloMosaic.Lib.Pointwise

@[expose] public section

set_option maxRecDepth 16384

/-!
# What the reference computes

The stages of the reference read at an index, up to its two results.
-/

noncomputable section

namespace Cert.Reference16Ideal.Read

open Attn Cert.Reference16Ideal.Gen
open Idealize.ShloMosaic Idealize.ShloMosaic.TcCoe Idealize.ShloMosaic.Tactic

variable (x : (⟨S12x16x256x768, .f32⟩ : BufTy).Contents (Elt Ideal))
variable (b : Fin 12) (d : Fin 16) (i j : Fin 256) (L : Fin 256) (e : Fin 64)

theorem headNo_lt : L.val / 64 < 4 := by omega
/-- The head of a lane. -/
def headNo : Fin 4 := ⟨L.val / 64, headNo_lt L⟩
/-- The place of a lane in its head. -/
def inHead : Fin 64 := ⟨L.val % 64, Nat.mod_lt _ (by decide)⟩

theorem q_at : val_main_v1 (F := Ideal) x (ix5 b d i (headNo L) e) = part (B := 12) (D := 16) (n := 256) x b d 0 (by decide) i (headLane L e) := by
  rw [val_main_v1_apply, val_main_v0_apply]
  unfold part lane headLane headNo
  blk_ext []

theorem k_at : val_main_v3 (F := Ideal) x (ix5 b d i (headNo L) e) = part (B := 12) (D := 16) (n := 256) x b d 256 (by decide) i (headLane L e) := by
  rw [val_main_v3_apply, val_main_v2_apply]
  unfold part lane headLane headNo
  blk_ext []

theorem v_at : val_main_v5 (F := Ideal) x (ix5 b d i (headNo L) (inHead L)) = part (B := 12) (D := 16) (n := 256) x b d 512 (by decide) i L := by
  rw [val_main_v5_apply, val_main_v4_apply]
  unfold part lane headNo inHead
  blk_ext []

theorem logit_at : val_main_v6 (F := Ideal) x (ix5 b d (headNo L) i j)
    = posLogit (part (B := 12) (D := 16) (n := 256) x b d 0 (by decide)) (part (B := 12) (D := 16) (n := 256) x b d 256 (by decide)) i L j := by
  rw [val_main_v6_apply]
  refine Finset.sum_congr rfl fun e _ => ?_
  rw [← q_at, ← k_at]
  congr 1 <;> exact congrArg _ (by blk_ext [])

theorem mask_at : val_main_v15 (F := Ideal) (ix2 i j) = 1 ↔ near i j := by
  have hi := i.isLt; have hj := j.isLt
  rw [val_main_v15_apply, val_main_v13_apply, val_main_v12_apply, val_main_v10_apply, val_main_v11_apply, val_main_v14_apply,
    val_main_v8_apply, val_main_v9_apply, val_main_v7_apply, val_main_v7_apply, val_main_c_apply]
  show BitVec.ofBool (BitVec.sle (IntOp.absi (IntOp.subi (BitVec.ofNat 32 j.val) (BitVec.ofNat 32 i.val))) 64#32) = 1 ↔ _
  rw [bool_one, BitVec.sle_eq_decide, decide_eq_true_iff,
    toInt_abs _ (toInt_sub _ _ (WordArith.toInt_ofNat_small j.val (by omega)) (WordArith.toInt_ofNat_small i.val (by omega))
      (by omega) (by omega)) (by omega)]
  show |(j.val : ℤ) - i.val| ≤ 64 ↔ _
  unfold near
  rw [abs_le]
  omega

theorem pick {M : Prop} [Decidable M] {w : BitVec 1} (h : w = 1 ↔ M) (u v : EReal) : Scalar.select w u v = if M then u else v := by
  unfold Scalar.select
  by_cases hm : M
  · rw [if_pos hm, if_pos (h.2 hm)]
  · rw [if_neg hm, if_neg (mt h.1 hm)]

theorem masked_at : val_main_v16 (F := Ideal) x (ix5 b d (headNo L) i j)
    = logit (near i) (posLogit (part (B := 12) (D := 16) (n := 256) x b d 0 (by decide)) (part (B := 12) (D := 16) (n := 256) x b d 256 (by decide)) i L) j := by
  rw [val_main_v16_apply, logit_at, val_main_call0_v1_apply, val_main_call0_v2_apply]
  exact pick ((iff_of_eq (by congr 2; blk_ext [])).trans (mask_at i j)) _ _

theorem top_at : val_main_v17 (F := Ideal) x (ix4 b d (headNo L) i)
    = top (near i) (posLogit (part (B := 12) (D := 16) (n := 256) x b d 0 (by decide)) (part (B := 12) (D := 16) (n := 256) x b d 256 (by decide)) i L) := by
  pointwise [val_main_v17]
  unfold top
  congr 1
  funext j
  refine Eq.trans (congrArg (val_main_v16 (F := Ideal) x) ?_) (masked_at x b d i j L)
  blk_ext []

theorem weight_at : val_main_v22 (F := Ideal) x (ix5 b d (headNo L) i j)
    = weight (near i) (posLogit (part (B := 12) (D := 16) (n := 256) x b d 0 (by decide)) (part (B := 12) (D := 16) (n := 256) x b d 256 (by decide)) i L) j := by
  rw [val_main_v22_apply, val_main_call1_v1_apply, val_main_call1_v2_apply, val_main_v21_apply, val_main_v20_apply, masked_at,
    val_main_v19_apply, val_main_v18_apply]
  refine (pick ((iff_of_eq (by congr 2; blk_ext [])).trans (mask_at i j)) _ _).trans ?_
  unfold weight
  rw [← top_at]
  have h0 : val_main_call1_v0 (F := Ideal) (idx_main_call1_v2 (ix5 b d (headNo L) i j)) = 0 := Ideal.ofBits_zero_f32
  rw [h0]
  exact if_congr Iff.rfl (congrArg Ideal.exp (congrArg _ (congrArg (val_main_v17 (F := Ideal) x) (by blk_ext [])))) rfl

theorem den_at : val_main_v26 (F := Ideal) x (ix5 b d (headNo L) i 0)
    = den (near i) (posLogit (part (B := 12) (D := 16) (n := 256) x b d 0 (by decide)) (part (B := 12) (D := 16) (n := 256) x b d 256 (by decide)) i L) := by
  rw [val_main_v26_apply, val_main_v24_apply, val_main_v23_apply, val_main_v25_apply]
  have h0 : val_main_cst_2 (F := Ideal) (Shape.Idx.first h_S_) = 0 := Ideal.ofBits_zero_f32
  rw [h0, zero_add]
  unfold den
  refine congrArg₂ max (Finset.sum_congr rfl fun j _ => ?_) rfl
  rw [← weight_at]
  exact congrArg (val_main_v22 (F := Ideal) x) (by blk_ext [])

theorem quot_at : val_main_v28 (F := Ideal) x (ix5 b d (headNo L) i j)
    = Ideal.div (weight (near i) (posLogit (part (B := 12) (D := 16) (n := 256) x b d 0 (by decide)) (part (B := 12) (D := 16) (n := 256) x b d 256 (by decide)) i L) j) (den (near i) (posLogit (part (B := 12) (D := 16) (n := 256) x b d 0 (by decide)) (part (B := 12) (D := 16) (n := 256) x b d 256 (by decide)) i L)) := by
  rw [val_main_v28_apply, val_main_v27_apply, ← weight_at, ← den_at]
  exact congrArg (Ideal.div _) (congrArg (val_main_v26 (F := Ideal) x) (by blk_ext []))

theorem out_at : val_main_v37 (F := Ideal) x (ix4 b d i L)
    = attOut (B := 12) (D := 16) (n := 256) x (ix4 b d i L) := by
  have hv : idx_main_v30 (idx_main_v37 (ix4 b d i L)) = ix5 b d (headNo L) (inHead L) i := by
    unfold headNo inHead
    blk_ext []
  rw [val_main_v37_apply, val_main_v30_apply, hv, val_main_v29_apply]
  show _ = posOut _ _ _ i L
  unfold posOut outDivSum
  refine Finset.sum_congr rfl fun j _ => congrArg₂ (· * ·) ?_ ?_
  · show _ = part x b d 512 _ j L
    rw [← v_at]
    exact congrArg (val_main_v5 (F := Ideal) x) (by blk_ext [])
  · show _ = Ideal.div (weight _ (posLogit (part x b d 0 _) (part x b d 256 _) i L) j) (den _ (posLogit (part x b d 0 _) (part x b d 256 _) i L))
    rw [← quot_at]
    exact congrArg (val_main_v28 (F := Ideal) x) (by blk_ext [])

theorem lse_at : val_main_v38 (F := Ideal) x (ix4 b d i L)
    = attLse (B := 12) (D := 16) (n := 256) x (ix4 b d i L) := by
  have hu : idx_main_v38 (ix4 b d i L) = ix5 b d i (headNo L) (inHead L) := by
    unfold headNo inHead
    blk_ext []
  have hv : idx_main_v33 (idx_main_v34 (idx_main_v35 (idx_main_v36 (ix5 b d i (headNo L) (inHead L))))) = ix5 b d (headNo L) i 0 := by
    unfold headNo inHead
    blk_ext []
  have ht : idx_main_v18 (ix5 b d (headNo L) i 0) = ix4 b d (headNo L) i := by blk_ext []
  rw [val_main_v38_apply, hu, val_main_v36_apply, val_main_v35_apply, val_main_v34_apply, val_main_v33_apply, hv, val_main_v32_apply,
    val_main_v31_apply, den_at, val_main_v18_apply, ht, top_at]
  rfl

theorem value_out : val_main_v37 (F := Ideal) x = attOut (B := 12) (D := 16) (n := 256) x := by
  funext y
  idx_vars y
  exact out_at x y0 y1 y2 y3

theorem value_lse : val_main_v38 (F := Ideal) x = attLse (B := 12) (D := 16) (n := 256) x := by
  funext y
  idx_vars y
  exact lse_at x y0 y1 y2 y3

end Cert.Reference16Ideal.Read

end
-- ==== Proof.Attn16.Equation.lean ====
module

public import proofs.«01_k».proof.Defs
public import proofs.«01_k».proof.Proof.Attn16.Array
public import proofs.«01_k».proof.Proof.Attn16.Reference
public import proofs.«01_k».proof.Proof.Gen.Reference16Ideal.Run

@[expose] public section

/-!
# The kernel at dilation 16 computes the reference's attention
-/

noncomputable section

namespace Cert.Proof.Attn16

open Idealize.ShloMosaic Idealize.ShloMosaic.TcCoe Idealize.SL.Sem

/-- The kernel's run: its two results and its argument. -/
theorem kernel_run (m : (ℓ : Loc Kernel16Ideal.nD Kernel16Ideal.τ Kernel16Ideal.sig) → Buf (Elt Ideal) ℓ)
    (g : Dev Kernel16Ideal.nD → PrngReg) :
    θ_run (Kernel16Ideal.defs (F := Ideal)) (onTc (τ := Kernel16Ideal.τ) (Kernel16Ideal.main (F := Ideal))) ⟨m, fun _ => 0, g⟩ (fun r =>
      ∀ c : Dev Kernel16Ideal.nD,
        r.2.mem ((c.tc : Thread Kernel16Ideal.nD Kernel16Ideal.τ).loc Kernel16Ideal.main_v0_0)
            = _root_.Attn.attOut (m ((c.tc : Thread Kernel16Ideal.nD Kernel16Ideal.τ).loc Kernel16Ideal.main_arg0))
          ∧ r.2.mem ((c.tc : Thread Kernel16Ideal.nD Kernel16Ideal.τ).loc Kernel16Ideal.main_v0_1)
            = _root_.Attn.attLse (m ((c.tc : Thread Kernel16Ideal.nD Kernel16Ideal.τ).loc Kernel16Ideal.main_arg0))
          ∧ r.2.mem ((c.tc : Thread Kernel16Ideal.nD Kernel16Ideal.τ).loc Kernel16Ideal.main_arg0)
            = m ((c.tc : Thread Kernel16Ideal.nD Kernel16Ideal.τ).loc Kernel16Ideal.main_arg0)) :=
  (θ_run _ _ _).mono (fun r h c => ⟨(h c).1.trans (Kernel16Ideal.Gen.array_out m c), (h c).2.1.trans (Kernel16Ideal.Gen.array_lse m c), (h c).2.2⟩)
    (Kernel16Ideal.Gen.run_blocks m g)

/-- The reference's run: the same two results, of its own argument. -/
theorem reference_run (m : (ℓ : Loc Reference16Ideal.nD Reference16Ideal.τ Reference16Ideal.sig) → Buf (Elt Ideal) ℓ)
    (g : Dev Reference16Ideal.nD → PrngReg) :
    θ_run (Reference16Ideal.defs (F := Ideal)) (onTc (τ := Reference16Ideal.τ) (Reference16Ideal.main (F := Ideal))) ⟨m, fun _ => 0, g⟩ (fun r =>
      ∀ c : Dev Reference16Ideal.nD,
        r.2.mem ((c.tc : Thread Reference16Ideal.nD Reference16Ideal.τ).loc Reference16Ideal.main_v37)
            = _root_.Attn.attOut (m ((c.tc : Thread Reference16Ideal.nD Reference16Ideal.τ).loc Reference16Ideal.main_arg0))
          ∧ r.2.mem ((c.tc : Thread Reference16Ideal.nD Reference16Ideal.τ).loc Reference16Ideal.main_v38)
            = _root_.Attn.attLse (m ((c.tc : Thread Reference16Ideal.nD Reference16Ideal.τ).loc Reference16Ideal.main_arg0))
          ∧ r.2.mem ((c.tc : Thread Reference16Ideal.nD Reference16Ideal.τ).loc Reference16Ideal.main_arg0)
            = m ((c.tc : Thread Reference16Ideal.nD Reference16Ideal.τ).loc Reference16Ideal.main_arg0)) :=
  (θ_run _ _ _).mono (fun r h c => ⟨(h c).1.trans ((Reference16Ideal.Read.val_main_v37_eq m c).trans (Reference16Ideal.Read.value_out _)),
      (h c).2.1.trans ((Reference16Ideal.Read.val_main_v38_eq m c).trans (Reference16Ideal.Read.value_lse _)), (h c).2.2⟩)
    (Reference16Ideal.Value.run m g)

theorem algebraic : Cert.algebraic_Kernel16Ideal_Reference16Ideal := by
  intro m g m' g' _ hm
  refine ⟨_, _, kernel_run m g, ?_⟩
  refine (θ_run _ _ _).mono (fun r h c => ?_) (reference_run m' g')
  rw [← hm c]
  exact h c

end Cert.Proof.Attn16

end
-- ==== Proof.Ffn.BodyIdeal.lean ====
module

public import proofs.«01_k».proof.Proof.Gen.KernelFfnIdeal.Skeleton
public import proofs.«01_k».proof.Proof.Gen.KernelFfnIdeal.Frame

@[expose] public section

set_option maxRecDepth 16384

/-!
# The channel mixer's body

The body stores its tile into the first result on the steps before the 64th and into the second from there on; the
other result's buffer it leaves alone.
-/

noncomputable section

namespace Cert.KernelFfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The row numbers of a tile. -/
abbrev rowNo : IVec S512x1536 32 := iota .tc S512x1536 32 [0] iota_S512x1536_d0_w32

/-- What a step stores, over what it loads. -/
def stored (p n : BitVec 1) (x0 : Vec F S512x1024 .f32) (x1 x2 : Vec F S8x1024 .f32) (W W' Wu Wu' : Vec F S1024x1536 .bf16)
    (w w' : Vec F S3x1536 .f32) (wb wb' : Vec F S1x1536 .f32) (wd wd' : Vec F S1536x1024 .bf16) (g b : Vec F S1x1024 .f32) :
    FVec F S512x1024 .f32 :=
  k0_pay1 (k0_pay10 g) (k0_pay11 b)
    (k0_pay12 x0 (k0_pay2 x0)
      (k0_pay8 (k0_pay2 x0) (k0_pay7 p n rowNo (k0_pay4 x0 x1 x2 W) (k0_pay5 x0 x1 x2 W) (k0_pay6 x0 x1 x2 W) (Scalar.ofBits .f32 0x00000000#32) w wb) Wu wd)
      (k0_pay9 p n (k0_pay3 x0 x1 x2) rowNo W' w') wb' Wu' wd')
    (k0_pay13 x0 (k0_pay2 x0)
      (k0_pay8 (k0_pay2 x0) (k0_pay7 p n rowNo (k0_pay4 x0 x1 x2 W) (k0_pay5 x0 x1 x2 W) (k0_pay6 x0 x1 x2 W) (Scalar.ofBits .f32 0x00000000#32) w wb) Wu wd)
      (k0_pay9 p n (k0_pay3 x0 x1 x2) rowNo W' w') wb' Wu' wd')

/-- The divisor the step number is reduced by. -/
def eight : BitVec 32 := Scalar.select (Scalar.cmpi .eq 8#32 0#32) 1#32 8#32
/-- The step's tile within its sequence, as the body computes it. -/
def tileNo (i : grid0.Coords) : BitVec 32 :=
  Scalar.select (Scalar.andi (Scalar.xori (Scalar.cmpi .slt (Scalar.remsi (BitVec.ofNat 32 (i 0).val) eight) 0#32) (Scalar.cmpi .slt eight 0#32))
      (Scalar.cmpi .ne (Scalar.remsi (BitVec.ofNat 32 (i 0).val) eight) 0#32))
    (Scalar.addi (Scalar.remsi (BitVec.ofNat 32 (i 0).val) eight) eight) (Scalar.remsi (BitVec.ofNat 32 (i 0).val) eight)
/-- Is there a tile before this one in its sequence? -/
def hasPrev (i : grid0.Coords) : BitVec 1 := Scalar.cmpi .ne (tileNo i) 0#32
/-- Is there a tile after this one in its sequence? -/
def hasNext (i : grid0.Coords) : BitVec 1 := Scalar.cmpi .ne (tileNo i) 7#32

abbrev wholeTile : Rect S512x1024 := Rect.unit (s := S512x1024) ![0, 0] S512x1024.size inb_S512x1024_S512x1024_0_0
abbrev wholeHalo : Rect S8x1024 := Rect.unit (s := S8x1024) ![0, 0] S8x1024.size inb_S8x1024_S8x1024_0_0
abbrev wholeRow : Rect S1x1024 := Rect.unit (s := S1x1024) ![0, 0] S1x1024.size inb_S1x1024_S1x1024_0_0

/-- The tile a step stores, over the blocks of its windows. -/
def tileVal (i : grid0.Coords) (x0 : Vec F S512x1024 .f32) (x1 : Vec F S8x1024 .f32) (x2 : Vec F S8x1024 .f32) (x3 : Vec F S1024x6144 .bf16) (x4 : Vec F S3x3072 .f32) (x5 : Vec F S1x3072 .f32) (x6 : Vec F S3072x1024 .bf16) (x7 : Vec F S1x1024 .f32) (x8 : Vec F S1x1024 .f32) : Vec F S512x1024 .f32 :=
  stored (hasPrev i) (hasNext i) (View.ld x0 wholeTile) (View.ld x1 wholeHalo) (View.ld x2 wholeHalo)
    (View.ld x3 (Rect.unit (s := S1024x6144) ![0, 0] S1024x1536.size inb_S1024x6144_S1024x1536_0_0))
    (View.ld x3 (Rect.unit (s := S1024x6144) ![0, 1536] S1024x1536.size inb_S1024x6144_S1024x1536_0_1536))
    (View.ld x3 (Rect.unit (s := S1024x6144) ![0, 3072] S1024x1536.size inb_S1024x6144_S1024x1536_0_3072))
    (View.ld x3 (Rect.unit (s := S1024x6144) ![0, 4608] S1024x1536.size inb_S1024x6144_S1024x1536_0_4608))
    (View.ld x4 (Rect.unit (s := S3x3072) ![0, 0] S3x1536.size inb_S3x3072_S3x1536_0_0))
    (View.ld x4 (Rect.unit (s := S3x3072) ![0, 1536] S3x1536.size inb_S3x3072_S3x1536_0_1536))
    (View.ld x5 (Rect.unit (s := S1x3072) ![0, 0] S1x1536.size inb_S1x3072_S1x1536_0_0))
    (View.ld x5 (Rect.unit (s := S1x3072) ![0, 1536] S1x1536.size inb_S1x3072_S1x1536_0_1536))
    (View.ld x6 (Rect.unit (s := S3072x1024) ![0, 0] S1536x1024.size inb_S3072x1024_S1536x1024_0_0))
    (View.ld x6 (Rect.unit (s := S3072x1024) ![1536, 0] S1536x1024.size inb_S3072x1024_S1536x1024_1536_0))
    (View.ld x7 wholeRow) (View.ld x8 wholeRow)

/-- A result's buffer once the tile is stored into it. -/
def left (i : grid0.Coords) (x0 : Vec F S512x1024 .f32) (x1 : Vec F S8x1024 .f32) (x2 : Vec F S8x1024 .f32) (x3 : Vec F S1024x6144 .bf16) (x4 : Vec F S3x3072 .f32) (x5 : Vec F S1x3072 .f32) (x6 : Vec F S3072x1024 .bf16) (x7 : Vec F S1x1024 .f32) (x8 : Vec F S1x1024 .f32) : Vec F S512x1024 .f32 :=
  View.canon [⟨wholeTile, tileVal i x0 x1 x2 x3 x4 x5 x6 x7 x8⟩]

theorem left_covers (p0 : Vec F S512x1024 .f32) (y : S512x1024.Idx) :
    ∃ pc ∈ ([⟨wholeTile, p0⟩] : List (View.Piece (Elt F) S512x1024 .f32)), y ∈ pc.1.set :=
  View.cover_of_tiled [⟨wholeTile, p0⟩] S512x1024.size (by rfl) y

set_option maxHeartbeats 2000000 in
/-- The body on a step of the first result: the inputs stay, the tile is stored, the other buffer stays. -/
theorem body_first (c : Dev nD) (E : Set ℕ) (i : grid0.Coords) (h1 : k0_cond1 i = 1#1) (h2 : ¬ k0_cond2 i = 1#1) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x6144 .bf16) (harg4 : arg4.IsWhole) (arg5 : Memref sig .tc .vmem S3x3072 .f32) (harg5 : arg5.IsWhole) (arg6 : Memref sig .tc .vmem S1x3072 .f32) (harg6 : arg6.IsWhole) (arg7 : Memref sig .tc .vmem S3072x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole)
    (x0 : Vec F S512x1024 .f32) (x1 : Vec F S8x1024 .f32) (x2 : Vec F S8x1024 .f32) (x3 : Vec F S1024x6144 .bf16) (x4 : Vec F S3x3072 .f32) (x5 : Vec F S1x3072 .f32) (x6 : Vec F S3072x1024 .bf16) (x7 : Vec F S1x1024 .f32) (x8 : Vec F S1x1024 .f32) (z : Vec F S512x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare z
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (left i x0 x1 x2 x3 x4 x5 x6 x7 x8) ∗ owns (c : Thread nD τ) arg11 fullShare z) -∗ K ⟨⟩))
      ⊢ wp frame (wpE (defs₀ (F := F)) Variants.none c none) E (cc0_ffn_norm i arg1 harg1 arg2 harg2 arg3 harg3 arg4 harg4 arg5 harg5 arg6 harg6 arg7 harg7 arg8 harg8 arg9 harg9 arg10 harg10 arg11 harg11) K := by
  simp only [cc0_ffn_norm_eq_skeleton]; unfold cc0_ffn_norm_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, Hk⟩
  subst hf0 hf1 hf2 hf3 hf4 hf5 hf6 hf7 hf8 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (left_covers _)).trans ?_
    rfl
  iexists f10; isplitr; · ipureintro; rfl
  iexact H10

set_option maxHeartbeats 2000000 in
/-- The body on a step of the second result: the inputs stay, the tile is stored, the other buffer stays. -/
theorem body_second (c : Dev nD) (E : Set ℕ) (i : grid0.Coords) (h1 : ¬ k0_cond1 i = 1#1) (h2 : k0_cond2 i = 1#1) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x6144 .bf16) (harg4 : arg4.IsWhole) (arg5 : Memref sig .tc .vmem S3x3072 .f32) (harg5 : arg5.IsWhole) (arg6 : Memref sig .tc .vmem S1x3072 .f32) (harg6 : arg6.IsWhole) (arg7 : Memref sig .tc .vmem S3072x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole)
    (x0 : Vec F S512x1024 .f32) (x1 : Vec F S8x1024 .f32) (x2 : Vec F S8x1024 .f32) (x3 : Vec F S1024x6144 .bf16) (x4 : Vec F S3x3072 .f32) (x5 : Vec F S1x3072 .f32) (x6 : Vec F S3072x1024 .bf16) (x7 : Vec F S1x1024 .f32) (x8 : Vec F S1x1024 .f32) (z : Vec F S512x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare z ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare z ∗ owns (c : Thread nD τ) arg11 fullShare (left i x0 x1 x2 x3 x4 x5 x6 x7 x8)) -∗ K ⟨⟩))
      ⊢ wp frame (wpE (defs₀ (F := F)) Variants.none c none) E (cc0_ffn_norm i arg1 harg1 arg2 harg2 arg3 harg3 arg4 harg4 arg5 harg5 arg6 harg6 arg7 harg7 arg8 harg8 arg9 harg9 arg10 harg10 arg11 harg11) K := by
  simp only [cc0_ffn_norm_eq_skeleton]; unfold cc0_ffn_norm_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f10, %hf10, H10⟩, ⟨%d9, %f9, -, H9⟩, Hk⟩
  subst hf0 hf1 hf2 hf3 hf4 hf5 hf6 hf7 hf8 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H10]
  · iexists f10; isplitr; · ipureintro; rfl
    iexact H10
  iexists _; isplitr
  swap; · iexact H9
  ipureintro
  refine (View.read_writes_eq_canon _ _ _ (left_covers _)).trans ?_
  rfl

end Cert.KernelFfnIdeal.Gen

end
-- ==== Proof.Layer.Math.lean ====
module

public import Idealize.ShloMosaic.Lib.IdealHost
public import Idealize.ShloMosaic.PureOps.Ideal.Laws
public import Idealize.ShloMosaic.Lib.Pipeline.ValueKit
public import Idealize.ShloMosaic.Lib.Pointwise

@[expose] public section

/-!
# The layer's parts on the extended reals

Token positions, the centred convolution of width three along a sequence, the gelu, and layer normalisation; and the
convolution as a tile of 512 positions computes it, from its own rows and one row of each neighbour.
-/

noncomputable section

namespace Layer

open Idealize.ShloMosaic

/-- The row of a token among all 49152, from its sequence and its place in it. -/
def tok (b : Fin 12) (s : Fin 4096) : Fin 49152 := ⟨4096 * b.val + s.val, by omega⟩
/-- The place in its sequence of a row of tile `j` of that sequence. -/
def spot (j : Fin 8) (r : Fin 512) : Fin 4096 := ⟨512 * j.val + r.val, by omega⟩
/-- The sequence a grid step works on. -/
def seqOf (t : Fin 96) : Fin 12 := ⟨t.val / 8, by omega⟩
/-- The tile of its sequence a grid step works on. -/
def tileOf (t : Fin 96) : Fin 8 := ⟨t.val % 8, Nat.mod_lt _ (by decide)⟩

/-- The value one position earlier, nothing before the start. -/
def before (h : Fin 4096 → EReal) (s : Fin 4096) : EReal := if s.val = 0 then 0 else h ⟨s.val - 1, by omega⟩
/-- The value one position later, nothing past the end. -/
def after (h : Fin 4096 → EReal) (s : Fin 4096) : EReal := if hs : s.val = 4095 then 0 else h ⟨s.val + 1, by omega⟩
/-- The centred convolution of width three. -/
def conv (h : Fin 4096 → EReal) (w : Fin 3 → EReal) (s : Fin 4096) : EReal := before h s * w 0 + h s * w 1 + after h s * w 2

/-- The gelu, by its formula with the hyperbolic tangent. -/
def gelu (x : EReal) : EReal :=
  x * (Ideal.ofBits .f32 0x3F000000#32 * (1 + Ideal.tanh (Ideal.ofBits .f32 0x3F4C422A#32 * (x + Ideal.ofBits .f32 0x3D372713#32 * (x * (x * x))))))

/-- The mean of a row of 1024. -/
def mean (z : Fin 1024 → EReal) : EReal := Ideal.div (∑ k, z k) (Ideal.ofBits .f32 0x44800000#32)
/-- Layer normalisation of a row. -/
def norm (z g b : Fin 1024 → EReal) (e : Fin 1024) : EReal :=
  (z e - mean z) * Ideal.rsqrt (mean (fun k => (z k - mean z) * (z k - mean z)) + Ideal.ofBits .f32 0x3727C5AC#32) * g e + b e

theorem row_is {r n : Nat} (hr : r < 512) (hn : n < 512) : IntOp.cmpi .eq (BitVec.ofNat 32 r) (BitVec.ofNat 32 n) = 1 ↔ r = n := by
  show BitVec.ofBool (decide (BitVec.ofNat 32 r = BitVec.ofNat 32 n)) = 1 ↔ _
  have hb : ∀ x : Bool, BitVec.ofBool x = 1 ↔ x = true := by decide
  rw [hb, decide_eq_true_iff, ← BitVec.toNat_inj]
  simp only [BitVec.toNat_ofNat]
  omega

/-- A tile's convolution: the row above its first is another block's last, the row below its last another block's
first, and both are left out at the sequence's ends. -/
theorem conv_tile (h : Fin 4096 → EReal) (j : Fin 8) (p n : BitVec 1) (hp : p = 1 ↔ j.val ≠ 0) (hn : n = 1 ↔ j.val ≠ 7)
    (T : Fin 528 → EReal) (hT : ∀ r : Fin 512, T ⟨r.val, by omega⟩ = h (spot j r))
    (hb : ∀ s : Fin 4096, s.val + 1 = 512 * j.val → T 519 = h s) (ha : ∀ s : Fin 4096, s.val = 512 * j.val + 512 → T 520 = h s)
    (w : Fin 3 → EReal) (r : Fin 512) :
    Scalar.select (IntOp.cmpi .eq (BitVec.ofNat 32 r.val) 0#32) (Scalar.select p (T 519) 0) (T ⟨(r.val + 512 - 1) % 512, by omega⟩) * w 0
      + T ⟨r.val, by omega⟩ * w 1
      + Scalar.select (IntOp.cmpi .eq (BitVec.ofNat 32 r.val) 511#32) (Scalar.select n (T 520) 0) (T ⟨(r.val + 512 - 511) % 512, by omega⟩) * w 2
    = conv h w (spot j r) := by
  have e0 := row_is r.isLt (n := 0) (by decide)
  have e1 := row_is r.isLt (n := 511) (by decide)
  have h1 : Scalar.select (IntOp.cmpi .eq (BitVec.ofNat 32 r.val) 0#32) (Scalar.select p (T 519) 0) (T ⟨(r.val + 512 - 1) % 512, by omega⟩) = before h (spot j r) := by
    unfold Scalar.select before
    by_cases hr : r.val = 0
    · rw [if_pos (e0.2 hr)]
      by_cases hj : j.val = 0
      · rw [if_neg (fun hq => (hp.1 hq) hj), if_pos (by simp only [spot]; omega)]
      · rw [if_pos (hp.2 hj), if_neg (by simp only [spot]; omega)]
        exact hb _ (by simp only [spot]; omega)
    · rw [if_neg (fun hq => hr (e0.1 hq)), if_neg (by simp only [spot]; omega)]
      have := hT ⟨r.val - 1, by omega⟩
      refine Eq.trans (congrArg T (Fin.ext ?_)) (this.trans (congrArg h (Fin.ext ?_)))
      · show (r.val + 512 - 1) % 512 = r.val - 1; omega
      · simp only [spot]; omega
  have h2 : Scalar.select (IntOp.cmpi .eq (BitVec.ofNat 32 r.val) 511#32) (Scalar.select n (T 520) 0) (T ⟨(r.val + 512 - 511) % 512, by omega⟩) = after h (spot j r) := by
    unfold Scalar.select after
    by_cases hr : r.val = 511
    · rw [if_pos (e1.2 hr)]
      by_cases hj : j.val = 7
      · rw [if_neg (fun hq => (hn.1 hq) hj), dif_pos (by simp only [spot]; omega)]
      · rw [if_pos (hn.2 hj), dif_neg (by simp only [spot]; omega)]
        exact ha _ (by simp only [spot]; omega)
    · rw [if_neg (fun hq => hr (e1.1 hq)), dif_neg (by simp only [spot]; omega)]
      have := hT ⟨r.val + 1, by omega⟩
      refine Eq.trans (congrArg T (Fin.ext ?_)) (this.trans (congrArg h (Fin.ext ?_)))
      · show (r.val + 512 - 511) % 512 = r.val + 1; omega
      · simp only [spot]; omega
  rw [h1, h2, hT]
  rfl

/-- Where a part of a two-dimensional buffer, taken from an offset, has its entries. -/
theorem at_offset {A B a b : Nat} (o : Fin 2 → Nat) (inb : ∀ i, o i + (![a, b] : Fin 2 → Nat) i ≤ (![A, B] : Fin 2 → Nat) i)
    (k : Fin a) (f : Fin b) (k' : Fin A) (f' : Fin B) (h0 : k'.val = o 0 + k.val) (h1 : f'.val = o 1 + f.val) :
    (Rect.unit (s := ⟨2, ![A, B]⟩) o ![a, b] inb).idx (ix2 k f) = ix2 k' f' := by
  funext i
  refine Fin.ext ?_
  match i with
  | 0 => show o 0 + 1 * k.val = k'.val; omega
  | 1 => show o 1 + 1 * f.val = f'.val; omega

end Layer

end
-- ==== Proof.Ffn.Spec.lean ====
module

public import proofs.«01_k».proof.Proof.Layer.Math

@[expose] public section

/-!
# The channel mixer of one token

The hidden columns, the gated activation, the residual and the normalisation, as functions of the arrays.
-/

noncomputable section

namespace Layer

open Idealize.ShloMosaic

/-- The column of the gate half that feeds hidden unit `f`. -/
def gateCol (f : Fin 3072) : Fin 6144 := ⟨f.val, by omega⟩
/-- The column of the other half. -/
def valueCol (f : Fin 3072) : Fin 6144 := ⟨3072 + f.val, by omega⟩
/-- Hidden unit `f` of chunk `c`. -/
def unit (c : Fin 2) (f : Fin 1536) : Fin 3072 := ⟨1536 * c.val + f.val, by omega⟩

section
variable (x : (⟨2, ![49152, 1024]⟩ : Shape).Idx → EReal) (wup : (⟨2, ![1024, 6144]⟩ : Shape).Idx → EReal)
  (cw : (⟨2, ![3, 3072]⟩ : Shape).Idx → EReal) (cb : (⟨1, ![3072]⟩ : Shape).Idx → EReal)
  (wdn : (⟨2, ![3072, 1024]⟩ : Shape).Idx → EReal) (g lb : (⟨1, ![1024]⟩ : Shape).Idx → EReal)

/-- A hidden column of a token. -/
def hid (b : Fin 12) (f : Fin 6144) (s : Fin 4096) : EReal := ∑ k : Fin 1024, x (ix2 (tok b s) k) * wup (ix2 k f)
/-- A gated hidden unit of a token. -/
def act (b : Fin 12) (s : Fin 4096) (f : Fin 3072) : EReal :=
  gelu (conv (hid x wup b (gateCol f)) (fun i => cw (ix2 i f)) s + cb (ix1 f)) * hid x wup b (valueCol f) s
/-- The residual sum of a token. -/
def mixed (b : Fin 12) (s : Fin 4096) (e : Fin 1024) : EReal :=
  Ideal.ofBits .f32 0x3FB504F3#32 * x (ix2 (tok b s) e) + ∑ f : Fin 3072, act x wup cw cb b s f * wdn (ix2 f e)
/-- The channel mixer's output for a token. -/
def ffn (b : Fin 12) (s : Fin 4096) (e : Fin 1024) : EReal :=
  norm (mixed x wup cw cb wdn b s) (fun k => g (ix1 k)) (fun k => lb (ix1 k)) e

/-- The first result: the first eight sequences. -/
def ffnFirst (y : (⟨2, ![32768, 1024]⟩ : Shape).Idx) : EReal :=
  ffn x wup cw cb wdn g lb ⟨(y 0).val / 4096, by have : (y 0).val < 32768 := (y 0).isLt; omega⟩ ⟨(y 0).val % 4096, Nat.mod_lt _ (by decide)⟩ (y 1)
/-- The second result: the other four. -/
def ffnSecond (y : (⟨2, ![16384, 1024]⟩ : Shape).Idx) : EReal :=
  ffn x wup cw cb wdn g lb ⟨8 + (y 0).val / 4096, by have : (y 0).val < 16384 := (y 0).isLt; omega⟩ ⟨(y 0).val % 4096, Nat.mod_lt _ (by decide)⟩ (y 1)

end

/-- A sum over the hidden units, chunk by chunk. -/
theorem sum_units (a : Fin 3072 → EReal) : ∑ f, a f = (∑ f, a (unit 0 f)) + ∑ f, a (unit 1 f) := by
  rw [show (∑ f : Fin 3072, a f) = ∑ f : Fin (1536 + 1536), a f from rfl, Fin.sum_univ_add]
  refine congrArg₂ (· + ·) (Finset.sum_congr rfl fun f _ => congrArg a (Fin.ext ?_)) (Finset.sum_congr rfl fun f _ => congrArg a (Fin.ext ?_))
  · simp [unit]
  · simp [unit, Nat.add_comm]

end Layer

end
-- ==== Proof.Ffn.Step.lean ====
module

public import proofs.«01_k».proof.Proof.Ffn.BodyIdeal
public import proofs.«01_k».proof.Proof.Ffn.Spec

@[expose] public section

/-!
# One grid step of the channel mixer

What the step stores, row by row, from the tile, the two neighbouring rows and the weights.
-/

noncomputable section

namespace Cert.KernelFfnIdeal.Gen

open Idealize.ShloMosaic Idealize.ShloMosaic.TcCoe Idealize.ShloMosaic.Tactic
open Layer

section rows
variable (x0 : Vec Ideal S512x1024 .f32) (x1 x2 : Vec Ideal S8x1024 .f32) (k : Fin 1024)

theorem own_row (r : Fin 512) : k0_pay3 x0 x1 x2 (ix2 ⟨r.val, by omega⟩ k) = x0 (ix2 r k) := by
  pointwise [k0_pay3, k0_pay2]

theorem row_above : k0_pay3 x0 x1 x2 (ix2 519 k) = x1 (ix2 7 k) := by
  pointwise [k0_pay3, k0_pay2]

theorem row_below : k0_pay3 x0 x1 x2 (ix2 520 k) = x2 (ix2 0 k) := by
  pointwise [k0_pay3, k0_pay2]

end rows

/-- A hidden column of the tile and its neighbouring rows. -/
def column (X : FVec Ideal S528x1024 .bf16) (W : Vec Ideal S1024x1536 .bf16) (f : Fin 1536) (i : Fin 528) : EReal :=
  ∑ k : Fin 1024, X (ix2 i k) * W (ix2 k f)

/-- The convolution of a column at a row of the tile, with the selections the tile makes. -/
def tileConv (p n : BitVec 1) (T : Fin 528 → EReal) (w : Fin 3 → EReal) (r : Fin 512) : EReal :=
  Scalar.select (IntOp.cmpi .eq (BitVec.ofNat 32 r.val) 0#32) (Scalar.select p (T 519) 0) (T ⟨(r.val + 512 - 1) % 512, by omega⟩) * w 0
    + T ⟨r.val, by omega⟩ * w 1
    + Scalar.select (IntOp.cmpi .eq (BitVec.ofNat 32 r.val) 511#32) (Scalar.select n (T 520) 0) (T ⟨(r.val + 512 - 511) % 512, by omega⟩) * w 2

section payloads
variable (p n : BitVec 1) (x0 : Vec Ideal S512x1024 .f32) (x1 x2 : Vec Ideal S8x1024 .f32)
  (W Wu : Vec Ideal S1024x1536 .bf16) (w : Vec Ideal S3x1536 .f32) (wb : Vec Ideal S1x1536 .f32) (wd : Vec Ideal S1536x1024 .bf16)

theorem second_conv (r : Fin 512) (f : Fin 1536) : k0_pay9 p n (k0_pay3 x0 x1 x2) rowNo W w (ix2 r f)
    = tileConv p n (column (k0_pay3 x0 x1 x2) W f) (fun i => w (ix2 i f)) r := by
  generalize k0_pay3 x0 x1 x2 = X
  pointwise [k0_pay9]
  rfl

theorem first_gelu (r : Fin 512) (f : Fin 1536) :
    k0_pay7 p n rowNo (k0_pay4 x0 x1 x2 W) (k0_pay5 x0 x1 x2 W) (k0_pay6 x0 x1 x2 W) (Scalar.ofBits (F := Ideal) .f32 0x00000000#32) w wb (ix2 r f)
      = gelu (tileConv p n (column (k0_pay3 x0 x1 x2) W f) (fun i => w (ix2 i f)) r + wb (ix2 0 f)) := by
  pointwise [k0_pay7, k0_pay4, k0_pay5, k0_pay6]
  rfl

theorem first_term (v1 : FVec Ideal S512x1024 .bf16) (a : FVec Ideal S512x1536 .f32) (r : Fin 512) (e : Fin 1024) :
    k0_pay8 v1 a Wu wd (ix2 r e) = ∑ f, a (ix2 r f) * (∑ k, v1 (ix2 r k) * Wu (ix2 k f)) * wd (ix2 f e) := by
  pointwise [k0_pay8]

/-- The residual sum of a row from its first chunk and its second convolution. -/
def total (x0 : Vec Ideal S512x1024 .f32) (v1 : FVec Ideal S512x1024 .bf16) (v88 : FVec Ideal S512x1024 .f32) (v122 : FVec Ideal S512x1536 .f32)
    (wb : Vec Ideal S1x1536 .f32) (Wu : Vec Ideal S1024x1536 .bf16) (wd : Vec Ideal S1536x1024 .bf16) (r : Fin 512) (e : Fin 1024) : EReal :=
  Ideal.ofBits .f32 0x3FB504F3#32 * x0 (ix2 r e)
    + (v88 (ix2 r e) + ∑ f, gelu (v122 (ix2 r f) + wb (ix2 0 f)) * (∑ k, v1 (ix2 r k) * Wu (ix2 k f)) * wd (ix2 f e))

theorem centred (v1 : FVec Ideal S512x1024 .bf16) (v88 : FVec Ideal S512x1024 .f32) (v122 : FVec Ideal S512x1536 .f32) (r : Fin 512) (e : Fin 1024) :
    k0_pay12 x0 v1 v88 v122 wb Wu wd (ix2 r e)
      = total x0 v1 v88 v122 wb Wu wd r e - mean (total x0 v1 v88 v122 wb Wu wd r) := by
  pointwise [k0_pay12]
  rfl

theorem normed (v1 : FVec Ideal S512x1024 .bf16) (v88 : FVec Ideal S512x1024 .f32) (v122 : FVec Ideal S512x1536 .f32)
    (g b : Vec Ideal S1x1024 .f32) (r : Fin 512) (e : Fin 1024) :
    k0_pay1 (k0_pay10 g) (k0_pay11 b) (k0_pay12 x0 v1 v88 v122 wb Wu wd) (k0_pay13 x0 v1 v88 v122 wb Wu wd) (ix2 r e)
      = norm (total x0 v1 v88 v122 wb Wu wd r) (fun k => g (ix2 0 k)) (fun k => b (ix2 0 k)) e := by
  pointwise [k0_pay1, k0_pay10, k0_pay11, k0_pay13]
  simp only [centred]
  rfl

end payloads

section step
variable (x : (⟨2, ![49152, 1024]⟩ : Shape).Idx → EReal) (wup : (⟨2, ![1024, 6144]⟩ : Shape).Idx → EReal)
  (cw : (⟨2, ![3, 3072]⟩ : Shape).Idx → EReal) (cb : (⟨1, ![3072]⟩ : Shape).Idx → EReal)
  (wdn : (⟨2, ![3072, 1024]⟩ : Shape).Idx → EReal) (lg lb : (⟨1, ![1024]⟩ : Shape).Idx → EReal)
variable (b : Fin 12) (j : Fin 8) (p n : BitVec 1) (hp : p = 1 ↔ j.val ≠ 0) (hn : n = 1 ↔ j.val ≠ 7)
  (x0 : Vec Ideal S512x1024 .f32) (x1 x2 : Vec Ideal S8x1024 .f32)
  (hx : ∀ r k, x0 (ix2 r k) = x (ix2 (tok b (spot j r)) k))
  (hx1 : ∀ s : Fin 4096, s.val + 1 = 512 * j.val → ∀ k, x1 (ix2 7 k) = x (ix2 (tok b s) k))
  (hx2 : ∀ s : Fin 4096, s.val = 512 * j.val + 512 → ∀ k, x2 (ix2 0 k) = x (ix2 (tok b s) k))

include hp hn hx hx1 hx2 in
/-- The tile's convolution of a column is the sequence's. -/
theorem tileConv_eq (c : Fin 2) (W : Vec Ideal S1024x1536 .bf16) (w : Vec Ideal S3x1536 .f32)
    (hW : ∀ k f, W (ix2 k f) = wup (ix2 k (gateCol (unit c f)))) (hw : ∀ i f, w (ix2 i f) = cw (ix2 i (unit c f)))
    (r : Fin 512) (f : Fin 1536) :
    tileConv p n (column (k0_pay3 x0 x1 x2) W f) (fun i => w (ix2 i f)) r
      = conv (hid x wup b (gateCol (unit c f))) (fun i => cw (ix2 i (unit c f))) (spot j r) := by
  simp only [hw]
  refine conv_tile (hid x wup b (gateCol (unit c f))) j p n hp hn (column (k0_pay3 x0 x1 x2) W f) (fun r => ?_) (fun s hs => ?_) (fun s hs => ?_)
    (fun i => cw (ix2 i (unit c f))) r
  · exact Finset.sum_congr rfl fun k _ => by rw [own_row, hx, hW]
  · exact Finset.sum_congr rfl fun k _ => by rw [row_above, hx1 s hs, hW]
  · exact Finset.sum_congr rfl fun k _ => by rw [row_below, hx2 s hs, hW]

include hx in
theorem value_eq (c : Fin 2) (Wu : Vec Ideal S1024x1536 .bf16) (hW : ∀ k f, Wu (ix2 k f) = wup (ix2 k (valueCol (unit c f)))) (r : Fin 512) (f : Fin 1536) :
    (∑ k, k0_pay2 x0 (ix2 r k) * Wu (ix2 k f)) = hid x wup b (valueCol (unit c f)) (spot j r) :=
  Finset.sum_congr rfl fun k _ => by rw [show k0_pay2 x0 (ix2 r k) = x0 (ix2 r k) by pointwise [k0_pay2], hx, hW]

include hp hn hx hx1 hx2 in
/-- What a step stores is the channel mixer of the tile's tokens. -/
theorem stored_eq (W W' Wu Wu' : Vec Ideal S1024x1536 .bf16) (w w' : Vec Ideal S3x1536 .f32) (wb wb' : Vec Ideal S1x1536 .f32)
    (wd wd' : Vec Ideal S1536x1024 .bf16) (g bb : Vec Ideal S1x1024 .f32)
    (hW : ∀ k f, W (ix2 k f) = wup (ix2 k (gateCol (unit 0 f)))) (hW' : ∀ k f, W' (ix2 k f) = wup (ix2 k (gateCol (unit 1 f))))
    (hWu : ∀ k f, Wu (ix2 k f) = wup (ix2 k (valueCol (unit 0 f)))) (hWu' : ∀ k f, Wu' (ix2 k f) = wup (ix2 k (valueCol (unit 1 f))))
    (hw : ∀ i f, w (ix2 i f) = cw (ix2 i (unit 0 f))) (hw' : ∀ i f, w' (ix2 i f) = cw (ix2 i (unit 1 f)))
    (hwb : ∀ f, wb (ix2 0 f) = cb (ix1 (unit 0 f))) (hwb' : ∀ f, wb' (ix2 0 f) = cb (ix1 (unit 1 f)))
    (hwd : ∀ f e, wd (ix2 f e) = wdn (ix2 (unit 0 f) e)) (hwd' : ∀ f e, wd' (ix2 f e) = wdn (ix2 (unit 1 f) e))
    (hg : ∀ e, g (ix2 0 e) = lg (ix1 e)) (hbb : ∀ e, bb (ix2 0 e) = lb (ix1 e)) (r : Fin 512) (e : Fin 1024) :
    stored p n x0 x1 x2 W W' Wu Wu' w w' wb wb' wd wd' g bb (ix2 r e) = ffn x wup cw cb wdn lg lb b (spot j r) e := by
  unfold stored ffn
  rw [normed]
  simp only [hg, hbb]
  congr 1
  funext e
  unfold total mixed
  rw [sum_units, first_term, hx]
  simp only [second_conv, first_gelu, tileConv_eq x wup cw b j p n hp hn x0 x1 x2 hx hx1 hx2 0 W w hW hw,
    tileConv_eq x wup cw b j p n hp hn x0 x1 x2 hx hx1 hx2 1 W' w' hW' hw',
    value_eq x wup b j x0 hx 0 Wu hWu, value_eq x wup b j x0 hx 1 Wu' hWu', hwb, hwb', hwd, hwd', act]

end step

end Cert.KernelFfnIdeal.Gen

end
-- ==== Proof.Ffn.RunIdeal.lean ====
module

public import proofs.«01_k».proof.Proof.Ffn.BodyIdeal
public import Idealize.ShloMosaic.Lib.Claim
public import Idealize.ShloMosaic.Lib.Pipeline.TableIdle

@[expose] public section

set_option maxRecDepth 16384

/-!
# The channel mixer's run

The first result's buffer keeps the 64th tile once the steps go over to the second result, and the last step writes that
tile back. With what each buffer holds after each step fixed, the body meets its obligation at every step, and the run
and the frame follow.
-/

noncomputable section

namespace Cert.KernelFfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The step whose tile the first result's buffer holds after a step: the step itself, up to the 64th. -/
def held (t : Fin cfg0.N) : Fin cfg0.N := ⟨min t.val 63, lt_of_le_of_lt (Nat.min_le_left _ _) t.isLt⟩

/-- The tile of a step. -/
def leftAt (c : Dev nD) (t : Fin cfg0.N) : Vec F S512x1024 .f32 :=
  left (grid0.coords t) (iblk m c 0 t) (iblk m c 1 t) (iblk m c 2 t) (iblk m c 3 t) (iblk m c 4 t) (iblk m c 5 t) (iblk m c 6 t) (iblk m c 7 t) (iblk m c 8 t)

/-- What every buffer holds after every step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => leftAt m c (held t)
    | ⟨10, _⟩ => leftAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = leftAt m c (held t) := by dsimp only [dats]
theorem after0_10 (c : Dev nD) (t : Fin cfg0.N) : (dats m 0 c).after 10 t = leftAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## Which steps store and write back which result -/

theorem first_cond : ∀ t : Fin cfg0.N, k0_cond1 (grid0.coords t) = 1#1 ↔ t.val < 64 := by decide +kernel
theorem second_cond : ∀ t : Fin cfg0.N, k0_cond2 (grid0.coords t) = 1#1 ↔ ¬ t.val < 64 := by decide +kernel
theorem idle_first : ∀ t : Fin cfg0.N, cfg0.idle 9 (cfg0.grid.coords t) = decide (¬ t.val < 64) := by decide +kernel
theorem idle_second : ∀ t : Fin cfg0.N, cfg0.idle 10 (cfg0.grid.coords t) = decide (t.val < 64) := by decide +kernel
theorem flush_first : ∀ t : Fin cfg0.N, (cfg0.win 9).flush t = decide (t.val < 63 ∨ t.val = 95) :=
  (by decide +kernel : ∀ t : Fin grid0.N, win0_9.flush t = decide (t.val < 63 ∨ t.val = 95))
theorem flush_second : ∀ t : Fin cfg0.N, (cfg0.win 10).flush t = decide (¬ t.val < 64) :=
  (by decide +kernel : ∀ t : Fin grid0.N, win0_10.flush t = decide (¬ t.val < 64))
theorem kept_last : ∀ t : Fin cfg0.N, t.val = 95 → cfg0.fresh 9 t.val = false := by decide +kernel

theorem held_of_lt (t : Fin cfg0.N) (h : t.val < 64) : held t = t := Fin.ext (by show min t.val 63 = t.val; omega)

/-- At the last step the first result's buffer still holds the 64th tile. -/
theorem before_last (c : Dev nD) (t : Fin cfg0.N) (h : t.val = 95) (d) : (dats m 0 c).before 9 t d = (dats m 0 c).after 9 t := by
  rw [(dats m 0 c).before_out_traj 9 rfl (fun _ _ => rfl) (fun s _ hi _ => ?_) t.val t rfl d, kept_last t h, if_neg Bool.false_ne_true,
    after0_9, after0_9]
  · exact congrArg _ (Fin.ext (by show min (t.val - 1) 63 = min t.val 63; omega))
  · rw [idle_first s, decide_eq_true_iff] at hi
    rw [after0_9, after0_9]
    exact congrArg _ (Fin.ext (by show min s.val 63 = min (s.val - 1) 63; omega))

/-! ## The body's obligation -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it returns, up to the two results' buffers. -/
def bodyPost (c : Dev nD) (t : Fin cfg0.N) (P9 P10 : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ P9 ∗ P10)

/-- A result's buffer, stored. -/
abbrev done9 (c : Dev nD) (t : Fin cfg0.N) : sProp 𝕄 := owns (c : Thread nD τ) (st0_9 t) fullShare ((dats m 0 c).after 9 t)
abbrev done10 (c : Dev nD) (t : Fin cfg0.N) : sProp 𝕄 := owns (c : Thread nD τ) (st0_10 t) fullShare ((dats m 0 c).after 10 t)
/-- A result's buffer, as the step found it. -/
abbrev same9 (c : Dev nD) (t : Fin cfg0.N) : sProp 𝕄 := iprop(∃ d, owns (c : Thread nD τ) (st0_9 t) fullShare ((dats m 0 c).before 9 t d))
abbrev same10 (c : Dev nD) (t : Fin cfg0.N) : sProp 𝕄 := iprop(∃ d, owns (c : Thread nD τ) (st0_10 t) fullShare ((dats m 0 c).before 10 t d))

set_option maxHeartbeats 1000000 in
/-- A step of the first result. -/
theorem sound_first (c : Dev nD) (t : Fin cfg0.N) (h : t.val < 64) :
    bodyPre m c t ⊢ wp frame (wpE (defs₀ (F := F)) Variants.none c none) Set.univ (bodyAt0 t) (fun _ => bodyPost m c t (done9 m c t) (same10 m c t)) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  unfold done9 same10
  rw [after0_9, held_of_lt t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_first c Set.univ (grid0.coords t) ((first_cond t).2 h) (fun hq => (second_cond t).1 hq h) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) ((dats m 0 c).before 10 t d10) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists d10; iexact H10

set_option maxHeartbeats 1000000 in
/-- A step of the second result. -/
theorem sound_second (c : Dev nD) (t : Fin cfg0.N) (h : ¬ t.val < 64) :
    bodyPre m c t ⊢ wp frame (wpE (defs₀ (F := F)) Variants.none c none) Set.univ (bodyAt0 t) (fun _ => bodyPost m c t (same9 m c t) (done10 m c t)) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  unfold same9 done10
  rw [after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_second c Set.univ (grid0.coords t) (fun hq => h ((first_cond t).1 hq)) ((second_cond t).2 h) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) ((dats m 0 c).before 9 t d9) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists d9; iexact H9
  iexact H10

set_option maxHeartbeats 1000000 in
/-- The last step, which writes the first result's buffer back as well. -/
theorem sound_last (c : Dev nD) (t : Fin cfg0.N) (h : ¬ t.val < 64) (h95 : t.val = 95) :
    bodyPre m c t ⊢ wp frame (wpE (defs₀ (F := F)) Variants.none c none) Set.univ (bodyAt0 t) (fun _ => bodyPost m c t (done9 m c t) (done10 m c t)) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  unfold done9 done10
  rw [after0_10]
  simp only [before_last m c t h95]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_second c Set.univ (grid0.coords t) (fun hq => h ((first_cond t).1 hq)) ((second_cond t).2 h) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) ((dats m 0 c).after 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  rewrite [idle_first t, idle_second t, flush_first t, flush_second t]
  by_cases h : t.val < 64
  · rewrite [decide_eq_false (not_not.2 h), decide_eq_true h]
    exact triple_restated (sound_first m c t h) rfl .rfl fun _ => .rfl
  · by_cases h95 : t.val = 95
    · rewrite [decide_eq_true h, decide_eq_false h, decide_eq_true (Or.inr h95)]
      exact triple_restated (sound_last m c t h h95) rfl .rfl fun _ => .rfl
    · rewrite [decide_eq_true h, decide_eq_false h, decide_eq_false (show ¬ (t.val < 63 ∨ t.val = 95) by omega)]
      exact triple_restated (sound_second m c t h) rfl .rfl fun _ => .rfl

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every execution ends with each window's array as its write-backs leave it. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- Every execution ends with the two results as the write-backs leave them, the arguments unchanged. -/
theorem run_blocks : θ_run defs (onTc (τ := τ) (main (F := F))) ⟨m, fun _ => 0, ρ⟩ (fun r => ∀ c : Dev nD,
      r.2.mem ((c.tc : Thread nD τ).loc main_v5_0) = (dats m 0 c).arrAt 9 cfg0.N
      ∧ r.2.mem ((c.tc : Thread nD τ).loc main_v5_1) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).1 9, (h.1 c).1 10, h.2 c⟩) (θ_run_and (run_main m ρ) (unchanged m ρ))

/-- The arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelFfnIdeal.Gen

end
-- ==== Proof.Ffn.Array.lean ====
module

public import proofs.«01_k».proof.Proof.Ffn.Step
public import proofs.«01_k».proof.Proof.Ffn.RunIdeal
public import Idealize.ShloMosaic.Lib.Pipeline.ValueKit

@[expose] public section

set_option maxRecDepth 16384

/-!
# The channel mixer's arrays after the run

Each block reads its argument where its window places it; every step's tile is a tile of the specification, and the
tiles cover the two results.
-/

noncomputable section

namespace Cert.KernelFfnIdeal.Gen

open Layer
open Idealize.ShloMosaic Idealize.ShloMosaic.TcCoe Idealize.ShloMosaic.Tactic
open Idealize.SL Idealize.SL.Sem

/-- Where each window places the block of a step. -/
theorem windows : ∀ t : Fin cfg0.N,
    win0_0.index t = ![t.val, 0]
    ∧ win0_1.index t = ![t.val * 64 - 1, 0]
    ∧ win0_2.index t = ![min ((t.val + 1) * 64) 6143, 0]
    ∧ win0_3.index t = ![0, 0] ∧ win0_4.index t = ![0, 0] ∧ win0_5.index t = ![0, 0] ∧ win0_6.index t = ![0, 0]
    ∧ win0_7.index t = ![0, 0] ∧ win0_8.index t = ![0, 0]
    ∧ win0_9.index t = ![min t.val 63, 0]
    ∧ win0_10.index t = ![t.val - 64, 0] := by decide +kernel

theorem hasPrev_iff : ∀ t : Fin cfg0.N, hasPrev (grid0.coords t) = 1 ↔ t.val % 8 ≠ 0 := by decide +kernel
theorem hasNext_iff : ∀ t : Fin cfg0.N, hasNext (grid0.coords t) = 1 ↔ t.val % 8 ≠ 7 := by decide +kernel

section
variable (m : (ℓ : Loc nD τ sig) → Buf (Elt Ideal) ℓ) (c : Dev nD)

theorem V_v0 : V m c main_v0 = (truncf (F := Ideal) .bf16 (m ((c : Thread nD τ).loc main_arg1)) bitsLt_bf16_f32) := by
  show StableHlo.after hostOps0 _ (Proc.devRef .tc main_v0) = _
  after_results

theorem V_v1 : V m c main_v1 = (truncf (F := Ideal) .bf16 (m ((c : Thread nD τ).loc main_arg4)) bitsLt_bf16_f32) := by
  show StableHlo.after hostOps0 _ (Proc.devRef .tc main_v1) = _
  after_results

theorem V_v2 : V m c main_v2 = (shapeCast S1x3072 (m ((c : Thread nD τ).loc main_arg3)) shapeCasts_S3072_S1x3072) := by
  show StableHlo.after hostOps0 _ (Proc.devRef .tc main_v2) = _
  after_results
  rfl

theorem V_v3 : V m c main_v3 = (shapeCast S1x1024 (m ((c : Thread nD τ).loc main_arg5)) shapeCasts_S1024_S1x1024) := by
  show StableHlo.after hostOps0 _ (Proc.devRef .tc main_v3) = _
  after_results
  rfl

theorem V_v4 : V m c main_v4 = (shapeCast S1x1024 (m ((c : Thread nD τ).loc main_arg6)) shapeCasts_S1024_S1x1024) := by
  show StableHlo.after hostOps0 _ (Proc.devRef .tc main_v4) = _
  after_results
  rfl

theorem read_x (t : Fin cfg0.N) (r : Fin 512) (k : Fin 1024) :
    iblk m c 0 t (ix2 r k) = m ((c : Thread nD τ).loc main_arg0) (ix2 (tok (seqOf t) (spot (tileOf t) r)) k) := by
  unfold tok seqOf spot tileOf
  blk_ext [iblk, V_main_arg0, windows t]

theorem read_before (t : Fin cfg0.N) (s : Fin 4096) (h : s.val + 1 = 512 * (t.val % 8)) (k : Fin 1024) :
    iblk m c 1 t (ix2 7 k) = m ((c : Thread nD τ).loc main_arg0) (ix2 (tok (seqOf t) s) k) := by
  unfold tok seqOf
  blk_ext [iblk, V_main_arg0, windows t]

theorem read_after (t : Fin cfg0.N) (s : Fin 4096) (h : s.val = 512 * (t.val % 8) + 512) (k : Fin 1024) :
    iblk m c 2 t (ix2 0 k) = m ((c : Thread nD τ).loc main_arg0) (ix2 (tok (seqOf t) s) k) := by
  unfold tok seqOf
  blk_ext [iblk, V_main_arg0, windows t]

theorem read_wup (t : Fin cfg0.N) (k : Fin 1024) (f : Fin 6144) :
    iblk m c 3 t (ix2 k f) = m ((c : Thread nD τ).loc main_arg1) (ix2 k f) := by
  blk_ext [iblk, V_v0, windows t]

theorem read_cw (t : Fin cfg0.N) (i : Fin 3) (f : Fin 3072) :
    iblk m c 4 t (ix2 i f) = m ((c : Thread nD τ).loc main_arg2) (ix2 i f) := by
  blk_ext [iblk, V_main_arg2, windows t]

theorem read_wdn (t : Fin cfg0.N) (f : Fin 3072) (e : Fin 1024) :
    iblk m c 6 t (ix2 f e) = m ((c : Thread nD τ).loc main_arg4) (ix2 f e) := by
  blk_ext [iblk, V_v1, windows t]

theorem read_cb (t : Fin cfg0.N) (f : Fin 3072) :
    iblk m c 5 t (ix2 0 f) = m ((c : Thread nD τ).loc main_arg3) (ix1 f) := by
  have he : (win0_5.blk t).view.emb (ix2 0 f) = ix2 (0 : Fin 1) f := by blk_ext [windows t]
  show V m c main_v2 ((win0_5.blk t).view.emb (ix2 0 f)) = _
  rw [he, V_v2]
  pointwise []

theorem read_g (t : Fin cfg0.N) (e : Fin 1024) :
    iblk m c 7 t (ix2 0 e) = m ((c : Thread nD τ).loc main_arg5) (ix1 e) := by
  have he : (win0_7.blk t).view.emb (ix2 0 e) = ix2 (0 : Fin 1) e := by blk_ext [windows t]
  show V m c main_v3 ((win0_7.blk t).view.emb (ix2 0 e)) = _
  rw [he, V_v3]
  pointwise []

theorem read_b (t : Fin cfg0.N) (e : Fin 1024) :
    iblk m c 8 t (ix2 0 e) = m ((c : Thread nD τ).loc main_arg6) (ix1 e) := by
  have he : (win0_8.blk t).view.emb (ix2 0 e) = ix2 (0 : Fin 1) e := by blk_ext [windows t]
  show V m c main_v4 ((win0_8.blk t).view.emb (ix2 0 e)) = _
  rw [he, V_v4]
  pointwise []

/-- Where a chunk's units and the columns of the two halves begin. -/
theorem places (q : Fin 2) (f : Fin 1536) : (unit q f).val = 1536 * q.val + f.val ∧ (valueCol (unit q f)).val = 3072 + 1536 * q.val + f.val :=
  ⟨rfl, (Nat.add_assoc _ _ _).symm⟩

/-- A step's tile is the specification's, in its sequence and its place there. -/
theorem tile_eq (t : Fin cfg0.N) (r : Fin 512) (e : Fin 1024) : leftAt m c t (ix2 r e)
    = ffn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (seqOf t) (spot (tileOf t) r) e := by
  unfold leftAt left
  refine (congrFun (View.canon_cons_unit_lit inb_S512x1024_S512x1024_0_0 _ [] (by decide)) (ix2 r e)).trans ?_
  refine stored_eq _ _ _ _ _ _ _ (seqOf t) (tileOf t) _ _ (hasPrev_iff t) (hasNext_iff t) _ _ _ ?_ ?_ ?_ _ _ _ _ _ _ _ _ _ _ _ _
    ?_ ?_ ?_ ?_ ?_ ?_ ?_ ?_ ?_ ?_ ?_ ?_ r e
  · exact fun r k => (congrArg (iblk m c 0 t) (at_offset _ _ _ _ r k (Nat.zero_add _).symm (Nat.zero_add _).symm)).trans (read_x m c t r k)
  · exact fun s h k => (congrArg (iblk m c 1 t) (at_offset _ _ _ _ 7 k rfl (Nat.zero_add _).symm)).trans (read_before m c t s h k)
  · exact fun s h k => (congrArg (iblk m c 2 t) (at_offset _ _ _ _ 0 k rfl (Nat.zero_add _).symm)).trans (read_after m c t s h k)
  · exact fun k f => (congrArg (iblk m c 3 t) (at_offset _ _ _ _ k _ (Nat.zero_add _).symm (places 0 f).1)).trans (read_wup m c t k _)
  · exact fun k f => (congrArg (iblk m c 3 t) (at_offset _ _ _ _ k _ (Nat.zero_add _).symm (places 1 f).1)).trans (read_wup m c t k _)
  · exact fun k f => (congrArg (iblk m c 3 t) (at_offset _ _ _ _ k _ (Nat.zero_add _).symm (places 0 f).2)).trans (read_wup m c t k _)
  · exact fun k f => (congrArg (iblk m c 3 t) (at_offset _ _ _ _ k _ (Nat.zero_add _).symm (places 1 f).2)).trans (read_wup m c t k _)
  · exact fun i f => (congrArg (iblk m c 4 t) (at_offset _ _ _ _ i _ (Nat.zero_add _).symm (places 0 f).1)).trans (read_cw m c t i _)
  · exact fun i f => (congrArg (iblk m c 4 t) (at_offset _ _ _ _ i _ (Nat.zero_add _).symm (places 1 f).1)).trans (read_cw m c t i _)
  · exact fun f => (congrArg (iblk m c 5 t) (at_offset _ _ _ _ 0 _ rfl (places 0 f).1)).trans (read_cb m c t _)
  · exact fun f => (congrArg (iblk m c 5 t) (at_offset _ _ _ _ 0 _ rfl (places 1 f).1)).trans (read_cb m c t _)
  · exact fun f e => (congrArg (iblk m c 6 t) (at_offset _ _ _ _ _ e (places 0 f).1 (Nat.zero_add _).symm)).trans (read_wdn m c t _ e)
  · exact fun f e => (congrArg (iblk m c 6 t) (at_offset _ _ _ _ _ e (places 1 f).1 (Nat.zero_add _).symm)).trans (read_wdn m c t _ e)
  · exact fun e => (congrArg (iblk m c 7 t) (at_offset _ _ _ _ 0 e rfl (Nat.zero_add _).symm)).trans (read_g m c t e)
  · exact fun e => (congrArg (iblk m c 8 t) (at_offset _ _ _ _ 0 e rfl (Nat.zero_add _).symm)).trans (read_b m c t e)

theorem array_first : (dats m 0 c).arrAt 9 cfg0.N
    = ffnFirst (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 9 _ (by decide +kernel) fun t hf y => ?_
  blk_simp
  rw [after0_9]
  idx_vars y
  refine (tile_eq m c (held t) y0 y1).trans ?_
  have he : ((View.whole main_v5_0).slice (win0_9.rect t)).emb (ix2 y0 y1) = ix2 ⟨512 * min t.val 63 + y0.val, by omega⟩ y1 := by
    blk_ext [windows t]
  rw [he]
  unfold ffnFirst
  have h1 : seqOf (held t) = ⟨(512 * min t.val 63 + y0.val) / 4096, by omega⟩ := Fin.ext (by unfold seqOf held; show min t.val 63 / 8 = (512 * min t.val 63 + y0.val) / 4096; omega)
  have h2 : spot (tileOf (held t)) y0 = ⟨(512 * min t.val 63 + y0.val) % 4096, by omega⟩ := Fin.ext (by unfold spot tileOf held; show 512 * (min t.val 63 % 8) + y0.val = (512 * min t.val 63 + y0.val) % 4096; omega)
  rw [h1, h2]
  rfl

theorem array_second : (dats m 0 c).arrAt 10 cfg0.N
    = ffnSecond (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 10 _ (by decide +kernel) fun t hf y => ?_
  have ht : ¬ t.val < 64 := of_decide_eq_true ((flush_second t).symm.trans hf)
  have hN : t.val < 96 := t.isLt
  blk_simp
  rw [after0_10]
  idx_vars y
  refine (tile_eq m c t y0 y1).trans ?_
  have he : ((View.whole main_v5_1).slice (win0_10.rect t)).emb (ix2 y0 y1) = ix2 ⟨512 * (t.val - 64) + y0.val, by omega⟩ y1 := by
    blk_ext [windows t]
  rw [he]
  unfold ffnSecond
  have h1 : seqOf t = ⟨8 + (512 * (t.val - 64) + y0.val) / 4096, by omega⟩ := Fin.ext (by unfold seqOf; show t.val / 8 = 8 + (512 * (t.val - 64) + y0.val) / 4096; omega)
  have h2 : spot (tileOf t) y0 = ⟨(512 * (t.val - 64) + y0.val) % 4096, by omega⟩ := Fin.ext (by unfold spot tileOf; show 512 * (t.val % 8) + y0.val = (512 * (t.val - 64) + y0.val) % 4096; omega)
  rw [h1, h2]
  rfl

end

end Cert.KernelFfnIdeal.Gen

end
-- ==== Proof.Ffn.Reference.lean ====
module

public import proofs.«01_k».proof.Proof.Gen.ReferenceFfnIdeal
public import proofs.«01_k».proof.Proof.Gen.ReferenceFfnIdeal.Read
public import proofs.«01_k».proof.Proof.Ffn.Spec
public import Idealize.ShloMosaic.Lib.Pipeline.ValueKit
public import Idealize.ShloMosaic.Lib.Pointwise

@[expose] public section

set_option maxRecDepth 16384

/-!
# What the channel mixer's reference computes

The stages of the reference read at an index, up to its two results.
-/

noncomputable section

namespace Cert.ReferenceFfnIdeal.Read

open Layer Cert.ReferenceFfnIdeal.Gen
open Idealize.ShloMosaic Idealize.ShloMosaic.TcCoe Idealize.ShloMosaic.Tactic

variable (x : (⟨S49152x1024, .f32⟩ : BufTy).Contents (Elt Ideal)) (wup : (⟨S1024x6144, .f32⟩ : BufTy).Contents (Elt Ideal))
  (cw : (⟨S3x3072, .f32⟩ : BufTy).Contents (Elt Ideal)) (cb : (⟨S3072, .f32⟩ : BufTy).Contents (Elt Ideal))
  (wdn : (⟨S3072x1024, .f32⟩ : BufTy).Contents (Elt Ideal)) (g lb : (⟨S1024, .f32⟩ : BufTy).Contents (Elt Ideal))
variable (b : Fin 12) (s : Fin 4096)

theorem x_at (k : Fin 1024) : val_main_v0 (F := Ideal) x (ix3 b s k) = x (ix2 (tok b s) k) := by
  rw [val_main_v0_apply]
  unfold tok
  blk_ext []

theorem hid_at (f : Fin 6144) : val_main_v1 (F := Ideal) x wup (ix3 b s f) = hid x wup b f s := by
  rw [val_main_v1_apply]
  unfold hid
  refine Finset.sum_congr rfl fun k _ => ?_
  rw [← x_at x b s k]
  congr 1 <;> exact congrArg _ (by blk_ext [])

theorem gate_at (f : Fin 3072) : val_main_v2 (F := Ideal) x wup (ix3 b s f) = hid x wup b (gateCol f) s := by
  rw [val_main_v2_apply, ← hid_at]
  unfold gateCol
  exact congrArg _ (by blk_ext [])

theorem value_at (f : Fin 3072) : val_main_v3 (F := Ideal) x wup (ix3 b s f) = hid x wup b (valueCol f) s := by
  rw [val_main_v3_apply, ← hid_at]
  unfold valueCol
  exact congrArg _ (by blk_ext [])

theorem zero_at : val_main_cst (F := Ideal) ix0 = 0 := Ideal.ofBits_zero_f32

theorem before_at (f : Fin 3072) : val_main_v6 (F := Ideal) x wup (ix3 b s f) = before (hid x wup b (gateCol f)) s := by
  unfold before
  simp only [← gate_at]
  by_cases h : s.val = 0
  · have h1 : s.val < 1 := by omega
    refine Eq.trans ?_ (if_pos h).symm
    pointwise [val_main_v6, val_main_v5, val_main_v4]
    exact (dif_pos h1).trans zero_at
  · have h1 : ¬ s.val < 1 := by omega
    refine Eq.trans ?_ (if_neg h).symm
    pointwise [val_main_v6, val_main_v5, val_main_v4]
    exact dif_neg h1

theorem after_at (f : Fin 3072) : val_main_v8 (F := Ideal) x wup (ix3 b s f) = after (hid x wup b (gateCol f)) s := by
  unfold after
  simp only [← gate_at]
  by_cases h : s.val = 4095
  · have h1 : ¬ s.val < 4095 := by omega
    refine Eq.trans ?_ (dif_pos h).symm
    pointwise [val_main_v8, val_main_v7, val_main_v4]
    exact (dif_neg h1).trans zero_at
  · have h1 : s.val < 4095 := by omega
    refine Eq.trans ?_ (dif_neg h).symm
    pointwise [val_main_v8, val_main_v7, val_main_v4]
    refine (dif_pos h1).trans (congrArg _ ?_)
    blk_ext []

theorem conv_at (f : Fin 3072) : val_main_v28 (F := Ideal) x wup cw cb (ix3 b s f)
    = conv (hid x wup b (gateCol f)) (fun i => cw (ix2 i f)) s + cb (ix1 f) := by
  unfold conv
  rw [← before_at, ← gate_at, ← after_at]
  pointwise [val_main_v28, val_main_v27, val_main_v26, val_main_v25, val_main_v24, val_main_v23, val_main_v22, val_main_v21, val_main_v20,
    val_main_v19, val_main_v18, val_main_v17, val_main_v16, val_main_v15, val_main_v14, val_main_v13, val_main_v12, val_main_v11, val_main_v10,
    val_main_v9]

theorem act_at (f : Fin 3072) : val_main_v44 (F := Ideal) x wup cw cb (ix3 b s f) = act x wup cw cb b s f := by
  unfold act gelu
  rw [← conv_at, ← value_at]
  pointwise [val_main_v44, val_main_v43, val_main_v42, val_main_v41, val_main_v40, val_main_v39, val_main_v38, val_main_v37, val_main_v36, val_main_v35,
    val_main_v34, val_main_v33, val_main_v32, val_main_v31, val_main_cst_1, val_main_cst_2, val_main_cst_3, val_main_cst_4]
  rw [mul_comm (_ * _ : EReal) (val_main_v28 x wup cw cb (ix3 b s f))]

theorem mixed_at (e : Fin 1024) : val_main_v46 (F := Ideal) x wup cw cb wdn (ix3 b s e) = mixed x wup cw cb wdn b s e := by
  unfold mixed
  simp only [← act_at, ← x_at x]
  pointwise [val_main_v46, val_main_v45, val_main_v30, val_main_v29, val_main_cst_0]

theorem mean_at : val_main_v50 (F := Ideal) x wup cw cb wdn (ix3 b s 0) = mean (mixed x wup cw cb wdn b s) := by
  unfold mean
  simp only [← mixed_at]
  pointwise [val_main_v50, val_main_v49, val_main_v48, val_main_v47, val_main_cst_5, val_main_cst_6]

theorem spread_at : val_main_v57 (F := Ideal) x wup cw cb wdn (ix3 b s 0)
    = mean (fun k => (mixed x wup cw cb wdn b s k - mean (mixed x wup cw cb wdn b s)) * (mixed x wup cw cb wdn b s k - mean (mixed x wup cw cb wdn b s))) := by
  rw [← mean_at]
  unfold mean
  simp only [← mixed_at]
  pointwise [val_main_v57, val_main_v56, val_main_v55, val_main_v54, val_main_v53, val_main_v52, val_main_v51, val_main_cst_7, val_main_cst_8]

theorem out_at (e : Fin 1024) : val_main_v68 (F := Ideal) x wup cw cb wdn g lb (ix3 b s e) = ffn x wup cw cb wdn g lb b s e := by
  unfold ffn Layer.norm
  rw [← spread_at, ← mean_at, ← mixed_at]
  pointwise [val_main_v68, val_main_v67, val_main_v66, val_main_v65, val_main_v64, val_main_v63, val_main_v62, val_main_v61, val_main_v60,
    val_main_v59, val_main_v58, val_main_cst_9, val_main_v52, val_main_v51]

theorem value_first : val_main_v70 (F := Ideal) x wup cw cb wdn g lb = ffnFirst x wup cw cb wdn g lb := by
  funext y
  idx_vars y
  rw [val_main_v70_apply, val_main_v69_apply]
  refine Eq.trans (congrArg _ ?_) (out_at x wup cw cb wdn g lb ⟨y0.val / 4096, by omega⟩ ⟨y0.val % 4096, by omega⟩ y1)
  blk_ext []

theorem value_second : val_main_v72 (F := Ideal) x wup cw cb wdn g lb = ffnSecond x wup cw cb wdn g lb := by
  funext y
  idx_vars y
  rw [val_main_v72_apply, val_main_v71_apply]
  refine Eq.trans (congrArg _ ?_) (out_at x wup cw cb wdn g lb ⟨8 + y0.val / 4096, by omega⟩ ⟨y0.val % 4096, by omega⟩ y1)
  blk_ext []

end Cert.ReferenceFfnIdeal.Read

end
-- ==== Proof.Ffn.Equation.lean ====
module

public import proofs.«01_k».proof.Defs
public import proofs.«01_k».proof.Proof.Ffn.Array
public import proofs.«01_k».proof.Proof.Ffn.Reference

public import proofs.«01_k».proof.Proof.Gen.ReferenceFfnIdeal.Run

@[expose] public section

/-!
# The kernel of the channel mixer computes its reference
-/

noncomputable section

namespace Cert.Proof.Ffn

open Idealize.ShloMosaic Idealize.ShloMosaic.TcCoe Idealize.SL.Sem

/-- The kernel's run: its results and its arguments. -/
theorem kernel_run (m : (ℓ : Loc KernelFfnIdeal.nD KernelFfnIdeal.τ KernelFfnIdeal.sig) → Buf (Elt Ideal) ℓ)
    (g : Dev KernelFfnIdeal.nD → PrngReg) :
    θ_run (KernelFfnIdeal.defs (F := Ideal)) (onTc (τ := KernelFfnIdeal.τ) (KernelFfnIdeal.main (F := Ideal))) ⟨m, fun _ => 0, g⟩ (fun r =>
      ∀ c : Dev KernelFfnIdeal.nD,
        r.2.mem ((c.tc : Thread KernelFfnIdeal.nD KernelFfnIdeal.τ).loc KernelFfnIdeal.main_v5_0)
            = _root_.Layer.ffnFirst (m ((c.tc : Thread KernelFfnIdeal.nD KernelFfnIdeal.τ).loc KernelFfnIdeal.main_arg0)) (m ((c.tc : Thread KernelFfnIdeal.nD KernelFfnIdeal.τ).loc KernelFfnIdeal.main_arg1)) (m ((c.tc : Thread KernelFfnIdeal.nD KernelFfnIdeal.τ).loc KernelFfnIdeal.main_arg2)) (m ((c.tc : Thread KernelFfnIdeal.nD KernelFfnIdeal.τ).loc KernelFfnIdeal.main_arg3)) (m ((c.tc : Thread KernelFfnIdeal.nD KernelFfnIdeal.τ).loc KernelFfnIdeal.main_arg4)) (m ((c.tc : Thread KernelFfnIdeal.nD KernelFfnIdeal.τ).loc KernelFfnIdeal.main_arg5)) (m ((c.tc : Thread KernelFfnIdeal.nD KernelFfnIdeal.τ).loc KernelFfnIdeal.main_arg6))
          ∧ r.2.mem ((c.tc : Thread KernelFfnIdeal.nD KernelFfnIdeal.τ).loc KernelFfnIdeal.main_v5_1)
            = _root_.Layer.ffnSecond (m ((c.tc : Thread KernelFfnIdeal.nD KernelFfnIdeal.τ).loc KernelFfnIdeal.main_arg0)) (m ((c.tc : Thread KernelFfnIdeal.nD KernelFfnIdeal.τ).loc KernelFfnIdeal.main_arg1)) (m ((c.tc : Thread KernelFfnIdeal.nD KernelFfnIdeal.τ).loc KernelFfnIdeal.main_arg2)) (m ((c.tc : Thread KernelFfnIdeal.nD KernelFfnIdeal.τ).loc KernelFfnIdeal.main_arg3)) (m ((c.tc : Thread KernelFfnIdeal.nD KernelFfnIdeal.τ).loc KernelFfnIdeal.main_arg4)) (m ((c.tc : Thread KernelFfnIdeal.nD KernelFfnIdeal.τ).loc KernelFfnIdeal.main_arg5)) (m ((c.tc : Thread KernelFfnIdeal.nD KernelFfnIdeal.τ).loc KernelFfnIdeal.main_arg6))
          ∧ r.2.mem ((c.tc : Thread KernelFfnIdeal.nD KernelFfnIdeal.τ).loc KernelFfnIdeal.main_arg0) = m ((c.tc : Thread KernelFfnIdeal.nD KernelFfnIdeal.τ).loc KernelFfnIdeal.main_arg0)
          ∧ r.2.mem ((c.tc : Thread KernelFfnIdeal.nD KernelFfnIdeal.τ).loc KernelFfnIdeal.main_arg1) = m ((c.tc : Thread KernelFfnIdeal.nD KernelFfnIdeal.τ).loc KernelFfnIdeal.main_arg1)
          ∧ r.2.mem ((c.tc : Thread KernelFfnIdeal.nD KernelFfnIdeal.τ).loc KernelFfnIdeal.main_arg2) = m ((c.tc : Thread KernelFfnIdeal.nD KernelFfnIdeal.τ).loc KernelFfnIdeal.main_arg2)
          ∧ r.2.mem ((c.tc : Thread KernelFfnIdeal.nD KernelFfnIdeal.τ).loc KernelFfnIdeal.main_arg3) = m ((c.tc : Thread KernelFfnIdeal.nD KernelFfnIdeal.τ).loc KernelFfnIdeal.main_arg3)
          ∧ r.2.mem ((c.tc : Thread KernelFfnIdeal.nD KernelFfnIdeal.τ).loc KernelFfnIdeal.main_arg4) = m ((c.tc : Thread KernelFfnIdeal.nD KernelFfnIdeal.τ).loc KernelFfnIdeal.main_arg4)
          ∧ r.2.mem ((c.tc : Thread KernelFfnIdeal.nD KernelFfnIdeal.τ).loc KernelFfnIdeal.main_arg5) = m ((c.tc : Thread KernelFfnIdeal.nD KernelFfnIdeal.τ).loc KernelFfnIdeal.main_arg5)
          ∧ r.2.mem ((c.tc : Thread KernelFfnIdeal.nD KernelFfnIdeal.τ).loc KernelFfnIdeal.main_arg6) = m ((c.tc : Thread KernelFfnIdeal.nD KernelFfnIdeal.τ).loc KernelFfnIdeal.main_arg6)) :=
  (θ_run _ _ _).mono (fun r h c => ⟨(h c).1.trans (KernelFfnIdeal.Gen.array_first m c), (h c).2.1.trans (KernelFfnIdeal.Gen.array_second m c), (h c).2.2⟩)
    (KernelFfnIdeal.Gen.run_blocks m g)

/-- The reference's run: the same results, of its own arguments. -/
theorem reference_run (m : (ℓ : Loc ReferenceFfnIdeal.nD ReferenceFfnIdeal.τ ReferenceFfnIdeal.sig) → Buf (Elt Ideal) ℓ)
    (g : Dev ReferenceFfnIdeal.nD → PrngReg) :
    θ_run (ReferenceFfnIdeal.defs (F := Ideal)) (onTc (τ := ReferenceFfnIdeal.τ) (ReferenceFfnIdeal.main (F := Ideal))) ⟨m, fun _ => 0, g⟩ (fun r =>
      ∀ c : Dev ReferenceFfnIdeal.nD,
        r.2.mem ((c.tc : Thread ReferenceFfnIdeal.nD ReferenceFfnIdeal.τ).loc ReferenceFfnIdeal.main_v70)
            = _root_.Layer.ffnFirst (m ((c.tc : Thread ReferenceFfnIdeal.nD ReferenceFfnIdeal.τ).loc ReferenceFfnIdeal.main_arg0)) (m ((c.tc : Thread ReferenceFfnIdeal.nD ReferenceFfnIdeal.τ).loc ReferenceFfnIdeal.main_arg1)) (m ((c.tc : Thread ReferenceFfnIdeal.nD ReferenceFfnIdeal.τ).loc ReferenceFfnIdeal.main_arg2)) (m ((c.tc : Thread ReferenceFfnIdeal.nD ReferenceFfnIdeal.τ).loc ReferenceFfnIdeal.main_arg3)) (m ((c.tc : Thread ReferenceFfnIdeal.nD ReferenceFfnIdeal.τ).loc ReferenceFfnIdeal.main_arg4)) (m ((c.tc : Thread ReferenceFfnIdeal.nD ReferenceFfnIdeal.τ).loc ReferenceFfnIdeal.main_arg5)) (m ((c.tc : Thread ReferenceFfnIdeal.nD ReferenceFfnIdeal.τ).loc ReferenceFfnIdeal.main_arg6))
          ∧ r.2.mem ((c.tc : Thread ReferenceFfnIdeal.nD ReferenceFfnIdeal.τ).loc ReferenceFfnIdeal.main_v72)
            = _root_.Layer.ffnSecond (m ((c.tc : Thread ReferenceFfnIdeal.nD ReferenceFfnIdeal.τ).loc ReferenceFfnIdeal.main_arg0)) (m ((c.tc : Thread ReferenceFfnIdeal.nD ReferenceFfnIdeal.τ).loc ReferenceFfnIdeal.main_arg1)) (m ((c.tc : Thread ReferenceFfnIdeal.nD ReferenceFfnIdeal.τ).loc ReferenceFfnIdeal.main_arg2)) (m ((c.tc : Thread ReferenceFfnIdeal.nD ReferenceFfnIdeal.τ).loc ReferenceFfnIdeal.main_arg3)) (m ((c.tc : Thread ReferenceFfnIdeal.nD ReferenceFfnIdeal.τ).loc ReferenceFfnIdeal.main_arg4)) (m ((c.tc : Thread ReferenceFfnIdeal.nD ReferenceFfnIdeal.τ).loc ReferenceFfnIdeal.main_arg5)) (m ((c.tc : Thread ReferenceFfnIdeal.nD ReferenceFfnIdeal.τ).loc ReferenceFfnIdeal.main_arg6))
          ∧ r.2.mem ((c.tc : Thread ReferenceFfnIdeal.nD ReferenceFfnIdeal.τ).loc ReferenceFfnIdeal.main_arg0) = m ((c.tc : Thread ReferenceFfnIdeal.nD ReferenceFfnIdeal.τ).loc ReferenceFfnIdeal.main_arg0)
          ∧ r.2.mem ((c.tc : Thread ReferenceFfnIdeal.nD ReferenceFfnIdeal.τ).loc ReferenceFfnIdeal.main_arg1) = m ((c.tc : Thread ReferenceFfnIdeal.nD ReferenceFfnIdeal.τ).loc ReferenceFfnIdeal.main_arg1)
          ∧ r.2.mem ((c.tc : Thread ReferenceFfnIdeal.nD ReferenceFfnIdeal.τ).loc ReferenceFfnIdeal.main_arg2) = m ((c.tc : Thread ReferenceFfnIdeal.nD ReferenceFfnIdeal.τ).loc ReferenceFfnIdeal.main_arg2)
          ∧ r.2.mem ((c.tc : Thread ReferenceFfnIdeal.nD ReferenceFfnIdeal.τ).loc ReferenceFfnIdeal.main_arg3) = m ((c.tc : Thread ReferenceFfnIdeal.nD ReferenceFfnIdeal.τ).loc ReferenceFfnIdeal.main_arg3)
          ∧ r.2.mem ((c.tc : Thread ReferenceFfnIdeal.nD ReferenceFfnIdeal.τ).loc ReferenceFfnIdeal.main_arg4) = m ((c.tc : Thread ReferenceFfnIdeal.nD ReferenceFfnIdeal.τ).loc ReferenceFfnIdeal.main_arg4)
          ∧ r.2.mem ((c.tc : Thread ReferenceFfnIdeal.nD ReferenceFfnIdeal.τ).loc ReferenceFfnIdeal.main_arg5) = m ((c.tc : Thread ReferenceFfnIdeal.nD ReferenceFfnIdeal.τ).loc ReferenceFfnIdeal.main_arg5)
          ∧ r.2.mem ((c.tc : Thread ReferenceFfnIdeal.nD ReferenceFfnIdeal.τ).loc ReferenceFfnIdeal.main_arg6) = m ((c.tc : Thread ReferenceFfnIdeal.nD ReferenceFfnIdeal.τ).loc ReferenceFfnIdeal.main_arg6)) :=
  (θ_run _ _ _).mono (fun r h c => ⟨(h c).1.trans ((ReferenceFfnIdeal.Read.val_main_v70_eq m c).trans (ReferenceFfnIdeal.Read.value_first _ _ _ _ _ _ _)), (h c).2.1.trans ((ReferenceFfnIdeal.Read.val_main_v72_eq m c).trans (ReferenceFfnIdeal.Read.value_second _ _ _ _ _ _ _)), (h c).2.2⟩)
    (ReferenceFfnIdeal.Value.run m g)

theorem algebraic : Cert.algebraic_KernelFfnIdeal_ReferenceFfnIdeal := by
  intro m g m' g' _ hm
  refine ⟨_, _, kernel_run m g, ?_⟩
  refine (θ_run _ _ _).mono (fun r h c => ?_) (reference_run m' g')
  obtain ⟨e0, e1, e2, e3, e4, e5, e6⟩ := hm c
  rw [← e0, ← e1, ← e2, ← e3, ← e4, ← e5, ← e6]
  exact h c

end Cert.Proof.Ffn

end
-- ==== Proof.Proj.Store.lean ====
module

public import proofs.«01_k».proof.Proof.Gen.KernelProjIdeal.Value
public import Idealize.ShloMosaic.Lib.Pipeline.ValueKit

@[expose] public section

set_option maxRecDepth 16384

/-!
# One grid step of the input projection: what it stores

The step's four outputs as stores of named vectors: the columns of the projection, the convolved columns, and the three
groups' queries, keys and values. The two dilated groups pass through a buffer of six planes, read back row by row of a residue.
-/

noncomputable section

namespace Cert.KernelProjIdeal.Gen

open Idealize.ShloMosaic Idealize.ShloMosaic.TcCoe Idealize.ShloMosaic.Tactic
open Idealize.SL Idealize.SL.Sem

/-- The divisor the step number is reduced by. -/
def eight : BitVec 32 := Scalar.select (Scalar.cmpi .eq 8#32 0#32) 1#32 8#32
/-- The step's tile within its sequence, as the body computes it. -/
def tileNo (i : grid0.Coords) : BitVec 32 :=
  Scalar.select (Scalar.andi (Scalar.xori (Scalar.cmpi .slt (Scalar.remsi (BitVec.ofNat 32 (i 0).val) eight) 0#32) (Scalar.cmpi .slt eight 0#32))
      (Scalar.cmpi .ne (Scalar.remsi (BitVec.ofNat 32 (i 0).val) eight) 0#32))
    (Scalar.addi (Scalar.remsi (BitVec.ofNat 32 (i 0).val) eight) eight) (Scalar.remsi (BitVec.ofNat 32 (i 0).val) eight)
/-- Is there a tile before this one in its sequence? -/
def hasPrev (i : grid0.Coords) : BitVec 1 := Scalar.cmpi .ne (tileNo i) 0#32
/-- Is there a tile after this one in its sequence? -/
def hasNext (i : grid0.Coords) : BitVec 1 := Scalar.cmpi .ne (tileNo i) 7#32

/-- The row number of each entry of the convolved columns. -/
abbrev rowNo : IVec S512x512 32 := iota .tc S512x512 32 [0] iota_S512x512_d0_w32

/-- The first column of the weights for group `g`'s queries, keys or values. -/
abbrev firstCol (g j : Fin 3) : Nat := 1536 + 768 * j.val + 256 * g.val

theorem inbCols (g j : Fin 3) : ∀ a, (![0, firstCol g j] : Fin 2 → Nat) a + (![1024, 256] : Fin 2 → Nat) a ≤ S1024x4864.size a := by
  revert g j; decide
theorem inbThird (j : Fin 3) : ∀ a, (![0, 512 * j.val] : Fin 2 → Nat) a + (![1024, 512] : Fin 2 → Nat) a ≤ S1024x4864.size a := by
  revert j; decide
theorem inbTap (j : Fin 3) : ∀ a, (![0, 512 * j.val] : Fin 2 → Nat) a + (![3, 512] : Fin 2 → Nat) a ≤ S3x1536.size a := by
  revert j; decide
theorem inbBias (j : Fin 3) : ∀ a, (![0, 512 * j.val] : Fin 2 → Nat) a + (![1, 512] : Fin 2 → Nat) a ≤ S1x1536.size a := by
  revert j; decide
theorem inbPlain (j : Fin 3) : ∀ a, (![0, 0, 0, 256 * j.val] : Fin 4 → Nat) a + (![1, 1, 512, 256] : Fin 4 → Nat) a ≤ S1x1x512x768.size a := by
  revert j; decide
theorem inbPlane (q : Fin 3 × Fin 2) : ∀ a, (![2 * q.1.val + q.2.val, 0, 0] : Fin 3 → Nat) a + (![1, 512, 128] : Fin 3 → Nat) a ≤ S6x512x128.size a := by
  revert q; decide
theorem inbHalf (h : Fin 2) : S512x256.Slices ![0, 128 * h.val] S512x128 := by
  revert h; decide

section vectors
variable (x0 : Vec Ideal S512x1024 .f32) (x1 x2 : Vec Ideal S8x1024 .f32) (x3 : Vec Ideal S1024x4864 .bf16)
  (x4 : Vec Ideal S3x1536 .f32) (x5 : Vec Ideal S1x1536 .f32) (x6 x7 : Vec Ideal S512x256 .f32)

/-- The tile. -/
def tile : FVec Ideal S512x1024 .bf16 := k0_pay2 (View.ld x0 (Rect.unit ![0, 0] ![512, 1024] inb_S512x1024_S512x1024_0_0))
/-- The tile, then the eight rows before and the eight after. -/
def haloed : FVec Ideal S528x1024 .bf16 :=
  k0_pay5 (View.ld x1 (Rect.unit ![0, 0] ![8, 1024] inb_S8x1024_S8x1024_0_0)) (View.ld x2 (Rect.unit ![0, 0] ![8, 1024] inb_S8x1024_S8x1024_0_0)) (tile x0)
/-- A table of the rotation. -/
def table (x : Vec Ideal S512x256 .f32) : FVec Ideal S512x256 .f32 := k0_pay13 (View.ld x (Rect.unit ![0, 0] ![512, 256] inb_S512x256_S512x256_0_0))

/-- The columns of group `g`'s queries, keys or values. -/
def columns (g j : Fin 3) : FVec Ideal S512x256 .f32 :=
  k0_pay16 (tile x0) (View.ld (Val := Elt Ideal) (e' := .bf16) x3 (Rect.unit ![0, firstCol g j] ![1024, 256] (inbCols g j)))
/-- Columns rotated by the tables. -/
def turned (t c s : FVec Ideal S512x256 .f32) : FVec Ideal S512x256 .f32 := k0_pay29 c s t 64#32 k0_pay25 k0_pay26 k0_pay27 k0_pay28
/-- Queries scaled. -/
def scaled (t : FVec Ideal S512x256 .f32) : FVec Ideal S512x256 .f32 := mulf t (broadcast S512x256 (Scalar.ofBits (F := Ideal) .f32 0x3E000000#32))
/-- Group `g`'s queries, keys or values. -/
def attPart (g j : Fin 3) : FVec Ideal S512x256 .f32 :=
  match j with
  | 0 => scaled (turned (columns x0 x3 g 0) (table x6) (table x7))
  | 1 => turned (columns x0 x3 g 1) (table x6) (table x7)
  | 2 => columns x0 x3 g 2

/-- A third of the convolved columns. -/
def convPart (i : grid0.Coords) (j : Fin 3) : FVec Ideal S512x512 .f32 :=
  k0_pay9 (hasPrev i) (hasNext i) (haloed x0 x1 x2) rowNo
    (View.ld (Val := Elt Ideal) (e' := .bf16) x3 (Rect.unit ![0, 512 * j.val] ![1024, 512] (inbThird j)))
    (View.ld (Val := Elt Ideal) (e' := .f32) x4 (Rect.unit ![0, 512 * j.val] ![3, 512] (inbTap j)))
    (View.ld (Val := Elt Ideal) (e' := .f32) x5 (Rect.unit ![0, 512 * j.val] ![1, 512] (inbBias j)))

/-- The stores of the main output, the last first. -/
def mainPieces (i : grid0.Coords) : List (View.Piece (Elt Ideal) S512x2048 .f32) :=
  [⟨Rect.unit ![0, 512] ![512, 512] inb_S512x2048_S512x512_0_512, mulf (convPart x0 x1 x2 x3 x4 x5 i 2) (convPart x0 x1 x2 x3 x4 x5 i 1)⟩,
   ⟨Rect.unit ![0, 0] ![512, 512] inb_S512x2048_S512x512_0_0, convPart x0 x1 x2 x3 x4 x5 i 0⟩,
   ⟨Rect.unit ![0, 1536] ![512, 512] inb_S512x2048_S512x512_0_1536,
     k0_pay4 (View.ld x0 (Rect.unit ![0, 0] ![512, 1024] inb_S512x1024_S512x1024_0_0)) (View.ld x3 (Rect.unit ![0, 4352] ![1024, 512] inb_S1024x4864_S1024x512_0_4352))⟩,
   ⟨Rect.unit ![0, 1024] ![512, 512] inb_S512x2048_S512x512_0_1024,
     k0_pay3 (View.ld x0 (Rect.unit ![0, 0] ![512, 1024] inb_S512x1024_S512x1024_0_0)) (View.ld x3 (Rect.unit ![0, 3840] ![1024, 512] inb_S1024x4864_S1024x512_0_3840))⟩]

/-- The stores of the undilated group, the last first. -/
def plainPieces : List (View.Piece (Elt Ideal) S1x1x512x768 .f32) :=
  ([2, 1, 0] : List (Fin 3)).map fun j => ⟨Rect.unit ![0, 0, 0, 256 * j.val] ![1, 1, 512, 256] (inbPlain j), shapeCast S1x1x512x256 (attPart x0 x3 x6 x7 0 j) shapeCasts_S512x256_S1x1x512x256⟩

/-- The order in which a group's six planes are written, the last first. -/
def planeOrder : List (Fin 3 × Fin 2) := [(2, 1), (2, 0), (1, 1), (1, 0), (0, 1), (0, 0)]

/-- The stores of group `g`'s queries, keys and values into the six planes. -/
def planePieces (g : Fin 3) : List (View.Piece (Elt Ideal) S6x512x128 .f32) :=
  planeOrder.map fun q => ⟨Rect.unit ![2 * q.1.val + q.2.val, 0, 0] ![1, 512, 128] (inbPlane q),
    shapeCast S1x512x128 (extractStridedSlice S512x128 ![0, 128 * q.2.val] (attPart x0 x3 x6 x7 g q.1) (inbHalf q.2)) shapeCasts_S512x128_S1x512x128⟩

end vectors

section residues
variable {d n : Nat} (hdn : d * n = 512)

/-- The rows of plane `q` of residue `r`. -/
def residueRows (r : Fin d) (q : Fin 3 × Fin 2) : LoadRect S6x512x128 where
  off := ![2 * q.1.val + q.2.val, r.val, 0]
  size := ![1, n, 128]
  stride := ![1, d, 1]
  inb a := by
    have h1 := q.1.isLt
    have h2 := q.2.isLt
    have h3 := r.isLt
    match a with
    | ⟨0, _⟩ => exact Or.inr (show 2 * q.1.val + q.2.val + 1 * (1 - 1) < 6 by omega)
    | ⟨1, _⟩ =>
      rcases Nat.eq_zero_or_pos n with hn | hn
      · exact Or.inl hn
      · refine Or.inr (show r.val + d * (n - 1) < 512 from ?_)
        have : d * (n - 1) + d = 512 := by rw [← Nat.mul_succ, Nat.succ_eq_add_one, Nat.sub_add_cancel hn, hdn]
        omega
    | ⟨2, _⟩ => exact Or.inr (show 0 + 1 * (128 - 1) < 128 by omega)

/-- The order in which a dilated group's blocks are stored, the last first. -/
def blockOrder (rs : List (Fin d)) : List (Fin d × (Fin 3 × Fin 2)) := rs.flatMap fun r => planeOrder.map fun q => (r, q)

end residues

theorem inb4 (p : Fin 4 × (Fin 3 × Fin 2)) : ∀ a, (![0, p.1.val, 0, 128 * (2 * p.2.1.val + p.2.2.val)] : Fin 4 → Nat) a + (![1, 1, 128, 128] : Fin 4 → Nat) a ≤ S1x4x128x768.size a := by
  revert p; decide
theorem inb16 (p : Fin 16 × (Fin 3 × Fin 2)) : ∀ a, (![0, p.1.val, 0, 128 * (2 * p.2.1.val + p.2.2.val)] : Fin 4 → Nat) a + (![1, 1, 32, 128] : Fin 4 → Nat) a ≤ S1x16x32x768.size a := by
  revert p; decide

/-- What is stored for a residue and a plane, from what the planes hold. -/
def block4 (L : List (View.Piece (Elt Ideal) S6x512x128 .f32)) (p : Fin 4 × (Fin 3 × Fin 2)) : FVec Ideal S1x1x128x128 .f32 :=
  shapeCast S1x1x128x128 (shapeCast S128x128 ((View.whole cc0_scratch0).readCov (Val := Elt Ideal) L (residueRows (d := 4) (n := 128) rfl p.1 p.2)) shapeCasts_S1x128x128_S128x128)
    shapeCasts_S128x128_S1x1x128x128
def block16 (L : List (View.Piece (Elt Ideal) S6x512x128 .f32)) (p : Fin 16 × (Fin 3 × Fin 2)) : FVec Ideal S1x1x32x128 .f32 :=
  shapeCast S1x1x32x128 (shapeCast S32x128 ((View.whole cc0_scratch0).readCov (Val := Elt Ideal) L (residueRows (d := 16) (n := 32) rfl p.1 p.2)) shapeCasts_S1x32x128_S32x128)
    shapeCasts_S32x128_S1x1x32x128

/-- The stores of the group of dilation four, the last first. -/
def pieces4 (L : List (View.Piece (Elt Ideal) S6x512x128 .f32)) : List (View.Piece (Elt Ideal) S1x4x128x768 .f32) :=
  (blockOrder ([3, 2, 1, 0] : List (Fin 4))).map fun p => ⟨Rect.unit ![0, p.1.val, 0, 128 * (2 * p.2.1.val + p.2.2.val)] ![1, 1, 128, 128] (inb4 p), block4 L p⟩
/-- The stores of the group of dilation sixteen. -/
def pieces16 (L : List (View.Piece (Elt Ideal) S6x512x128 .f32)) : List (View.Piece (Elt Ideal) S1x16x32x768 .f32) :=
  (blockOrder ([15, 14, 13, 12, 11, 10, 9, 8, 7, 6, 5, 4, 3, 2, 1, 0] : List (Fin 16))).map fun p => ⟨Rect.unit ![0, p.1.val, 0, 128 * (2 * p.2.1.val + p.2.2.val)] ![1, 1, 32, 128] (inb16 p), block16 L p⟩

section
variable (m : (ℓ : Loc nD τ sig) → Buf (Elt Ideal) ℓ) (c : Dev nD) (t : Fin cfg0.N)

theorem main_eq : (outsAt0 m c t).1 = View.canon (mainPieces (iblk m c 0 t) (iblk m c 1 t) (iblk m c 2 t) (iblk m c 3 t) (iblk m c 4 t) (iblk m c 5 t) (grid0.coords t)) := by
  unfold outsAt0
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  dsimp only
  unfold out0_A_8
  unfold kernelRun0_A
  dsimp only
  sl_unfold_words
  simp only [View.readAt_eq_ld, Memref.IsWhole.read_unread]
  rw [View.read_writes_junk_eq_canon]
  rfl

theorem plain_eq : (outsAt0 m c t).2.1 = View.canon (plainPieces (iblk m c 0 t) (iblk m c 3 t) (iblk m c 6 t) (iblk m c 7 t)) := by
  unfold outsAt0
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  dsimp only
  unfold out0_A_9
  unfold kernelRun0_A
  dsimp only
  sl_unfold_words
  simp only [View.readAt_eq_ld, Memref.IsWhole.read_unread]
  rw [View.read_writes_junk_eq_canon]
  rfl

theorem four_eq : (outsAt0 m c t).2.2.1 = View.canon (pieces4 (planePieces (iblk m c 0 t) (iblk m c 3 t) (iblk m c 6 t) (iblk m c 7 t) 1)) := by
  unfold outsAt0
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  dsimp only
  unfold out0_A_10
  unfold kernelRun0_A
  dsimp only
  sl_unfold_words
  simp only [View.readAt_eq_ld, Memref.IsWhole.read_unread]
  rw [View.read_writes_junk_eq_canon]
  rfl

theorem sixteen_eq : (outsAt0 m c t).2.2.2 = View.canon (pieces16 (planePieces (iblk m c 0 t) (iblk m c 3 t) (iblk m c 6 t) (iblk m c 7 t) 2
    ++ planePieces (iblk m c 0 t) (iblk m c 3 t) (iblk m c 6 t) (iblk m c 7 t) 1)) := by
  unfold outsAt0
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  dsimp only
  unfold out0_A_11
  unfold kernelRun0_A
  dsimp only
  sl_unfold_words
  simp only [View.readAt_eq_ld, Memref.IsWhole.read_unread]
  rw [View.read_writes_junk_eq_canon]
  rfl

end

end Cert.KernelProjIdeal.Gen

end
-- ==== Proof.Proj.Spec.lean ====
module

public import proofs.«01_k».proof.Proof.Layer.Math

@[expose] public section

/-!
# The input projection of one token

The projection's columns, the convolved columns and the gate, and the rotated queries and keys, as functions of the arrays.
-/

noncomputable section

namespace Layer

open Idealize.ShloMosaic

/-- A group's 256 columns rotated: in each head of 64, the first half against the second. -/
def turn (t : Fin 256 → EReal) (c s : Fin 32 → EReal) (l : Fin 256) : EReal :=
  if h : l.val % 64 < 32 then t l * c ⟨l.val % 32, Nat.mod_lt _ (by decide)⟩ - t ⟨l.val + 32, by omega⟩ * s ⟨l.val % 32, Nat.mod_lt _ (by decide)⟩
  else t l * c ⟨l.val % 32, Nat.mod_lt _ (by decide)⟩ + t ⟨l.val - 32, by omega⟩ * s ⟨l.val % 32, Nat.mod_lt _ (by decide)⟩

section
variable (x : (⟨2, ![49152, 1024]⟩ : Shape).Idx → EReal) (w : (⟨2, ![1024, 4864]⟩ : Shape).Idx → EReal)
  (cw : (⟨2, ![3, 1536]⟩ : Shape).Idx → EReal) (cb : (⟨1, ![1536]⟩ : Shape).Idx → EReal)
  (cos sin : (⟨2, ![4096, 32]⟩ : Shape).Idx → EReal)

/-- A column of the projection of a token. -/
def inCol (b : Fin 12) (f : Fin 4864) (s : Fin 4096) : EReal := ∑ k : Fin 1024, x (ix2 (tok b s) k) * w (ix2 k f)
/-- A convolved column of a token. -/
def convCol (b : Fin 12) (f : Fin 1536) (s : Fin 4096) : EReal :=
  conv (inCol x w b ⟨f.val, by omega⟩) (fun i => cw (ix2 i f)) s + cb (ix1 f)

/-- The main output of a token: the first third of the convolved columns, the third third times the second, the recurrence's columns. -/
def mainCol (b : Fin 12) (s : Fin 4096) (e : Fin 2048) : EReal :=
  if h : e.val < 512 then convCol x w cw cb b ⟨e.val, by omega⟩ s
  else if h' : e.val < 1024 then convCol x w cw cb b ⟨e.val + 512, by omega⟩ s * convCol x w cw cb b ⟨e.val, by omega⟩ s
  else inCol x w b ⟨e.val + 2816, by omega⟩ s

/-- Group `g`'s columns of the queries, keys or values. -/
def attCol (b : Fin 12) (g j : Fin 3) (s : Fin 4096) (l : Fin 256) : EReal := inCol x w b ⟨1536 + 768 * j.val + 256 * g.val + l.val, by omega⟩ s
/-- Group `g`'s queries, rotated and scaled, its keys, rotated, or its values. -/
def attOut (b : Fin 12) (g j : Fin 3) (s : Fin 4096) (l : Fin 256) : EReal :=
  match j with
  | 0 => turn (attCol x w b g 0 s) (fun h => cos (ix2 s h)) (fun h => sin (ix2 s h)) l * Ideal.ofBits .f32 0x3E000000#32
  | 1 => turn (attCol x w b g 1 s) (fun h => cos (ix2 s h)) (fun h => sin (ix2 s h)) l
  | 2 => attCol x w b g 2 s l

/-- The main array. -/
def projMain (y : (⟨2, ![49152, 2048]⟩ : Shape).Idx) : EReal :=
  mainCol x w cw cb ⟨(y 0).val / 4096, by have : (y 0).val < 49152 := (y 0).isLt; omega⟩ ⟨(y 0).val % 4096, Nat.mod_lt _ (by decide)⟩ (y 1)

/-- Group `g`'s array: the tokens of each sequence by their residue modulo the dilation. -/
def projGroup (g : Fin 3) {d n : Nat} (hdn : d * n = 4096) (y : (⟨4, ![12, d, n, 768]⟩ : Shape).Idx) : EReal :=
  attOut x w cos sin (y 0) g ⟨(y 3).val / 256, by have : (y 3).val < 768 := (y 3).isLt; omega⟩
    ⟨(y 1).val + d * (y 2).val, by
      have h1 : (y 1).val < d := (y 1).isLt
      have h2 : (y 2).val < n := (y 2).isLt
      have := Nat.mul_le_mul_left d (Nat.succ_le_of_lt h2)
      rw [Nat.mul_succ, hdn] at this
      omega⟩ ⟨(y 3).val % 256, Nat.mod_lt _ (by decide)⟩

end

end Layer

end
-- ==== Proof.Proj.Step.lean ====
module

public import proofs.«01_k».proof.Proof.Proj.Store
public import proofs.«01_k».proof.Proof.Proj.Spec
public import proofs.«01_k».proof.Proof.Ffn.Step

@[expose] public section

/-!
# One grid step of the input projection, entry by entry

The vectors a step stores, read at a row and a column, from the tile, the neighbouring rows, the weights and the tables.
-/

noncomputable section

namespace Cert.KernelProjIdeal.Gen

open Layer
open Idealize.ShloMosaic Idealize.ShloMosaic.TcCoe Idealize.ShloMosaic.Tactic

section rows
variable (v1 v2 : Vec Ideal S8x1024 .f32) (v3 : FVec Ideal S512x1024 .bf16) (k : Fin 1024)

theorem own_row (r : Fin 512) : k0_pay5 v1 v2 v3 (ix2 ⟨r.val, by omega⟩ k) = v3 (ix2 r k) := by
  pointwise [k0_pay5]

theorem row_above : k0_pay5 v1 v2 v3 (ix2 519 k) = v1 (ix2 7 k) := by
  pointwise [k0_pay5]

theorem row_below : k0_pay5 v1 v2 v3 (ix2 520 k) = v2 (ix2 0 k) := by
  pointwise [k0_pay5]

end rows

/-- A column of the tile and its neighbouring rows. -/
def haloCol (X : FVec Ideal S528x1024 .bf16) (W : Vec Ideal S1024x512 .bf16) (f : Fin 512) (i : Fin 528) : EReal :=
  ∑ k : Fin 1024, X (ix2 i k) * W (ix2 k f)

theorem conv_entry (p n : BitVec 1) (X : FVec Ideal S528x1024 .bf16) (W : Vec Ideal S1024x512 .bf16) (w : Vec Ideal S3x512 .f32) (b : Vec Ideal S1x512 .f32)
    (r f : Fin 512) : k0_pay9 p n X rowNo W w b (ix2 r f)
      = KernelFfnIdeal.Gen.tileConv p n (haloCol X W f) (fun i => w (ix2 i f)) r + b (ix2 0 f) := by
  pointwise [k0_pay9]
  rfl

theorem columns_entry (X : FVec Ideal S512x1024 .bf16) (W : Vec Ideal S1024x256 .bf16) (r : Fin 512) (l : Fin 256) :
    k0_pay16 X W (ix2 r l) = ∑ k, X (ix2 r k) * W (ix2 k l) := by
  pointwise [k0_pay16]

theorem first_tail_entry (X : Vec Ideal S512x1024 .f32) (W : Vec Ideal S1024x512 .bf16) (r : Fin 512) (l : Fin 512) :
    k0_pay3 X W (ix2 r l) = ∑ k, X (ix2 r k) * W (ix2 k l) := by
  pointwise [k0_pay3, k0_pay2]

theorem second_tail_entry (X : Vec Ideal S512x1024 .f32) (W : Vec Ideal S1024x512 .bf16) (r : Fin 512) (l : Fin 512) :
    k0_pay4 X W (ix2 r l) = ∑ k, X (ix2 r k) * W (ix2 k l) := by
  pointwise [k0_pay4, k0_pay2]

theorem scaled_entry (t : FVec Ideal S512x256 .f32) (y : S512x256.Idx) : scaled t y = t y * Ideal.ofBits .f32 0x3E000000#32 := rfl

/-- Is a column in the first half of its head, as the body computes it? -/
def firstHalf (l : Fin 256) : BitVec 1 :=
  IntOp.cmpi .slt
    (Scalar.select
      (IntOp.andi (IntOp.xori (IntOp.cmpi .slt (IntOp.remsi .vector (BitVec.ofNat 32 l.val) 64#32) 0#32) (IntOp.cmpi .slt 64#32 0#32))
        (IntOp.cmpi .ne (IntOp.remsi .vector (BitVec.ofNat 32 l.val) 64#32) 0#32))
      (IntOp.addi (IntOp.remsi .vector (BitVec.ofNat 32 l.val) 64#32) 64#32) (IntOp.remsi .vector (BitVec.ofNat 32 l.val) 64#32))
    32#32

theorem turned_entry (t c s : FVec Ideal S512x256 .f32) (r : Fin 512) (l : Fin 256) :
    turned t c s (ix2 r l) = t (ix2 r l) * c (ix2 r l)
      + Scalar.select (firstHalf l) (t (ix2 r ⟨(l.val + 256 - 224) % 256, Nat.mod_lt _ (by decide)⟩)) (t (ix2 r ⟨(l.val + 256 - 32) % 256, Nat.mod_lt _ (by decide)⟩)) * s (ix2 r l) := by
  pointwise [turned, k0_pay29, k0_pay25, k0_pay26, k0_pay27, k0_pay28]
  rfl

theorem firstHalf_iff : ∀ l : Fin 256, firstHalf l = 1#1 ↔ l.val % 64 < 32 := by decide +kernel

/-- The rotation by tables that hold the negated sine in the first half of each head is the rotation. -/
theorem turn_of_tables (t c s : Fin 256 → EReal) (cs sn : Fin 32 → EReal)
    (hc : ∀ l, c l = cs ⟨l.val % 32, Nat.mod_lt _ (by decide)⟩)
    (hs : ∀ l, s l = if l.val % 64 < 32 then -sn ⟨l.val % 32, Nat.mod_lt _ (by decide)⟩ else sn ⟨l.val % 32, Nat.mod_lt _ (by decide)⟩) (l : Fin 256) :
    t l * c l + Scalar.select (firstHalf l) (t ⟨(l.val + 256 - 224) % 256, Nat.mod_lt _ (by decide)⟩) (t ⟨(l.val + 256 - 32) % 256, Nat.mod_lt _ (by decide)⟩) * s l
      = turn t cs sn l := by
  have hl := l.isLt
  unfold turn
  rw [hc, hs]
  by_cases h : l.val % 64 < 32
  · have e : (⟨(l.val + 256 - 224) % 256, Nat.mod_lt _ (by decide)⟩ : Fin 256) = ⟨l.val + 32, by omega⟩ := Fin.ext (by show (l.val + 256 - 224) % 256 = l.val + 32; omega)
    rw [dif_pos h, if_pos h, (firstHalf_iff l).2 h, e, sub_eq_add_neg, ← mul_neg]
    rfl
  · have e : (⟨(l.val + 256 - 32) % 256, Nat.mod_lt _ (by decide)⟩ : Fin 256) = ⟨l.val - 32, by omega⟩ := Fin.ext (by show (l.val + 256 - 32) % 256 = l.val - 32; omega)
    have h0 : ¬ firstHalf l = 1#1 := fun h1 => h ((firstHalf_iff l).1 h1)
    rw [dif_neg h, if_neg h, e]
    exact congrArg (fun z => t l * cs ⟨l.val % 32, Nat.mod_lt _ (by decide)⟩ + z * sn ⟨l.val % 32, Nat.mod_lt _ (by decide)⟩) (if_neg h0)

section step
variable (x : (⟨2, ![49152, 1024]⟩ : Shape).Idx → EReal) (w : (⟨2, ![1024, 4864]⟩ : Shape).Idx → EReal)
  (cw : (⟨2, ![3, 1536]⟩ : Shape).Idx → EReal) (cb : (⟨1, ![1536]⟩ : Shape).Idx → EReal)
  (cos sin : (⟨2, ![4096, 32]⟩ : Shape).Idx → EReal)
variable (b : Fin 12) (j : Fin 8)
  (x0 : Vec Ideal S512x1024 .f32) (x1 x2 : Vec Ideal S8x1024 .f32) (x3 : Vec Ideal S1024x4864 .bf16)
  (x4 : Vec Ideal S3x1536 .f32) (x5 : Vec Ideal S1x1536 .f32) (x6 x7 : Vec Ideal S512x256 .f32)
  (hx : ∀ r k, x0 (ix2 r k) = x (ix2 (tok b (spot j r)) k))
  (hx1 : ∀ s : Fin 4096, s.val + 1 = 512 * j.val → ∀ k, x1 (ix2 7 k) = x (ix2 (tok b s) k))
  (hx2 : ∀ s : Fin 4096, s.val = 512 * j.val + 512 → ∀ k, x2 (ix2 0 k) = x (ix2 (tok b s) k))
  (hw : ∀ k f, x3 (ix2 k f) = w (ix2 k f))
  (hcw : ∀ i f, x4 (ix2 i f) = cw (ix2 i f)) (hcb : ∀ f, x5 (ix2 0 f) = cb (ix1 f))
  (hc : ∀ r l, x6 (ix2 r l) = cos (ix2 (spot j r) ⟨l.val % 32, Nat.mod_lt _ (by decide)⟩))
  (hs : ∀ r (l : Fin 256), x7 (ix2 r l) = if l.val % 64 < 32 then -sin (ix2 (spot j r) ⟨l.val % 32, Nat.mod_lt _ (by decide)⟩)
    else sin (ix2 (spot j r) ⟨l.val % 32, Nat.mod_lt _ (by decide)⟩))

include hx in
theorem load_tile (r : Fin 512) (k : Fin 1024) :
    View.ld (Val := Elt Ideal) (e' := .f32) x0 (Rect.unit ![0, 0] ![512, 1024] inb_S512x1024_S512x1024_0_0) (ix2 r k) = x (ix2 (tok b (spot j r)) k) :=
  (congrArg x0 (at_offset _ _ r k r k (Nat.zero_add _).symm (Nat.zero_add _).symm)).trans (hx r k)

include hx in
theorem tile_entry (r : Fin 512) (k : Fin 1024) : tile x0 (ix2 r k) = x (ix2 (tok b (spot j r)) k) :=
  load_tile x b j x0 hx r k

include hw in
theorem load_weights {n : Nat} (o : Nat) (inb : ∀ a, (![0, o] : Fin 2 → Nat) a + (![1024, n] : Fin 2 → Nat) a ≤ S1024x4864.size a)
    (k : Fin 1024) (l : Fin n) (f : Fin 4864) (hf : f.val = o + l.val) :
    View.ld (Val := Elt Ideal) (e' := .bf16) x3 (Rect.unit ![0, o] ![1024, n] inb) (ix2 k l) = w (ix2 k f) :=
  (congrArg x3 (at_offset _ inb k l k f (Nat.zero_add _).symm hf)).trans (hw k f)

include hx hw in
theorem columns_eq (g i : Fin 3) (r : Fin 512) (l : Fin 256) : columns x0 x3 g i (ix2 r l) = attCol x w b g i (spot j r) l := by
  unfold columns attCol inCol
  rw [columns_entry]
  exact Finset.sum_congr rfl fun k _ => by rw [tile_entry x b j x0 hx, load_weights w x3 hw _ _ k l ⟨1536 + 768 * i.val + 256 * g.val + l.val, by omega⟩ rfl]

include hx hw hc hs in
theorem turned_eq (g i : Fin 3) (r : Fin 512) (l : Fin 256) : turned (columns x0 x3 g i) (table x6) (table x7) (ix2 r l)
    = turn (attCol x w b g i (spot j r)) (fun h => cos (ix2 (spot j r) h)) (fun h => sin (ix2 (spot j r) h)) l := by
  rw [turned_entry]
  refine Eq.trans ?_ (turn_of_tables (attCol x w b g i (spot j r)) (fun l => table x6 (ix2 r l)) (fun l => table x7 (ix2 r l)) _ _ (fun l => ?_) (fun l => ?_) l)
  · simp only [columns_eq x w b j x0 x3 hx hw]
  · refine Eq.trans ?_ (hc r l)
    unfold table
    pointwise [k0_pay13]
  · refine Eq.trans ?_ (hs r l)
    unfold table
    pointwise [k0_pay13]

include hx hw hc hs in
theorem attPart_eq (g i : Fin 3) (r : Fin 512) (l : Fin 256) : attPart x0 x3 x6 x7 g i (ix2 r l) = attOut x w cos sin b g i (spot j r) l := by
  unfold attPart attOut
  match i with
  | 0 => exact (scaled_entry _ _).trans (congrArg (· * _) (turned_eq x w cos sin b j x0 x3 x6 x7 hx hw hc hs g 0 r l))
  | 1 => exact turned_eq x w cos sin b j x0 x3 x6 x7 hx hw hc hs g 1 r l
  | 2 => exact columns_eq x w b j x0 x3 hx hw g 2 r l

include hx hx1 hx2 hw hcw hcb in
theorem convPart_eq (t : grid0.Coords) (hp : hasPrev t = 1 ↔ j.val ≠ 0) (hn : hasNext t = 1 ↔ j.val ≠ 7) (i : Fin 3) (r f : Fin 512) :
    convPart x0 x1 x2 x3 x4 x5 t i (ix2 r f) = convCol x w cw cb b ⟨512 * i.val + f.val, by omega⟩ (spot j r) := by
  unfold convPart convCol
  rw [conv_entry]
  have e4 : ∀ q, View.ld (Val := Elt Ideal) (e' := .f32) x4 (Rect.unit ![0, 512 * i.val] ![3, 512] (inbTap i)) (ix2 q f) = cw (ix2 q ⟨512 * i.val + f.val, by omega⟩) :=
    fun q => (congrArg x4 (at_offset _ (inbTap i) q f q ⟨512 * i.val + f.val, by omega⟩ (Nat.zero_add _).symm rfl)).trans (hcw _ _)
  have e5 : View.ld (Val := Elt Ideal) (e' := .f32) x5 (Rect.unit ![0, 512 * i.val] ![1, 512] (inbBias i)) (ix2 0 f) = cb (ix1 ⟨512 * i.val + f.val, by omega⟩) :=
    (congrArg x5 (at_offset _ (inbBias i) 0 f 0 ⟨512 * i.val + f.val, by omega⟩ rfl rfl)).trans (hcb _)
  have e3 : ∀ k, View.ld (Val := Elt Ideal) (e' := .bf16) x3 (Rect.unit ![0, 512 * i.val] ![1024, 512] (inbThird i)) (ix2 k f) = w (ix2 k ⟨512 * i.val + f.val, by omega⟩) :=
    fun k => load_weights w x3 hw _ _ k f ⟨512 * i.val + f.val, by omega⟩ rfl
  rw [e5]
  refine congrArg (· + _) ?_
  simp only [e4]
  unfold KernelFfnIdeal.Gen.tileConv
  refine conv_tile (inCol x w b ⟨512 * i.val + f.val, by omega⟩) j _ _ hp hn (haloCol (haloed x0 x1 x2) _ f) (fun r => ?_) (fun s hs => ?_) (fun s hs => ?_)
    (fun q => cw (ix2 q ⟨512 * i.val + f.val, by omega⟩)) r
  · exact Finset.sum_congr rfl fun k _ => by rw [haloed, own_row, tile_entry x b j x0 hx, e3]
  · refine Finset.sum_congr rfl fun k _ => ?_
    rw [haloed, row_above, e3]
    exact congrArg (· * _) ((congrArg x1 (at_offset _ inb_S8x1024_S8x1024_0_0 7 k 7 k rfl (Nat.zero_add _).symm)).trans (hx1 s hs k))
  · refine Finset.sum_congr rfl fun k _ => ?_
    rw [haloed, row_below, e3]
    exact congrArg (· * _) ((congrArg x2 (at_offset _ inb_S8x1024_S8x1024_0_0 0 k 0 k rfl (Nat.zero_add _).symm)).trans (hx2 s hs k))

end step

end Cert.KernelProjIdeal.Gen

end
-- ==== Proof.Proj.Blocks.lean ====
module

public import proofs.«01_k».proof.Proof.Proj.Step
public import Idealize.ShloMosaic.Lib.Pipeline.CanonAppend

@[expose] public section

set_option maxRecDepth 16384

/-!
# The blocks a step of the input projection leaves

The stores put together: every entry of the four output blocks, from the tile's place in its sequence.
-/

noncomputable section

namespace Cert.KernelProjIdeal.Gen

open Layer
open Idealize.ShloMosaic Idealize.ShloMosaic.TcCoe Idealize.ShloMosaic.Tactic

theorem allPlanes : ∀ q : Fin 3 × Fin 2, q ∈ planeOrder := by decide

/-- Every residue and plane is stored. -/
theorem mem_blockOrder {d : Nat} (rs : List (Fin d)) (hall : ∀ r, r ∈ rs) (p : Fin d × (Fin 3 × Fin 2)) : p ∈ blockOrder rs :=
  List.mem_flatMap.2 ⟨p.1, hall _, List.mem_map.2 ⟨p.2, allPlanes _, rfl⟩⟩

/-- What the planes hold at a place, by part, row and column. -/
def planeVal (X : Fin 3 → Fin 512 → Fin 256 → EReal) (y : S6x512x128.Idx) : EReal :=
  X ⟨(y 0).val / 2, by have : (y 0).val < 6 := (y 0).isLt; omega⟩ (y 1) ⟨128 * ((y 0).val % 2) + (y 2).val, by have : (y 2).val < 128 := (y 2).isLt; omega⟩
/-- What a group's block holds at a place, by part, residue, row and column. -/
def blockVal {d n : Nat} (X : Fin 3 → Fin d → Fin n → Fin 256 → EReal) (y : (⟨4, ![1, d, n, 768]⟩ : Shape).Idx) : EReal :=
  X ⟨(y 3).val / 256, by have : (y 3).val < 768 := (y 3).isLt; omega⟩ (y 1) (y 2) ⟨(y 3).val % 256, Nat.mod_lt _ (by decide)⟩
/-- What the main block holds at a place, by row and column. -/
def mainVal (G : Fin 512 → Fin 2048 → EReal) (y : S512x2048.Idx) : EReal := G (y 0) (y 1)

/-- The rows of a residue in a plane, after the six planes have been stored over whatever was there. -/
theorem read_residue (X : Fin 3 → Fin 512 → Fin 256 → EReal) (P : Fin 3 × Fin 2 → FVec Ideal S1x512x128 .f32)
    (hP : ∀ (q : Fin 3 × Fin 2) (r : Fin 512) (l : Fin 128), P q (ix3 0 r l) = X q.1 r ⟨128 * q.2.val + l.val, by omega⟩)
    (L : List (View.Piece (Elt Ideal) S6x512x128 .f32)) {d n : Nat} (hdn : d * n = 512) (r : Fin d) (q : Fin 3 × Fin 2)
    (i : Fin n) (l : Fin 128) (row : Fin 512) (hrow : row.val = r.val + d * i.val) :
    (View.whole cc0_scratch0).readCov (Val := Elt Ideal)
        ((planeOrder.map fun q => ⟨Rect.unit ![2 * q.1.val + q.2.val, 0, 0] ![1, 512, 128] (inbPlane q), P q⟩) ++ L) (residueRows hdn r q) (ix3 0 i l)
      = X q.1 row ⟨128 * q.2.val + l.val, by omega⟩ := by
  rw [View.readCov_eq_canon']
  have hi : (residueRows hdn r q).idx (ix3 0 i l) = ix3 (⟨2 * q.1.val + q.2.val, by omega⟩ : Fin 6) row l := by
    funext a
    refine Fin.ext ?_
    match a with
    | 0 => show 2 * q.1.val + q.2.val + 1 * 0 = 2 * q.1.val + q.2.val; omega
    | 1 => exact hrow.symm
    | 2 => show 0 + 1 * l.val = l.val; omega
  show View.canon _ ((residueRows hdn r q).idx (ix3 0 i l)) = _
  rw [hi]
  refine (View.canon_append_of_pieces (Val := Elt Ideal) (e := .f32) (planeVal X) L _ ?_ (ix3 _ row l) ?_).trans ?_
  · intro p hp y
    obtain ⟨q, -, rfl⟩ := List.mem_map.1 hp
    idx_vars y
    have h0 : y0 = 0 := Subsingleton.elim _ _
    subst h0
    refine (hP q y1 y2).trans ?_
    have hq := q.2.isLt
    have e : (Rect.unit (s := S6x512x128) ![2 * q.1.val + q.2.val, 0, 0] ![1, 512, 128] (inbPlane q)).emb (ix3 0 y1 y2) = ix3 (⟨2 * q.1.val + q.2.val, by omega⟩ : Fin 6) y1 y2 := by
      funext a
      refine Fin.ext ?_
      match a with
      | 0 => show 2 * q.1.val + q.2.val + 1 * 0 = 2 * q.1.val + q.2.val; omega
      | 1 => show 0 + 1 * y1.val = y1.val; omega
      | 2 => show 0 + 1 * y2.val = y2.val; omega
    refine Eq.trans ?_ (congrArg (planeVal X) e.symm)
    have e0 : (⟨(2 * q.1.val + q.2.val) / 2, by omega⟩ : Fin 3) = q.1 := Fin.ext (by show (2 * q.1.val + q.2.val) / 2 = q.1.val; omega)
    have e1 : (⟨128 * ((2 * q.1.val + q.2.val) % 2) + y2.val, by omega⟩ : Fin 256) = ⟨128 * q.2.val + y2.val, by omega⟩ :=
      Fin.ext (by show 128 * ((2 * q.1.val + q.2.val) % 2) + y2.val = 128 * q.2.val + y2.val; omega)
    show _ = X ⟨(2 * q.1.val + q.2.val) / 2, _⟩ y1 ⟨128 * ((2 * q.1.val + q.2.val) % 2) + y2.val, _⟩
    rw [e0, e1]
  · refine ⟨_, List.mem_map.2 ⟨q, allPlanes q, rfl⟩, ?_⟩
    rw [LoadRect.mem_set]
    intro a
    match a with
    | ⟨0, _⟩ => exact ⟨0, Nat.one_pos, show 2 * q.1.val + q.2.val = 2 * q.1.val + q.2.val + 1 * 0 by omega⟩
    | ⟨1, _⟩ => exact ⟨row.val, row.isLt, show row.val = 0 + 1 * row.val by omega⟩
    | ⟨2, _⟩ => exact ⟨l.val, l.isLt, show l.val = 0 + 1 * l.val by omega⟩
  · have hq := q.2.isLt
    have e0 : (⟨(2 * q.1.val + q.2.val) / 2, by omega⟩ : Fin 3) = q.1 := Fin.ext (by show (2 * q.1.val + q.2.val) / 2 = q.1.val; omega)
    have e1 : (⟨128 * ((2 * q.1.val + q.2.val) % 2) + l.val, by omega⟩ : Fin 256) = ⟨128 * q.2.val + l.val, by omega⟩ :=
      Fin.ext (by show 128 * ((2 * q.1.val + q.2.val) % 2) + l.val = 128 * q.2.val + l.val; omega)
    show X ⟨(2 * q.1.val + q.2.val) / 2, _⟩ row ⟨128 * ((2 * q.1.val + q.2.val) % 2) + l.val, _⟩ = _
    rw [e0, e1]

/-- A dilated group's block once every residue and plane has been stored. -/
theorem canon_blocks {d n : Nat} (X : Fin 3 → Fin d → Fin n → Fin 256 → EReal)
    (inb : ∀ p : Fin d × (Fin 3 × Fin 2), ∀ a, (![0, p.1.val, 0, 128 * (2 * p.2.1.val + p.2.2.val)] : Fin 4 → Nat) a + (![1, 1, n, 128] : Fin 4 → Nat) a ≤ (![1, d, n, 768] : Fin 4 → Nat) a)
    (W : Fin d × (Fin 3 × Fin 2) → (⟨4, ![1, 1, n, 128]⟩ : Shape).Idx → EReal)
    (hW : ∀ p (i : Fin n) (l : Fin 128), W p (ix4 0 0 i l) = X p.2.1 p.1 i ⟨128 * p.2.2.val + l.val, by omega⟩)
    (order : List (Fin d × (Fin 3 × Fin 2))) (hall : ∀ p, p ∈ order) (r : Fin d) (i : Fin n) (e : Fin 768) :
    View.canon (Val := Elt Ideal) (e := .f32) (s := ⟨4, ![1, d, n, 768]⟩)
        (order.map fun p => ⟨Rect.unit ![0, p.1.val, 0, 128 * (2 * p.2.1.val + p.2.2.val)] ![1, 1, n, 128] (inb p), W p⟩) (ix4 0 r i e)
      = X ⟨e.val / 256, by omega⟩ r i ⟨e.val % 256, Nat.mod_lt _ (by decide)⟩ := by
  refine (View.canon_apply_of_pieces (Val := Elt Ideal) (e := .f32) (blockVal X) _ ?_ (ix4 0 r i e) ?_).trans rfl
  · intro p hp y
    obtain ⟨p, -, rfl⟩ := List.mem_map.1 hp
    obtain ⟨y0, y1, y2, y3, rfl⟩ : ∃ (y0 y1 : Fin 1) (y2 : Fin n) (y3 : Fin 128), y = ix4 y0 y1 y2 y3 := ⟨_, _, _, _, eq_ix4 y⟩
    have h0 : y0 = 0 := Subsingleton.elim _ _
    have h1 : y1 = 0 := Subsingleton.elim _ _
    subst h0 h1
    refine (hW p y2 y3).trans ?_
    have hp := p.2.2.isLt
    have e : (Rect.unit (s := ⟨4, ![1, d, n, 768]⟩) ![0, p.1.val, 0, 128 * (2 * p.2.1.val + p.2.2.val)] ![1, 1, n, 128] (inb p)).emb (ix4 0 0 y2 y3)
        = ix4 (0 : Fin 1) p.1 y2 (⟨128 * (2 * p.2.1.val + p.2.2.val) + y3.val, by omega⟩ : Fin 768) := by
      funext a
      refine Fin.ext ?_
      match a with
      | 0 => rfl
      | 1 => show p.1.val + 1 * 0 = p.1.val; omega
      | 2 => show 0 + 1 * y2.val = y2.val; omega
      | 3 => show 128 * (2 * p.2.1.val + p.2.2.val) + 1 * y3.val = 128 * (2 * p.2.1.val + p.2.2.val) + y3.val; omega
    refine Eq.trans ?_ (congrArg (blockVal X) e.symm)
    have e0 : (⟨(128 * (2 * p.2.1.val + p.2.2.val) + y3.val) / 256, by omega⟩ : Fin 3) = p.2.1 :=
      Fin.ext (by show (128 * (2 * p.2.1.val + p.2.2.val) + y3.val) / 256 = p.2.1.val; omega)
    have e1 : (⟨(128 * (2 * p.2.1.val + p.2.2.val) + y3.val) % 256, by omega⟩ : Fin 256) = ⟨128 * p.2.2.val + y3.val, by omega⟩ :=
      Fin.ext (by show (128 * (2 * p.2.1.val + p.2.2.val) + y3.val) % 256 = 128 * p.2.2.val + y3.val; omega)
    show _ = X ⟨(128 * (2 * p.2.1.val + p.2.2.val) + y3.val) / 256, _⟩ p.1 y2 ⟨(128 * (2 * p.2.1.val + p.2.2.val) + y3.val) % 256, _⟩
    rw [e0, e1]
  · refine ⟨_, List.mem_map.2 ⟨(r, (⟨e.val / 256, by omega⟩, ⟨e.val / 128 % 2, by omega⟩)), hall _, rfl⟩, ?_⟩
    rw [LoadRect.mem_set]
    intro a
    match a with
    | ⟨0, _⟩ => exact ⟨0, Nat.one_pos, rfl⟩
    | ⟨1, _⟩ => exact ⟨0, Nat.one_pos, show r.val = r.val + 1 * 0 by omega⟩
    | ⟨2, _⟩ => exact ⟨i.val, i.isLt, show i.val = 0 + 1 * i.val by omega⟩
    | ⟨3, _⟩ => exact ⟨e.val % 128, show e.val % 128 < 128 by omega, show e.val = 128 * (2 * (e.val / 256) + e.val / 128 % 2) + 1 * (e.val % 128) by omega⟩

section casts

theorem plain_cast (X : FVec Ideal S512x256 .f32) (r : Fin 512) (l : Fin 256) : shapeCast S1x1x512x256 X shapeCasts_S512x256_S1x1x512x256 (ix4 0 0 r l) = X (ix2 r l) := by
  pointwise []

theorem plane_cast (X : FVec Ideal S512x256 .f32) (h : Fin 2) (r : Fin 512) (l : Fin 128) :
    shapeCast S1x512x128 (extractStridedSlice S512x128 ![0, 128 * h.val] X (inbHalf h)) shapeCasts_S512x128_S1x512x128 (ix3 0 r l) = X (ix2 r ⟨128 * h.val + l.val, by omega⟩) := by
  have e : ∀ Y : FVec Ideal S512x128 .f32, shapeCast S1x512x128 Y shapeCasts_S512x128_S1x512x128 (ix3 0 r l) = Y (ix2 r l) := fun Y => by pointwise []
  rw [e]
  refine congrArg X (funext fun a => Fin.ext ?_)
  match a with
  | 0 => show 0 + r.val = r.val; omega
  | 1 => rfl

theorem cast4 (X : Vec Ideal S1x128x128 .f32) (i l : Fin 128) :
    shapeCast S1x1x128x128 (shapeCast S128x128 X shapeCasts_S1x128x128_S128x128) shapeCasts_S128x128_S1x1x128x128 (ix4 0 0 i l) = X (ix3 0 i l) := by
  pointwise []

theorem cast16 (X : Vec Ideal S1x32x128 .f32) (i : Fin 32) (l : Fin 128) :
    shapeCast S1x1x32x128 (shapeCast S32x128 X shapeCasts_S1x32x128_S32x128) shapeCasts_S32x128_S1x1x32x128 (ix4 0 0 i l) = X (ix3 0 i l) := by
  pointwise []

end casts

section step
variable (x : (⟨2, ![49152, 1024]⟩ : Shape).Idx → EReal) (w : (⟨2, ![1024, 4864]⟩ : Shape).Idx → EReal)
  (cw : (⟨2, ![3, 1536]⟩ : Shape).Idx → EReal) (cb : (⟨1, ![1536]⟩ : Shape).Idx → EReal)
  (cos sin : (⟨2, ![4096, 32]⟩ : Shape).Idx → EReal)
variable (b : Fin 12) (j : Fin 8)
  (x0 : Vec Ideal S512x1024 .f32) (x1 x2 : Vec Ideal S8x1024 .f32) (x3 : Vec Ideal S1024x4864 .bf16)
  (x4 : Vec Ideal S3x1536 .f32) (x5 : Vec Ideal S1x1536 .f32) (x6 x7 : Vec Ideal S512x256 .f32)
  (hx : ∀ r k, x0 (ix2 r k) = x (ix2 (tok b (spot j r)) k))
  (hx1 : ∀ s : Fin 4096, s.val + 1 = 512 * j.val → ∀ k, x1 (ix2 7 k) = x (ix2 (tok b s) k))
  (hx2 : ∀ s : Fin 4096, s.val = 512 * j.val + 512 → ∀ k, x2 (ix2 0 k) = x (ix2 (tok b s) k))
  (hw : ∀ k f, x3 (ix2 k f) = w (ix2 k f))
  (hcw : ∀ i f, x4 (ix2 i f) = cw (ix2 i f)) (hcb : ∀ f, x5 (ix2 0 f) = cb (ix1 f))
  (hc : ∀ r l, x6 (ix2 r l) = cos (ix2 (spot j r) ⟨l.val % 32, Nat.mod_lt _ (by decide)⟩))
  (hs : ∀ r (l : Fin 256), x7 (ix2 r l) = if l.val % 64 < 32 then -sin (ix2 (spot j r) ⟨l.val % 32, Nat.mod_lt _ (by decide)⟩)
    else sin (ix2 (spot j r) ⟨l.val % 32, Nat.mod_lt _ (by decide)⟩))

include hx hw hc hs in
/-- The undilated group's block. -/
theorem plain_block (r : Fin 512) (e : Fin 768) : View.canon (plainPieces x0 x3 x6 x7) (ix4 0 0 r e)
    = attOut x w cos sin b 0 ⟨e.val / 256, by omega⟩ (spot j r) ⟨e.val % 256, Nat.mod_lt _ (by decide)⟩ := by
  unfold plainPieces
  refine (View.canon_apply_of_pieces (Val := Elt Ideal) (e := .f32)
    (blockVal fun a (_ : Fin 1) (r : Fin 512) l => attOut x w cos sin b 0 a (spot j r) l) _ ?_ (ix4 0 0 r e) ?_).trans rfl
  · intro p hp y
    obtain ⟨i, -, rfl⟩ := List.mem_map.1 hp
    idx_vars y
    have h0 : y0 = 0 := Subsingleton.elim _ _
    have h1 : y1 = 0 := Subsingleton.elim _ _
    subst h0 h1
    refine (plain_cast _ y2 y3).trans ((attPart_eq x w cos sin b j x0 x3 x6 x7 hx hw hc hs 0 i y2 y3).trans ?_)
    have e : (Rect.unit (s := S1x1x512x768) ![0, 0, 0, 256 * i.val] ![1, 1, 512, 256] (inbPlain i)).emb (ix4 0 0 y2 y3)
        = ix4 (0 : Fin 1) (0 : Fin 1) y2 (⟨256 * i.val + y3.val, by omega⟩ : Fin 768) := by
      funext a
      refine Fin.ext ?_
      match a with
      | 0 => rfl
      | 1 => rfl
      | 2 => show 0 + 1 * y2.val = y2.val; omega
      | 3 => show 256 * i.val + 1 * y3.val = 256 * i.val + y3.val; omega
    refine Eq.trans ?_ (congrArg (blockVal fun a (_ : Fin 1) (r : Fin 512) l => attOut x w cos sin b 0 a (spot j r) l) e.symm)
    have e0 : (⟨(256 * i.val + y3.val) / 256, by omega⟩ : Fin 3) = i := Fin.ext (by show (256 * i.val + y3.val) / 256 = i.val; omega)
    have e1 : (⟨(256 * i.val + y3.val) % 256, by omega⟩ : Fin 256) = y3 := Fin.ext (by show (256 * i.val + y3.val) % 256 = y3.val; omega)
    show _ = attOut x w cos sin b 0 ⟨(256 * i.val + y3.val) / 256, _⟩ (spot j y2) ⟨(256 * i.val + y3.val) % 256, _⟩
    rw [e0, e1]
  · refine ⟨_, List.mem_map.2 ⟨⟨e.val / 256, by omega⟩, (by decide : ∀ i : Fin 3, i ∈ ([2, 1, 0] : List (Fin 3))) _, rfl⟩, ?_⟩
    rw [LoadRect.mem_set]
    intro a
    match a with
    | ⟨0, _⟩ => exact ⟨0, Nat.one_pos, rfl⟩
    | ⟨1, _⟩ => exact ⟨0, Nat.one_pos, rfl⟩
    | ⟨2, _⟩ => exact ⟨r.val, r.isLt, show r.val = 0 + 1 * r.val by omega⟩
    | ⟨3, _⟩ => exact ⟨e.val % 256, show e.val % 256 < 256 by omega, show e.val = 256 * (e.val / 256) + 1 * (e.val % 256) by omega⟩

include hx hw hc hs in
/-- The rows of a residue read back from the planes. -/
theorem residue_eq (g : Fin 3) (L : List (View.Piece (Elt Ideal) S6x512x128 .f32)) {d n : Nat} (hdn : d * n = 512) (r : Fin d) (q : Fin 3 × Fin 2)
    (i : Fin n) (l : Fin 128) (row : Fin 512) (hrow : row.val = r.val + d * i.val) :
    (View.whole cc0_scratch0).readCov (Val := Elt Ideal) (planePieces x0 x3 x6 x7 g ++ L) (residueRows hdn r q) (ix3 0 i l)
      = attOut x w cos sin b g q.1 (spot j row) ⟨128 * q.2.val + l.val, by omega⟩ :=
  read_residue (fun a r l => attOut x w cos sin b g a (spot j r) l) _
    (fun q r l => (plane_cast _ q.2 r l).trans (attPart_eq x w cos sin b j x0 x3 x6 x7 hx hw hc hs g q.1 r _)) L hdn r q i l row hrow

include hx hw hc hs in
/-- The block of the group of dilation four. -/
theorem four_block (r : Fin 4) (i : Fin 128) (e : Fin 768) : View.canon (pieces4 (planePieces x0 x3 x6 x7 1)) (ix4 0 r i e)
    = attOut x w cos sin b 1 ⟨e.val / 256, by omega⟩ (spot j ⟨r.val + 4 * i.val, by omega⟩) ⟨e.val % 256, Nat.mod_lt _ (by decide)⟩ := by
  refine canon_blocks (fun a (r : Fin 4) (i : Fin 128) l => attOut x w cos sin b 1 a (spot j ⟨r.val + 4 * i.val, by omega⟩) l) inb4 _ (fun p i l => ?_)
    _ (mem_blockOrder [3, 2, 1, 0] (by decide)) r i e
  unfold block4
  rw [← List.append_nil (planePieces x0 x3 x6 x7 1)]
  exact (cast4 _ i l).trans (residue_eq x w cos sin b j x0 x3 x6 x7 hx hw hc hs 1 [] rfl p.1 p.2 i l _ rfl)

include hx hw hc hs in
/-- The block of the group of dilation sixteen. -/
theorem sixteen_block (L : List (View.Piece (Elt Ideal) S6x512x128 .f32)) (r : Fin 16) (i : Fin 32) (e : Fin 768) :
    View.canon (pieces16 (planePieces x0 x3 x6 x7 2 ++ L)) (ix4 0 r i e)
    = attOut x w cos sin b 2 ⟨e.val / 256, by omega⟩ (spot j ⟨r.val + 16 * i.val, by omega⟩) ⟨e.val % 256, Nat.mod_lt _ (by decide)⟩ := by
  refine canon_blocks (fun a (r : Fin 16) (i : Fin 32) l => attOut x w cos sin b 2 a (spot j ⟨r.val + 16 * i.val, by omega⟩) l) inb16 _ (fun p i l => ?_)
    _ (mem_blockOrder [15, 14, 13, 12, 11, 10, 9, 8, 7, 6, 5, 4, 3, 2, 1, 0] (by decide)) r i e
  exact (cast16 _ i l).trans (residue_eq x w cos sin b j x0 x3 x6 x7 hx hw hc hs 2 L rfl p.1 p.2 i l _ rfl)

/-- A store of 512 columns of the main block holds what a function of the row and the column says. -/
theorem main_store (G : Fin 512 → Fin 2048 → EReal) (o : Nat) (ho : o + 512 ≤ 2048) (inb : ∀ a, (![0, o] : Fin 2 → Nat) a + (![512, 512] : Fin 2 → Nat) a ≤ S512x2048.size a)
    (W : FVec Ideal S512x512 .f32) (hW : ∀ r l : Fin 512, W (ix2 r l) = G r ⟨o + l.val, by omega⟩) (y : (⟨2, ![512, 512]⟩ : Shape).Idx) :
    W y = mainVal G ((Rect.unit (s := S512x2048) ![0, o] ![512, 512] inb).emb y) := by
  idx_vars y
  refine (hW y0 y1).trans ?_
  have e : (Rect.unit (s := S512x2048) ![0, o] ![512, 512] inb).emb (ix2 y0 y1) = ix2 y0 (⟨o + y1.val, by omega⟩ : Fin 2048) :=
    at_offset _ inb y0 y1 y0 _ (Nat.zero_add _).symm rfl
  exact (congrArg (mainVal G) e.symm)

theorem main_mem (o : Nat) (inb : ∀ a, (![0, o] : Fin 2 → Nat) a + (![512, 512] : Fin 2 → Nat) a ≤ S512x2048.size a) (r : Fin 512) (e : Fin 2048)
    (h : o ≤ e.val) (h' : e.val < o + 512) : (ix2 r e : S512x2048.Idx) ∈ (Rect.unit (s := S512x2048) ![0, o] ![512, 512] inb).set := by
  rw [LoadRect.mem_set]
  intro a
  match a with
  | ⟨0, _⟩ => exact ⟨r.val, r.isLt, show r.val = 0 + 1 * r.val by omega⟩
  | ⟨1, _⟩ => exact ⟨e.val - o, show e.val - o < 512 by omega, show e.val = o + 1 * (e.val - o) by omega⟩

include hx hx1 hx2 hw hcw hcb in
/-- The main block. -/
theorem main_block (t : grid0.Coords) (hp : hasPrev t = 1 ↔ j.val ≠ 0) (hn : hasNext t = 1 ↔ j.val ≠ 7) (r : Fin 512) (e : Fin 2048) :
    View.canon (mainPieces x0 x1 x2 x3 x4 x5 t) (ix2 r e) = mainCol x w cw cb b (spot j r) e := by
  have hconv := convPart_eq x w cw cb b j x0 x1 x2 x3 x4 x5 hx hx1 hx2 hw hcw hcb t hp hn
  have hlin : ∀ (o : Nat) (inb : ∀ a, (![0, o] : Fin 2 → Nat) a + (![1024, 512] : Fin 2 → Nat) a ≤ S1024x4864.size a) (r l : Fin 512) (f : Fin 4864),
      f.val = o + l.val → (∑ k, View.ld (Val := Elt Ideal) (e' := .f32) x0 (Rect.unit ![0, 0] ![512, 1024] inb_S512x1024_S512x1024_0_0) (ix2 r k)
        * View.ld (Val := Elt Ideal) (e' := .bf16) x3 (Rect.unit ![0, o] ![1024, 512] inb) (ix2 k l)) = inCol x w b f (spot j r) :=
    fun o inb r l f hf => Finset.sum_congr rfl fun k _ => by rw [load_tile x b j x0 hx, load_weights w x3 hw o inb k l f hf]
  have hG := main_store (fun r e => mainCol x w cw cb b (spot j r) e)
  unfold mainPieces
  refine (View.canon_apply_of_pieces (Val := Elt Ideal) (e := .f32) (mainVal fun r e => mainCol x w cw cb b (spot j r) e) _ ?_ (ix2 r e) ?_).trans rfl
  · simp only [List.forall_mem_cons, List.not_mem_nil, false_implies, implies_true, and_true]
    refine ⟨hG 512 (by decide) _ _ fun r l => ?_, hG 0 (by decide) _ _ fun r l => ?_, hG 1536 (by decide) _ _ fun r l => ?_, hG 1024 (by decide) _ _ fun r l => ?_⟩
    · refine (congrArg₂ (· * ·) (hconv 2 r l) (hconv 1 r l)).trans ?_
      unfold mainCol
      rw [dif_neg (show ¬ 512 + l.val < 512 by omega), dif_pos (show 512 + l.val < 1024 by omega)]
      have e : (⟨512 * (2 : Fin 3).val + l.val, by show 512 * 2 + l.val < 1536; omega⟩ : Fin 1536) = ⟨512 + l.val + 512, by omega⟩ := Fin.ext (by show 512 * 2 + l.val = 512 + l.val + 512; omega)
      rw [e]
      rfl
    · refine (hconv 0 r l).trans ?_
      unfold mainCol
      rw [dif_pos (show 0 + l.val < 512 by omega)]
      rfl
    · rw [second_tail_entry]
      unfold mainCol
      rw [dif_neg (show ¬ 1536 + l.val < 512 by omega), dif_neg (show ¬ 1536 + l.val < 1024 by omega)]
      exact hlin 4352 _ r l _ (show 1536 + l.val + 2816 = 4352 + l.val by omega)
    · rw [first_tail_entry]
      unfold mainCol
      rw [dif_neg (show ¬ 1024 + l.val < 512 by omega), dif_neg (show ¬ 1024 + l.val < 1024 by omega)]
      exact hlin 3840 _ r l _ (show 1024 + l.val + 2816 = 3840 + l.val by omega)
  · by_cases h1 : e.val < 512
    · exact ⟨_, List.mem_cons_of_mem _ List.mem_cons_self, main_mem 0 inb_S512x2048_S512x512_0_0 r e (Nat.zero_le _) (by omega)⟩
    by_cases h2 : e.val < 1024
    · exact ⟨_, List.mem_cons_self, main_mem 512 inb_S512x2048_S512x512_0_512 r e (by omega) (by omega)⟩
    by_cases h3 : e.val < 1536
    · exact ⟨_, List.mem_cons_of_mem _ (List.mem_cons_of_mem _ (List.mem_cons_of_mem _ List.mem_cons_self)), main_mem 1024 inb_S512x2048_S512x512_0_1024 r e (by omega) (by omega)⟩
    · exact ⟨_, List.mem_cons_of_mem _ (List.mem_cons_of_mem _ List.mem_cons_self), main_mem 1536 inb_S512x2048_S512x512_0_1536 r e (by omega) (by omega)⟩

end step

end Cert.KernelProjIdeal.Gen

end
-- ==== Proof.Proj.Array.lean ====
module

public import proofs.«01_k».proof.Proof.Proj.Blocks
public import Idealize.ShloMosaic.Lib.Pipeline.ValueKit

@[expose] public section

set_option maxRecDepth 16384

/-!
# The input projection's arrays after the run

Each block reads its argument where its window places it; every step's blocks are blocks of the specification, and the
blocks cover the four results.
-/

noncomputable section

namespace Cert.KernelProjIdeal.Gen

open Layer
open Idealize.ShloMosaic Idealize.ShloMosaic.TcCoe Idealize.ShloMosaic.Tactic
open Idealize.SL Idealize.SL.Sem

/-- Where each window places the block of a step. -/
theorem windows : ∀ t : Fin cfg0.N,
    win0_0.index t = ![t.val, 0]
    ∧ win0_1.index t = ![t.val * 64 - 1, 0]
    ∧ win0_2.index t = ![min ((t.val + 1) * 64) 6143, 0]
    ∧ win0_3.index t = ![0, 0] ∧ win0_4.index t = ![0, 0] ∧ win0_5.index t = ![0, 0]
    ∧ win0_6.index t = ![t.val % 8, 0] ∧ win0_7.index t = ![t.val % 8, 0]
    ∧ win0_8.index t = ![t.val, 0]
    ∧ win0_9.index t = ![t.val / 8, 0, t.val % 8, 0]
    ∧ win0_10.index t = ![t.val / 8, 0, t.val % 8, 0]
    ∧ win0_11.index t = ![t.val / 8, 0, t.val % 8, 0] := by decide +kernel

theorem hasPrev_iff : ∀ t : Fin cfg0.N, hasPrev (grid0.coords t) = 1 ↔ t.val % 8 ≠ 0 := by decide +kernel
theorem hasNext_iff : ∀ t : Fin cfg0.N, hasNext (grid0.coords t) = 1 ↔ t.val % 8 ≠ 7 := by decide +kernel

/-- Two halves side by side, repeated four times. -/
def tiled (A B : FVec Ideal S4096x32 .f32) : FVec Ideal S4096x256 .f32 :=
  shapeCast S4096x256 (broadcastInDim S1x4096x4x64 ![0, 1, 2, 3] bcast_S1x4096x1x64_S1x4096x4x64_0_1_2_3
    (shapeCast S1x4096x1x64 (concatenate S4096x64 1 [⟨S4096x32, A⟩, ⟨S4096x32, B⟩] concatenates_S4096x32_S4096x32_S4096x64_d1) shapeCasts_S4096x64_S1x4096x1x64))
    shapeCasts_S1x4096x4x64_S4096x256

theorem halves_first (A B : FVec Ideal S4096x32 .f32) (s : Fin 4096) (h : Fin 64) (hh : h.val < 32) :
    concatenate S4096x64 1 [⟨S4096x32, A⟩, ⟨S4096x32, B⟩] concatenates_S4096x32_S4096x32_S4096x64_d1 (ix2 s h) = A (ix2 s ⟨h.val, hh⟩) := by
  pointwise []
  exact dif_pos hh

theorem halves_second (A B : FVec Ideal S4096x32 .f32) (s : Fin 4096) (h : Fin 64) (hh : ¬ h.val < 32) :
    concatenate S4096x64 1 [⟨S4096x32, A⟩, ⟨S4096x32, B⟩] concatenates_S4096x32_S4096x32_S4096x64_d1 (ix2 s h) = B (ix2 s ⟨h.val - 32, by omega⟩) := by
  pointwise []
  exact dif_neg hh

theorem tiled_cast (Y : FVec Ideal S4096x64 .f32) (s : Fin 4096) (l : Fin 256) :
    shapeCast S4096x256 (broadcastInDim S1x4096x4x64 ![0, 1, 2, 3] bcast_S1x4096x1x64_S1x4096x4x64_0_1_2_3
      (shapeCast S1x4096x1x64 Y shapeCasts_S4096x64_S1x4096x1x64)) shapeCasts_S1x4096x4x64_S4096x256 (ix2 s l) = Y (ix2 s ⟨l.val % 64, Nat.mod_lt _ (by decide)⟩) := by
  pointwise []

theorem tiled_at (A B : FVec Ideal S4096x32 .f32) (s : Fin 4096) (l : Fin 256) :
    tiled A B (ix2 s l) = if l.val % 64 < 32 then A (ix2 s ⟨l.val % 32, Nat.mod_lt _ (by decide)⟩) else B (ix2 s ⟨l.val % 32, Nat.mod_lt _ (by decide)⟩) := by
  unfold tiled
  rw [tiled_cast]
  by_cases h : l.val % 64 < 32
  · rw [if_pos h, halves_first A B s _ h]
    exact congrArg A (congrArg (ix2 s) (Fin.ext (by show l.val % 64 = l.val % 32; omega)))
  · rw [if_neg h, halves_second A B s _ h]
    exact congrArg B (congrArg (ix2 s) (Fin.ext (by show l.val % 64 - 32 = l.val % 32; omega)))

section
variable (m : (ℓ : Loc nD τ sig) → Buf (Elt Ideal) ℓ) (c : Dev nD)

theorem V_v0 : V m c main_v0 = (truncf (F := Ideal) .bf16 (m ((c : Thread nD τ).loc main_arg1)) bitsLt_bf16_f32) := by
  show StableHlo.after hostOps0 _ (Proc.devRef .tc main_v0) = _
  after_results

theorem V_v4 : V m c main_v4 = tiled (m ((c : Thread nD τ).loc main_arg4)) (m ((c : Thread nD τ).loc main_arg4)) := by
  show StableHlo.after hostOps0 _ (Proc.devRef .tc main_v4) = _
  after_results
  rfl

theorem V_v9 : V m c main_v9 = tiled (Host.negf (m ((c : Thread nD τ).loc main_arg5))) (m ((c : Thread nD τ).loc main_arg5)) := by
  show StableHlo.after hostOps0 _ (Proc.devRef .tc main_v9) = _
  after_results
  rfl

theorem V_v10 : V m c main_v10 = (shapeCast S1x1536 (m ((c : Thread nD τ).loc main_arg3)) shapeCasts_S1536_S1x1536) := by
  show StableHlo.after hostOps0 _ (Proc.devRef .tc main_v10) = _
  after_results
  rfl

theorem read_x (t : Fin cfg0.N) (r : Fin 512) (k : Fin 1024) :
    iblk m c 0 t (ix2 r k) = m ((c : Thread nD τ).loc main_arg0) (ix2 (tok (seqOf t) (spot (tileOf t) r)) k) := by
  unfold tok seqOf spot tileOf
  blk_ext [iblk, V_main_arg0, windows t]

theorem read_before (t : Fin cfg0.N) (s : Fin 4096) (h : s.val + 1 = 512 * (t.val % 8)) (k : Fin 1024) :
    iblk m c 1 t (ix2 7 k) = m ((c : Thread nD τ).loc main_arg0) (ix2 (tok (seqOf t) s) k) := by
  unfold tok seqOf
  blk_ext [iblk, V_main_arg0, windows t]

theorem read_after (t : Fin cfg0.N) (s : Fin 4096) (h : s.val = 512 * (t.val % 8) + 512) (k : Fin 1024) :
    iblk m c 2 t (ix2 0 k) = m ((c : Thread nD τ).loc main_arg0) (ix2 (tok (seqOf t) s) k) := by
  unfold tok seqOf
  blk_ext [iblk, V_main_arg0, windows t]

theorem read_w (t : Fin cfg0.N) (k : Fin 1024) (f : Fin 4864) :
    iblk m c 3 t (ix2 k f) = m ((c : Thread nD τ).loc main_arg1) (ix2 k f) := by
  blk_ext [iblk, V_v0, windows t]

theorem read_cw (t : Fin cfg0.N) (i : Fin 3) (f : Fin 1536) :
    iblk m c 4 t (ix2 i f) = m ((c : Thread nD τ).loc main_arg2) (ix2 i f) := by
  blk_ext [iblk, V_main_arg2, windows t]

theorem read_cb (t : Fin cfg0.N) (f : Fin 1536) :
    iblk m c 5 t (ix2 0 f) = m ((c : Thread nD τ).loc main_arg3) (ix1 f) := by
  have he : (win0_5.blk t).view.emb (ix2 0 f) = ix2 (0 : Fin 1) f := by blk_ext [windows t]
  show V m c main_v10 ((win0_5.blk t).view.emb (ix2 0 f)) = _
  rw [he, V_v10]
  pointwise []

theorem read_cos (t : Fin cfg0.N) (r : Fin 512) (l : Fin 256) :
    iblk m c 6 t (ix2 r l) = m ((c : Thread nD τ).loc main_arg4) (ix2 (spot (tileOf t) r) ⟨l.val % 32, Nat.mod_lt _ (by decide)⟩) := by
  have he : (win0_6.blk t).view.emb (ix2 r l) = ix2 (spot (tileOf t) r) l := by
    unfold spot tileOf
    blk_ext [windows t]
  show V m c main_v4 ((win0_6.blk t).view.emb (ix2 r l)) = _
  rw [he, V_v4, tiled_at, ite_self]

theorem read_sin (t : Fin cfg0.N) (r : Fin 512) (l : Fin 256) :
    iblk m c 7 t (ix2 r l) = if l.val % 64 < 32 then Neg.neg (α := EReal) (m ((c : Thread nD τ).loc main_arg5) (ix2 (spot (tileOf t) r) ⟨l.val % 32, Nat.mod_lt _ (by decide)⟩))
      else m ((c : Thread nD τ).loc main_arg5) (ix2 (spot (tileOf t) r) ⟨l.val % 32, Nat.mod_lt _ (by decide)⟩) := by
  have he : (win0_7.blk t).view.emb (ix2 r l) = ix2 (spot (tileOf t) r) l := by
    unfold spot tileOf
    blk_ext [windows t]
  show V m c main_v9 ((win0_7.blk t).view.emb (ix2 r l)) = _
  rw [he, V_v9, tiled_at]
  rfl

theorem array_main : (dats m 0 c).arrAt 8 cfg0.N
    = projMain (m ((c : Thread nD τ).loc main_arg0)) (m ((c : Thread nD τ).loc main_arg1)) (m ((c : Thread nD τ).loc main_arg2))
        (m ((c : Thread nD τ).loc main_arg3)) := by
  refine (dats m 0 c).arrAt_eq_of_covers 8 _ (by decide +kernel) fun t hf y => ?_
  have hN : t.val < 96 := t.isLt
  blk_simp
  rw [after0_8, main_eq]
  idx_vars y
  refine (main_block _ _ _ _ (seqOf t) (tileOf t) _ _ _ _ _ _ (read_x m c t) (read_before m c t) (read_after m c t) (read_w m c t) (read_cw m c t) (read_cb m c t)
    (grid0.coords t) (hasPrev_iff t) (hasNext_iff t) y0 y1).trans ?_
  have he : ((View.whole main_v11_0).slice (win0_8.rect t)).emb (ix2 y0 y1) = ix2 ⟨512 * t.val + y0.val, by omega⟩ y1 := by
    blk_ext [windows t]
  rw [he]
  unfold projMain
  have h1 : seqOf t = ⟨(512 * t.val + y0.val) / 4096, by omega⟩ := Fin.ext (by unfold seqOf; show t.val / 8 = (512 * t.val + y0.val) / 4096; omega)
  have h2 : spot (tileOf t) y0 = ⟨(512 * t.val + y0.val) % 4096, by omega⟩ := Fin.ext (by unfold spot tileOf; show 512 * (t.val % 8) + y0.val = (512 * t.val + y0.val) % 4096; omega)
  rw [h1, h2]
  rfl

theorem array_plain : (dats m 0 c).arrAt 9 cfg0.N
    = projGroup (m ((c : Thread nD τ).loc main_arg0)) (m ((c : Thread nD τ).loc main_arg1)) (m ((c : Thread nD τ).loc main_arg4))
        (m ((c : Thread nD τ).loc main_arg5)) 0 (d := 1) (n := 4096) rfl := by
  refine (dats m 0 c).arrAt_eq_of_covers 9 _ (by decide +kernel) fun t hf y => ?_
  have hN : t.val < 96 := t.isLt
  blk_simp
  rw [after0_9, plain_eq]
  idx_vars y
  have h0 : y0 = 0 := Subsingleton.elim _ _
  have h1 : y1 = 0 := Subsingleton.elim _ _
  subst h0 h1
  refine (plain_block _ _ _ _ (seqOf t) (tileOf t) _ _ _ _ (read_x m c t) (read_w m c t) (read_cos m c t) (read_sin m c t) y2 y3).trans ?_
  have he : ((View.whole main_v11_1).slice (win0_9.rect t)).emb (ix4 0 0 y2 y3) = ix4 (seqOf t) (0 : Fin 1) (spot (tileOf t) y2) y3 := by
    unfold seqOf spot tileOf
    blk_ext [windows t]
  rw [he]
  unfold projGroup
  have h2 : spot (tileOf t) y2 = ⟨0 + 1 * (spot (tileOf t) y2).val, by omega⟩ := Fin.ext (by show _ = 0 + 1 * _; omega)
  exact congrArg (fun s => attOut _ _ _ _ (seqOf t) 0 ⟨y3.val / 256, by omega⟩ s ⟨y3.val % 256, Nat.mod_lt _ (by decide)⟩) h2

theorem array_four : (dats m 0 c).arrAt 10 cfg0.N
    = projGroup (m ((c : Thread nD τ).loc main_arg0)) (m ((c : Thread nD τ).loc main_arg1)) (m ((c : Thread nD τ).loc main_arg4))
        (m ((c : Thread nD τ).loc main_arg5)) 1 (d := 4) (n := 1024) rfl := by
  refine (dats m 0 c).arrAt_eq_of_covers 10 _ (by decide +kernel) fun t hf y => ?_
  have hN : t.val < 96 := t.isLt
  blk_simp
  rw [after0_10, four_eq]
  idx_vars y
  have h0 : y0 = 0 := Subsingleton.elim _ _
  subst h0
  refine (four_block _ _ _ _ (seqOf t) (tileOf t) _ _ _ _ (read_x m c t) (read_w m c t) (read_cos m c t) (read_sin m c t) y1 y2 y3).trans ?_
  have he : ((View.whole main_v11_2).slice (win0_10.rect t)).emb (ix4 0 y1 y2 y3)
      = ix4 (seqOf t) y1 (⟨128 * (t.val % 8) + y2.val, by omega⟩ : Fin 1024) y3 := by
    unfold seqOf
    blk_ext [windows t]
  rw [he]
  unfold projGroup
  have h2 : spot (tileOf t) ⟨y1.val + 4 * y2.val, by omega⟩ = ⟨y1.val + 4 * (128 * (t.val % 8) + y2.val), by omega⟩ :=
    Fin.ext (by unfold spot tileOf; show 512 * (t.val % 8) + (y1.val + 4 * y2.val) = y1.val + 4 * (128 * (t.val % 8) + y2.val); omega)
  exact congrArg (fun s => attOut _ _ _ _ (seqOf t) 1 ⟨y3.val / 256, by omega⟩ s ⟨y3.val % 256, Nat.mod_lt _ (by decide)⟩) h2

theorem array_sixteen : (dats m 0 c).arrAt 11 cfg0.N
    = projGroup (m ((c : Thread nD τ).loc main_arg0)) (m ((c : Thread nD τ).loc main_arg1)) (m ((c : Thread nD τ).loc main_arg4))
        (m ((c : Thread nD τ).loc main_arg5)) 2 (d := 16) (n := 256) rfl := by
  refine (dats m 0 c).arrAt_eq_of_covers 11 _ (by decide +kernel) fun t hf y => ?_
  have hN : t.val < 96 := t.isLt
  blk_simp
  rw [after0_11, sixteen_eq]
  idx_vars y
  have h0 : y0 = 0 := Subsingleton.elim _ _
  subst h0
  refine (sixteen_block _ _ _ _ (seqOf t) (tileOf t) _ _ _ _ (read_x m c t) (read_w m c t) (read_cos m c t) (read_sin m c t) _ y1 y2 y3).trans ?_
  have he : ((View.whole main_v11_3).slice (win0_11.rect t)).emb (ix4 0 y1 y2 y3)
      = ix4 (seqOf t) y1 (⟨32 * (t.val % 8) + y2.val, by omega⟩ : Fin 256) y3 := by
    unfold seqOf
    blk_ext [windows t]
  rw [he]
  unfold projGroup
  have h2 : spot (tileOf t) ⟨y1.val + 16 * y2.val, by omega⟩ = ⟨y1.val + 16 * (32 * (t.val % 8) + y2.val), by omega⟩ :=
    Fin.ext (by unfold spot tileOf; show 512 * (t.val % 8) + (y1.val + 16 * y2.val) = y1.val + 16 * (32 * (t.val % 8) + y2.val); omega)
  exact congrArg (fun s => attOut _ _ _ _ (seqOf t) 2 ⟨y3.val / 256, by omega⟩ s ⟨y3.val % 256, Nat.mod_lt _ (by decide)⟩) h2

end

end Cert.KernelProjIdeal.Gen

end
-- ==== Proof.Proj.Reference.lean ====
module

public import proofs.«01_k».proof.Proof.Gen.ReferenceProjIdeal
public import proofs.«01_k».proof.Proof.Gen.ReferenceProjIdeal.Read
public import proofs.«01_k».proof.Proof.Proj.Spec
public import Idealize.ShloMosaic.Lib.Pipeline.ValueKit
public import Idealize.ShloMosaic.Lib.Pointwise

@[expose] public section

set_option maxRecDepth 16384

/-!
# What the input projection's reference computes

The stages of the reference read at an index, up to its four results. Queries and keys are rotated the same way, and the
three groups are laid out the same way: each is stated once.
-/

noncomputable section

namespace Cert.ReferenceProjIdeal.Read

open Layer Cert.ReferenceProjIdeal.Gen
open Idealize.ShloMosaic Idealize.ShloMosaic.TcCoe Idealize.ShloMosaic.Tactic

variable (x : (⟨S49152x1024, .f32⟩ : BufTy).Contents (Elt Ideal)) (w : (⟨S1024x4864, .f32⟩ : BufTy).Contents (Elt Ideal))
  (cw : (⟨S3x1536, .f32⟩ : BufTy).Contents (Elt Ideal)) (cb : (⟨S1536, .f32⟩ : BufTy).Contents (Elt Ideal))
  (cos sin : (⟨S4096x32, .f32⟩ : BufTy).Contents (Elt Ideal))
variable (b : Fin 12) (s : Fin 4096)

theorem x_at (k : Fin 1024) : val_main_v0 (F := Ideal) x (ix3 b s k) = x (ix2 (tok b s) k) := by
  rw [val_main_v0_apply]
  unfold tok
  blk_ext []

theorem in_at (f : Fin 4864) : val_main_v1 (F := Ideal) x w (ix3 b s f) = inCol x w b f s := by
  rw [val_main_v1_apply]
  unfold inCol
  refine Finset.sum_congr rfl fun k _ => ?_
  rw [← x_at x b s k]
  congr 1 <;> exact congrArg _ (by blk_ext [])

theorem first_at (f : Fin 1536) : val_main_v2 (F := Ideal) x w (ix3 b s f) = inCol x w b ⟨f.val, by omega⟩ s := by
  rw [val_main_v2_apply, ← in_at]
  exact congrArg _ (by blk_ext [])

theorem zero_at : val_main_cst (F := Ideal) ix0 = 0 := Ideal.ofBits_zero_f32

theorem before_at (f : Fin 1536) : val_main_v5 (F := Ideal) x w (ix3 b s f) = before (inCol x w b ⟨f.val, by omega⟩) s := by
  unfold before
  simp only [← first_at]
  by_cases h : s.val = 0
  · have h1 : s.val < 1 := by omega
    refine Eq.trans ?_ (if_pos h).symm
    pointwise [val_main_v5, val_main_v4, val_main_v3]
    exact (dif_pos h1).trans zero_at
  · have h1 : ¬ s.val < 1 := by omega
    refine Eq.trans ?_ (if_neg h).symm
    pointwise [val_main_v5, val_main_v4, val_main_v3]
    exact dif_neg h1

theorem after_at (f : Fin 1536) : val_main_v7 (F := Ideal) x w (ix3 b s f) = after (inCol x w b ⟨f.val, by omega⟩) s := by
  unfold after
  simp only [← first_at]
  by_cases h : s.val = 4095
  · have h1 : ¬ s.val < 4095 := by omega
    refine Eq.trans ?_ (dif_pos h).symm
    pointwise [val_main_v7, val_main_v6, val_main_v3]
    exact (dif_neg h1).trans zero_at
  · have h1 : s.val < 4095 := by omega
    refine Eq.trans ?_ (dif_neg h).symm
    pointwise [val_main_v7, val_main_v6, val_main_v3]
    refine (dif_pos h1).trans (congrArg _ ?_)
    blk_ext []

theorem conv_at (f : Fin 1536) : val_main_v27 (F := Ideal) x w cw cb (ix3 b s f) = convCol x w cw cb b f s := by
  unfold convCol conv
  rw [← before_at, ← first_at, ← after_at]
  pointwise [val_main_v27, val_main_v26, val_main_v25, val_main_v24, val_main_v23, val_main_v22, val_main_v21, val_main_v20,
    val_main_v19, val_main_v18, val_main_v17, val_main_v16, val_main_v15, val_main_v14, val_main_v13, val_main_v12, val_main_v11, val_main_v10,
    val_main_v9, val_main_v8]

theorem main_at (e : Fin 2048) : val_main_v33 (F := Ideal) x w cw cb (ix3 b s e) = mainCol x w cw cb b s e := by
  unfold mainCol
  simp only [← conv_at, ← in_at]
  by_cases h : e.val < 512
  · rw [dif_pos h]
    pointwise [val_main_v33, val_main_v28]
    exact dif_pos h
  · rw [dif_neg h]
    by_cases h' : e.val < 1024
    · have h1 : e.val - 512 < 512 := by omega
      rw [dif_pos h']
      pointwise [val_main_v33, val_main_v31, val_main_v30, val_main_v29]
      refine (dif_neg h).trans ((dif_pos h1).trans ?_)
      congr 1 <;> exact congrArg _ (by blk_ext [])
    · have h1 : ¬ e.val - 512 < 512 := by omega
      rw [dif_neg h']
      pointwise [val_main_v33, val_main_v32]
      refine (dif_neg h).trans ((dif_neg h1).trans (congrArg _ ?_))
      blk_ext []

/-- The rotation of 12 heads of 64 columns, as the reference writes it. -/
def roped (Q : FVec Ideal S12x4096x768 .f32) : FVec Ideal S12x4096x768 .f32 :=
  let q := shapeCast S12x4096x12x64 Q shapeCasts_S12x4096x768_S12x4096x12x64
  let q1 := extractStridedSlice S12x4096x12x32 ![0, 0, 0, 0] q slices_S12x4096x12x64_S12x4096x12x32_0_0_0_0
  let q2 := extractStridedSlice S12x4096x12x32 ![0, 0, 0, 32] q slices_S12x4096x12x64_S12x4096x12x32_0_0_0_32
  shapeCast S12x4096x768 (concatenate S12x4096x12x64 3
    [⟨S12x4096x12x32, subf (mulf q1 (val_main_v40 cos)) (mulf q2 (val_main_v42 sin))⟩,
     ⟨S12x4096x12x32, addf (mulf q2 (val_main_v45 cos)) (mulf q1 (val_main_v47 sin))⟩]
    concatenates_S12x4096x12x32_S12x4096x12x32_S12x4096x12x64_d3) shapeCasts_S12x4096x12x64_S12x4096x768

theorem queries_eq : val_main_v51 (F := Ideal) x w cos sin = roped cos sin (val_main_v34 x w) := rfl
theorem keys_eq : val_main_v71 (F := Ideal) x w cos sin = roped cos sin (val_main_v54 x w) := rfl

theorem cos_at (h : Fin 12) (l : Fin 32) : val_main_v40 (F := Ideal) cos (ix4 b s h l) = cos (ix2 s l) := by
  pointwise [val_main_v40, val_main_v38]
theorem sin_at (h : Fin 12) (l : Fin 32) : val_main_v42 (F := Ideal) sin (ix4 b s h l) = sin (ix2 s l) := by
  pointwise [val_main_v42, val_main_v39]
theorem cos_at' (h : Fin 12) (l : Fin 32) : val_main_v45 (F := Ideal) cos (ix4 b s h l) = cos (ix2 s l) := by
  pointwise [val_main_v45, val_main_v38]
theorem sin_at' (h : Fin 12) (l : Fin 32) : val_main_v47 (F := Ideal) sin (ix4 b s h l) = sin (ix2 s l) := by
  pointwise [val_main_v47, val_main_v39]

theorem heads_at (Y : FVec Ideal S12x4096x12x64 .f32) (c : Fin 768) :
    shapeCast S12x4096x768 Y shapeCasts_S12x4096x12x64_S12x4096x768 (ix3 b s c) = Y (ix4 b s ⟨c.val / 64, by omega⟩ ⟨c.val % 64, Nat.mod_lt _ (by decide)⟩) := by
  pointwise []

theorem half_at (Q : FVec Ideal S12x4096x768 .f32) (h : Fin 12) (l : Fin 32) :
    extractStridedSlice S12x4096x12x32 ![0, 0, 0, 0] (shapeCast S12x4096x12x64 Q shapeCasts_S12x4096x768_S12x4096x12x64)
      slices_S12x4096x12x64_S12x4096x12x32_0_0_0_0 (ix4 b s h l) = Q (ix3 b s ⟨64 * h.val + l.val, by omega⟩) := by
  pointwise []
  exact congrArg Q (congrArg (ix3 b s) (Fin.ext (by show h.val * 64 + l.val = 64 * h.val + l.val; omega)))

theorem half_at' (Q : FVec Ideal S12x4096x768 .f32) (h : Fin 12) (l : Fin 32) :
    extractStridedSlice S12x4096x12x32 ![0, 0, 0, 32] (shapeCast S12x4096x12x64 Q shapeCasts_S12x4096x768_S12x4096x12x64)
      slices_S12x4096x12x64_S12x4096x12x32_0_0_0_32 (ix4 b s h l) = Q (ix3 b s ⟨64 * h.val + l.val + 32, by omega⟩) := by
  pointwise []
  exact congrArg Q (congrArg (ix3 b s) (Fin.ext (by show h.val * 64 + (32 + l.val) = 64 * h.val + l.val + 32; omega)))

theorem sides_first (A B : FVec Ideal S12x4096x12x32 .f32) (h : Fin 12) (l : Fin 64) (hl : l.val < 32) :
    concatenate S12x4096x12x64 3 [⟨S12x4096x12x32, A⟩, ⟨S12x4096x12x32, B⟩] concatenates_S12x4096x12x32_S12x4096x12x32_S12x4096x12x64_d3 (ix4 b s h l)
      = A (ix4 b s h ⟨l.val, hl⟩) := by
  pointwise []
  exact dif_pos hl

theorem sides_second (A B : FVec Ideal S12x4096x12x32 .f32) (h : Fin 12) (l : Fin 64) (hl : ¬ l.val < 32) :
    concatenate S12x4096x12x64 3 [⟨S12x4096x12x32, A⟩, ⟨S12x4096x12x32, B⟩] concatenates_S12x4096x12x32_S12x4096x12x32_S12x4096x12x64_d3 (ix4 b s h l)
      = B (ix4 b s h ⟨l.val - 32, by omega⟩) := by
  pointwise []
  exact dif_neg hl

/-- A group's columns of the rotated columns. -/
theorem roped_at (Q : FVec Ideal S12x4096x768 .f32) (g : Fin 3) (l : Fin 256) :
    roped cos sin Q (ix3 b s ⟨256 * g.val + l.val, by omega⟩)
      = turn (fun l => Q (ix3 b s ⟨256 * g.val + l.val, by omega⟩)) (fun h => cos (ix2 s h)) (fun h => sin (ix2 s h)) l := by
  unfold roped turn
  dsimp only
  rw [heads_at]
  by_cases h : l.val % 64 < 32
  · have h1 : (256 * g.val + l.val) % 64 < 32 := by omega
    rw [dif_pos h, sides_first _ _ _ _ _ _ h1]
    show mulf _ _ _ - mulf _ _ _ = _
    show _ * _ - _ * _ = _
    rw [half_at, half_at', cos_at, sin_at]
    have e1 : (⟨(256 * g.val + l.val) % 64, h1⟩ : Fin 32) = ⟨l.val % 32, Nat.mod_lt _ (by decide)⟩ := Fin.ext (by show (256 * g.val + l.val) % 64 = l.val % 32; omega)
    have e2 : (⟨64 * ((256 * g.val + l.val) / 64) + l.val % 32, by omega⟩ : Fin 768) = ⟨256 * g.val + l.val, by omega⟩ :=
      Fin.ext (by show 64 * ((256 * g.val + l.val) / 64) + l.val % 32 = 256 * g.val + l.val; omega)
    have e3 : (⟨64 * ((256 * g.val + l.val) / 64) + l.val % 32 + 32, by omega⟩ : Fin 768) = ⟨256 * g.val + (l.val + 32), by omega⟩ :=
      Fin.ext (by show 64 * ((256 * g.val + l.val) / 64) + l.val % 32 + 32 = 256 * g.val + (l.val + 32); omega)
    rw [e1]
    dsimp only
    rw [e2, e3]
  · have h1 : ¬ (256 * g.val + l.val) % 64 < 32 := by omega
    rw [dif_neg h, sides_second _ _ _ _ _ _ h1]
    show mulf _ _ _ + mulf _ _ _ = _
    show _ * _ + _ * _ = _
    rw [half_at, half_at', cos_at', sin_at']
    have e1 : (⟨(256 * g.val + l.val) % 64 - 32, by omega⟩ : Fin 32) = ⟨l.val % 32, Nat.mod_lt _ (by decide)⟩ := Fin.ext (by show (256 * g.val + l.val) % 64 - 32 = l.val % 32; omega)
    have e2 : (⟨64 * ((256 * g.val + l.val) / 64) + l.val % 32, by omega⟩ : Fin 768) = ⟨256 * g.val + (l.val - 32), by omega⟩ :=
      Fin.ext (by show 64 * ((256 * g.val + l.val) / 64) + l.val % 32 = 256 * g.val + (l.val - 32); omega)
    have e3 : (⟨64 * ((256 * g.val + l.val) / 64) + l.val % 32 + 32, by omega⟩ : Fin 768) = ⟨256 * g.val + l.val, by omega⟩ :=
      Fin.ext (by show 64 * ((256 * g.val + l.val) / 64) + l.val % 32 + 32 = 256 * g.val + l.val; omega)
    rw [e1]
    dsimp only
    rw [e2, e3]

theorem q_at (g : Fin 3) (l : Fin 256) : val_main_v53 (F := Ideal) x w cos sin (ix3 b s ⟨256 * g.val + l.val, by omega⟩) = attOut x w cos sin b g 0 s l := by
  have hq : (fun l : Fin 256 => val_main_v34 (F := Ideal) x w (ix3 b s ⟨256 * g.val + l.val, by omega⟩)) = attCol x w b g 0 s := by
    funext l
    unfold attCol
    rw [val_main_v34_apply, ← in_at]
    exact congrArg _ (by blk_ext [])
  rw [val_main_v53_apply, queries_eq, roped_at, hq]
  rfl

theorem k_at (g : Fin 3) (l : Fin 256) : val_main_v71 (F := Ideal) x w cos sin (ix3 b s ⟨256 * g.val + l.val, by omega⟩) = attOut x w cos sin b g 1 s l := by
  have hq : (fun l : Fin 256 => val_main_v54 (F := Ideal) x w (ix3 b s ⟨256 * g.val + l.val, by omega⟩)) = attCol x w b g 1 s := by
    funext l
    unfold attCol
    rw [val_main_v54_apply, ← in_at]
    exact congrArg _ (by blk_ext [])
  rw [keys_eq, roped_at, hq]
  rfl

theorem v_at (g : Fin 3) (l : Fin 256) : val_main_v72 (F := Ideal) x w (ix3 b s ⟨256 * g.val + l.val, by omega⟩) = attOut x w cos sin b g 2 s l := by
  show _ = attCol x w b g 2 s l
  unfold attCol
  rw [val_main_v72_apply, ← in_at]
  exact congrArg _ (by blk_ext [])

/-- Queries, keys and values side by side. -/
theorem beside (A B C : FVec Ideal S12x4096x256 .f32) (g : Fin 3)
    (hA : ∀ l, A (ix3 b s l) = attOut x w cos sin b g 0 s l) (hB : ∀ l, B (ix3 b s l) = attOut x w cos sin b g 1 s l)
    (hC : ∀ l, C (ix3 b s l) = attOut x w cos sin b g 2 s l) (e : Fin 768) :
    concatenate S12x4096x768 2 [⟨S12x4096x256, A⟩, ⟨S12x4096x256, B⟩, ⟨S12x4096x256, C⟩]
      concatenates_S12x4096x256_S12x4096x256_S12x4096x256_S12x4096x768_d2 (ix3 b s e)
      = attOut x w cos sin b g ⟨e.val / 256, by omega⟩ s ⟨e.val % 256, Nat.mod_lt _ (by decide)⟩ := by
  have key : ∀ (j : Fin 3) (l : Fin 256), e.val = 256 * j.val + l.val →
      attOut x w cos sin b g j s l = attOut x w cos sin b g ⟨e.val / 256, by omega⟩ s ⟨e.val % 256, Nat.mod_lt _ (by decide)⟩ := by
    intro j l hjl
    have h1 : j = ⟨e.val / 256, by omega⟩ := Fin.ext (by show j.val = e.val / 256; omega)
    have h2 : l = ⟨e.val % 256, Nat.mod_lt _ (by decide)⟩ := Fin.ext (by show l.val = e.val % 256; omega)
    rw [← h1, ← h2]
  by_cases h : e.val < 256
  · rw [← key 0 ⟨e.val, h⟩ (by show e.val = 256 * 0 + e.val; omega), ← hA]
    pointwise []
    exact dif_pos h
  · by_cases h' : e.val - 256 < 256
    · rw [← key 1 ⟨e.val - 256, h'⟩ (by show e.val = 256 * 1 + (e.val - 256); omega), ← hB]
      pointwise []
      exact (dif_neg h).trans (dif_pos h')
    · rw [← key 2 ⟨e.val - 256 - 256, by omega⟩ (by show e.val = 256 * 2 + (e.val - 256 - 256); omega), ← hC]
      pointwise []
      exact (dif_neg h).trans (dif_neg h')

theorem plain_at (e : Fin 768) : val_main_v77 (F := Ideal) x w cos sin (ix3 b s e)
    = attOut x w cos sin b 0 ⟨e.val / 256, by omega⟩ s ⟨e.val % 256, Nat.mod_lt _ (by decide)⟩ := by
  refine beside x w cos sin b s _ _ _ 0 (fun l => ?_) (fun l => ?_) (fun l => ?_) e
  · rw [val_main_v74_apply, ← q_at]; exact congrArg _ (by blk_ext [])
  · rw [val_main_v75_apply, ← k_at]; exact congrArg _ (by blk_ext [])
  · rw [val_main_v76_apply, ← v_at]; exact congrArg _ (by blk_ext [])

theorem four_at (e : Fin 768) : val_main_v83 (F := Ideal) x w cos sin (ix3 b s e)
    = attOut x w cos sin b 1 ⟨e.val / 256, by omega⟩ s ⟨e.val % 256, Nat.mod_lt _ (by decide)⟩ := by
  refine beside x w cos sin b s _ _ _ 1 (fun l => ?_) (fun l => ?_) (fun l => ?_) e
  · rw [val_main_v80_apply, ← q_at]; exact congrArg _ (by blk_ext [])
  · rw [val_main_v81_apply, ← k_at]; exact congrArg _ (by blk_ext [])
  · rw [val_main_v82_apply, ← v_at]; exact congrArg _ (by blk_ext [])

theorem sixteen_at (e : Fin 768) : val_main_v89 (F := Ideal) x w cos sin (ix3 b s e)
    = attOut x w cos sin b 2 ⟨e.val / 256, by omega⟩ s ⟨e.val % 256, Nat.mod_lt _ (by decide)⟩ := by
  refine beside x w cos sin b s _ _ _ 2 (fun l => ?_) (fun l => ?_) (fun l => ?_) e
  · rw [val_main_v86_apply, ← q_at]; exact congrArg _ (by blk_ext [])
  · rw [val_main_v87_apply, ← k_at]; exact congrArg _ (by blk_ext [])
  · rw [val_main_v88_apply, ← v_at]; exact congrArg _ (by blk_ext [])

theorem value_main : val_main_v73 (F := Ideal) x w cw cb = projMain x w cw cb := by
  funext y
  idx_vars y
  rw [val_main_v73_apply]
  refine Eq.trans (congrArg _ ?_) (main_at x w cw cb ⟨y0.val / 4096, by omega⟩ ⟨y0.val % 4096, by omega⟩ y1)
  blk_ext []

theorem value_plain : val_main_v79 (F := Ideal) x w cos sin = projGroup x w cos sin 0 (d := 1) (n := 4096) rfl := by
  funext y
  idx_vars y
  rw [val_main_v79_apply, val_main_v78_apply]
  refine Eq.trans (congrArg _ ?_) (plain_at x w cos sin y0 ⟨y1.val + 1 * y2.val, by omega⟩ y3)
  blk_ext []

theorem value_four : val_main_v85 (F := Ideal) x w cos sin = projGroup x w cos sin 1 (d := 4) (n := 1024) rfl := by
  funext y
  idx_vars y
  rw [val_main_v85_apply, val_main_v84_apply]
  refine Eq.trans (congrArg _ ?_) (four_at x w cos sin y0 ⟨y1.val + 4 * y2.val, by omega⟩ y3)
  blk_ext []

theorem value_sixteen : val_main_v91 (F := Ideal) x w cos sin = projGroup x w cos sin 2 (d := 16) (n := 256) rfl := by
  funext y
  idx_vars y
  rw [val_main_v91_apply, val_main_v90_apply]
  refine Eq.trans (congrArg _ ?_) (sixteen_at x w cos sin y0 ⟨y1.val + 16 * y2.val, by omega⟩ y3)
  blk_ext []

end Cert.ReferenceProjIdeal.Read

end
-- ==== Proof.Proj.Equation.lean ====
module

public import proofs.«01_k».proof.Defs
public import proofs.«01_k».proof.Proof.Proj.Array
public import proofs.«01_k».proof.Proof.Proj.Reference
public import proofs.«01_k».proof.Proof.Gen.KernelProjIdeal.Value
public import proofs.«01_k».proof.Proof.Gen.ReferenceProjIdeal.Run

@[expose] public section

/-!
# The kernel of the input projection computes its reference
-/

noncomputable section

namespace Cert.Proof.Proj

open Idealize.ShloMosaic Idealize.ShloMosaic.TcCoe Idealize.SL.Sem

/-- The kernel's run: its results and its arguments. -/
theorem kernel_run (m : (ℓ : Loc KernelProjIdeal.nD KernelProjIdeal.τ KernelProjIdeal.sig) → Buf (Elt Ideal) ℓ)
    (g : Dev KernelProjIdeal.nD → PrngReg) :
    θ_run (KernelProjIdeal.defs (F := Ideal)) (onTc (τ := KernelProjIdeal.τ) (KernelProjIdeal.main (F := Ideal))) ⟨m, fun _ => 0, g⟩ (fun r =>
      ∀ c : Dev KernelProjIdeal.nD,
        r.2.mem ((c.tc : Thread KernelProjIdeal.nD KernelProjIdeal.τ).loc KernelProjIdeal.main_v11_0)
            = _root_.Layer.projMain (m ((c.tc : Thread KernelProjIdeal.nD KernelProjIdeal.τ).loc KernelProjIdeal.main_arg0)) (m ((c.tc : Thread KernelProjIdeal.nD KernelProjIdeal.τ).loc KernelProjIdeal.main_arg1)) (m ((c.tc : Thread KernelProjIdeal.nD KernelProjIdeal.τ).loc KernelProjIdeal.main_arg2)) (m ((c.tc : Thread KernelProjIdeal.nD KernelProjIdeal.τ).loc KernelProjIdeal.main_arg3))
          ∧ r.2.mem ((c.tc : Thread KernelProjIdeal.nD KernelProjIdeal.τ).loc KernelProjIdeal.main_v11_1)
            = _root_.Layer.projGroup (m ((c.tc : Thread KernelProjIdeal.nD KernelProjIdeal.τ).loc KernelProjIdeal.main_arg0)) (m ((c.tc : Thread KernelProjIdeal.nD KernelProjIdeal.τ).loc KernelProjIdeal.main_arg1)) (m ((c.tc : Thread KernelProjIdeal.nD KernelProjIdeal.τ).loc KernelProjIdeal.main_arg4)) (m ((c.tc : Thread KernelProjIdeal.nD KernelProjIdeal.τ).loc KernelProjIdeal.main_arg5)) 0 (d := 1) (n := 4096) rfl
          ∧ r.2.mem ((c.tc : Thread KernelProjIdeal.nD KernelProjIdeal.τ).loc KernelProjIdeal.main_v11_2)
            = _root_.Layer.projGroup (m ((c.tc : Thread KernelProjIdeal.nD KernelProjIdeal.τ).loc KernelProjIdeal.main_arg0)) (m ((c.tc : Thread KernelProjIdeal.nD KernelProjIdeal.τ).loc KernelProjIdeal.main_arg1)) (m ((c.tc : Thread KernelProjIdeal.nD KernelProjIdeal.τ).loc KernelProjIdeal.main_arg4)) (m ((c.tc : Thread KernelProjIdeal.nD KernelProjIdeal.τ).loc KernelProjIdeal.main_arg5)) 1 (d := 4) (n := 1024) rfl
          ∧ r.2.mem ((c.tc : Thread KernelProjIdeal.nD KernelProjIdeal.τ).loc KernelProjIdeal.main_v11_3)
            = _root_.Layer.projGroup (m ((c.tc : Thread KernelProjIdeal.nD KernelProjIdeal.τ).loc KernelProjIdeal.main_arg0)) (m ((c.tc : Thread KernelProjIdeal.nD KernelProjIdeal.τ).loc KernelProjIdeal.main_arg1)) (m ((c.tc : Thread KernelProjIdeal.nD KernelProjIdeal.τ).loc KernelProjIdeal.main_arg4)) (m ((c.tc : Thread KernelProjIdeal.nD KernelProjIdeal.τ).loc KernelProjIdeal.main_arg5)) 2 (d := 16) (n := 256) rfl
          ∧ r.2.mem ((c.tc : Thread KernelProjIdeal.nD KernelProjIdeal.τ).loc KernelProjIdeal.main_arg0) = m ((c.tc : Thread KernelProjIdeal.nD KernelProjIdeal.τ).loc KernelProjIdeal.main_arg0)
          ∧ r.2.mem ((c.tc : Thread KernelProjIdeal.nD KernelProjIdeal.τ).loc KernelProjIdeal.main_arg1) = m ((c.tc : Thread KernelProjIdeal.nD KernelProjIdeal.τ).loc KernelProjIdeal.main_arg1)
          ∧ r.2.mem ((c.tc : Thread KernelProjIdeal.nD KernelProjIdeal.τ).loc KernelProjIdeal.main_arg2) = m ((c.tc : Thread KernelProjIdeal.nD KernelProjIdeal.τ).loc KernelProjIdeal.main_arg2)
          ∧ r.2.mem ((c.tc : Thread KernelProjIdeal.nD KernelProjIdeal.τ).loc KernelProjIdeal.main_arg3) = m ((c.tc : Thread KernelProjIdeal.nD KernelProjIdeal.τ).loc KernelProjIdeal.main_arg3)
          ∧ r.2.mem ((c.tc : Thread KernelProjIdeal.nD KernelProjIdeal.τ).loc KernelProjIdeal.main_arg4) = m ((c.tc : Thread KernelProjIdeal.nD KernelProjIdeal.τ).loc KernelProjIdeal.main_arg4)
          ∧ r.2.mem ((c.tc : Thread KernelProjIdeal.nD KernelProjIdeal.τ).loc KernelProjIdeal.main_arg5) = m ((c.tc : Thread KernelProjIdeal.nD KernelProjIdeal.τ).loc KernelProjIdeal.main_arg5)) :=
  (θ_run _ _ _).mono (fun r h c => ⟨(h c).1.trans (KernelProjIdeal.Gen.array_main m c), (h c).2.1.trans (KernelProjIdeal.Gen.array_plain m c), (h c).2.2.1.trans (KernelProjIdeal.Gen.array_four m c), (h c).2.2.2.1.trans (KernelProjIdeal.Gen.array_sixteen m c), (h c).2.2.2.2⟩)
    (KernelProjIdeal.Value.run_blocks m g)

/-- The reference's run: the same results, of its own arguments. -/
theorem reference_run (m : (ℓ : Loc ReferenceProjIdeal.nD ReferenceProjIdeal.τ ReferenceProjIdeal.sig) → Buf (Elt Ideal) ℓ)
    (g : Dev ReferenceProjIdeal.nD → PrngReg) :
    θ_run (ReferenceProjIdeal.defs (F := Ideal)) (onTc (τ := ReferenceProjIdeal.τ) (ReferenceProjIdeal.main (F := Ideal))) ⟨m, fun _ => 0, g⟩ (fun r =>
      ∀ c : Dev ReferenceProjIdeal.nD,
        r.2.mem ((c.tc : Thread ReferenceProjIdeal.nD ReferenceProjIdeal.τ).loc ReferenceProjIdeal.main_v73)
            = _root_.Layer.projMain (m ((c.tc : Thread ReferenceProjIdeal.nD ReferenceProjIdeal.τ).loc ReferenceProjIdeal.main_arg0)) (m ((c.tc : Thread ReferenceProjIdeal.nD ReferenceProjIdeal.τ).loc ReferenceProjIdeal.main_arg1)) (m ((c.tc : Thread ReferenceProjIdeal.nD ReferenceProjIdeal.τ).loc ReferenceProjIdeal.main_arg2)) (m ((c.tc : Thread ReferenceProjIdeal.nD ReferenceProjIdeal.τ).loc ReferenceProjIdeal.main_arg3))
          ∧ r.2.mem ((c.tc : Thread ReferenceProjIdeal.nD ReferenceProjIdeal.τ).loc ReferenceProjIdeal.main_v79)
            = _root_.Layer.projGroup (m ((c.tc : Thread ReferenceProjIdeal.nD ReferenceProjIdeal.τ).loc ReferenceProjIdeal.main_arg0)) (m ((c.tc : Thread ReferenceProjIdeal.nD ReferenceProjIdeal.τ).loc ReferenceProjIdeal.main_arg1)) (m ((c.tc : Thread ReferenceProjIdeal.nD ReferenceProjIdeal.τ).loc ReferenceProjIdeal.main_arg4)) (m ((c.tc : Thread ReferenceProjIdeal.nD ReferenceProjIdeal.τ).loc ReferenceProjIdeal.main_arg5)) 0 (d := 1) (n := 4096) rfl
          ∧ r.2.mem ((c.tc : Thread ReferenceProjIdeal.nD ReferenceProjIdeal.τ).loc ReferenceProjIdeal.main_v85)
            = _root_.Layer.projGroup (m ((c.tc : Thread ReferenceProjIdeal.nD ReferenceProjIdeal.τ).loc ReferenceProjIdeal.main_arg0)) (m ((c.tc : Thread ReferenceProjIdeal.nD ReferenceProjIdeal.τ).loc ReferenceProjIdeal.main_arg1)) (m ((c.tc : Thread ReferenceProjIdeal.nD ReferenceProjIdeal.τ).loc ReferenceProjIdeal.main_arg4)) (m ((c.tc : Thread ReferenceProjIdeal.nD ReferenceProjIdeal.τ).loc ReferenceProjIdeal.main_arg5)) 1 (d := 4) (n := 1024) rfl
          ∧ r.2.mem ((c.tc : Thread ReferenceProjIdeal.nD ReferenceProjIdeal.τ).loc ReferenceProjIdeal.main_v91)
            = _root_.Layer.projGroup (m ((c.tc : Thread ReferenceProjIdeal.nD ReferenceProjIdeal.τ).loc ReferenceProjIdeal.main_arg0)) (m ((c.tc : Thread ReferenceProjIdeal.nD ReferenceProjIdeal.τ).loc ReferenceProjIdeal.main_arg1)) (m ((c.tc : Thread ReferenceProjIdeal.nD ReferenceProjIdeal.τ).loc ReferenceProjIdeal.main_arg4)) (m ((c.tc : Thread ReferenceProjIdeal.nD ReferenceProjIdeal.τ).loc ReferenceProjIdeal.main_arg5)) 2 (d := 16) (n := 256) rfl
          ∧ r.2.mem ((c.tc : Thread ReferenceProjIdeal.nD ReferenceProjIdeal.τ).loc ReferenceProjIdeal.main_arg0) = m ((c.tc : Thread ReferenceProjIdeal.nD ReferenceProjIdeal.τ).loc ReferenceProjIdeal.main_arg0)
          ∧ r.2.mem ((c.tc : Thread ReferenceProjIdeal.nD ReferenceProjIdeal.τ).loc ReferenceProjIdeal.main_arg1) = m ((c.tc : Thread ReferenceProjIdeal.nD ReferenceProjIdeal.τ).loc ReferenceProjIdeal.main_arg1)
          ∧ r.2.mem ((c.tc : Thread ReferenceProjIdeal.nD ReferenceProjIdeal.τ).loc ReferenceProjIdeal.main_arg2) = m ((c.tc : Thread ReferenceProjIdeal.nD ReferenceProjIdeal.τ).loc ReferenceProjIdeal.main_arg2)
          ∧ r.2.mem ((c.tc : Thread ReferenceProjIdeal.nD ReferenceProjIdeal.τ).loc ReferenceProjIdeal.main_arg3) = m ((c.tc : Thread ReferenceProjIdeal.nD ReferenceProjIdeal.τ).loc ReferenceProjIdeal.main_arg3)
          ∧ r.2.mem ((c.tc : Thread ReferenceProjIdeal.nD ReferenceProjIdeal.τ).loc ReferenceProjIdeal.main_arg4) = m ((c.tc : Thread ReferenceProjIdeal.nD ReferenceProjIdeal.τ).loc ReferenceProjIdeal.main_arg4)
          ∧ r.2.mem ((c.tc : Thread ReferenceProjIdeal.nD ReferenceProjIdeal.τ).loc ReferenceProjIdeal.main_arg5) = m ((c.tc : Thread ReferenceProjIdeal.nD ReferenceProjIdeal.τ).loc ReferenceProjIdeal.main_arg5)) :=
  (θ_run _ _ _).mono (fun r h c => ⟨(h c).1.trans ((ReferenceProjIdeal.Read.val_main_v73_eq m c).trans (ReferenceProjIdeal.Read.value_main _ _ _ _)), (h c).2.1.trans ((ReferenceProjIdeal.Read.val_main_v79_eq m c).trans (ReferenceProjIdeal.Read.value_plain _ _ _ _)), (h c).2.2.1.trans ((ReferenceProjIdeal.Read.val_main_v85_eq m c).trans (ReferenceProjIdeal.Read.value_four _ _ _ _)), (h c).2.2.2.1.trans ((ReferenceProjIdeal.Read.val_main_v91_eq m c).trans (ReferenceProjIdeal.Read.value_sixteen _ _ _ _)), (h c).2.2.2.2⟩)
    (ReferenceProjIdeal.Value.run m g)

theorem algebraic : Cert.algebraic_KernelProjIdeal_ReferenceProjIdeal := by
  intro m g m' g' _ hm
  refine ⟨_, _, _, _, kernel_run m g, ?_⟩
  refine (θ_run _ _ _).mono (fun r h c => ?_) (reference_run m' g')
  obtain ⟨e0, e1, e2, e3, e4, e5⟩ := hm c
  rw [← e0, ← e1, ← e2, ← e3, ← e4, ← e5]
  exact h c

end Cert.Proof.Proj

end
-- ==== Proof.Merge.Spec.lean ====
module

public import proofs.«01_k».proof.Proof.Layer.Math

@[expose] public section

/-!
# The merge of one token

The attention groups blended by their softmax denominators, the three gated branches, the output projection, the
residual and the normalisation, as functions of the arrays.
-/

noncomputable section

namespace Layer

open Idealize.ShloMosaic

/-- A group's array read at a token, at dilation one: the tokens in order. -/
def inOrder (t : (⟨4, ![12, 1, 4096, 256]⟩ : Shape).Idx → EReal) (b : Fin 12) (s : Fin 4096) (k : Fin 256) : EReal := t (ix4 b 0 s k)
/-- At dilation four: the token's residue, then its place among the tokens of that residue. -/
def byFour (t : (⟨4, ![12, 4, 1024, 256]⟩ : Shape).Idx → EReal) (b : Fin 12) (s : Fin 4096) (k : Fin 256) : EReal :=
  t (ix4 b ⟨s.val % 4, Nat.mod_lt _ (by decide)⟩ ⟨s.val / 4, by omega⟩ k)
/-- At dilation sixteen, likewise. -/
def bySixteen (t : (⟨4, ![12, 16, 256, 256]⟩ : Shape).Idx → EReal) (b : Fin 12) (s : Fin 4096) (k : Fin 256) : EReal :=
  t (ix4 b ⟨s.val % 16, Nat.mod_lt _ (by decide)⟩ ⟨s.val / 16, by omega⟩ k)

/-- The weight of a log-sum-exp against the largest of the three, not yet normalised. -/
def weight (p l0 l1 l2 : EReal) : EReal := Ideal.exp (p - max (max l0 l1) l2)
/-- The sum of the three weights. -/
def weights (l0 l1 l2 : EReal) : EReal := weight l0 l0 l1 l2 + weight l1 l0 l1 l2 + weight l2 l0 l1 l2
/-- The softmax of three log-sum-exps, applied to three outputs. -/
def blend (l0 l1 l2 o0 o1 o2 : EReal) : EReal :=
  Ideal.div (weight l0 l0 l1 l2) (weights l0 l1 l2) * o0 + Ideal.div (weight l1 l0 l1 l2) (weights l0 l1 l2) * o1
    + Ideal.div (weight l2 l0 l1 l2) (weights l0 l1 l2) * o2
/-- The same with one division. -/
def blendOnce (l0 l1 l2 o0 o1 o2 : EReal) : EReal :=
  Ideal.div (weight l0 l0 l1 l2 * o0 + weight l1 l0 l1 l2 * o1 + weight l2 l0 l1 l2 * o2) (weights l0 l1 l2)

/-- A sigmoid gate from its argument. -/
def gateOf (z : EReal) : EReal := Ideal.div (Ideal.ofBits .f32 0x3F800000#32) (Ideal.ofBits .f32 0x3F800000#32 + Ideal.exp (-z))

section
variable (x : (⟨2, ![49152, 1024]⟩ : Shape).Idx → EReal) (ya : (⟨2, ![49152, 512]⟩ : Shape).Idx → EReal)
  (o0 : (⟨4, ![12, 1, 4096, 256]⟩ : Shape).Idx → EReal) (o1 : (⟨4, ![12, 4, 1024, 256]⟩ : Shape).Idx → EReal)
  (o2 : (⟨4, ![12, 16, 256, 256]⟩ : Shape).Idx → EReal)
  (l0 : (⟨4, ![12, 1, 4096, 256]⟩ : Shape).Idx → EReal) (l1 : (⟨4, ![12, 4, 1024, 256]⟩ : Shape).Idx → EReal)
  (l2 : (⟨4, ![12, 16, 256, 256]⟩ : Shape).Idx → EReal)
  (yc : (⟨2, ![49152, 512]⟩ : Shape).Idx → EReal) (wg : (⟨2, ![1024, 3072]⟩ : Shape).Idx → EReal) (bg : (⟨1, ![3072]⟩ : Shape).Idx → EReal)
  (wa : (⟨2, ![512, 1024]⟩ : Shape).Idx → EReal) (wb : (⟨2, ![256, 1024]⟩ : Shape).Idx → EReal) (wc : (⟨2, ![512, 1024]⟩ : Shape).Idx → EReal)
  (wo : (⟨2, ![1024, 1024]⟩ : Shape).Idx → EReal) (g lb : (⟨1, ![1024]⟩ : Shape).Idx → EReal)
variable (b : Fin 12) (s : Fin 4096)

/-- The groups of a token, blended. -/
def blended (k : Fin 256) : EReal :=
  blend (inOrder l0 b s k) (byFour l1 b s k) (bySixteen l2 b s k) (inOrder o0 b s k) (byFour o1 b s k) (bySixteen o2 b s k)

/-- The gates' columns of the three branches. -/
def gateColA (j : Fin 1024) : Fin 3072 := ⟨j.val, by omega⟩
def gateColB (j : Fin 1024) : Fin 3072 := ⟨1024 + j.val, by omega⟩
def gateColC (j : Fin 1024) : Fin 3072 := ⟨2048 + j.val, by omega⟩

/-- A gate of a token. -/
def gateAt (j : Fin 3072) : EReal := gateOf ((∑ k : Fin 1024, x (ix2 (tok b s) k) * wg (ix2 k j)) + bg (ix1 j))

/-- The three gated branches of a token, added. -/
def branches (j : Fin 1024) : EReal :=
  gateAt x wg bg b s (gateColA j) * (∑ k : Fin 512, ya (ix2 (tok b s) k) * wa (ix2 k j))
    + gateAt x wg bg b s (gateColB j) * (∑ k : Fin 256, blended o0 o1 o2 l0 l1 l2 b s k * wb (ix2 k j))
    + gateAt x wg bg b s (gateColC j) * (∑ k : Fin 512, yc (ix2 (tok b s) k) * wc (ix2 k j))

/-- The residual sum of a token. -/
def joined (e : Fin 1024) : EReal :=
  Ideal.ofBits .f32 0x3FB504F3#32 * x (ix2 (tok b s) e)
    + ∑ j : Fin 1024, branches x ya o0 o1 o2 l0 l1 l2 yc wg bg wa wb wc b s j * wo (ix2 j e)

/-- The merge's output for a token. -/
def merged (e : Fin 1024) : EReal :=
  Layer.norm (joined x ya o0 o1 o2 l0 l1 l2 yc wg bg wa wb wc wo b s) (fun k => g (ix1 k)) (fun k => lb (ix1 k)) e

/-- The merge's output array. -/
def mergedArray (y : (⟨2, ![49152, 1024]⟩ : Shape).Idx) : EReal :=
  merged x ya o0 o1 o2 l0 l1 l2 yc wg bg wa wb wc wo g lb ⟨(y 0).val / 4096, by have : (y 0).val < 49152 := (y 0).isLt; omega⟩
    ⟨(y 0).val % 4096, Nat.mod_lt _ (by decide)⟩ (y 1)

end

end Layer

end
-- ==== Proof.Merge.Strips.lean ====
module

public import Idealize.ShloMosaic.Lib.Pipeline.ValueKit
public import Idealize.ShloMosaic.Lib.Pointwise

@[expose] public section

/-!
# A group's block put back in the order of the tokens

A buffer of two planes of 512 rows and 128 lanes takes a block of `d` residues, `n` rows each: residue `r` goes to the
rows `r`, `r + d`, `r + 2d` … of both planes. Reading a plane then gives the rows in the tokens' order.
-/

noncomputable section

namespace Layer

open Idealize.ShloMosaic Idealize.ShloMosaic.TcCoe

/-- The two planes. -/
abbrev Planes : Shape := ⟨3, ![2, 512, 128]⟩

variable {d n : Nat} (hdn : d * n = 512)

/-- The rows of plane `q.1` that residue `q.2` goes to. -/
def strip (q : Fin 2 × Fin d) : Rect Planes where
  off := ![q.1.val, q.2.val, 0]
  size := ![1, n, 128]
  stride := ![1, d, 1]
  inb a := by
    have h1 := q.1.isLt
    have h2 := q.2.isLt
    match a with
    | ⟨0, _⟩ => exact Or.inr (show q.1.val + 1 * (1 - 1) < 2 by omega)
    | ⟨1, _⟩ =>
      rcases Nat.eq_zero_or_pos n with hn | hn
      · exact Or.inl hn
      · refine Or.inr (show q.2.val + d * (n - 1) < 512 from ?_)
        have : d * (n - 1) + d = 512 := by rw [← Nat.mul_succ, Nat.succ_eq_add_one, Nat.sub_add_cancel hn, hdn]
        omega
    | ⟨2, _⟩ => exact Or.inr (show 0 + 1 * (128 - 1) < 128 by omega)
  stride_pos a := by
    have h2 := q.2.isLt
    match a with
    | ⟨0, _⟩ => exact Nat.one_pos
    | ⟨1, _⟩ => show 0 < d; omega
    | ⟨2, _⟩ => exact Nat.one_pos

/-- The planes' entry at a row and a lane, by residue and place. -/
def inRows (hd : 0 < d) (X : Fin 2 → Fin d → Fin n → Fin 128 → EReal) (i : Planes.Idx) : EReal :=
  X (i 0) ⟨(i 1).val % d, Nat.mod_lt _ hd⟩ ⟨(i 1).val / d, Nat.div_lt_of_lt_mul (by rw [hdn]; exact (i 1).isLt)⟩ (i 2)

/-- A plane read after every residue has been stored. -/
theorem readCov_strips {sig : RefSig} {κ : Kind} {sp : Space} (v : View sig κ sp Planes .f32) (hd : 0 < d)
    (X : Fin 2 → Fin d → Fin n → Fin 128 → EReal) (W : ∀ q : Fin 2 × Fin d, (strip hdn q).shape.Idx → Elt Ideal .f32)
    (hW : ∀ q y, W q y = X q.1 q.2 (y 1) (y 2)) (order : List (Fin 2 × Fin d)) (hall : ∀ q, q ∈ order)
    (h : Fin 2) (inb : ∀ a, (![h.val, 0, 0] : Fin 3 → Nat) a + (![1, 512, 128] : Fin 3 → Nat) a ≤ Planes.size a) (r : Fin 512) (l : Fin 128) :
    v.readCov (Val := Elt Ideal) (order.map fun q => ⟨strip hdn q, W q⟩) (Rect.unit (s := Planes) ![h.val, 0, 0] ![1, 512, 128] inb).toLoadRect (ix3 0 r l)
      = X h ⟨r.val % d, Nat.mod_lt _ hd⟩ ⟨r.val / d, Nat.div_lt_of_lt_mul (by rw [hdn]; exact r.isLt)⟩ l := by
  rw [View.readCov_eq_canon']
  have hi : (Rect.unit (s := Planes) ![h.val, 0, 0] ![1, 512, 128] inb).idx (ix3 0 r l) = ix3 h r l := by
    funext a
    refine Fin.ext ?_
    match a with
    | 0 => show h.val + 1 * 0 = h.val; omega
    | 1 => show 0 + 1 * r.val = r.val; omega
    | 2 => show 0 + 1 * l.val = l.val; omega
  show View.canon _ ((Rect.unit (s := Planes) ![h.val, 0, 0] ![1, 512, 128] inb).idx (ix3 0 r l)) = _
  rw [hi]
  refine (View.canon_apply_of_pieces (Val := Elt Ideal) (e := .f32) (inRows hdn hd X) _ ?_ (ix3 h r l) ?_).trans rfl
  · intro p hp y
    obtain ⟨q, -, rfl⟩ := List.mem_map.1 hp
    refine (hW q y).trans ?_
    have hq := q.2.isLt
    have h0 : ((strip hdn q).emb y 0).val = q.1.val := by
      have h0 : (y 0).val < 1 := (y 0).isLt
      show q.1.val + 1 * (y 0).val = q.1.val
      omega
    have h1 : ((strip hdn q).emb y 1).val = q.2.val + d * (y 1).val := rfl
    have h2 : ((strip hdn q).emb y 2).val = (y 2).val := show 0 + 1 * (y 2).val = (y 2).val by omega
    unfold inRows
    have e0 : (strip hdn q).emb y 0 = q.1 := Fin.ext h0
    have e1 : (⟨((strip hdn q).emb y 1).val % d, Nat.mod_lt _ hd⟩ : Fin d) = q.2 := Fin.ext (by
      show ((strip hdn q).emb y 1).val % d = q.2.val
      rw [h1, Nat.add_mul_mod_self_left, Nat.mod_eq_of_lt hq])
    have e2 : (⟨((strip hdn q).emb y 1).val / d, Nat.div_lt_of_lt_mul (by rw [hdn]; exact ((strip hdn q).emb y 1).isLt)⟩ : Fin n) = y 1 := Fin.ext (by
      show ((strip hdn q).emb y 1).val / d = (y 1).val
      rw [h1, Nat.add_mul_div_left _ _ hd, Nat.div_eq_of_lt hq, Nat.zero_add])
    have e3 : (strip hdn q).emb y 2 = y 2 := Fin.ext h2
    rw [e0, e1, e2, e3]
  · refine ⟨_, List.mem_map.2 ⟨(h, ⟨r.val % d, Nat.mod_lt _ hd⟩), hall _, rfl⟩, ?_⟩
    rw [LoadRect.mem_set]
    intro a
    match a with
    | ⟨0, _⟩ => exact ⟨0, Nat.one_pos, show h.val = h.val + 1 * 0 by omega⟩
    | ⟨1, _⟩ => exact ⟨r.val / d, show r.val / d < n from Nat.div_lt_of_lt_mul (by rw [hdn]; exact r.isLt), show r.val = r.val % d + d * (r.val / d) from (Nat.mod_add_div _ _).symm⟩
    | ⟨2, _⟩ => exact ⟨l.val, l.isLt, show l.val = 0 + 1 * l.val by omega⟩

end Layer

end
-- ==== Proof.Merge.Store.lean ====
module

public import proofs.«01_k».proof.Proof.Gen.KernelMergeIdeal.Value
public import proofs.«01_k».proof.Proof.Merge.Spec
public import proofs.«01_k».proof.Proof.Merge.Strips
public import Idealize.ShloMosaic.Lib.Pipeline.ValueKit

@[expose] public section

set_option maxRecDepth 16384

/-!
# One grid step of the merge: what it stores

The two dilated groups' blocks pass through the plane buffers; the step's one store is then a function of its blocks.
-/

noncomputable section

namespace Cert.KernelMergeIdeal.Gen

open Layer
open Idealize.ShloMosaic Idealize.ShloMosaic.TcCoe Idealize.ShloMosaic.Tactic
open Idealize.SL Idealize.SL.Sem

/-- The order in which the four residues are stored, the last first. -/
def order4 : List (Fin 2 × Fin 4) := [(1, 3), (0, 3), (1, 2), (0, 2), (1, 1), (0, 1), (1, 0), (0, 0)]
/-- The order of the sixteen. -/
def order16 : List (Fin 2 × Fin 16) := [(1, 15), (0, 15), (1, 14), (0, 14), (1, 13), (0, 13), (1, 12), (0, 12), (1, 11), (0, 11), (1, 10), (0, 10), (1, 9), (0, 9), (1, 8), (0, 8), (1, 7), (0, 7), (1, 6), (0, 6), (1, 5), (0, 5), (1, 4), (0, 4), (1, 3), (0, 3), (1, 2), (0, 2), (1, 1), (0, 1), (1, 0), (0, 0)]

theorem all4 : ∀ q, q ∈ order4 := by decide
theorem all16 : ∀ q, q ∈ order16 := by decide

theorem inb4 (q : Fin 2 × Fin 4) : ∀ a, (![0, q.2.val, 0, 128 * q.1.val] : Fin 4 → Nat) a + (![1, 1, 128, 128] : Fin 4 → Nat) a ≤ S1x4x128x256.size a := by
  revert q; decide
theorem inb16 (q : Fin 2 × Fin 16) : ∀ a, (![0, q.2.val, 0, 128 * q.1.val] : Fin 4 → Nat) a + (![1, 1, 32, 128] : Fin 4 → Nat) a ≤ S1x16x32x256.size a := by
  revert q; decide

theorem inbPlane (h : Fin 2) : ∀ a, (![h.val, 0, 0] : Fin 3 → Nat) a + (![1, 512, 128] : Fin 3 → Nat) a ≤ Planes.size a := by
  revert h; decide

/-- What is stored for residue `q.2` in plane `q.1`: that residue's rows, the plane's half of the lanes. -/
def rows4 (X : Vec Ideal S1x4x128x256 .f32) (q : Fin 2 × Fin 4) : FVec Ideal S1x128x128 .f32 :=
  shapeCast S1x128x128 (shapeCast S128x128 (View.ld (Val := Elt Ideal) (e' := .f32) X (Rect.unit ![0, q.2.val, 0, 128 * q.1.val] ![1, 1, 128, 128] (inb4 q))) shapeCasts_S1x1x128x128_S128x128)
    shapeCasts_S128x128_S1x128x128
def rows16 (X : Vec Ideal S1x16x32x256 .f32) (q : Fin 2 × Fin 16) : FVec Ideal S1x32x128 .f32 :=
  shapeCast S1x32x128 (shapeCast S32x128 (View.ld (Val := Elt Ideal) (e' := .f32) X (Rect.unit ![0, q.2.val, 0, 128 * q.1.val] ![1, 1, 32, 128] (inb16 q))) shapeCasts_S1x1x32x128_S32x128)
    shapeCasts_S32x128_S1x32x128

/-- A plane of a dilation-four group, read back. -/
def plane4 (v : View sig .tc .vmem Planes .f32) (X : Vec Ideal S1x4x128x256 .f32) (h : Fin 2) : Vec Ideal S1x512x128 .f32 :=
  v.readCov (Val := Elt Ideal) (order4.map fun q => ⟨strip (d := 4) (n := 128) rfl q, rows4 X q⟩) (Rect.unit (s := Planes) ![h.val, 0, 0] ![1, 512, 128] (inbPlane h)).toLoadRect
/-- A plane of a dilation-sixteen group, read back. -/
def plane16 (v : View sig .tc .vmem Planes .f32) (X : Vec Ideal S1x16x32x256 .f32) (h : Fin 2) : Vec Ideal S1x512x128 .f32 :=
  v.readCov (Val := Elt Ideal) (order16.map fun q => ⟨strip (d := 16) (n := 32) rfl q, rows16 X q⟩) (Rect.unit (s := Planes) ![h.val, 0, 0] ![1, 512, 128] (inbPlane h)).toLoadRect

/-- What a step stores, from its blocks and the planes. -/
def stored (x0 : Vec Ideal S512x1024 .f32) (x1 : Vec Ideal S512x512 .f32) (x2 x5 : Vec Ideal S1x1x512x256 .f32)
    (p0 p1 q0 q1 r0 r1 s0 s1 : Vec Ideal S1x512x128 .f32) (x8 : Vec Ideal S512x512 .f32) (x9 : Vec Ideal S1024x3072 .bf16) (x10 : Vec Ideal S1x3072 .f32)
    (x11 : Vec Ideal S512x1024 .bf16) (x12 : Vec Ideal S256x1024 .bf16) (x13 : Vec Ideal S512x1024 .bf16) (x14 : Vec Ideal S1024x1024 .bf16)
    (x15 x16 : Vec Ideal S1x1024 .f32) : FVec Ideal S512x1024 .f32 :=
  k0_pay1
    (k0_pay98 (View.ld x0 (Rect.unit ![0, 0] ![512, 1024] inb_S512x1024_S512x1024_0_0))
      (k0_pay2 (View.ld x0 (Rect.unit ![0, 0] ![512, 1024] inb_S512x1024_S512x1024_0_0)))
      (k0_pay95
        (k0_pay3 (View.ld x2 (Rect.unit ![0, 0, 0, 0] ![1, 1, 512, 256] inb_S1x1x512x256_S1x1x512x256_0_0_0_0)))
        (k0_pay4 (View.ld x5 (Rect.unit ![0, 0, 0, 0] ![1, 1, 512, 256] inb_S1x1x512x256_S1x1x512x256_0_0_0_0)))
        (k0_pay13 p0 p1) (k0_pay23 q0 q1) (k0_pay59 r0 r1) s0 s1)
      (View.ld x8 (Rect.unit ![0, 0] ![512, 512] inb_S512x512_S512x512_0_0))
      (k0_pay96 (k0_pay2 (View.ld x0 (Rect.unit ![0, 0] ![512, 1024] inb_S512x1024_S512x1024_0_0)))
        (View.ld x9 (Rect.unit ![0, 0] ![1024, 1024] inb_S1024x3072_S1024x1024_0_0))
        (View.ld x10 (Rect.unit ![0, 0] ![1, 1024] inb_S1x3072_S1x1024_0_0)))
      (k0_pay97 (View.ld x1 (Rect.unit ![0, 0] ![512, 512] inb_S512x512_S512x512_0_0)))
      (View.ld x11 (Rect.unit ![0, 0] ![512, 1024] inb_S512x1024_S512x1024_0_0))
      (View.ld x9 (Rect.unit ![0, 1024] ![1024, 1024] inb_S1024x3072_S1024x1024_0_1024))
      (View.ld x10 (Rect.unit ![0, 1024] ![1, 1024] inb_S1x3072_S1x1024_0_1024))
      (View.ld x12 (Rect.unit ![0, 0] ![256, 1024] inb_S256x1024_S256x1024_0_0))
      (View.ld x9 (Rect.unit ![0, 2048] ![1024, 1024] inb_S1024x3072_S1024x1024_0_2048))
      (View.ld x10 (Rect.unit ![0, 2048] ![1, 1024] inb_S1x3072_S1x1024_0_2048))
      (View.ld x13 (Rect.unit ![0, 0] ![512, 1024] inb_S512x1024_S512x1024_0_0))
      (View.ld x14 (Rect.unit ![0, 0] ![1024, 1024] inb_S1024x1024_S1024x1024_0_0)))
    (View.ld x15 (Rect.unit ![0, 0] ![1, 1024] inb_S1x1024_S1x1024_0_0))
    (View.ld x16 (Rect.unit ![0, 0] ![1, 1024] inb_S1x1024_S1x1024_0_0))

section
variable (m : (ℓ : Loc nD τ sig) → Buf (Elt Ideal) ℓ) (c : Dev nD) (t : Fin cfg0.N)

/-- The planes a step reads: the outputs and the log-sum-exps of the two dilated groups. -/
def out4 (h : Fin 2) : Vec Ideal S1x512x128 .f32 := plane4 (View.whole cc0_scratch0) (iblk m c 3 t) h
def lse4 (h : Fin 2) : Vec Ideal S1x512x128 .f32 := plane4 (View.whole cc0_scratch1) (iblk m c 6 t) h
def out16 (h : Fin 2) : Vec Ideal S1x512x128 .f32 := plane16 (View.whole cc0_scratch2) (iblk m c 4 t) h
def lse16 (h : Fin 2) : Vec Ideal S1x512x128 .f32 := plane16 (View.whole cc0_scratch3) (iblk m c 7 t) h

theorem outsAt_eq : outsAt0 m c t = stored (iblk m c 0 t) (iblk m c 1 t) (iblk m c 2 t) (iblk m c 5 t)
    (out4 m c t 0) (out4 m c t 1)
    (lse4 m c t 0) (lse4 m c t 1)
    (out16 m c t 0) (out16 m c t 1)
    (lse16 m c t 0) (lse16 m c t 1)
    (iblk m c 8 t) (iblk m c 9 t) (iblk m c 10 t) (iblk m c 11 t) (iblk m c 12 t) (iblk m c 13 t) (iblk m c 14 t) (iblk m c 15 t) (iblk m c 16 t) := by
  unfold outsAt0 out4 lse4 out16 lse16
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  generalize iblk m c 15 t = x15
  generalize iblk m c 16 t = x16
  unfold out0_A_17
  unfold kernelRun0_A
  dsimp only
  sl_unfold_words
  simp only [View.readAt_eq_ld, Memref.IsWhole.read_unread]
  rw [View.read_writes_junk_eq_canon]
  refine (View.canon_cons_unit_lit inb_S512x1024_S512x1024_0_0 _ [] (by decide)).trans ?_
  rfl

end

end Cert.KernelMergeIdeal.Gen

end
-- ==== Proof.Merge.Step.lean ====
module

public import proofs.«01_k».proof.Proof.Merge.Store
public import Idealize.ShloMosaic.Lib.Pointwise

@[expose] public section

set_option maxRecDepth 16384

/-!
# One grid step of the merge, row by row

What the step stores at a row and a column, from its blocks.
-/

noncomputable section

namespace Cert.KernelMergeIdeal.Gen

open Layer
open Idealize.ShloMosaic Idealize.ShloMosaic.TcCoe Idealize.ShloMosaic.Tactic
open Idealize.SL Idealize.SL.Sem

/-- A column of a plane's half of the lanes. -/
def laneOf (h : Fin 2) (l : Fin 128) : Fin 256 := ⟨128 * h.val + l.val, by omega⟩

theorem cast4_at (v : Vec Ideal S1x1x128x128 .f32) (a : Fin 1) (i l : Fin 128) :
    shapeCast S1x128x128 (shapeCast S128x128 v shapeCasts_S1x1x128x128_S128x128) shapeCasts_S128x128_S1x128x128 (ix3 a i l) = v (ix4 0 0 i l) := by
  pointwise []

theorem cast16_at (v : Vec Ideal S1x1x32x128 .f32) (a : Fin 1) (i : Fin 32) (l : Fin 128) :
    shapeCast S1x32x128 (shapeCast S32x128 v shapeCasts_S1x1x32x128_S32x128) shapeCasts_S32x128_S1x32x128 (ix3 a i l) = v (ix4 0 0 i l) := by
  pointwise []

theorem rows4_at (X : Vec Ideal S1x4x128x256 .f32) (q : Fin 2 × Fin 4) (a : Fin 1) (i l : Fin 128) :
    rows4 X q (ix3 a i l) = X (ix4 0 q.2 i (laneOf q.1 l)) := by
  refine (cast4_at _ a i l).trans ?_
  refine congrArg X (funext fun a => Fin.ext ?_)
  match a with
  | 0 => rfl
  | 1 => show q.2.val + 1 * 0 = q.2.val; omega
  | 2 => show 0 + 1 * i.val = i.val; omega
  | 3 => show 128 * q.1.val + 1 * l.val = 128 * q.1.val + l.val; omega

theorem rows16_at (X : Vec Ideal S1x16x32x256 .f32) (q : Fin 2 × Fin 16) (a : Fin 1) (i : Fin 32) (l : Fin 128) :
    rows16 X q (ix3 a i l) = X (ix4 0 q.2 i (laneOf q.1 l)) := by
  refine (cast16_at _ a i l).trans ?_
  refine congrArg X (funext fun a => Fin.ext ?_)
  match a with
  | 0 => rfl
  | 1 => show q.2.val + 1 * 0 = q.2.val; omega
  | 2 => show 0 + 1 * i.val = i.val; omega
  | 3 => show 128 * q.1.val + 1 * l.val = 128 * q.1.val + l.val; omega

/-- A row of a plane: its residue's row in the block. -/
theorem plane4_at (v : View sig .tc .vmem Planes .f32) (X : Vec Ideal S1x4x128x256 .f32) (h : Fin 2) (r : Fin 512) (l : Fin 128) :
    plane4 v X h (ix3 0 r l) = X (ix4 0 ⟨r.val % 4, Nat.mod_lt _ (by decide)⟩ ⟨r.val / 4, by omega⟩ (laneOf h l)) :=
  readCov_strips (d := 4) (n := 128) rfl v (by decide) (fun h r i l => X (ix4 0 r i (laneOf h l))) (rows4 X)
    (fun q y => (congrArg (rows4 X q) (by idx_vars y)).trans (rows4_at X q (y 0) (y 1) (y 2))) order4 all4 h (inbPlane h) r l

theorem plane16_at (v : View sig .tc .vmem Planes .f32) (X : Vec Ideal S1x16x32x256 .f32) (h : Fin 2) (r : Fin 512) (l : Fin 128) :
    plane16 v X h (ix3 0 r l) = X (ix4 0 ⟨r.val % 16, Nat.mod_lt _ (by decide)⟩ ⟨r.val / 16, by omega⟩ (laneOf h l)) :=
  readCov_strips (d := 16) (n := 32) rfl v (by decide) (fun h r i l => X (ix4 0 r i (laneOf h l))) (rows16 X)
    (fun q y => (congrArg (rows16 X q) (by idx_vars y)).trans (rows16_at X q (y 0) (y 1) (y 2))) order16 all16 h (inbPlane h) r l

/-- Two planes side by side. -/
def beside (p0 p1 : Vec Ideal S1x512x128 .f32) (r : Fin 512) (k : Fin 256) : EReal :=
  if h : k.val < 128 then p0 (ix3 0 r ⟨k.val, h⟩) else p1 (ix3 0 r ⟨k.val - 128, by omega⟩)

section payloads
variable (p0 p1 q0 q1 r0 r1 s0 s1 : Vec Ideal S1x512x128 .f32) (r : Fin 512)

theorem joined13 (k : Fin 256) : k0_pay13 p0 p1 (ix2 r k) = beside p0 p1 r k := by
  unfold beside
  by_cases h : k.val < 128
  · refine Eq.trans ?_ (dif_pos h).symm
    pointwise [k0_pay13]
    exact dif_pos h
  · refine Eq.trans ?_ (dif_neg h).symm
    pointwise [k0_pay13]
    exact dif_neg h

theorem blend_at (v3 v5 v50 v95 v260 : FVec Ideal S512x256 .f32) (k : Fin 256) : k0_pay95 v3 v5 v50 v95 v260 s0 s1 (ix2 r k)
    = blendOnce (v5 (ix2 r k)) (v95 (ix2 r k)) (k0_pay13 s0 s1 (ix2 r k)) (v3 (ix2 r k)) (v50 (ix2 r k)) (v260 (ix2 r k)) := by
  unfold blendOnce weights weight
  have e : ∀ i, k0_pay95 v3 v5 v50 v95 v260 s0 s1 i = divf (addf (addf (mulf (exp (subf v5 (maximumf (maximumf v5 v95) (k0_pay13 s0 s1)))) v3)
    (mulf (exp (subf v95 (maximumf (maximumf v5 v95) (k0_pay13 s0 s1)))) v50)) (mulf (exp (subf (k0_pay13 s0 s1) (maximumf (maximumf v5 v95) (k0_pay13 s0 s1)))) v260))
    (addf (addf (exp (subf v5 (maximumf (maximumf v5 v95) (k0_pay13 s0 s1)))) (exp (subf v95 (maximumf (maximumf v5 v95) (k0_pay13 s0 s1)))))
      (exp (subf (k0_pay13 s0 s1) (maximumf (maximumf v5 v95) (k0_pay13 s0 s1))))) i := fun _ => rfl
  rw [e]
  generalize k0_pay13 s0 s1 = v425
  pointwise []

theorem gate_at (v1 : FVec Ideal S512x1024 .bf16) (w : Vec Ideal S1024x1024 .bf16) (b : Vec Ideal S1x1024 .f32) (j : Fin 1024) :
    k0_pay96 v1 w b (ix2 r j) = gateOf ((∑ k, v1 (ix2 r k) * w (ix2 k j)) + b (ix2 0 j)) := by
  unfold gateOf
  pointwise [k0_pay96]
  rfl

theorem normed (z : FVec Ideal S512x1024 .f32) (g b : Vec Ideal S1x1024 .f32) (e : Fin 1024) :
    k0_pay1 z g b (ix2 r e) = Layer.norm (fun e => z (ix2 r e)) (fun k => g (ix2 0 k)) (fun k => b (ix2 0 k)) e := by
  unfold Layer.norm mean
  pointwise [k0_pay1]

theorem joined_at (v0 : Vec Ideal S512x1024 .f32) (v1 : FVec Ideal S512x1024 .bf16) (yb : FVec Ideal S512x256 .f32) (yc : Vec Ideal S512x512 .f32)
    (ga : FVec Ideal S512x1024 .f32) (ya : FVec Ideal S512x512 .bf16) (wa : Vec Ideal S512x1024 .bf16) (gb : Vec Ideal S1024x1024 .bf16)
    (bb : Vec Ideal S1x1024 .f32) (wb : Vec Ideal S256x1024 .bf16) (gc : Vec Ideal S1024x1024 .bf16) (bc : Vec Ideal S1x1024 .f32)
    (wc : Vec Ideal S512x1024 .bf16) (wo : Vec Ideal S1024x1024 .bf16) (e : Fin 1024) :
    k0_pay98 v0 v1 yb yc ga ya wa gb bb wb gc bc wc wo (ix2 r e)
      = Ideal.ofBits .f32 0x3FB504F3#32 * v0 (ix2 r e)
        + ∑ j, (ga (ix2 r j) * (∑ k, ya (ix2 r k) * wa (ix2 k j))
            + gateOf ((∑ k, v1 (ix2 r k) * gb (ix2 k j)) + bb (ix2 0 j)) * (∑ k, yb (ix2 r k) * wb (ix2 k j))
            + gateOf ((∑ k, v1 (ix2 r k) * gc (ix2 k j)) + bc (ix2 0 j)) * (∑ k, yc (ix2 r k) * wc (ix2 k j))) * wo (ix2 j e) := by
  unfold gateOf
  pointwise [k0_pay98]
  rfl

end payloads

theorem cast_pay2 (v : Vec Ideal S512x1024 .f32) (r : Fin 512) (k : Fin 1024) : k0_pay2 v (ix2 r k) = v (ix2 r k) := by pointwise [k0_pay2]
theorem cast_pay97 (v : Vec Ideal S512x512 .f32) (r : Fin 512) (k : Fin 512) : k0_pay97 v (ix2 r k) = v (ix2 r k) := by pointwise [k0_pay97]
theorem cast_pay3 (v : Vec Ideal S1x1x512x256 .f32) (r : Fin 512) (k : Fin 256) : k0_pay3 v (ix2 r k) = v (ix4 0 0 r k) := by pointwise [k0_pay3]
theorem cast_pay4 (v : Vec Ideal S1x1x512x256 .f32) (r : Fin 512) (k : Fin 256) : k0_pay4 v (ix2 r k) = v (ix4 0 0 r k) := by pointwise [k0_pay4]

/-- A load of a part of a two-dimensional block. -/
theorem ld_part {A B a b : Nat} {e' : EltTy} (X : (⟨2, ![A, B]⟩ : Shape).Idx → Elt Ideal e') (o : Fin 2 → Nat)
    (inb : ∀ i, o i + (![a, b] : Fin 2 → Nat) i ≤ (![A, B] : Fin 2 → Nat) i) (k : Fin a) (f : Fin b) (k' : Fin A) (f' : Fin B)
    (h0 : k'.val = o 0 + k.val) (h1 : f'.val = o 1 + f.val) :
    View.ld (Val := Elt Ideal) (e' := e') X (Rect.unit (s := ⟨2, ![A, B]⟩) o ![a, b] inb) (ix2 k f) = X (ix2 k' f') :=
  congrArg X (at_offset o inb k f k' f' h0 h1)

/-- A load of a whole four-dimensional block. -/
theorem ld_group (X : Vec Ideal S1x1x512x256 .f32) (inb) (r : Fin 512) (k : Fin 256) :
    View.ld (Val := Elt Ideal) (e' := .f32) X (Rect.unit ![0, 0, 0, 0] ![1, 1, 512, 256] inb) (ix4 0 0 r k) = X (ix4 0 0 r k) := by
  refine congrArg X (funext fun a => Fin.ext ?_)
  match a with
  | 0 => rfl
  | 1 => rfl
  | 2 => show 0 + 1 * r.val = r.val; omega
  | 3 => show 0 + 1 * k.val = k.val; omega

section step
variable (x : (⟨2, ![49152, 1024]⟩ : Shape).Idx → EReal) (ya : (⟨2, ![49152, 512]⟩ : Shape).Idx → EReal)
  (o0 : (⟨4, ![12, 1, 4096, 256]⟩ : Shape).Idx → EReal) (o1 : (⟨4, ![12, 4, 1024, 256]⟩ : Shape).Idx → EReal)
  (o2 : (⟨4, ![12, 16, 256, 256]⟩ : Shape).Idx → EReal)
  (l0 : (⟨4, ![12, 1, 4096, 256]⟩ : Shape).Idx → EReal) (l1 : (⟨4, ![12, 4, 1024, 256]⟩ : Shape).Idx → EReal)
  (l2 : (⟨4, ![12, 16, 256, 256]⟩ : Shape).Idx → EReal)
  (yc : (⟨2, ![49152, 512]⟩ : Shape).Idx → EReal) (wg : (⟨2, ![1024, 3072]⟩ : Shape).Idx → EReal) (bg : (⟨1, ![3072]⟩ : Shape).Idx → EReal)
  (wa : (⟨2, ![512, 1024]⟩ : Shape).Idx → EReal) (wb : (⟨2, ![256, 1024]⟩ : Shape).Idx → EReal) (wc : (⟨2, ![512, 1024]⟩ : Shape).Idx → EReal)
  (wo : (⟨2, ![1024, 1024]⟩ : Shape).Idx → EReal) (g lb : (⟨1, ![1024]⟩ : Shape).Idx → EReal)
  (b : Fin 12) (t : Fin 8)
  (honce : ∀ (s : Fin 4096) (k : Fin 256), blendOnce (inOrder l0 b s k) (byFour l1 b s k) (bySixteen l2 b s k) (inOrder o0 b s k) (byFour o1 b s k)
    (bySixteen o2 b s k) = blended o0 o1 o2 l0 l1 l2 b s k)

include honce in
/-- What a step stores is the merge of the tile's tokens. -/
theorem stored_eq (x0 : Vec Ideal S512x1024 .f32) (x1 : Vec Ideal S512x512 .f32) (x2 x5 : Vec Ideal S1x1x512x256 .f32)
    (p0 p1 q0 q1 r0 r1 s0 s1 : Vec Ideal S1x512x128 .f32) (x8 : Vec Ideal S512x512 .f32) (x9 : Vec Ideal S1024x3072 .bf16) (x10 : Vec Ideal S1x3072 .f32)
    (x11 : Vec Ideal S512x1024 .bf16) (x12 : Vec Ideal S256x1024 .bf16) (x13 : Vec Ideal S512x1024 .bf16) (x14 : Vec Ideal S1024x1024 .bf16)
    (x15 x16 : Vec Ideal S1x1024 .f32)
    (hx0 : ∀ r k, x0 (ix2 r k) = x (ix2 (tok b (spot t r)) k)) (hx1 : ∀ r k, x1 (ix2 r k) = ya (ix2 (tok b (spot t r)) k))
    (hx8 : ∀ r k, x8 (ix2 r k) = yc (ix2 (tok b (spot t r)) k))
    (hx2 : ∀ r k, x2 (ix4 0 0 r k) = inOrder o0 b (spot t r) k) (hx5 : ∀ r k, x5 (ix4 0 0 r k) = inOrder l0 b (spot t r) k)
    (hp : ∀ r k, beside p0 p1 r k = byFour o1 b (spot t r) k) (hq : ∀ r k, beside q0 q1 r k = byFour l1 b (spot t r) k)
    (hr : ∀ r k, beside r0 r1 r k = bySixteen o2 b (spot t r) k) (hs : ∀ r k, beside s0 s1 r k = bySixteen l2 b (spot t r) k)
    (hx9 : ∀ k j, x9 (ix2 k j) = wg (ix2 k j)) (hx10 : ∀ j, x10 (ix2 0 j) = bg (ix1 j))
    (hx11 : ∀ k j, x11 (ix2 k j) = wa (ix2 k j)) (hx12 : ∀ k j, x12 (ix2 k j) = wb (ix2 k j)) (hx13 : ∀ k j, x13 (ix2 k j) = wc (ix2 k j))
    (hx14 : ∀ k j, x14 (ix2 k j) = wo (ix2 k j)) (hx15 : ∀ j, x15 (ix2 0 j) = g (ix1 j)) (hx16 : ∀ j, x16 (ix2 0 j) = lb (ix1 j))
    (r : Fin 512) (e : Fin 1024) :
    stored x0 x1 x2 x5 p0 p1 q0 q1 r0 r1 s0 s1 x8 x9 x10 x11 x12 x13 x14 x15 x16 (ix2 r e)
      = merged x ya o0 o1 o2 l0 l1 l2 yc wg bg wa wb wc wo g lb b (spot t r) e := by
  have z : ∀ n : Nat, n = 0 + n := fun n => (Nat.zero_add n).symm
  have d0 := fun r k => (ld_part x0 _ inb_S512x1024_S512x1024_0_0 r k r k (z _) (z _)).trans (hx0 r k)
  have d1 := fun r k => (ld_part x1 _ inb_S512x512_S512x512_0_0 r k r k (z _) (z _)).trans (hx1 r k)
  have d8 := fun r k => (ld_part x8 _ inb_S512x512_S512x512_0_0 r k r k (z _) (z _)).trans (hx8 r k)
  have d9a := fun k j => (ld_part x9 _ inb_S1024x3072_S1024x1024_0_0 k j k (gateColA j) (z _) (z _)).trans (hx9 k _)
  have d9b := fun k j => (ld_part x9 _ inb_S1024x3072_S1024x1024_0_1024 k j k (gateColB j) (z _) rfl).trans (hx9 k _)
  have d9c := fun k j => (ld_part x9 _ inb_S1024x3072_S1024x1024_0_2048 k j k (gateColC j) (z _) rfl).trans (hx9 k _)
  have d10a := fun j => (ld_part x10 _ inb_S1x3072_S1x1024_0_0 0 j 0 (gateColA j) rfl (z _)).trans (hx10 _)
  have d10b := fun j => (ld_part x10 _ inb_S1x3072_S1x1024_0_1024 0 j 0 (gateColB j) rfl rfl).trans (hx10 _)
  have d10c := fun j => (ld_part x10 _ inb_S1x3072_S1x1024_0_2048 0 j 0 (gateColC j) rfl rfl).trans (hx10 _)
  have d11 := fun k j => (ld_part x11 _ inb_S512x1024_S512x1024_0_0 k j k j (z _) (z _)).trans (hx11 k j)
  have d12 := fun k j => (ld_part x12 _ inb_S256x1024_S256x1024_0_0 k j k j (z _) (z _)).trans (hx12 k j)
  have d13 := fun k j => (ld_part x13 _ inb_S512x1024_S512x1024_0_0 k j k j (z _) (z _)).trans (hx13 k j)
  have d14 := fun k j => (ld_part x14 _ inb_S1024x1024_S1024x1024_0_0 k j k j (z _) (z _)).trans (hx14 k j)
  have d15 := fun j => (ld_part x15 _ inb_S1x1024_S1x1024_0_0 0 j 0 j rfl (z _)).trans (hx15 j)
  have d16 := fun j => (ld_part x16 _ inb_S1x1024_S1x1024_0_0 0 j 0 j rfl (z _)).trans (hx16 j)
  unfold stored merged
  rw [normed]
  congr 1
  · funext e
    unfold joined branches gateAt
    rw [joined_at]
    refine congrArg₂ (· + ·) (congrArg _ (d0 r e)) (Finset.sum_congr rfl fun j _ => ?_)
    refine congrArg₂ (· * ·) (congrArg₂ (· + ·) (congrArg₂ (· + ·) (congrArg₂ (· * ·) ?_ ?_) (congrArg₂ (· * ·) ?_ ?_)) (congrArg₂ (· * ·) ?_ ?_)) (d14 j e)
    · rw [gate_at]
      exact congrArg gateOf (congrArg₂ (· + ·) (Finset.sum_congr rfl fun k _ => congrArg₂ (· * ·) ((cast_pay2 _ r k).trans (d0 r k)) (d9a k j)) (d10a j))
    · exact Finset.sum_congr rfl fun k _ => congrArg₂ (· * ·) ((cast_pay97 _ r k).trans (d1 r k)) (d11 k j)
    · exact congrArg gateOf (congrArg₂ (· + ·) (Finset.sum_congr rfl fun k _ => congrArg₂ (· * ·) ((cast_pay2 _ r k).trans (d0 r k)) (d9b k j)) (d10b j))
    · refine Finset.sum_congr rfl fun k _ => congrArg₂ (· * ·) ?_ (d12 k j)
      refine Eq.trans ?_ (honce (spot t r) k)
      have e1 : k0_pay23 q0 q1 (ix2 r k) = byFour l1 b (spot t r) k := (joined13 q0 q1 r k).trans (hq r k)
      have e2 : k0_pay59 r0 r1 (ix2 r k) = bySixteen o2 b (spot t r) k := (joined13 r0 r1 r k).trans (hr r k)
      rw [blend_at, joined13, joined13, cast_pay3, cast_pay4, ld_group, ld_group, hx2, hx5, hs, hp, e1, e2]
    · exact congrArg gateOf (congrArg₂ (· + ·) (Finset.sum_congr rfl fun k _ => congrArg₂ (· * ·) ((cast_pay2 _ r k).trans (d0 r k)) (d9c k j)) (d10c j))
    · exact Finset.sum_congr rfl fun k _ => congrArg₂ (· * ·) (d8 r k) (d13 k j)
  · exact funext d15
  · exact funext d16

end step

end Cert.KernelMergeIdeal.Gen

end
-- ==== Proof.Merge.Array.lean ====
module

public import proofs.«01_k».proof.Proof.Merge.Step
public import Idealize.ShloMosaic.Lib.Pipeline.ValueKit

@[expose] public section

set_option maxRecDepth 16384

/-!
# The merge's array after the run

Each block reads its argument where its window places it; every step's tile is a tile of the specification, and the
tiles cover the result.
-/

noncomputable section

namespace Cert.KernelMergeIdeal.Gen

open Layer
open Idealize.ShloMosaic Idealize.ShloMosaic.TcCoe Idealize.ShloMosaic.Tactic
open Idealize.SL Idealize.SL.Sem

/-- Where each window places the block of a step. -/
theorem windows : ∀ t : Fin cfg0.N,
    win0_0.index t = ![t.val, 0] ∧ win0_1.index t = ![t.val, 0]
    ∧ win0_2.index t = ![t.val / 8, 0, t.val % 8, 0]
    ∧ win0_3.index t = ![t.val / 8, 0, t.val % 8, 0]
    ∧ win0_4.index t = ![t.val / 8, 0, t.val % 8, 0]
    ∧ win0_5.index t = ![t.val / 8, 0, t.val % 8, 0]
    ∧ win0_6.index t = ![t.val / 8, 0, t.val % 8, 0]
    ∧ win0_7.index t = ![t.val / 8, 0, t.val % 8, 0]
    ∧ win0_8.index t = ![t.val, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![t.val, 0] := by decide +kernel

section
variable (m : (ℓ : Loc nD τ sig) → Buf (Elt Ideal) ℓ) (c : Dev nD)

theorem V_v0 : V m c main_v0 = (truncf (F := Ideal) .bf16 (m ((c : Thread nD τ).loc main_arg9)) bitsLt_bf16_f32) := by
  show StableHlo.after hostOps0 _ (Proc.devRef .tc main_v0) = _
  after_results

theorem V_v1 : V m c main_v1 = (truncf (F := Ideal) .bf16 (m ((c : Thread nD τ).loc main_arg11)) bitsLt_bf16_f32) := by
  show StableHlo.after hostOps0 _ (Proc.devRef .tc main_v1) = _
  after_results

theorem V_v2 : V m c main_v2 = (truncf (F := Ideal) .bf16 (m ((c : Thread nD τ).loc main_arg12)) bitsLt_bf16_f32) := by
  show StableHlo.after hostOps0 _ (Proc.devRef .tc main_v2) = _
  after_results

theorem V_v3 : V m c main_v3 = (truncf (F := Ideal) .bf16 (m ((c : Thread nD τ).loc main_arg13)) bitsLt_bf16_f32) := by
  show StableHlo.after hostOps0 _ (Proc.devRef .tc main_v3) = _
  after_results

theorem V_v4 : V m c main_v4 = (truncf (F := Ideal) .bf16 (m ((c : Thread nD τ).loc main_arg14)) bitsLt_bf16_f32) := by
  show StableHlo.after hostOps0 _ (Proc.devRef .tc main_v4) = _
  after_results

theorem V_v5 : V m c main_v5 = (shapeCast S1x3072 (m ((c : Thread nD τ).loc main_arg10)) shapeCasts_S3072_S1x3072) := by
  show StableHlo.after hostOps0 _ (Proc.devRef .tc main_v5) = _
  after_results
  rfl

theorem V_v6 : V m c main_v6 = (shapeCast S1x1024 (m ((c : Thread nD τ).loc main_arg15)) shapeCasts_S1024_S1x1024) := by
  show StableHlo.after hostOps0 _ (Proc.devRef .tc main_v6) = _
  after_results
  rfl

theorem V_v7 : V m c main_v7 = (shapeCast S1x1024 (m ((c : Thread nD τ).loc main_arg16)) shapeCasts_S1024_S1x1024) := by
  show StableHlo.after hostOps0 _ (Proc.devRef .tc main_v7) = _
  after_results
  rfl

theorem read_x (t : Fin cfg0.N) (r : Fin 512) (k : Fin 1024) :
    iblk m c 0 t (ix2 r k) = m ((c : Thread nD τ).loc main_arg0) (ix2 (tok (seqOf t) (spot (tileOf t) r)) k) := by
  unfold tok seqOf spot tileOf
  blk_ext [iblk, V_main_arg0, windows t]

theorem read_ya (t : Fin cfg0.N) (r : Fin 512) (k : Fin 512) :
    iblk m c 1 t (ix2 r k) = m ((c : Thread nD τ).loc main_arg1) (ix2 (tok (seqOf t) (spot (tileOf t) r)) k) := by
  unfold tok seqOf spot tileOf
  blk_ext [iblk, V_main_arg1, windows t]

theorem read_yc (t : Fin cfg0.N) (r : Fin 512) (k : Fin 512) :
    iblk m c 8 t (ix2 r k) = m ((c : Thread nD τ).loc main_arg8) (ix2 (tok (seqOf t) (spot (tileOf t) r)) k) := by
  unfold tok seqOf spot tileOf
  blk_ext [iblk, V_main_arg8, windows t]

theorem read_o0 (t : Fin cfg0.N) (r : Fin 512) (k : Fin 256) :
    iblk m c 2 t (ix4 0 0 r k) = inOrder (m ((c : Thread nD τ).loc main_arg2)) (seqOf t) (spot (tileOf t) r) k := by
  unfold inOrder seqOf spot tileOf
  blk_ext [iblk, V_main_arg2, windows t]

theorem read_l0 (t : Fin cfg0.N) (r : Fin 512) (k : Fin 256) :
    iblk m c 5 t (ix4 0 0 r k) = inOrder (m ((c : Thread nD τ).loc main_arg5)) (seqOf t) (spot (tileOf t) r) k := by
  unfold inOrder seqOf spot tileOf
  blk_ext [iblk, V_main_arg5, windows t]

theorem read_o1 (t : Fin cfg0.N) (r : Fin 512) (k : Fin 256) :
    iblk m c 3 t (ix4 0 ⟨r.val % 4, Nat.mod_lt _ (by decide)⟩ ⟨r.val / 4, by omega⟩ k)
      = byFour (m ((c : Thread nD τ).loc main_arg3)) (seqOf t) (spot (tileOf t) r) k := by
  unfold byFour seqOf spot tileOf
  blk_ext [iblk, V_main_arg3, windows t]

theorem read_l1 (t : Fin cfg0.N) (r : Fin 512) (k : Fin 256) :
    iblk m c 6 t (ix4 0 ⟨r.val % 4, Nat.mod_lt _ (by decide)⟩ ⟨r.val / 4, by omega⟩ k)
      = byFour (m ((c : Thread nD τ).loc main_arg6)) (seqOf t) (spot (tileOf t) r) k := by
  unfold byFour seqOf spot tileOf
  blk_ext [iblk, V_main_arg6, windows t]

theorem read_o2 (t : Fin cfg0.N) (r : Fin 512) (k : Fin 256) :
    iblk m c 4 t (ix4 0 ⟨r.val % 16, Nat.mod_lt _ (by decide)⟩ ⟨r.val / 16, by omega⟩ k)
      = bySixteen (m ((c : Thread nD τ).loc main_arg4)) (seqOf t) (spot (tileOf t) r) k := by
  unfold bySixteen seqOf spot tileOf
  blk_ext [iblk, V_main_arg4, windows t]

theorem read_l2 (t : Fin cfg0.N) (r : Fin 512) (k : Fin 256) :
    iblk m c 7 t (ix4 0 ⟨r.val % 16, Nat.mod_lt _ (by decide)⟩ ⟨r.val / 16, by omega⟩ k)
      = bySixteen (m ((c : Thread nD τ).loc main_arg7)) (seqOf t) (spot (tileOf t) r) k := by
  unfold bySixteen seqOf spot tileOf
  blk_ext [iblk, V_main_arg7, windows t]

theorem read_wg (t : Fin cfg0.N) (k : Fin 1024) (j : Fin 3072) :
    iblk m c 9 t (ix2 k j) = m ((c : Thread nD τ).loc main_arg9) (ix2 k j) := by
  blk_ext [iblk, V_v0, windows t]

theorem read_wa (t : Fin cfg0.N) (k : Fin 512) (j : Fin 1024) :
    iblk m c 11 t (ix2 k j) = m ((c : Thread nD τ).loc main_arg11) (ix2 k j) := by
  blk_ext [iblk, V_v1, windows t]

theorem read_wb (t : Fin cfg0.N) (k : Fin 256) (j : Fin 1024) :
    iblk m c 12 t (ix2 k j) = m ((c : Thread nD τ).loc main_arg12) (ix2 k j) := by
  blk_ext [iblk, V_v2, windows t]

theorem read_wc (t : Fin cfg0.N) (k : Fin 512) (j : Fin 1024) :
    iblk m c 13 t (ix2 k j) = m ((c : Thread nD τ).loc main_arg13) (ix2 k j) := by
  blk_ext [iblk, V_v3, windows t]

theorem read_wo (t : Fin cfg0.N) (k : Fin 1024) (j : Fin 1024) :
    iblk m c 14 t (ix2 k j) = m ((c : Thread nD τ).loc main_arg14) (ix2 k j) := by
  blk_ext [iblk, V_v4, windows t]

/-- The gates' bias as a row. -/
theorem row_of_bias (v : Vec Ideal S3072 .f32) (j : Fin 3072) : shapeCast S1x3072 v shapeCasts_S3072_S1x3072 (ix2 (0 : Fin 1) j) = v (ix1 j) := by
  pointwise []

theorem read_bg (t : Fin cfg0.N) (j : Fin 3072) :
    iblk m c 10 t (ix2 0 j) = m ((c : Thread nD τ).loc main_arg10) (ix1 j) := by
  have he : (win0_10.blk t).view.emb (ix2 0 j) = ix2 (0 : Fin 1) j := by blk_ext [windows t]
  show V m c main_v5 ((win0_10.blk t).view.emb (ix2 0 j)) = _
  rw [he, V_v5]
  exact row_of_bias _ j

theorem read_g (t : Fin cfg0.N) (j : Fin 1024) :
    iblk m c 15 t (ix2 0 j) = m ((c : Thread nD τ).loc main_arg15) (ix1 j) := by
  have he : (win0_15.blk t).view.emb (ix2 0 j) = ix2 (0 : Fin 1) j := by blk_ext [windows t]
  show V m c main_v6 ((win0_15.blk t).view.emb (ix2 0 j)) = _
  rw [he, V_v6]
  pointwise []

theorem read_b (t : Fin cfg0.N) (j : Fin 1024) :
    iblk m c 16 t (ix2 0 j) = m ((c : Thread nD τ).loc main_arg16) (ix1 j) := by
  have he : (win0_16.blk t).view.emb (ix2 0 j) = ix2 (0 : Fin 1) j := by blk_ext [windows t]
  show V m c main_v7 ((win0_16.blk t).view.emb (ix2 0 j)) = _
  rw [he, V_v7]
  pointwise []

/-- Two planes of a dilated group side by side are its block in the tokens' order. -/
theorem beside_eq (p0 p1 : Vec Ideal S1x512x128 .f32) (f : Fin 512 → Fin 256 → EReal)
    (h0 : ∀ r l, p0 (ix3 0 r l) = f r (laneOf 0 l)) (h1 : ∀ r l, p1 (ix3 0 r l) = f r (laneOf 1 l)) (r : Fin 512) (k : Fin 256) :
    beside p0 p1 r k = f r k := by
  unfold beside
  by_cases h : k.val < 128
  · rw [dif_pos h, h0]
    exact congrArg (f r) (Fin.ext (show 128 * 0 + k.val = k.val by omega))
  · rw [dif_neg h, h1]
    exact congrArg (f r) (Fin.ext (show 128 * 1 + (k.val - 128) = k.val by omega))

/-- The blend of the groups with one division, at every token, is the softmax's. -/
def BlendOnce : Prop := ∀ (b : Fin 12) (s : Fin 4096) (k : Fin 256),
  blendOnce (inOrder (m ((c : Thread nD τ).loc main_arg5)) b s k) (byFour (m ((c : Thread nD τ).loc main_arg6)) b s k) (bySixteen (m ((c : Thread nD τ).loc main_arg7)) b s k)
      (inOrder (m ((c : Thread nD τ).loc main_arg2)) b s k) (byFour (m ((c : Thread nD τ).loc main_arg3)) b s k) (bySixteen (m ((c : Thread nD τ).loc main_arg4)) b s k)
    = blended (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b s k

/-- A step's tile is the specification's, in its sequence and its place there. -/
theorem tile_eq (honce : BlendOnce m c) (t : Fin cfg0.N) (r : Fin 512) (e : Fin 1024) : outsAt0 m c t (ix2 r e)
    = merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (seqOf t) (spot (tileOf t) r) e := by
  rw [outsAt_eq]
  refine stored_eq _ _ _ _ _ _ _ _ _ _ _ _ _ _ _ _ _ (seqOf t) (tileOf t) (honce (seqOf t)) _ _ _ _ _ _ _ _ _ _ _ _ _ _ _ _ _ _ _ _ _
    (read_x m c t) (read_ya m c t) (read_yc m c t) (read_o0 m c t) (read_l0 m c t) ?_ ?_ ?_ ?_ (read_wg m c t) (read_bg m c t)
    (read_wa m c t) (read_wb m c t) (read_wc m c t) (read_wo m c t) (read_g m c t) (read_b m c t) r e
  · exact beside_eq _ _ _ (fun r l => (plane4_at _ _ 0 r l).trans (read_o1 m c t r _)) (fun r l => (plane4_at _ _ 1 r l).trans (read_o1 m c t r _))
  · exact beside_eq _ _ _ (fun r l => (plane4_at _ _ 0 r l).trans (read_l1 m c t r _)) (fun r l => (plane4_at _ _ 1 r l).trans (read_l1 m c t r _))
  · exact beside_eq _ _ _ (fun r l => (plane16_at _ _ 0 r l).trans (read_o2 m c t r _)) (fun r l => (plane16_at _ _ 1 r l).trans (read_o2 m c t r _))
  · exact beside_eq _ _ _ (fun r l => (plane16_at _ _ 0 r l).trans (read_l2 m c t r _)) (fun r l => (plane16_at _ _ 1 r l).trans (read_l2 m c t r _))

theorem array_merged (honce : BlendOnce m c) : (dats m 0 c).arrAt 17 cfg0.N
    = mergedArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 17 _ (by decide +kernel) fun t hf y => ?_
  have hN : t.val < 96 := t.isLt
  blk_simp
  rw [after0_17]
  idx_vars y
  refine (tile_eq m c honce t y0 y1).trans ?_
  have he : ((View.whole main_v8).slice (win0_17.rect t)).emb (ix2 y0 y1) = ix2 ⟨512 * t.val + y0.val, by omega⟩ y1 := by
    blk_ext [windows t]
  rw [he]
  unfold mergedArray
  have h1 : seqOf t = ⟨(512 * t.val + y0.val) / 4096, by omega⟩ := Fin.ext (by unfold seqOf; show t.val / 8 = (512 * t.val + y0.val) / 4096; omega)
  have h2 : spot (tileOf t) y0 = ⟨(512 * t.val + y0.val) % 4096, by omega⟩ := Fin.ext (by unfold spot tileOf; show 512 * (t.val % 8) + y0.val = (512 * t.val + y0.val) % 4096; omega)
  rw [h1, h2]
  rfl

end

end Cert.KernelMergeIdeal.Gen

end
-- ==== Proof.Merge.Reference.lean ====
module

public import proofs.«01_k».proof.Proof.Gen.ReferenceMergeIdeal
public import proofs.«01_k».proof.Proof.Gen.ReferenceMergeIdeal.Read
public import proofs.«01_k».proof.Proof.Merge.Spec
public import Idealize.ShloMosaic.Lib.Pipeline.ValueKit
public import Idealize.ShloMosaic.Lib.Pointwise

@[expose] public section

set_option maxRecDepth 16384

/-!
# What the merge's reference computes

The stages of the reference read at an index, up to its result.
-/

noncomputable section

namespace Cert.ReferenceMergeIdeal.Read

open Layer Cert.ReferenceMergeIdeal.Gen
open Idealize.ShloMosaic Idealize.ShloMosaic.TcCoe Idealize.ShloMosaic.Tactic

variable (x : (⟨S49152x1024, .f32⟩ : BufTy).Contents (Elt Ideal)) (ya yc : (⟨S49152x512, .f32⟩ : BufTy).Contents (Elt Ideal))
  (o0 l0 : (⟨S12x1x4096x256, .f32⟩ : BufTy).Contents (Elt Ideal)) (o1 l1 : (⟨S12x4x1024x256, .f32⟩ : BufTy).Contents (Elt Ideal))
  (o2 l2 : (⟨S12x16x256x256, .f32⟩ : BufTy).Contents (Elt Ideal))
  (wg : (⟨S1024x3072, .f32⟩ : BufTy).Contents (Elt Ideal)) (bg : (⟨S3072, .f32⟩ : BufTy).Contents (Elt Ideal))
  (wa wc : (⟨S512x1024, .f32⟩ : BufTy).Contents (Elt Ideal)) (wb : (⟨S256x1024, .f32⟩ : BufTy).Contents (Elt Ideal))
  (wo : (⟨S1024x1024, .f32⟩ : BufTy).Contents (Elt Ideal)) (g lb : (⟨S1024, .f32⟩ : BufTy).Contents (Elt Ideal))
variable (b : Fin 12) (s : Fin 4096)

theorem group_o0 (k : Fin 256) : val_main_v1 (F := Ideal) o0 (ix2 (tok b s) k) = inOrder o0 b s k := by
  rw [val_main_v1_apply, val_main_v0_apply]
  unfold inOrder tok
  blk_ext []

theorem group_l0 (k : Fin 256) : val_main_v11 (F := Ideal) l0 (ix2 (tok b s) k) = inOrder l0 b s k := by
  rw [val_main_v11_apply, val_main_v10_apply]
  unfold inOrder tok
  blk_ext []

theorem group_o1 (k : Fin 256) : val_main_v3 (F := Ideal) o1 (ix2 (tok b s) k) = byFour o1 b s k := by
  rw [val_main_v3_apply, val_main_v2_apply]
  unfold byFour tok
  blk_ext []

theorem group_l1 (k : Fin 256) : val_main_v13 (F := Ideal) l1 (ix2 (tok b s) k) = byFour l1 b s k := by
  rw [val_main_v13_apply, val_main_v12_apply]
  unfold byFour tok
  blk_ext []

theorem group_o2 (k : Fin 256) : val_main_v5 (F := Ideal) o2 (ix2 (tok b s) k) = bySixteen o2 b s k := by
  rw [val_main_v5_apply, val_main_v4_apply]
  unfold bySixteen tok
  blk_ext []

theorem group_l2 (k : Fin 256) : val_main_v15 (F := Ideal) l2 (ix2 (tok b s) k) = bySixteen l2 b s k := by
  rw [val_main_v15_apply, val_main_v14_apply]
  unfold bySixteen tok
  blk_ext []

/-- An entry of a group's array stacked with the others. -/
theorem stack_o (k : Fin 256) : val_main_v9 (F := Ideal) o0 o1 o2 (ix3 0 (tok b s) k) = inOrder o0 b s k
    ∧ val_main_v9 (F := Ideal) o0 o1 o2 (ix3 1 (tok b s) k) = byFour o1 b s k
    ∧ val_main_v9 (F := Ideal) o0 o1 o2 (ix3 2 (tok b s) k) = bySixteen o2 b s k := by
  rw [← group_o0, ← group_o1, ← group_o2]
  refine ⟨?_, ?_, ?_⟩
  · pointwise [val_main_v9, val_main_v8, val_main_v7, val_main_v6]
  · pointwise [val_main_v9, val_main_v8, val_main_v7, val_main_v6]
  · pointwise [val_main_v9, val_main_v8, val_main_v7, val_main_v6]

/-- An entry of a group's log-sum-exps stacked with the others. -/
theorem stack_l (k : Fin 256) : val_main_v19 (F := Ideal) l0 l1 l2 (ix3 0 (tok b s) k) = inOrder l0 b s k
    ∧ val_main_v19 (F := Ideal) l0 l1 l2 (ix3 1 (tok b s) k) = byFour l1 b s k
    ∧ val_main_v19 (F := Ideal) l0 l1 l2 (ix3 2 (tok b s) k) = bySixteen l2 b s k := by
  rw [← group_l0, ← group_l1, ← group_l2]
  refine ⟨?_, ?_, ?_⟩
  · pointwise [val_main_v19, val_main_v18, val_main_v17, val_main_v16]
  · pointwise [val_main_v19, val_main_v18, val_main_v17, val_main_v16]
  · pointwise [val_main_v19, val_main_v18, val_main_v17, val_main_v16]

/-- A group's weight, from its log-sum-exp. -/
theorem weight_at (h : Fin 3) (k : Fin 256) : val_main_v25 (F := Ideal) l0 l1 l2 (ix3 h (tok b s) k)
    = weight (val_main_v19 (F := Ideal) l0 l1 l2 (ix3 h (tok b s) k)) (inOrder l0 b s k) (byFour l1 b s k) (bySixteen l2 b s k) := by
  unfold weight
  rw [← group_l0, ← group_l1, ← group_l2]
  pointwise [val_main_v25, val_main_v24, val_main_v23, val_main_v22, val_main_v21, val_main_v20]

theorem share_at (h : Fin 3) (k : Fin 256) : val_main_v29 (F := Ideal) l0 l1 l2 (ix3 h (tok b s) k)
    = Ideal.div (val_main_v25 (F := Ideal) l0 l1 l2 (ix3 h (tok b s) k)) (∑ h' : Fin 3, val_main_v25 (F := Ideal) l0 l1 l2 (ix3 h' (tok b s) k)) := by
  pointwise [val_main_v29, val_main_v28, val_main_v27, val_main_v26, val_main_cst]

theorem blended_at (k : Fin 256) : val_main_v31 (F := Ideal) o0 o1 o2 l0 l1 l2 (ix2 (tok b s) k) = blended o0 o1 o2 l0 l1 l2 b s k := by
  have hsum : val_main_v31 (F := Ideal) o0 o1 o2 l0 l1 l2 (ix2 (tok b s) k)
      = ∑ h : Fin 3, val_main_v29 (F := Ideal) l0 l1 l2 (ix3 h (tok b s) k) * val_main_v9 (F := Ideal) o0 o1 o2 (ix3 h (tok b s) k) := by
    pointwise [val_main_v31, val_main_v30, val_main_cst_0]
  obtain ⟨ho0, ho1, ho2⟩ := stack_o o0 o1 o2 b s k
  obtain ⟨hl0, hl1, hl2⟩ := stack_l l0 l1 l2 b s k
  rw [hsum]
  simp only [Fin.sum_univ_three, share_at, weight_at]
  rw [ho0, ho1, ho2, hl0, hl1, hl2]
  rfl

theorem gate_at (j : Fin 3072) : val_main_v41 (F := Ideal) x wg bg (ix2 (tok b s) j) = gateAt x wg bg b s j := by
  unfold gateAt gateOf
  pointwise [val_main_v41, val_main_v40, val_main_v39, val_main_v38, val_main_v37, val_main_v36, val_main_v35, val_main_v34, val_main_v33, val_main_v32, val_main_cst_1, val_main_cst_2]

theorem branches_at (j : Fin 1024) : val_main_v52 (F := Ideal) x ya o0 o1 o2 l0 l1 l2 yc wg bg wa wb wc (ix2 (tok b s) j) = branches x ya o0 o1 o2 l0 l1 l2 yc wg bg wa wb wc b s j := by
  unfold branches
  rw [← gate_at, ← gate_at, ← gate_at]
  simp only [← blended_at]
  unfold gateColA gateColB gateColC
  pointwise [val_main_v52, val_main_v51, val_main_v50, val_main_v49, val_main_v48, val_main_v47, val_main_v46, val_main_v45, val_main_v44, val_main_v43, val_main_v42]

theorem joined_at (e : Fin 1024) : val_main_v56 (F := Ideal) x ya o0 o1 o2 l0 l1 l2 yc wg bg wa wb wc wo (ix2 (tok b s) e) = joined x ya o0 o1 o2 l0 l1 l2 yc wg bg wa wb wc wo b s e := by
  unfold joined
  simp only [← branches_at]
  pointwise [val_main_v56, val_main_v55, val_main_v54, val_main_v53, val_main_cst_3]

theorem mean_at : val_main_v60 (F := Ideal) x ya o0 o1 o2 l0 l1 l2 yc wg bg wa wb wc wo (ix2 (tok b s) 0) = mean (joined x ya o0 o1 o2 l0 l1 l2 yc wg bg wa wb wc wo b s) := by
  unfold mean
  simp only [← joined_at]
  pointwise [val_main_v60, val_main_v59, val_main_v58, val_main_v57, val_main_cst_4, val_main_cst_5]

theorem spread_at : val_main_v67 (F := Ideal) x ya o0 o1 o2 l0 l1 l2 yc wg bg wa wb wc wo (ix2 (tok b s) 0)
    = mean (fun k => (joined x ya o0 o1 o2 l0 l1 l2 yc wg bg wa wb wc wo b s k - mean (joined x ya o0 o1 o2 l0 l1 l2 yc wg bg wa wb wc wo b s)) * (joined x ya o0 o1 o2 l0 l1 l2 yc wg bg wa wb wc wo b s k - mean (joined x ya o0 o1 o2 l0 l1 l2 yc wg bg wa wb wc wo b s))) := by
  rw [← mean_at]
  unfold mean
  simp only [← joined_at]
  pointwise [val_main_v67, val_main_v66, val_main_v65, val_main_v64, val_main_v63, val_main_v62, val_main_v61, val_main_cst_6, val_main_cst_7]

theorem merged_at (e : Fin 1024) : val_main_v78 (F := Ideal) x ya o0 o1 o2 l0 l1 l2 yc wg bg wa wb wc wo g lb (ix2 (tok b s) e) = merged x ya o0 o1 o2 l0 l1 l2 yc wg bg wa wb wc wo g lb b s e := by
  unfold merged Layer.norm
  rw [← spread_at, ← mean_at, ← joined_at]
  pointwise [val_main_v78, val_main_v77, val_main_v76, val_main_v75, val_main_v74, val_main_v73, val_main_v72, val_main_v71, val_main_v70,
    val_main_v69, val_main_v68, val_main_cst_8, val_main_v62, val_main_v61]

theorem value_merged : val_main_v78 (F := Ideal) x ya o0 o1 o2 l0 l1 l2 yc wg bg wa wb wc wo g lb = mergedArray x ya o0 o1 o2 l0 l1 l2 yc wg bg wa wb wc wo g lb := by
  funext y
  idx_vars y
  unfold mergedArray
  refine Eq.trans (congrArg _ ?_) (merged_at x ya yc o0 l0 o1 l1 o2 l2 wg bg wa wc wb wo g lb ⟨y0.val / 4096, by omega⟩ ⟨y0.val % 4096, by omega⟩ y1)
  unfold tok
  blk_ext []

end Cert.ReferenceMergeIdeal.Read

end
-- ==== Proof.Merge.Blend.lean ====
module

public import proofs.«01_k».proof.Proof.Merge.Spec

@[expose] public section

/-!
# One division or three

For finite log-sum-exps the sum of the weights is a positive real, so the weighted outputs may be added first and divided
once.
-/

noncomputable section

namespace Layer

open Idealize.ShloMosaic

/-- A number whose difference with itself is zero is finite. -/
theorem real_of_sub_self {l : EReal} (h : l - l = 0) : ∃ r : ℝ, l = (r : EReal) := by
  induction l with
  | bot => exact absurd h (by decide)
  | top => exact absurd h (by decide)
  | coe r => exact ⟨r, rfl⟩

/-- A weight of finite log-sum-exps is a positive real. -/
theorem weight_real (p l0 l1 l2 : ℝ) : ∃ w : ℝ, 0 < w ∧ weight (p : EReal) l0 l1 l2 = (w : EReal) := by
  refine ⟨Real.exp (p - max (max l0 l1) l2), Real.exp_pos _, ?_⟩
  unfold weight
  rw [← EReal.coe_strictMono.monotone.map_max, ← EReal.coe_strictMono.monotone.map_max, ← EReal.coe_sub]
  rfl

/-- The two ways of dividing agree on finite log-sum-exps. -/
theorem blendOnce_eq {l0 l1 l2 : EReal} (h0 : l0 - l0 = 0) (h1 : l1 - l1 = 0) (h2 : l2 - l2 = 0) (o0 o1 o2 : EReal) :
    blendOnce l0 l1 l2 o0 o1 o2 = blend l0 l1 l2 o0 o1 o2 := by
  obtain ⟨r0, rfl⟩ := real_of_sub_self h0
  obtain ⟨r1, rfl⟩ := real_of_sub_self h1
  obtain ⟨r2, rfl⟩ := real_of_sub_self h2
  obtain ⟨w0, p0, e0⟩ := weight_real r0 r0 r1 r2
  obtain ⟨w1, p1, e1⟩ := weight_real r1 r0 r1 r2
  obtain ⟨w2, p2, e2⟩ := weight_real r2 r0 r1 r2
  unfold blendOnce blend weights
  rw [e0, e1, e2]
  have hw : ((w0 : EReal) + (w1 : EReal) + (w2 : EReal)) = ((w0 + w1 + w2 : ℝ) : EReal) := by
    rw [EReal.coe_add, EReal.coe_add]
  have hpos : 0 < w0 + w1 + w2 := by positivity
  have hdiv : ∀ v : EReal, Ideal.div v ((w0 + w1 + w2 : ℝ) : EReal) = (((w0 + w1 + w2)⁻¹ : ℝ) : EReal) * v := by
    intro v
    unfold Ideal.div
    rw [if_neg (by exact_mod_cast hpos.ne'), ← EReal.coe_inv, mul_comm]
  have hinv : (0 : EReal) ≤ (((w0 + w1 + w2)⁻¹ : ℝ) : EReal) := by exact_mod_cast (inv_pos.mpr hpos).le
  rw [hw]
  simp only [hdiv]
  rw [EReal.left_distrib_of_nonneg_of_ne_top hinv (EReal.coe_ne_top _), EReal.left_distrib_of_nonneg_of_ne_top hinv (EReal.coe_ne_top _), ← mul_assoc, ← mul_assoc, ← mul_assoc]

end Layer

end
-- ==== Proof.Merge.Finite.lean ====
module

public import proofs.«01_k».proof.Defs
public import proofs.«01_k».proof.Proof.Merge.Array
public import proofs.«01_k».proof.Proof.Merge.Blend
public import Idealize.ShloMosaic.Lib.Pointwise

@[expose] public section

/-!
# The log-sum-exps are finite

The precondition read at an index, and what the merge takes from it.
-/

noncomputable section

namespace Cert.Proof.Merge

open Layer Cert.KernelMergeIdeal
open Idealize.ShloMosaic Idealize.ShloMosaic.TcCoe Idealize.ShloMosaic.Tactic

/-- A number that compares equal to zero with itself taken away. -/
theorem sub_self_of_cmp {p : EReal} (h : BitVec.ofBool (decide (p - p = 0)) = 1#1) : p - p = 0 := by
  by_contra hn
  rw [decide_eq_false hn] at h
  exact absurd h (by decide)

variable [Cert.Pre_lse_finite.Facts]

theorem blend_once (m : (ℓ : Loc nD τ sig) → Buf (Elt Ideal) ℓ) (h : Cert.Pre_KernelMergeIdeal_lse_finite m) (c : Dev nD) :
    Gen.BlendOnce m c := by
  obtain ⟨h0, h1, h2⟩ := h c
  intro b s k
  refine blendOnce_eq (sub_self_of_cmp ?_) (sub_self_of_cmp ?_) (sub_self_of_cmp ?_) _ _ _
  · refine Eq.trans ?_ (congrFun h0 (ix4 b 0 s k))
    unfold inOrder
    pointwise [Cert.Pre_lse_finite.fn]
  · refine Eq.trans ?_ (congrFun h1 (ix4 b ⟨s.val % 4, Nat.mod_lt _ (by decide)⟩ ⟨s.val / 4, by omega⟩ k))
    unfold byFour
    pointwise [Cert.Pre_lse_finite.fn]
  · refine Eq.trans ?_ (congrFun h2 (ix4 b ⟨s.val % 16, Nat.mod_lt _ (by decide)⟩ ⟨s.val / 16, by omega⟩ k))
    unfold bySixteen
    pointwise [Cert.Pre_lse_finite.fn]

end Cert.Proof.Merge

end
-- ==== Proof.Merge.Equation.lean ====
module

public import proofs.«01_k».proof.Defs
public import proofs.«01_k».proof.Proof.Merge.Array
public import proofs.«01_k».proof.Proof.Merge.Reference
public import proofs.«01_k».proof.Proof.Merge.Finite
public import proofs.«01_k».proof.Proof.Gen.KernelMergeIdeal.Value
public import proofs.«01_k».proof.Proof.Gen.ReferenceMergeIdeal.Run

@[expose] public section

/-!
# The kernel of the merge computes its reference
-/

noncomputable section

namespace Cert.Proof.Merge

open Idealize.ShloMosaic Idealize.ShloMosaic.TcCoe Idealize.SL.Sem

variable [Cert.Pre_lse_finite.Facts]

/-- The kernel's run: its result and its arguments. -/
theorem kernel_run (m : (ℓ : Loc KernelMergeIdeal.nD KernelMergeIdeal.τ KernelMergeIdeal.sig) → Buf (Elt Ideal) ℓ)
    (g : Dev KernelMergeIdeal.nD → PrngReg) (hl : Cert.Pre_KernelMergeIdeal_lse_finite m) :
    θ_run (KernelMergeIdeal.defs (F := Ideal)) (onTc (τ := KernelMergeIdeal.τ) (KernelMergeIdeal.main (F := Ideal))) ⟨m, fun _ => 0, g⟩ (fun r =>
      ∀ c : Dev KernelMergeIdeal.nD,
        r.2.mem ((c.tc : Thread KernelMergeIdeal.nD KernelMergeIdeal.τ).loc KernelMergeIdeal.main_v8)
            = _root_.Layer.mergedArray (m ((c.tc : Thread KernelMergeIdeal.nD KernelMergeIdeal.τ).loc KernelMergeIdeal.main_arg0)) (m ((c.tc : Thread KernelMergeIdeal.nD KernelMergeIdeal.τ).loc KernelMergeIdeal.main_arg1)) (m ((c.tc : Thread KernelMergeIdeal.nD KernelMergeIdeal.τ).loc KernelMergeIdeal.main_arg2)) (m ((c.tc : Thread KernelMergeIdeal.nD KernelMergeIdeal.τ).loc KernelMergeIdeal.main_arg3)) (m ((c.tc : Thread KernelMergeIdeal.nD KernelMergeIdeal.τ).loc KernelMergeIdeal.main_arg4)) (m ((c.tc : Thread KernelMergeIdeal.nD KernelMergeIdeal.τ).loc KernelMergeIdeal.main_arg5)) (m ((c.tc : Thread KernelMergeIdeal.nD KernelMergeIdeal.τ).loc KernelMergeIdeal.main_arg6)) (m ((c.tc : Thread KernelMergeIdeal.nD KernelMergeIdeal.τ).loc KernelMergeIdeal.main_arg7)) (m ((c.tc : Thread KernelMergeIdeal.nD KernelMergeIdeal.τ).loc KernelMergeIdeal.main_arg8)) (m ((c.tc : Thread KernelMergeIdeal.nD KernelMergeIdeal.τ).loc KernelMergeIdeal.main_arg9)) (m ((c.tc : Thread KernelMergeIdeal.nD KernelMergeIdeal.τ).loc KernelMergeIdeal.main_arg10)) (m ((c.tc : Thread KernelMergeIdeal.nD KernelMergeIdeal.τ).loc KernelMergeIdeal.main_arg11)) (m ((c.tc : Thread KernelMergeIdeal.nD KernelMergeIdeal.τ).loc KernelMergeIdeal.main_arg12)) (m ((c.tc : Thread KernelMergeIdeal.nD KernelMergeIdeal.τ).loc KernelMergeIdeal.main_arg13)) (m ((c.tc : Thread KernelMergeIdeal.nD KernelMergeIdeal.τ).loc KernelMergeIdeal.main_arg14)) (m ((c.tc : Thread KernelMergeIdeal.nD KernelMergeIdeal.τ).loc KernelMergeIdeal.main_arg15)) (m ((c.tc : Thread KernelMergeIdeal.nD KernelMergeIdeal.τ).loc KernelMergeIdeal.main_arg16))
          ∧ r.2.mem ((c.tc : Thread KernelMergeIdeal.nD KernelMergeIdeal.τ).loc KernelMergeIdeal.main_arg0) = m ((c.tc : Thread KernelMergeIdeal.nD KernelMergeIdeal.τ).loc KernelMergeIdeal.main_arg0)
          ∧ r.2.mem ((c.tc : Thread KernelMergeIdeal.nD KernelMergeIdeal.τ).loc KernelMergeIdeal.main_arg1) = m ((c.tc : Thread KernelMergeIdeal.nD KernelMergeIdeal.τ).loc KernelMergeIdeal.main_arg1)
          ∧ r.2.mem ((c.tc : Thread KernelMergeIdeal.nD KernelMergeIdeal.τ).loc KernelMergeIdeal.main_arg2) = m ((c.tc : Thread KernelMergeIdeal.nD KernelMergeIdeal.τ).loc KernelMergeIdeal.main_arg2)
          ∧ r.2.mem ((c.tc : Thread KernelMergeIdeal.nD KernelMergeIdeal.τ).loc KernelMergeIdeal.main_arg3) = m ((c.tc : Thread KernelMergeIdeal.nD KernelMergeIdeal.τ).loc KernelMergeIdeal.main_arg3)
          ∧ r.2.mem ((c.tc : Thread KernelMergeIdeal.nD KernelMergeIdeal.τ).loc KernelMergeIdeal.main_arg4) = m ((c.tc : Thread KernelMergeIdeal.nD KernelMergeIdeal.τ).loc KernelMergeIdeal.main_arg4)
          ∧ r.2.mem ((c.tc : Thread KernelMergeIdeal.nD KernelMergeIdeal.τ).loc KernelMergeIdeal.main_arg5) = m ((c.tc : Thread KernelMergeIdeal.nD KernelMergeIdeal.τ).loc KernelMergeIdeal.main_arg5)
          ∧ r.2.mem ((c.tc : Thread KernelMergeIdeal.nD KernelMergeIdeal.τ).loc KernelMergeIdeal.main_arg6) = m ((c.tc : Thread KernelMergeIdeal.nD KernelMergeIdeal.τ).loc KernelMergeIdeal.main_arg6)
          ∧ r.2.mem ((c.tc : Thread KernelMergeIdeal.nD KernelMergeIdeal.τ).loc KernelMergeIdeal.main_arg7) = m ((c.tc : Thread KernelMergeIdeal.nD KernelMergeIdeal.τ).loc KernelMergeIdeal.main_arg7)
          ∧ r.2.mem ((c.tc : Thread KernelMergeIdeal.nD KernelMergeIdeal.τ).loc KernelMergeIdeal.main_arg8) = m ((c.tc : Thread KernelMergeIdeal.nD KernelMergeIdeal.τ).loc KernelMergeIdeal.main_arg8)
          ∧ r.2.mem ((c.tc : Thread KernelMergeIdeal.nD KernelMergeIdeal.τ).loc KernelMergeIdeal.main_arg9) = m ((c.tc : Thread KernelMergeIdeal.nD KernelMergeIdeal.τ).loc KernelMergeIdeal.main_arg9)
          ∧ r.2.mem ((c.tc : Thread KernelMergeIdeal.nD KernelMergeIdeal.τ).loc KernelMergeIdeal.main_arg10) = m ((c.tc : Thread KernelMergeIdeal.nD KernelMergeIdeal.τ).loc KernelMergeIdeal.main_arg10)
          ∧ r.2.mem ((c.tc : Thread KernelMergeIdeal.nD KernelMergeIdeal.τ).loc KernelMergeIdeal.main_arg11) = m ((c.tc : Thread KernelMergeIdeal.nD KernelMergeIdeal.τ).loc KernelMergeIdeal.main_arg11)
          ∧ r.2.mem ((c.tc : Thread KernelMergeIdeal.nD KernelMergeIdeal.τ).loc KernelMergeIdeal.main_arg12) = m ((c.tc : Thread KernelMergeIdeal.nD KernelMergeIdeal.τ).loc KernelMergeIdeal.main_arg12)
          ∧ r.2.mem ((c.tc : Thread KernelMergeIdeal.nD KernelMergeIdeal.τ).loc KernelMergeIdeal.main_arg13) = m ((c.tc : Thread KernelMergeIdeal.nD KernelMergeIdeal.τ).loc KernelMergeIdeal.main_arg13)
          ∧ r.2.mem ((c.tc : Thread KernelMergeIdeal.nD KernelMergeIdeal.τ).loc KernelMergeIdeal.main_arg14) = m ((c.tc : Thread KernelMergeIdeal.nD KernelMergeIdeal.τ).loc KernelMergeIdeal.main_arg14)
          ∧ r.2.mem ((c.tc : Thread KernelMergeIdeal.nD KernelMergeIdeal.τ).loc KernelMergeIdeal.main_arg15) = m ((c.tc : Thread KernelMergeIdeal.nD KernelMergeIdeal.τ).loc KernelMergeIdeal.main_arg15)
          ∧ r.2.mem ((c.tc : Thread KernelMergeIdeal.nD KernelMergeIdeal.τ).loc KernelMergeIdeal.main_arg16) = m ((c.tc : Thread KernelMergeIdeal.nD KernelMergeIdeal.τ).loc KernelMergeIdeal.main_arg16)) :=
  (θ_run _ _ _).mono (fun r h c => ⟨(h c).1.trans (KernelMergeIdeal.Gen.array_merged m c (blend_once m hl c)), (h c).2⟩)
    (KernelMergeIdeal.Value.run_blocks m g)

omit [Cert.Pre_lse_finite.Facts] in
/-- The reference's run: the same result, of its own arguments. -/
theorem reference_run (m : (ℓ : Loc ReferenceMergeIdeal.nD ReferenceMergeIdeal.τ ReferenceMergeIdeal.sig) → Buf (Elt Ideal) ℓ)
    (g : Dev ReferenceMergeIdeal.nD → PrngReg) :
    θ_run (ReferenceMergeIdeal.defs (F := Ideal)) (onTc (τ := ReferenceMergeIdeal.τ) (ReferenceMergeIdeal.main (F := Ideal))) ⟨m, fun _ => 0, g⟩ (fun r =>
      ∀ c : Dev ReferenceMergeIdeal.nD,
        r.2.mem ((c.tc : Thread ReferenceMergeIdeal.nD ReferenceMergeIdeal.τ).loc ReferenceMergeIdeal.main_v78)
            = _root_.Layer.mergedArray (m ((c.tc : Thread ReferenceMergeIdeal.nD ReferenceMergeIdeal.τ).loc ReferenceMergeIdeal.main_arg0)) (m ((c.tc : Thread ReferenceMergeIdeal.nD ReferenceMergeIdeal.τ).loc ReferenceMergeIdeal.main_arg1)) (m ((c.tc : Thread ReferenceMergeIdeal.nD ReferenceMergeIdeal.τ).loc ReferenceMergeIdeal.main_arg2)) (m ((c.tc : Thread ReferenceMergeIdeal.nD ReferenceMergeIdeal.τ).loc ReferenceMergeIdeal.main_arg3)) (m ((c.tc : Thread ReferenceMergeIdeal.nD ReferenceMergeIdeal.τ).loc ReferenceMergeIdeal.main_arg4)) (m ((c.tc : Thread ReferenceMergeIdeal.nD ReferenceMergeIdeal.τ).loc ReferenceMergeIdeal.main_arg5)) (m ((c.tc : Thread ReferenceMergeIdeal.nD ReferenceMergeIdeal.τ).loc ReferenceMergeIdeal.main_arg6)) (m ((c.tc : Thread ReferenceMergeIdeal.nD ReferenceMergeIdeal.τ).loc ReferenceMergeIdeal.main_arg7)) (m ((c.tc : Thread ReferenceMergeIdeal.nD ReferenceMergeIdeal.τ).loc ReferenceMergeIdeal.main_arg8)) (m ((c.tc : Thread ReferenceMergeIdeal.nD ReferenceMergeIdeal.τ).loc ReferenceMergeIdeal.main_arg9)) (m ((c.tc : Thread ReferenceMergeIdeal.nD ReferenceMergeIdeal.τ).loc ReferenceMergeIdeal.main_arg10)) (m ((c.tc : Thread ReferenceMergeIdeal.nD ReferenceMergeIdeal.τ).loc ReferenceMergeIdeal.main_arg11)) (m ((c.tc : Thread ReferenceMergeIdeal.nD ReferenceMergeIdeal.τ).loc ReferenceMergeIdeal.main_arg12)) (m ((c.tc : Thread ReferenceMergeIdeal.nD ReferenceMergeIdeal.τ).loc ReferenceMergeIdeal.main_arg13)) (m ((c.tc : Thread ReferenceMergeIdeal.nD ReferenceMergeIdeal.τ).loc ReferenceMergeIdeal.main_arg14)) (m ((c.tc : Thread ReferenceMergeIdeal.nD ReferenceMergeIdeal.τ).loc ReferenceMergeIdeal.main_arg15)) (m ((c.tc : Thread ReferenceMergeIdeal.nD ReferenceMergeIdeal.τ).loc ReferenceMergeIdeal.main_arg16))
          ∧ r.2.mem ((c.tc : Thread ReferenceMergeIdeal.nD ReferenceMergeIdeal.τ).loc ReferenceMergeIdeal.main_arg0) = m ((c.tc : Thread ReferenceMergeIdeal.nD ReferenceMergeIdeal.τ).loc ReferenceMergeIdeal.main_arg0)
          ∧ r.2.mem ((c.tc : Thread ReferenceMergeIdeal.nD ReferenceMergeIdeal.τ).loc ReferenceMergeIdeal.main_arg1) = m ((c.tc : Thread ReferenceMergeIdeal.nD ReferenceMergeIdeal.τ).loc ReferenceMergeIdeal.main_arg1)
          ∧ r.2.mem ((c.tc : Thread ReferenceMergeIdeal.nD ReferenceMergeIdeal.τ).loc ReferenceMergeIdeal.main_arg2) = m ((c.tc : Thread ReferenceMergeIdeal.nD ReferenceMergeIdeal.τ).loc ReferenceMergeIdeal.main_arg2)
          ∧ r.2.mem ((c.tc : Thread ReferenceMergeIdeal.nD ReferenceMergeIdeal.τ).loc ReferenceMergeIdeal.main_arg3) = m ((c.tc : Thread ReferenceMergeIdeal.nD ReferenceMergeIdeal.τ).loc ReferenceMergeIdeal.main_arg3)
          ∧ r.2.mem ((c.tc : Thread ReferenceMergeIdeal.nD ReferenceMergeIdeal.τ).loc ReferenceMergeIdeal.main_arg4) = m ((c.tc : Thread ReferenceMergeIdeal.nD ReferenceMergeIdeal.τ).loc ReferenceMergeIdeal.main_arg4)
          ∧ r.2.mem ((c.tc : Thread ReferenceMergeIdeal.nD ReferenceMergeIdeal.τ).loc ReferenceMergeIdeal.main_arg5) = m ((c.tc : Thread ReferenceMergeIdeal.nD ReferenceMergeIdeal.τ).loc ReferenceMergeIdeal.main_arg5)
          ∧ r.2.mem ((c.tc : Thread ReferenceMergeIdeal.nD ReferenceMergeIdeal.τ).loc ReferenceMergeIdeal.main_arg6) = m ((c.tc : Thread ReferenceMergeIdeal.nD ReferenceMergeIdeal.τ).loc ReferenceMergeIdeal.main_arg6)
          ∧ r.2.mem ((c.tc : Thread ReferenceMergeIdeal.nD ReferenceMergeIdeal.τ).loc ReferenceMergeIdeal.main_arg7) = m ((c.tc : Thread ReferenceMergeIdeal.nD ReferenceMergeIdeal.τ).loc ReferenceMergeIdeal.main_arg7)
          ∧ r.2.mem ((c.tc : Thread ReferenceMergeIdeal.nD ReferenceMergeIdeal.τ).loc ReferenceMergeIdeal.main_arg8) = m ((c.tc : Thread ReferenceMergeIdeal.nD ReferenceMergeIdeal.τ).loc ReferenceMergeIdeal.main_arg8)
          ∧ r.2.mem ((c.tc : Thread ReferenceMergeIdeal.nD ReferenceMergeIdeal.τ).loc ReferenceMergeIdeal.main_arg9) = m ((c.tc : Thread ReferenceMergeIdeal.nD ReferenceMergeIdeal.τ).loc ReferenceMergeIdeal.main_arg9)
          ∧ r.2.mem ((c.tc : Thread ReferenceMergeIdeal.nD ReferenceMergeIdeal.τ).loc ReferenceMergeIdeal.main_arg10) = m ((c.tc : Thread ReferenceMergeIdeal.nD ReferenceMergeIdeal.τ).loc ReferenceMergeIdeal.main_arg10)
          ∧ r.2.mem ((c.tc : Thread ReferenceMergeIdeal.nD ReferenceMergeIdeal.τ).loc ReferenceMergeIdeal.main_arg11) = m ((c.tc : Thread ReferenceMergeIdeal.nD ReferenceMergeIdeal.τ).loc ReferenceMergeIdeal.main_arg11)
          ∧ r.2.mem ((c.tc : Thread ReferenceMergeIdeal.nD ReferenceMergeIdeal.τ).loc ReferenceMergeIdeal.main_arg12) = m ((c.tc : Thread ReferenceMergeIdeal.nD ReferenceMergeIdeal.τ).loc ReferenceMergeIdeal.main_arg12)
          ∧ r.2.mem ((c.tc : Thread ReferenceMergeIdeal.nD ReferenceMergeIdeal.τ).loc ReferenceMergeIdeal.main_arg13) = m ((c.tc : Thread ReferenceMergeIdeal.nD ReferenceMergeIdeal.τ).loc ReferenceMergeIdeal.main_arg13)
          ∧ r.2.mem ((c.tc : Thread ReferenceMergeIdeal.nD ReferenceMergeIdeal.τ).loc ReferenceMergeIdeal.main_arg14) = m ((c.tc : Thread ReferenceMergeIdeal.nD ReferenceMergeIdeal.τ).loc ReferenceMergeIdeal.main_arg14)
          ∧ r.2.mem ((c.tc : Thread ReferenceMergeIdeal.nD ReferenceMergeIdeal.τ).loc ReferenceMergeIdeal.main_arg15) = m ((c.tc : Thread ReferenceMergeIdeal.nD ReferenceMergeIdeal.τ).loc ReferenceMergeIdeal.main_arg15)
          ∧ r.2.mem ((c.tc : Thread ReferenceMergeIdeal.nD ReferenceMergeIdeal.τ).loc ReferenceMergeIdeal.main_arg16) = m ((c.tc : Thread ReferenceMergeIdeal.nD ReferenceMergeIdeal.τ).loc ReferenceMergeIdeal.main_arg16)) :=
  (θ_run _ _ _).mono (fun r h c => ⟨(h c).1.trans ((ReferenceMergeIdeal.Read.val_main_v78_eq m c).trans (ReferenceMergeIdeal.Read.value_merged _ _ _ _ _ _ _ _ _ _ _ _ _ _ _ _ _)), (h c).2⟩)
    (ReferenceMergeIdeal.Value.run m g)

theorem algebraic : Cert.algebraic_KernelMergeIdeal_ReferenceMergeIdeal_pre_lse_finite := by
  intro m g m' g' hl hm
  refine ⟨_, kernel_run m g hl, ?_⟩
  refine (θ_run _ _ _).mono (fun r h c => ?_) (reference_run m' g')
  obtain ⟨e0, e1, e2, e3, e4, e5, e6, e7, e8, e9, e10, e11, e12, e13, e14, e15, e16⟩ := hm c
  rw [← e0, ← e1, ← e2, ← e3, ← e4, ← e5, ← e6, ← e7, ← e8, ← e9, ← e10, ← e11, ← e12, ← e13, ← e14, ← e15, ← e16]
  exact h c

end Cert.Proof.Merge

end
-- ==== Proof.lean ====
module

public import proofs.«01_k».proof.Defs
public import proofs.«01_k».proof.Proof.Attn1.Equation
public import proofs.«01_k».proof.Proof.Gen.Kernel1.Frame
public import proofs.«01_k».proof.Proof.Gen.Kernel1Ideal.Frame
public import proofs.«01_k».proof.Proof.Attn4.Equation
public import proofs.«01_k».proof.Proof.Gen.Kernel4.Frame
public import proofs.«01_k».proof.Proof.Gen.Kernel4Ideal.Frame
public import proofs.«01_k».proof.Proof.Attn16.Equation
public import proofs.«01_k».proof.Proof.Attn16.FrameBits
public import proofs.«01_k».proof.Proof.Ffn.Equation
public import proofs.«01_k».proof.Proof.Ffn.RunBits
public import proofs.«01_k».proof.Proof.Proj.Equation
public import proofs.«01_k».proof.Proof.Gen.KernelProj.Frame
public import proofs.«01_k».proof.Proof.Gen.KernelProjIdeal.Frame
public import proofs.«01_k».proof.Proof.Merge.Equation
public import proofs.«01_k».proof.Proof.Gen.Pre_lse_finite
public import proofs.«01_k».proof.Proof.Gen.KernelMerge.Frame
public import proofs.«01_k».proof.Proof.Gen.KernelMergeIdeal.Frame
public import Idealize.ShloMosaic.Adequacy
public import Idealize.ShloMosaic.Init

@[expose] public section

/-!
# The claim, from its parts
-/

noncomputable section

namespace Cert.Proof

open Idealize.ShloMosaic Idealize.SL.Sem

theorem frame_reference1 : Cert.quiescent_Reference1Ideal := fun m ρ _ =>
  (θ_run Cert.Reference1Ideal.defs _ _).mono (fun r h => ⟨fun c => (h c).2.2, sem_eq_zero_of_no_sems (by decide) r.2⟩)
    (Cert.Reference1Ideal.Value.run m ρ)

theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run m ρ)

theorem frame_reference16 : Cert.quiescent_Reference16Ideal := fun m ρ _ =>
  (θ_run Cert.Reference16Ideal.defs _ _).mono (fun r h => ⟨fun c => (h c).2.2, sem_eq_zero_of_no_sems (by decide) r.2⟩)
    (Cert.Reference16Ideal.Value.run m ρ)

theorem frame_referenceFfn : Cert.quiescent_ReferenceFfnIdeal := fun m ρ _ =>
  (θ_run Cert.ReferenceFfnIdeal.defs _ _).mono (fun r h => ⟨fun c => (h c).2.2, sem_eq_zero_of_no_sems (by decide) r.2⟩)
    (Cert.ReferenceFfnIdeal.Value.run m ρ)

theorem frame_referenceProj : Cert.quiescent_ReferenceProjIdeal := fun m ρ _ =>
  (θ_run Cert.ReferenceProjIdeal.defs _ _).mono (fun r h => ⟨fun c => (h c).2.2.2.2, sem_eq_zero_of_no_sems (by decide) r.2⟩)
    (Cert.ReferenceProjIdeal.Value.run m ρ)

theorem frame_referenceMerge : Cert.quiescent_ReferenceMergeIdeal := fun m ρ _ =>
  (θ_run Cert.ReferenceMergeIdeal.defs _ _).mono (fun r h => ⟨fun c => (h c).2, sem_eq_zero_of_no_sems (by decide) r.2⟩)
    (Cert.ReferenceMergeIdeal.Value.run m ρ)

theorem claim : Cert.Claim := ⟨Cert.Kernel1.Gen.facts, Cert.Kernel1Ideal.Gen.facts, Cert.Reference1Ideal.Gen.facts, Cert.Kernel4.Gen.facts, Cert.Kernel4Ideal.Gen.facts, Cert.Reference4Ideal.Gen.facts, Cert.Kernel16.Gen.facts, Cert.Kernel16Ideal.Gen.facts, Cert.Reference16Ideal.Gen.facts, Cert.KernelFfn.Gen.facts, Cert.KernelFfnIdeal.Gen.facts, Cert.ReferenceFfnIdeal.Gen.facts, Cert.KernelProj.Gen.facts, Cert.KernelProjIdeal.Gen.facts, Cert.ReferenceProjIdeal.Gen.facts, Cert.KernelMerge.Gen.facts, Cert.KernelMergeIdeal.Gen.facts, Cert.ReferenceMergeIdeal.Gen.facts, Cert.Pre_lse_finite.Gen.facts,
  fun m ρ _ => Cert.Kernel1.Gen.frame m ρ, fun m ρ _ => Cert.Kernel1Ideal.Gen.frame m ρ, frame_reference1,
  fun m ρ _ => Cert.Kernel4.Gen.frame m ρ, fun m ρ _ => Cert.Kernel4Ideal.Gen.frame m ρ, frame_reference4,
  fun m ρ _ => Cert.Kernel16.Gen.frame m ρ, fun m ρ _ => Cert.Kernel16Ideal.Gen.frame m ρ, frame_reference16,
  fun m ρ _ => Cert.KernelFfn.Gen.frame m ρ, fun m ρ _ => Cert.KernelFfnIdeal.Gen.frame m ρ, frame_referenceFfn,
  fun m ρ _ => Cert.KernelProj.Gen.frame m ρ, fun m ρ _ => Cert.KernelProjIdeal.Gen.frame m ρ, frame_referenceProj,
  fun m ρ _ => Cert.KernelMerge.Gen.frame m ρ, fun m ρ _ => Cert.KernelMergeIdeal.Gen.frame m ρ, fun m ρ _ => Cert.KernelMergeIdeal.Gen.frame m ρ,
  frame_referenceMerge, fun m ρ _ => frame_referenceMerge m ρ trivial,
  trivial, Attn1.algebraic,
  trivial, Attn4.algebraic,
  trivial, Attn16.algebraic,
  trivial, Ffn.algebraic,
  trivial, Proj.algebraic,
  trivial, Merge.algebraic⟩

end Cert.Proof

end
